-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_edges [hPre_finite_edges : Cert.Pre_finite_edges.Facts] (m : (ℓ : Loc Cert.KernelIdeal.nD Cert.KernelIdeal.τ Cert.KernelIdeal.sig) → Buf (Elt Ideal) ℓ) : Prop :=
  ∀ c : Dev Cert.KernelIdeal.nD,
    (Cert.Pre_finite_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).1 = (fun _ => 1#1)
    ∧ (Cert.Pre_finite_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_edges [hPre_finite_edges : Cert.Pre_finite_edges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).1 = (fun _ => 1#1)
    ∧ (Cert.Pre_finite_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_finite_edges [hKernelIdeal : Cert.KernelIdeal.Facts] [hPre_finite_edges : Cert.Pre_finite_edges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_edges m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_finite_edges [hReferenceIdeal : Cert.ReferenceIdeal.Facts] [hPre_finite_edges : Cert.Pre_finite_edges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_edges m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  True

def algebraic_KernelIdeal_ReferenceIdeal_pre_finite_edges [hKernelIdeal : Cert.KernelIdeal.Facts] [hReferenceIdeal : Cert.ReferenceIdeal.Facts] [hPre_finite_edges : Cert.Pre_finite_edges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_edges m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v163)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v163) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v351) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_edges : Cert.Pre_finite_edges.Facts),
    quiescent_Kernel (hKernel := hKernel)
    ∧ quiescent_KernelIdeal (hKernelIdeal := hKernelIdeal)
    ∧ quiescent_KernelIdeal_pre_finite_edges (hKernelIdeal := hKernelIdeal) (hPre_finite_edges := hPre_finite_edges)
    ∧ quiescent_ReferenceIdeal (hReferenceIdeal := hReferenceIdeal)
    ∧ quiescent_ReferenceIdeal_pre_finite_edges (hReferenceIdeal := hReferenceIdeal) (hPre_finite_edges := hPre_finite_edges)
    ∧ preserves_Kernel_KernelIdeal
    ∧ algebraic_KernelIdeal_ReferenceIdeal_pre_finite_edges (hKernelIdeal := hKernelIdeal) (hReferenceIdeal := hReferenceIdeal) (hPre_finite_edges := hPre_finite_edges)
-- ==== Pre_finite_edges.lean ====
abbrev S50000x10 : Shape := ⟨2, ![50000, 10]⟩
abbrev S2x800000 : Shape := ⟨2, ![2, 800000]⟩
abbrev S800000x9 : Shape := ⟨2, ![800000, 9]⟩
abbrev S10x64 : Shape := ⟨2, ![10, 64]⟩
abbrev S64 : Shape := ⟨1, ![64]⟩
abbrev S64x64 : Shape := ⟨2, ![64, 64]⟩
abbrev S5x9x64 : Shape := ⟨3, ![5, 9, 64]⟩
abbrev S5x64 : Shape := ⟨2, ![5, 64]⟩
abbrev S5x64x64 : Shape := ⟨3, ![5, 64, 64]⟩
abbrev S5x1x64 : Shape := ⟨3, ![5, 1, 64]⟩
abbrev S64x3 : Shape := ⟨2, ![64, 3]⟩
abbrev S3 : Shape := ⟨1, ![3]⟩
abbrev S_ : Shape := ⟨0, ![]⟩

class Facts : Prop where
  bcast_S_S800000x9 : S_.BroadcastsInDim S800000x9 (![] : Fin 0 → Fin S800000x9.rank)
  bcast_S_S5x9x64 : S_.BroadcastsInDim S5x9x64 (![] : Fin 0 → Fin S5x9x64.rank)

variable [Facts]

def fn {F : FTy → Type} [FloatOps F] (main_arg0 : FVec F S50000x10 .f32) (main_arg1 : IVec S2x800000 32) (main_arg2 : FVec F S800000x9 .f32) (main_arg3 : FVec F S10x64 .f32) (main_arg4 : FVec F S64 .f32) (main_arg5 : FVec F S64x64 .f32) (main_arg6 : FVec F S64 .f32) (main_arg7 : FVec F S5x9x64 .f32) (main_arg8 : FVec F S5x64 .f32) (main_arg9 : FVec F S5x64x64 .f32) (main_arg10 : FVec F S5x64 .f32) (main_arg11 : FVec F S5x64x64 .f32) (main_arg12 : FVec F S5x64 .f32) (main_arg13 : FVec F S5x64x64 .f32) (main_arg14 : FVec F S5x64 .f32) (main_arg15 : FVec F S5x1x64 .f32) (main_arg16 : FVec F S5x64 .f32) (main_arg17 : FVec F S64x64 .f32) (main_arg18 : FVec F S64 .f32) (main_arg19 : FVec F S64x3 .f32) (main_arg20 : FVec F S3 .f32) : IVec S800000x9 1 × IVec S5x9x64 1 :=
  let main_v0 : FVec F S800000x9 .f32 := Host.absf main_arg2
  let main_cst : FVec F S_ .f32 := constant S_ .f32 0x7F800000#32
  let main_v1 : FVec F S800000x9 .f32 := broadcastInDim S800000x9 ![] bcast_S_S800000x9 main_cst
  let main_v2 : IVec S800000x9 1 := cmpf .olt main_v0 main_v1
  let main_v3 : FVec F S5x9x64 .f32 := Host.absf main_arg7
  let main_cst_0 : FVec F S_ .f32 := constant S_ .f32 0x7F800000#32
  let main_v4 : FVec F S5x9x64 .f32 := broadcastInDim S5x9x64 ![] bcast_S_S5x9x64 main_cst_0
  let main_v5 : IVec S5x9x64 1 := cmpf .olt main_v3 main_v4
  (main_v2, main_v5)
-- ==== Kernel.lean ====
abbrev S50000x10 : Shape := ⟨2, ![50000, 10]⟩
abbrev S2x800000 : Shape := ⟨2, ![2, 800000]⟩
abbrev S800000x9 : Shape := ⟨2, ![800000, 9]⟩
abbrev S10x64 : Shape := ⟨2, ![10, 64]⟩
abbrev S64 : Shape := ⟨1, ![64]⟩
abbrev S64x64 : Shape := ⟨2, ![64, 64]⟩
abbrev S5x9x64 : Shape := ⟨3, ![5, 9, 64]⟩
abbrev S5x64 : Shape := ⟨2, ![5, 64]⟩
abbrev S5x64x64 : Shape := ⟨3, ![5, 64, 64]⟩
abbrev S5x1x64 : Shape := ⟨3, ![5, 1, 64]⟩
abbrev S64x3 : Shape := ⟨2, ![64, 3]⟩
abbrev S3 : Shape := ⟨1, ![3]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S2x9 : Shape := ⟨2, ![2, 9]⟩
abbrev S8000x9 : Shape := ⟨2, ![8000, 9]⟩
abbrev S9 : Shape := ⟨1, ![9]⟩
abbrev S1x9 : Shape := ⟨2, ![1, 9]⟩
abbrev S1x9x1 : Shape := ⟨3, ![1, 9, 1]⟩
abbrev S1x64 : Shape := ⟨2, ![1, 64]⟩
abbrev S50000x64 : Shape := ⟨2, ![50000, 64]⟩
abbrev S1000x10 : Shape := ⟨2, ![1000, 10]⟩
abbrev S1000x64 : Shape := ⟨2, ![1000, 64]⟩
abbrev S5x800000x64 : Shape := ⟨3, ![5, 800000, 64]⟩
abbrev S1x9x64 : Shape := ⟨3, ![1, 9, 64]⟩
abbrev S1x1x64 : Shape := ⟨3, ![1, 1, 64]⟩
abbrev S1x64x64 : Shape := ⟨3, ![1, 64, 64]⟩
abbrev S1x8000x64 : Shape := ⟨3, ![1, 8000, 64]⟩
abbrev S9x64 : Shape := ⟨2, ![9, 64]⟩
abbrev S8000x64 : Shape := ⟨2, ![8000, 64]⟩
abbrev S50000 : Shape := ⟨1, ![50000]⟩
abbrev S50000x1 : Shape := ⟨2, ![50000, 1]⟩
abbrev S1x800000x64 : Shape := ⟨3, ![1, 800000, 64]⟩
abbrev S800000x64 : Shape := ⟨2, ![800000, 64]⟩
abbrev S1 : Shape := ⟨1, ![1]⟩
abbrev S1x1 : Shape := ⟨2, ![1, 1]⟩
abbrev S1x3 : Shape := ⟨2, ![1, 3]⟩
abbrev S1000x1 : Shape := ⟨2, ![1000, 1]⟩
abbrev S50000x3 : Shape := ⟨2, ![50000, 3]⟩
abbrev S1000x3 : Shape := ⟨2, ![1000, 3]⟩

abbrev nBuf : Space → Nat
  | .hbm => 315
  | .vmem => 127
  | .smem => 0
  | _ => 0

abbrev hbmTy0_0 (i : Nat) : BufTy := match i % 128 with
  | 0 => ⟨S50000x10, .f32⟩
  | 1 => ⟨S2x800000, .i32⟩
  | 2 => ⟨S800000x9, .f32⟩
  | 3 => ⟨S10x64, .f32⟩
  | 4 => ⟨S64, .f32⟩
  | 5 => ⟨S64x64, .f32⟩
  | 6 => ⟨S64, .f32⟩
  | 7 => ⟨S5x9x64, .f32⟩
  | 8 => ⟨S5x64, .f32⟩
  | 9 => ⟨S5x64x64, .f32⟩
  | 10 => ⟨S5x64, .f32⟩
  | 11 => ⟨S5x64x64, .f32⟩
  | 12 => ⟨S5x64, .f32⟩
  | 13 => ⟨S5x64x64, .f32⟩
  | 14 => ⟨S5x64, .f32⟩
  | 15 => ⟨S5x1x64, .f32⟩
  | 16 => ⟨S5x64, .f32⟩
  | 17 => ⟨S64x64, .f32⟩
  | 18 => ⟨S64, .f32⟩
  | 19 => ⟨S64x3, .f32⟩
  | 20 => ⟨S3, .f32⟩
  | 21 => ⟨S1x800000, .i32⟩
  | 22 => ⟨S800000, .i32⟩
  | 23 => ⟨S800000, .i32⟩
  | 24 => ⟨S800000, .i32⟩
  | 25 => ⟨S800000, .i32⟩
  | 26 => ⟨S1x800000, .i32⟩
  | 27 => ⟨S800000, .i32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .i32⟩
  | 37 => ⟨S1x800000, .i32⟩
  | 38 => ⟨S800000, .i32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000, .i32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x9, .f32⟩
  | 57 => ⟨S2x9, .f32⟩
  | 58 => ⟨S1x9, .f32⟩
  | 59 => ⟨S9, .f32⟩
  | 60 => ⟨S_, .f32⟩
  | 61 => ⟨S9, .f32⟩
  | 62 => ⟨S9, .f32⟩
  | 63 => ⟨S1x9, .f32⟩
  | 64 => ⟨S9, .f32⟩
  | 65 => ⟨S_, .f32⟩
  | 66 => ⟨S9, .f32⟩
  | 67 => ⟨S9, .f32⟩
  | 68 => ⟨S9, .f32⟩
  | 69 => ⟨S9, .f32⟩
  | 70 => ⟨S_, .f32⟩
  | 71 => ⟨S9, .f32⟩
  | 72 => ⟨S9, .f32⟩
  | 73 => ⟨S9, .f32⟩
  | 74 => ⟨S_, .f32⟩
  | 75 => ⟨S9, .f32⟩
  | 76 => ⟨S9, .f32⟩
  | 77 => ⟨S_, .f32⟩
  | 78 => ⟨S9, .f32⟩
  | 79 => ⟨S9, .f32⟩
  | 80 => ⟨S1x9x1, .f32⟩
  | 81 => ⟨S5x9x64, .f32⟩
  | 82 => ⟨S5x9x64, .f32⟩
  | 83 => ⟨S9, .f32⟩
  | 84 => ⟨S5x64, .f32⟩
  | 85 => ⟨S5x64, .f32⟩
  | 86 => ⟨S1x64, .f32⟩
  | 87 => ⟨S1x64, .f32⟩
  | 88 => ⟨S50000x64, .f32⟩
  | 89 => ⟨S5x1x64, .f32⟩
  | 90 => ⟨S5x1x64, .f32⟩
  | 91 => ⟨S5x1x64, .f32⟩
  | 92 => ⟨S5x800000x64, .f32⟩
  | 93 => ⟨S_, .f32⟩
  | 94 => ⟨S800000, .f32⟩
  | 95 => ⟨S_, .f32⟩
  | 96 => ⟨S50000, .f32⟩
  | 97 => ⟨S800000x1, .i32⟩
  | 98 => ⟨S50000, .f32⟩
  | 99 => ⟨S50000x1, .f32⟩
  | 100 => ⟨S1x800000x64, .f32⟩
  | 101 => ⟨S800000x64, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S1, .i32⟩
  | 111 => ⟨S_, .i32⟩
  | 112 => ⟨S800000x1, .i32⟩
  | 113 => ⟨S800000x1, .i1⟩
  | 114 => ⟨S1x1, .i32⟩
  | 115 => ⟨S800000x1, .i32⟩
  | 116 => ⟨S800000x1, .i1⟩
  | 117 => ⟨S800000x1, .i1⟩
  | 118 => ⟨S_, .i1⟩
  | 119 => ⟨S800000, .i1⟩
  | 120 => ⟨S800000x64, .f32⟩
  | 121 => ⟨S800000x64, .i1⟩
  | 122 => ⟨S_, .f32⟩
  | 123 => ⟨S800000x64, .f32⟩
  | 124 => ⟨S800000x64, .f32⟩
  | 125 => ⟨S800000x64, .f32⟩
  | 126 => ⟨S_, .f32⟩
  | 127 => ⟨S50000x64, .f32⟩
  | _ => ⟨S50000x10, .f32⟩

abbrev hbmTy0_1 (i : Nat) : BufTy := match i % 128 with
  | 0 => ⟨S800000x1, .i32⟩
  | 1 => ⟨S50000x64, .f32⟩
  | 2 => ⟨S1x64x64, .f32⟩
  | 3 => ⟨S64x64, .f32⟩
  | 4 => ⟨S1x64, .f32⟩
  | 5 => ⟨S64, .f32⟩
  | 6 => ⟨S1x1x64, .f32⟩
  | 7 => ⟨S1x64, .f32⟩
  | 8 => ⟨S1x64, .f32⟩
  | 9 => ⟨S64, .f32⟩
  | 10 => ⟨S1x64, .f32⟩
  | 11 => ⟨S1x64, .f32⟩
  | 12 => ⟨S1x64, .f32⟩
  | 13 => ⟨S1x3, .f32⟩
  | 14 => ⟨S50000x64, .f32⟩
  | 15 => ⟨S1x800000x64, .f32⟩
  | 16 => ⟨S800000x64, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S1, .i32⟩
  | 26 => ⟨S_, .i32⟩
  | 27 => ⟨S800000x1, .i32⟩
  | 28 => ⟨S800000x1, .i1⟩
  | 29 => ⟨S1x1, .i32⟩
  | 30 => ⟨S800000x1, .i32⟩
  | 31 => ⟨S800000x1, .i1⟩
  | 32 => ⟨S800000x1, .i1⟩
  | 33 => ⟨S_, .i1⟩
  | 34 => ⟨S800000, .i1⟩
  | 35 => ⟨S800000x64, .f32⟩
  | 36 => ⟨S800000x64, .i1⟩
  | 37 => ⟨S_, .f32⟩
  | 38 => ⟨S800000x64, .f32⟩
  | 39 => ⟨S800000x64, .f32⟩
  | 40 => ⟨S800000x64, .f32⟩
  | 41 => ⟨S_, .f32⟩
  | 42 => ⟨S50000x64, .f32⟩
  | 43 => ⟨S800000x1, .i32⟩
  | 44 => ⟨S50000x64, .f32⟩
  | 45 => ⟨S1x64x64, .f32⟩
  | 46 => ⟨S64x64, .f32⟩
  | 47 => ⟨S1x64, .f32⟩
  | 48 => ⟨S64, .f32⟩
  | 49 => ⟨S1x1x64, .f32⟩
  | 50 => ⟨S1x64, .f32⟩
  | 51 => ⟨S1x64, .f32⟩
  | 52 => ⟨S64, .f32⟩
  | 53 => ⟨S1x64, .f32⟩
  | 54 => ⟨S1x64, .f32⟩
  | 55 => ⟨S1x64, .f32⟩
  | 56 => ⟨S1x3, .f32⟩
  | 57 => ⟨S50000x64, .f32⟩
  | 58 => ⟨S1x800000x64, .f32⟩
  | 59 => ⟨S800000x64, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S1, .i32⟩
  | 69 => ⟨S_, .i32⟩
  | 70 => ⟨S800000x1, .i32⟩
  | 71 => ⟨S800000x1, .i1⟩
  | 72 => ⟨S1x1, .i32⟩
  | 73 => ⟨S800000x1, .i32⟩
  | 74 => ⟨S800000x1, .i1⟩
  | 75 => ⟨S800000x1, .i1⟩
  | 76 => ⟨S_, .i1⟩
  | 77 => ⟨S800000, .i1⟩
  | 78 => ⟨S800000x64, .f32⟩
  | 79 => ⟨S800000x64, .i1⟩
  | 80 => ⟨S_, .f32⟩
  | 81 => ⟨S800000x64, .f32⟩
  | 82 => ⟨S800000x64, .f32⟩
  | 83 => ⟨S800000x64, .f32⟩
  | 84 => ⟨S_, .f32⟩
  | 85 => ⟨S50000x64, .f32⟩
  | 86 => ⟨S800000x1, .i32⟩
  | 87 => ⟨S50000x64, .f32⟩
  | 88 => ⟨S1x64x64, .f32⟩
  | 89 => ⟨S64x64, .f32⟩
  | 90 => ⟨S1x64, .f32⟩
  | 91 => ⟨S64, .f32⟩
  | 92 => ⟨S1x1x64, .f32⟩
  | 93 => ⟨S1x64, .f32⟩
  | 94 => ⟨S1x64, .f32⟩
  | 95 => ⟨S64, .f32⟩
  | 96 => ⟨S1x64, .f32⟩
  | 97 => ⟨S1x64, .f32⟩
  | 98 => ⟨S1x64, .f32⟩
  | 99 => ⟨S1x3, .f32⟩
  | 100 => ⟨S50000x64, .f32⟩
  | 101 => ⟨S1x800000x64, .f32⟩
  | 102 => ⟨S800000x64, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S1, .i32⟩
  | 112 => ⟨S_, .i32⟩
  | 113 => ⟨S800000x1, .i32⟩
  | 114 => ⟨S800000x1, .i1⟩
  | 115 => ⟨S1x1, .i32⟩
  | 116 => ⟨S800000x1, .i32⟩
  | 117 => ⟨S800000x1, .i1⟩
  | 118 => ⟨S800000x1, .i1⟩
  | 119 => ⟨S_, .i1⟩
  | 120 => ⟨S800000, .i1⟩
  | 121 => ⟨S800000x64, .f32⟩
  | 122 => ⟨S800000x64, .i1⟩
  | 123 => ⟨S_, .f32⟩
  | 124 => ⟨S800000x64, .f32⟩
  | 125 => ⟨S800000x64, .f32⟩
  | 126 => ⟨S800000x64, .f32⟩
  | 127 => ⟨S_, .f32⟩
  | _ => ⟨S50000x10, .f32⟩

abbrev hbmTy0_2 (i : Nat) : BufTy := match i % 128 with
  | 0 => ⟨S50000x64, .f32⟩
  | 1 => ⟨S800000x1, .i32⟩
  | 2 => ⟨S50000x64, .f32⟩
  | 3 => ⟨S1x64x64, .f32⟩
  | 4 => ⟨S64x64, .f32⟩
  | 5 => ⟨S1x64, .f32⟩
  | 6 => ⟨S64, .f32⟩
  | 7 => ⟨S1x1x64, .f32⟩
  | 8 => ⟨S1x64, .f32⟩
  | 9 => ⟨S1x64, .f32⟩
  | 10 => ⟨S64, .f32⟩
  | 11 => ⟨S1x64, .f32⟩
  | 12 => ⟨S1x64, .f32⟩
  | 13 => ⟨S1x64, .f32⟩
  | 14 => ⟨S1x3, .f32⟩
  | 15 => ⟨S50000x64, .f32⟩
  | 16 => ⟨S1x800000x64, .f32⟩
  | 17 => ⟨S800000x64, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S1, .i32⟩
  | 27 => ⟨S_, .i32⟩
  | 28 => ⟨S800000x1, .i32⟩
  | 29 => ⟨S800000x1, .i1⟩
  | 30 => ⟨S1x1, .i32⟩
  | 31 => ⟨S800000x1, .i32⟩
  | 32 => ⟨S800000x1, .i1⟩
  | 33 => ⟨S800000x1, .i1⟩
  | 34 => ⟨S_, .i1⟩
  | 35 => ⟨S800000, .i1⟩
  | 36 => ⟨S800000x64, .f32⟩
  | 37 => ⟨S800000x64, .i1⟩
  | 38 => ⟨S_, .f32⟩
  | 39 => ⟨S800000x64, .f32⟩
  | 40 => ⟨S800000x64, .f32⟩
  | 41 => ⟨S800000x64, .f32⟩
  | 42 => ⟨S_, .f32⟩
  | 43 => ⟨S50000x64, .f32⟩
  | 44 => ⟨S800000x1, .i32⟩
  | 45 => ⟨S50000x64, .f32⟩
  | 46 => ⟨S1x64x64, .f32⟩
  | 47 => ⟨S64x64, .f32⟩
  | 48 => ⟨S1x64, .f32⟩
  | 49 => ⟨S64, .f32⟩
  | 50 => ⟨S1x1x64, .f32⟩
  | 51 => ⟨S1x64, .f32⟩
  | 52 => ⟨S1x64, .f32⟩
  | 53 => ⟨S64, .f32⟩
  | 54 => ⟨S1x64, .f32⟩
  | 55 => ⟨S1x64, .f32⟩
  | 56 => ⟨S1x64, .f32⟩
  | 57 => ⟨S1x3, .f32⟩
  | 58 => ⟨S50000x3, .f32⟩
  | _ => ⟨S50000x10, .f32⟩

abbrev hbmTy (i : Nat) : BufTy := match i / 128 with
  | 0 => hbmTy0_0 i
  | 1 => hbmTy0_1 i
  | 2 => hbmTy0_2 i
  | _ => ⟨S50000x10, .f32⟩

abbrev bufTy : (tb : Table) → Fin (tcTables nBuf tb) → BufTy
  | .hbm, ⟨i, _⟩ => hbmTy i
  | .local _ .vmem, ⟨0, _⟩ => ⟨S8000x9, .f32⟩
  | .local _ .vmem, ⟨1, _⟩ => ⟨S8000x9, .f32⟩
  | .local _ .vmem, ⟨2, _⟩ => ⟨S2x9, .f32⟩
  | .local _ .vmem, ⟨3, _⟩ => ⟨S1000x10, .f32⟩
  | .local _ .vmem, ⟨4, _⟩ => ⟨S1000x10, .f32⟩
  | .local _ .vmem, ⟨5, _⟩ => ⟨S10x64, .f32⟩
  | .local _ .vmem, ⟨6, _⟩ => ⟨S1x64, .f32⟩
  | .local _ .vmem, ⟨7, _⟩ => ⟨S64x64, .f32⟩
  | .local _ .vmem, ⟨8, _⟩ => ⟨S1x64, .f32⟩
  | .local _ .vmem, ⟨9, _⟩ => ⟨S1000x64, .f32⟩
  | .local _ .vmem, ⟨10, _⟩ => ⟨S1000x64, .f32⟩
  | .local _ .vmem, ⟨11, _⟩ => ⟨S8000x9, .f32⟩
  | .local _ .vmem, ⟨12, _⟩ => ⟨S8000x9, .f32⟩
  | .local _ .vmem, ⟨13, _⟩ => ⟨S1x9x64, .f32⟩
  | .local _ .vmem, ⟨14, _⟩ => ⟨S1x9x64, .f32⟩
  | .local _ .vmem, ⟨15, _⟩ => ⟨S1x1x64, .f32⟩
  | .local _ .vmem, ⟨16, _⟩ => ⟨S1x1x64, .f32⟩
  | .local _ .vmem, ⟨17, _⟩ => ⟨S1x64x64, .f32⟩
  | .local _ .vmem, ⟨18, _⟩ => ⟨S1x64x64, .f32⟩
  | .local _ .vmem, ⟨19, _⟩ => ⟨S1x1x64, .f32⟩
  | .local _ .vmem, ⟨20, _⟩ => ⟨S1x1x64, .f32⟩
  | .local _ .vmem, ⟨21, _⟩ => ⟨S1x64x64, .f32⟩
  | .local _ .vmem, ⟨22, _⟩ => ⟨S1x64x64, .f32⟩
  | .local _ .vmem, ⟨23, _⟩ => ⟨S1x1x64, .f32⟩
  | .local _ .vmem, ⟨24, _⟩ => ⟨S1x1x64, .f32⟩
  | .local _ .vmem, ⟨25, _⟩ => ⟨S1x8000x64, .f32⟩
  | .local _ .vmem, ⟨26, _⟩ => ⟨S1x8000x64, .f32⟩
  | .local _ .vmem, ⟨27, _⟩ => ⟨S1000x64, .f32⟩
  | .local _ .vmem, ⟨28, _⟩ => ⟨S1000x64, .f32⟩
  | .local _ .vmem, ⟨29, _⟩ => ⟨S1000x64, .f32⟩
  | .local _ .vmem, ⟨30, _⟩ => ⟨S1000x64, .f32⟩
  | .local _ .vmem, ⟨31, _⟩ => ⟨S1000x64, .f32⟩
  | .local _ .vmem, ⟨32, _⟩ => ⟨S1000x64, .f32⟩
  | .local _ .vmem, ⟨33, _⟩ => ⟨S1000x1, .f32⟩
  | .local _ .vmem, ⟨34, _⟩ => ⟨S1000x1, .f32⟩
  | .local _ .vmem, ⟨35, _⟩ => ⟨S1000x10, .f32⟩
  | .local _ .vmem, ⟨36, _⟩ => ⟨S1000x10, .f32⟩
  | .local _ .vmem, ⟨37, _⟩ => ⟨S64x64, .f32⟩
  | .local _ .vmem, ⟨38, _⟩ => ⟨S1x64, .f32⟩
  | .local _ .vmem, ⟨39, _⟩ => ⟨S1x64, .f32⟩
  | .local _ .vmem, ⟨40, _⟩ => ⟨S1x64, .f32⟩
  | .local _ .vmem, ⟨41, _⟩ => ⟨S64x64, .f32⟩
  | .local _ .vmem, ⟨42, _⟩ => ⟨S1x64, .f32⟩
  | .local _ .vmem, ⟨43, _⟩ => ⟨S64x3, .f32⟩
  | .local _ .vmem, ⟨44, _⟩ => ⟨S1x3, .f32⟩
  | .local _ .vmem, ⟨45, _⟩ => ⟨S1000x64, .f32⟩
  | .local _ .vmem, ⟨46, _⟩ => ⟨S1000x64, .f32⟩
  | .local _ .vmem, ⟨47, _⟩ => ⟨S1000x64, .f32⟩
  | .local _ .vmem, ⟨48, _⟩ => ⟨S1000x64, .f32⟩
  | .local _ .vmem, ⟨49, _⟩ => ⟨S1000x64, .f32⟩
  | .local _ .vmem, ⟨50, _⟩ => ⟨S1000x64, .f32⟩
  | .local _ .vmem, ⟨51, _⟩ => ⟨S1000x64, .f32⟩
  | .local _ .vmem, ⟨52, _⟩ => ⟨S1000x64, .f32⟩
  | .local _ .vmem, ⟨53, _⟩ => ⟨S1000x1, .f32⟩
  | .local _ .vmem, ⟨54, _⟩ => ⟨S1000x1, .f32⟩
  | .local _ .vmem, ⟨55, _⟩ => ⟨S1000x10, .f32⟩
  | .local _ .vmem, ⟨56, _⟩ => ⟨S1000x10, .f32⟩
  | .local _ .vmem, ⟨57, _⟩ => ⟨S64x64, .f32⟩
  | .local _ .vmem, ⟨58, _⟩ => ⟨S1x64, .f32⟩
  | .local _ .vmem, ⟨59, _⟩ => ⟨S1x64, .f32⟩
  | .local _ .vmem, ⟨60, _⟩ => ⟨S1x64, .f32⟩
  | .local _ .vmem, ⟨61, _⟩ => ⟨S64x64, .f32⟩
  | .local _ .vmem, ⟨62, _⟩ => ⟨S1x64, .f32⟩
  | .local _ .vmem, ⟨63, _⟩ => ⟨S64x3, .f32⟩
  | .local _ .vmem, ⟨64, _⟩ => ⟨S1x3, .f32⟩
  | .local _ .vmem, ⟨65, _⟩ => ⟨S1000x64, .f32⟩
  | .local _ .vmem, ⟨66, _⟩ => ⟨S1000x64, .f32⟩
  | .local _ .vmem, ⟨67, _⟩ => ⟨S1000x64, .f32⟩
  | .local _ .vmem, ⟨68, _⟩ => ⟨S1000x64, .f32⟩
  | .local _ .vmem, ⟨69, _⟩ => ⟨S1000x64, .f32⟩
  | .local _ .vmem, ⟨70, _⟩ => ⟨S1000x64, .f32⟩
  | .local _ .vmem, ⟨71, _⟩ => ⟨S1000x64, .f32⟩
  | .local _ .vmem, ⟨72, _⟩ => ⟨S1000x64, .f32⟩
  | .local _ .vmem, ⟨73, _⟩ => ⟨S1000x1, .f32⟩
  | .local _ .vmem, ⟨74, _⟩ => ⟨S1000x1, .f32⟩
  | .local _ .vmem, ⟨75, _⟩ => ⟨S1000x10, .f32⟩
  | .local _ .vmem, ⟨76, _⟩ => ⟨S1000x10, .f32⟩
  | .local _ .vmem, ⟨77, _⟩ => ⟨S64x64, .f32⟩
  | .local _ .vmem, ⟨78, _⟩ => ⟨S1x64, .f32⟩
  | .local _ .vmem, ⟨79, _⟩ => ⟨S1x64, .f32⟩
  | .local _ .vmem, ⟨80, _⟩ => ⟨S1x64, .f32⟩
  | .local _ .vmem, ⟨81, _⟩ => ⟨S64x64, .f32⟩
  | .local _ .vmem, ⟨82, _⟩ => ⟨S1x64, .f32⟩
  | .local _ .vmem, ⟨83, _⟩ => ⟨S64x3, .f32⟩
  | .local _ .vmem, ⟨84, _⟩ => ⟨S1x3, .f32⟩
  | .local _ .vmem, ⟨85, _⟩ => ⟨S1000x64, .f32⟩
  | .local _ .vmem, ⟨86, _⟩ => ⟨S1000x64, .f32⟩
  | .local _ .vmem, ⟨87, _⟩ => ⟨S1000x64, .f32⟩
  | .local _ .vmem, ⟨88, _⟩ => ⟨S1000x64, .f32⟩
  | .local _ .vmem, ⟨89, _⟩ => ⟨S1000x64, .f32⟩
  | .local _ .vmem, ⟨90, _⟩ => ⟨S1000x64, .f32⟩
  | .local _ .vmem, ⟨91, _⟩ => ⟨S1000x64, .f32⟩
  | .local _ .vmem, ⟨92, _⟩ => ⟨S1000x64, .f32⟩
  | .local _ .vmem, ⟨93, _⟩ => ⟨S1000x1, .f32⟩
  | .local _ .vmem, ⟨94, _⟩ => ⟨S1000x1, .f32⟩
  | .local _ .vmem, ⟨95, _⟩ => ⟨S1000x10, .f32⟩
  | .local _ .vmem, ⟨96, _⟩ => ⟨S1000x10, .f32⟩
  | .local _ .vmem, ⟨97, _⟩ => ⟨S64x64, .f32⟩
  | .local _ .vmem, ⟨98, _⟩ => ⟨S1x64, .f32⟩
  | .local _ .vmem, ⟨99, _⟩ => ⟨S1x64, .f32⟩
  | .local _ .vmem, ⟨100, _⟩ => ⟨S1x64, .f32⟩
  | .local _ .vmem, ⟨101, _⟩ => ⟨S64x64, .f32⟩
  | .local _ .vmem, ⟨102, _⟩ => ⟨S1x64, .f32⟩
  | .local _ .vmem, ⟨103, _⟩ => ⟨S64x3, .f32⟩
  | .local _ .vmem, ⟨104, _⟩ => ⟨S1x3, .f32⟩
  | .local _ .vmem, ⟨105, _⟩ => ⟨S1000x64, .f32⟩
  | .local _ .vmem, ⟨106, _⟩ => ⟨S1000x64, .f32⟩
  | .local _ .vmem, ⟨107, _⟩ => ⟨S1000x64, .f32⟩
  | .local _ .vmem, ⟨108, _⟩ => ⟨S1000x64, .f32⟩
  | .local _ .vmem, ⟨109, _⟩ => ⟨S1000x64, .f32⟩
  | .local _ .vmem, ⟨110, _⟩ => ⟨S1000x64, .f32⟩
  | .local _ .vmem, ⟨111, _⟩ => ⟨S1000x64, .f32⟩
  | .local _ .vmem, ⟨112, _⟩ => ⟨S1000x64, .f32⟩
  | .local _ .vmem, ⟨113, _⟩ => ⟨S1000x1, .f32⟩
  | .local _ .vmem, ⟨114, _⟩ => ⟨S1000x1, .f32⟩
  | .local _ .vmem, ⟨115, _⟩ => ⟨S1000x10, .f32⟩
  | .local _ .vmem, ⟨116, _⟩ => ⟨S1000x10, .f32⟩
  | .local _ .vmem, ⟨117, _⟩ => ⟨S64x64, .f32⟩
  | .local _ .vmem, ⟨118, _⟩ => ⟨S1x64, .f32⟩
  | .local _ .vmem, ⟨119, _⟩ => ⟨S1x64, .f32⟩
  | .local _ .vmem, ⟨120, _⟩ => ⟨S1x64, .f32⟩
  | .local _ .vmem, ⟨121, _⟩ => ⟨S64x64, .f32⟩
  | .local _ .vmem, ⟨122, _⟩ => ⟨S1x64, .f32⟩
  | .local _ .vmem, ⟨123, _⟩ => ⟨S64x3, .f32⟩
  | .local _ .vmem, ⟨124, _⟩ => ⟨S1x3, .f32⟩
  | .local _ .vmem, ⟨125, _⟩ => ⟨S1000x3, .f32⟩
  | .local _ .vmem, ⟨126, _⟩ => ⟨S1000x3, .f32⟩
  | _, _ => ⟨S50000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | .vmem, ⟨121, _⟩ => true
  | .vmem, ⟨122, _⟩ => true
  | .vmem, ⟨123, _⟩ => true
  | .vmem, ⟨124, _⟩ => true
  | .vmem, ⟨125, _⟩ => true
  | .vmem, ⟨126, _⟩ => true
  | _, _ => false

abbrev semScoped : Fin 0 → Bool
  | ⟨_, h⟩ => absurd h (Nat.not_lt_zero _)

abbrev dmaSemScoped : Fin 127 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | _ => false

abbrev sig : RefSig :=
  ofTc nBuf bufTy 0 127 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_call0_v0 : Ref sig .tc := ⟨.hbm, 23, rfl⟩
abbrev main_call0_v1_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_c : Ref sig .tc := ⟨.hbm, 28, rfl⟩
abbrev main_v5 : Ref sig .tc := ⟨.hbm, 29, rfl⟩
abbrev main_v6 : Ref sig .tc := ⟨.hbm, 30, rfl⟩
abbrev main_c_0 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_c_1 : Ref sig .tc := ⟨.hbm, 39, rfl⟩
abbrev main_v14 : Ref sig .tc := ⟨.hbm, 40, rfl⟩
abbrev main_v15 : Ref sig .tc := ⟨.hbm, 41, rfl⟩
abbrev main_c_2 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_c_3 : Ref sig .tc := ⟨.hbm, 48, rfl⟩
abbrev main_v21 : Ref sig .tc := ⟨.hbm, 49, rfl⟩
abbrev main_v22 : Ref sig .tc := ⟨.hbm, 50, rfl⟩
abbrev main_c_4 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_5 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_6 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_7 : Ref sig .tc := ⟨.hbm, 74, rfl⟩
abbrev main_v42 : Ref sig .tc := ⟨.hbm, 75, rfl⟩
abbrev main_v43 : Ref sig .tc := ⟨.hbm, 76, rfl⟩
abbrev main_cst_8 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_9 : Ref sig .tc := ⟨.hbm, 93, rfl⟩
abbrev main_v59 : Ref sig .tc := ⟨.hbm, 94, rfl⟩
abbrev main_cst_10 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_call1_c : Ref sig .tc := ⟨.hbm, 102, rfl⟩
abbrev main_call1_v0 : Ref sig .tc := ⟨.hbm, 103, rfl⟩
abbrev main_call1_v1 : Ref sig .tc := ⟨.hbm, 104, rfl⟩
abbrev main_call1_c_0 : Ref sig .tc := ⟨.hbm, 105, rfl⟩
abbrev main_call1_v2 : Ref sig .tc := ⟨.hbm, 106, rfl⟩
abbrev main_call1_v3 : Ref sig .tc := ⟨.hbm, 107, rfl⟩
abbrev main_call1_v4 : Ref sig .tc := ⟨.hbm, 108, rfl⟩
abbrev main_call1_v5 : Ref sig .tc := ⟨.hbm, 109, rfl⟩
abbrev main_call1_c_1 : Ref sig .tc := ⟨.hbm, 110, rfl⟩
abbrev main_call1_c_2 : Ref sig .tc := ⟨.hbm, 111, rfl⟩
abbrev main_call1_v6 : Ref sig .tc := ⟨.hbm, 112, rfl⟩
abbrev main_call1_v7 : Ref sig .tc := ⟨.hbm, 113, rfl⟩
abbrev main_call1_v8 : Ref sig .tc := ⟨.hbm, 114, rfl⟩
abbrev main_call1_v9 : Ref sig .tc := ⟨.hbm, 115, rfl⟩
abbrev main_call1_v10 : Ref sig .tc := ⟨.hbm, 116, rfl⟩
abbrev main_call1_v11 : Ref sig .tc := ⟨.hbm, 117, rfl⟩
abbrev main_call1_c_3 : Ref sig .tc := ⟨.hbm, 118, rfl⟩
abbrev main_call1_v12 : Ref sig .tc := ⟨.hbm, 119, rfl⟩
abbrev main_call1_v13 : Ref sig .tc := ⟨.hbm, 120, rfl⟩
abbrev main_call1_v14 : Ref sig .tc := ⟨.hbm, 121, rfl⟩
abbrev main_call1_cst : Ref sig .tc := ⟨.hbm, 122, rfl⟩
abbrev main_call1_v15 : Ref sig .tc := ⟨.hbm, 123, rfl⟩
abbrev main_v66 : Ref sig .tc := ⟨.hbm, 124, rfl⟩
abbrev main_v67 : Ref sig .tc := ⟨.hbm, 125, rfl⟩
abbrev main_cst_11 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_call2_c : Ref sig .tc := ⟨.hbm, 145, rfl⟩
abbrev main_call2_v0 : Ref sig .tc := ⟨.hbm, 146, rfl⟩
abbrev main_call2_v1 : Ref sig .tc := ⟨.hbm, 147, rfl⟩
abbrev main_call2_c_0 : Ref sig .tc := ⟨.hbm, 148, rfl⟩
abbrev main_call2_v2 : Ref sig .tc := ⟨.hbm, 149, rfl⟩
abbrev main_call2_v3 : Ref sig .tc := ⟨.hbm, 150, rfl⟩
abbrev main_call2_v4 : Ref sig .tc := ⟨.hbm, 151, rfl⟩
abbrev main_call2_v5 : Ref sig .tc := ⟨.hbm, 152, rfl⟩
abbrev main_call2_c_1 : Ref sig .tc := ⟨.hbm, 153, rfl⟩
abbrev main_call2_c_2 : Ref sig .tc := ⟨.hbm, 154, rfl⟩
abbrev main_call2_v6 : Ref sig .tc := ⟨.hbm, 155, rfl⟩
abbrev main_call2_v7 : Ref sig .tc := ⟨.hbm, 156, rfl⟩
abbrev main_call2_v8 : Ref sig .tc := ⟨.hbm, 157, rfl⟩
abbrev main_call2_v9 : Ref sig .tc := ⟨.hbm, 158, rfl⟩
abbrev main_call2_v10 : Ref sig .tc := ⟨.hbm, 159, rfl⟩
abbrev main_call2_v11 : Ref sig .tc := ⟨.hbm, 160, rfl⟩
abbrev main_call2_c_3 : Ref sig .tc := ⟨.hbm, 161, rfl⟩
abbrev main_call2_v12 : Ref sig .tc := ⟨.hbm, 162, rfl⟩
abbrev main_call2_v13 : Ref sig .tc := ⟨.hbm, 163, rfl⟩
abbrev main_call2_v14 : Ref sig .tc := ⟨.hbm, 164, rfl⟩
abbrev main_call2_cst : Ref sig .tc := ⟨.hbm, 165, rfl⟩
abbrev main_call2_v15 : Ref sig .tc := ⟨.hbm, 166, rfl⟩
abbrev main_v86 : Ref sig .tc := ⟨.hbm, 167, rfl⟩
abbrev main_v87 : Ref sig .tc := ⟨.hbm, 168, rfl⟩
abbrev main_cst_12 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_call3_c : Ref sig .tc := ⟨.hbm, 188, rfl⟩
abbrev main_call3_v0 : Ref sig .tc := ⟨.hbm, 189, rfl⟩
abbrev main_call3_v1 : Ref sig .tc := ⟨.hbm, 190, rfl⟩
abbrev main_call3_c_0 : Ref sig .tc := ⟨.hbm, 191, rfl⟩
abbrev main_call3_v2 : Ref sig .tc := ⟨.hbm, 192, rfl⟩
abbrev main_call3_v3 : Ref sig .tc := ⟨.hbm, 193, rfl⟩
abbrev main_call3_v4 : Ref sig .tc := ⟨.hbm, 194, rfl⟩
abbrev main_call3_v5 : Ref sig .tc := ⟨.hbm, 195, rfl⟩
abbrev main_call3_c_1 : Ref sig .tc := ⟨.hbm, 196, rfl⟩
abbrev main_call3_c_2 : Ref sig .tc := ⟨.hbm, 197, rfl⟩
abbrev main_call3_v6 : Ref sig .tc := ⟨.hbm, 198, rfl⟩
abbrev main_call3_v7 : Ref sig .tc := ⟨.hbm, 199, rfl⟩
abbrev main_call3_v8 : Ref sig .tc := ⟨.hbm, 200, rfl⟩
abbrev main_call3_v9 : Ref sig .tc := ⟨.hbm, 201, rfl⟩
abbrev main_call3_v10 : Ref sig .tc := ⟨.hbm, 202, rfl⟩
abbrev main_call3_v11 : Ref sig .tc := ⟨.hbm, 203, rfl⟩
abbrev main_call3_c_3 : Ref sig .tc := ⟨.hbm, 204, rfl⟩
abbrev main_call3_v12 : Ref sig .tc := ⟨.hbm, 205, rfl⟩
abbrev main_call3_v13 : Ref sig .tc := ⟨.hbm, 206, rfl⟩
abbrev main_call3_v14 : Ref sig .tc := ⟨.hbm, 207, rfl⟩
abbrev main_call3_cst : Ref sig .tc := ⟨.hbm, 208, rfl⟩
abbrev main_call3_v15 : Ref sig .tc := ⟨.hbm, 209, rfl⟩
abbrev main_v106 : Ref sig .tc := ⟨.hbm, 210, rfl⟩
abbrev main_v107 : Ref sig .tc := ⟨.hbm, 211, rfl⟩
abbrev main_cst_13 : Ref sig .tc := ⟨.hbm, 212, rfl⟩
abbrev main_v108 : Ref sig .tc := ⟨.hbm, 213, rfl⟩
abbrev main_v109 : Ref sig .tc := ⟨.hbm, 214, rfl⟩
abbrev main_v110 : Ref sig .tc := ⟨.hbm, 215, rfl⟩
abbrev main_v111 : Ref sig .tc := ⟨.hbm, 216, rfl⟩
abbrev main_v112 : Ref sig .tc := ⟨.hbm, 217, rfl⟩
abbrev main_v113 : Ref sig .tc := ⟨.hbm, 218, rfl⟩
abbrev main_v114 : Ref sig .tc := ⟨.hbm, 219, rfl⟩
abbrev main_v115 : Ref sig .tc := ⟨.hbm, 220, rfl⟩
abbrev main_v116 : Ref sig .tc := ⟨.hbm, 221, rfl⟩
abbrev main_v117 : Ref sig .tc := ⟨.hbm, 222, rfl⟩
abbrev main_v118 : Ref sig .tc := ⟨.hbm, 223, rfl⟩
abbrev main_v119 : Ref sig .tc := ⟨.hbm, 224, rfl⟩
abbrev main_v120 : Ref sig .tc := ⟨.hbm, 225, rfl⟩
abbrev main_v121 : Ref sig .tc := ⟨.hbm, 226, rfl⟩
abbrev main_v122 : Ref sig .tc := ⟨.hbm, 227, rfl⟩
abbrev main_v123 : Ref sig .tc := ⟨.hbm, 228, rfl⟩
abbrev main_v124 : Ref sig .tc := ⟨.hbm, 229, rfl⟩
abbrev main_v125 : Ref sig .tc := ⟨.hbm, 230, rfl⟩
abbrev main_call4_c : Ref sig .tc := ⟨.hbm, 231, rfl⟩
abbrev main_call4_v0 : Ref sig .tc := ⟨.hbm, 232, rfl⟩
abbrev main_call4_v1 : Ref sig .tc := ⟨.hbm, 233, rfl⟩
abbrev main_call4_c_0 : Ref sig .tc := ⟨.hbm, 234, rfl⟩
abbrev main_call4_v2 : Ref sig .tc := ⟨.hbm, 235, rfl⟩
abbrev main_call4_v3 : Ref sig .tc := ⟨.hbm, 236, rfl⟩
abbrev main_call4_v4 : Ref sig .tc := ⟨.hbm, 237, rfl⟩
abbrev main_call4_v5 : Ref sig .tc := ⟨.hbm, 238, rfl⟩
abbrev main_call4_c_1 : Ref sig .tc := ⟨.hbm, 239, rfl⟩
abbrev main_call4_c_2 : Ref sig .tc := ⟨.hbm, 240, rfl⟩
abbrev main_call4_v6 : Ref sig .tc := ⟨.hbm, 241, rfl⟩
abbrev main_call4_v7 : Ref sig .tc := ⟨.hbm, 242, rfl⟩
abbrev main_call4_v8 : Ref sig .tc := ⟨.hbm, 243, rfl⟩
abbrev main_call4_v9 : Ref sig .tc := ⟨.hbm, 244, rfl⟩
abbrev main_call4_v10 : Ref sig .tc := ⟨.hbm, 245, rfl⟩
abbrev main_call4_v11 : Ref sig .tc := ⟨.hbm, 246, rfl⟩
abbrev main_call4_c_3 : Ref sig .tc := ⟨.hbm, 247, rfl⟩
abbrev main_call4_v12 : Ref sig .tc := ⟨.hbm, 248, rfl⟩
abbrev main_call4_v13 : Ref sig .tc := ⟨.hbm, 249, rfl⟩
abbrev main_call4_v14 : Ref sig .tc := ⟨.hbm, 250, rfl⟩
abbrev main_call4_cst : Ref sig .tc := ⟨.hbm, 251, rfl⟩
abbrev main_call4_v15 : Ref sig .tc := ⟨.hbm, 252, rfl⟩
abbrev main_v126 : Ref sig .tc := ⟨.hbm, 253, rfl⟩
abbrev main_v127 : Ref sig .tc := ⟨.hbm, 254, rfl⟩
abbrev main_cst_14 : Ref sig .tc := ⟨.hbm, 255, rfl⟩
abbrev main_v128 : Ref sig .tc := ⟨.hbm, 256, rfl⟩
abbrev main_v129 : Ref sig .tc := ⟨.hbm, 257, rfl⟩
abbrev main_v130 : Ref sig .tc := ⟨.hbm, 258, rfl⟩
abbrev main_v131 : Ref sig .tc := ⟨.hbm, 259, rfl⟩
abbrev main_v132 : Ref sig .tc := ⟨.hbm, 260, rfl⟩
abbrev main_v133 : Ref sig .tc := ⟨.hbm, 261, rfl⟩
abbrev main_v134 : Ref sig .tc := ⟨.hbm, 262, rfl⟩
abbrev main_v135 : Ref sig .tc := ⟨.hbm, 263, rfl⟩
abbrev main_v136 : Ref sig .tc := ⟨.hbm, 264, rfl⟩
abbrev main_v137 : Ref sig .tc := ⟨.hbm, 265, rfl⟩
abbrev main_v138 : Ref sig .tc := ⟨.hbm, 266, rfl⟩
abbrev main_v139 : Ref sig .tc := ⟨.hbm, 267, rfl⟩
abbrev main_v140 : Ref sig .tc := ⟨.hbm, 268, rfl⟩
abbrev main_v141 : Ref sig .tc := ⟨.hbm, 269, rfl⟩
abbrev main_v142 : Ref sig .tc := ⟨.hbm, 270, rfl⟩
abbrev main_v143 : Ref sig .tc := ⟨.hbm, 271, rfl⟩
abbrev main_v144 : Ref sig .tc := ⟨.hbm, 272, rfl⟩
abbrev main_v145 : Ref sig .tc := ⟨.hbm, 273, rfl⟩
abbrev main_call5_c : Ref sig .tc := ⟨.hbm, 274, rfl⟩
abbrev main_call5_v0 : Ref sig .tc := ⟨.hbm, 275, rfl⟩
abbrev main_call5_v1 : Ref sig .tc := ⟨.hbm, 276, rfl⟩
abbrev main_call5_c_0 : Ref sig .tc := ⟨.hbm, 277, rfl⟩
abbrev main_call5_v2 : Ref sig .tc := ⟨.hbm, 278, rfl⟩
abbrev main_call5_v3 : Ref sig .tc := ⟨.hbm, 279, rfl⟩
abbrev main_call5_v4 : Ref sig .tc := ⟨.hbm, 280, rfl⟩
abbrev main_call5_v5 : Ref sig .tc := ⟨.hbm, 281, rfl⟩
abbrev main_call5_c_1 : Ref sig .tc := ⟨.hbm, 282, rfl⟩
abbrev main_call5_c_2 : Ref sig .tc := ⟨.hbm, 283, rfl⟩
abbrev main_call5_v6 : Ref sig .tc := ⟨.hbm, 284, rfl⟩
abbrev main_call5_v7 : Ref sig .tc := ⟨.hbm, 285, rfl⟩
abbrev main_call5_v8 : Ref sig .tc := ⟨.hbm, 286, rfl⟩
abbrev main_call5_v9 : Ref sig .tc := ⟨.hbm, 287, rfl⟩
abbrev main_call5_v10 : Ref sig .tc := ⟨.hbm, 288, rfl⟩
abbrev main_call5_v11 : Ref sig .tc := ⟨.hbm, 289, rfl⟩
abbrev main_call5_c_3 : Ref sig .tc := ⟨.hbm, 290, rfl⟩
abbrev main_call5_v12 : Ref sig .tc := ⟨.hbm, 291, rfl⟩
abbrev main_call5_v13 : Ref sig .tc := ⟨.hbm, 292, rfl⟩
abbrev main_call5_v14 : Ref sig .tc := ⟨.hbm, 293, rfl⟩
abbrev main_call5_cst : Ref sig .tc := ⟨.hbm, 294, rfl⟩
abbrev main_call5_v15 : Ref sig .tc := ⟨.hbm, 295, rfl⟩
abbrev main_v146 : Ref sig .tc := ⟨.hbm, 296, rfl⟩
abbrev main_v147 : Ref sig .tc := ⟨.hbm, 297, rfl⟩
abbrev main_cst_15 : Ref sig .tc := ⟨.hbm, 298, rfl⟩
abbrev main_v148 : Ref sig .tc := ⟨.hbm, 299, rfl⟩
abbrev main_v149 : Ref sig .tc := ⟨.hbm, 300, rfl⟩
abbrev main_v150 : Ref sig .tc := ⟨.hbm, 301, rfl⟩
abbrev main_v151 : Ref sig .tc := ⟨.hbm, 302, rfl⟩
abbrev main_v152 : Ref sig .tc := ⟨.hbm, 303, rfl⟩
abbrev main_v153 : Ref sig .tc := ⟨.hbm, 304, rfl⟩
abbrev main_v154 : Ref sig .tc := ⟨.hbm, 305, rfl⟩
abbrev main_v155 : Ref sig .tc := ⟨.hbm, 306, rfl⟩
abbrev main_v156 : Ref sig .tc := ⟨.hbm, 307, rfl⟩
abbrev main_v157 : Ref sig .tc := ⟨.hbm, 308, rfl⟩
abbrev main_v158 : Ref sig .tc := ⟨.hbm, 309, rfl⟩
abbrev main_v159 : Ref sig .tc := ⟨.hbm, 310, rfl⟩
abbrev main_v160 : Ref sig .tc := ⟨.hbm, 311, rfl⟩
abbrev main_v161 : Ref sig .tc := ⟨.hbm, 312, rfl⟩
abbrev main_v162 : Ref sig .tc := ⟨.hbm, 313, rfl⟩
abbrev main_v163 : Ref sig .tc := ⟨.hbm, 314, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg5_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc2_stg6_0 : Ref sig .tc := ⟨.vmem, 23, rfl⟩
abbrev cc2_stg6_1 : Ref sig .tc := ⟨.vmem, 24, rfl⟩
abbrev cc2_stg7_0 : Ref sig .tc := ⟨.vmem, 25, rfl⟩
abbrev cc2_stg7_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc3_stg4_0 : Ref sig .tc := ⟨.vmem, 35, rfl⟩
abbrev cc3_stg4_1 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg7_0 : Ref sig .tc := ⟨.vmem, 39, rfl⟩
abbrev cc3_stg8_0 : Ref sig .tc := ⟨.vmem, 40, rfl⟩
abbrev cc3_stg9_0 : Ref sig .tc := ⟨.vmem, 41, rfl⟩
abbrev cc3_stg10_0 : Ref sig .tc := ⟨.vmem, 42, rfl⟩
abbrev cc3_stg11_0 : Ref sig .tc := ⟨.vmem, 43, rfl⟩
abbrev cc3_stg12_0 : Ref sig .tc := ⟨.vmem, 44, rfl⟩
abbrev cc3_stg13_0 : Ref sig .tc := ⟨.vmem, 45, rfl⟩
abbrev cc3_stg13_1 : Ref sig .tc := ⟨.vmem, 46, rfl⟩
abbrev cc4_stg0_0 : Ref sig .tc := ⟨.vmem, 47, rfl⟩
abbrev cc4_stg0_1 : Ref sig .tc := ⟨.vmem, 48, rfl⟩
abbrev cc4_stg1_0 : Ref sig .tc := ⟨.vmem, 49, rfl⟩
abbrev cc4_stg1_1 : Ref sig .tc := ⟨.vmem, 50, rfl⟩
abbrev cc4_stg2_0 : Ref sig .tc := ⟨.vmem, 51, rfl⟩
abbrev cc4_stg2_1 : Ref sig .tc := ⟨.vmem, 52, rfl⟩
abbrev cc4_stg3_0 : Ref sig .tc := ⟨.vmem, 53, rfl⟩
abbrev cc4_stg3_1 : Ref sig .tc := ⟨.vmem, 54, rfl⟩
abbrev cc4_stg4_0 : Ref sig .tc := ⟨.vmem, 55, rfl⟩
abbrev cc4_stg4_1 : Ref sig .tc := ⟨.vmem, 56, rfl⟩
abbrev cc4_stg5_0 : Ref sig .tc := ⟨.vmem, 57, rfl⟩
abbrev cc4_stg6_0 : Ref sig .tc := ⟨.vmem, 58, rfl⟩
abbrev cc4_stg7_0 : Ref sig .tc := ⟨.vmem, 59, rfl⟩
abbrev cc4_stg8_0 : Ref sig .tc := ⟨.vmem, 60, rfl⟩
abbrev cc4_stg9_0 : Ref sig .tc := ⟨.vmem, 61, rfl⟩
abbrev cc4_stg10_0 : Ref sig .tc := ⟨.vmem, 62, rfl⟩
abbrev cc4_stg11_0 : Ref sig .tc := ⟨.vmem, 63, rfl⟩
abbrev cc4_stg12_0 : Ref sig .tc := ⟨.vmem, 64, rfl⟩
abbrev cc4_stg13_0 : Ref sig .tc := ⟨.vmem, 65, rfl⟩
abbrev cc4_stg13_1 : Ref sig .tc := ⟨.vmem, 66, rfl⟩
abbrev cc5_stg0_0 : Ref sig .tc := ⟨.vmem, 67, rfl⟩
abbrev cc5_stg0_1 : Ref sig .tc := ⟨.vmem, 68, rfl⟩
abbrev cc5_stg1_0 : Ref sig .tc := ⟨.vmem, 69, rfl⟩
abbrev cc5_stg1_1 : Ref sig .tc := ⟨.vmem, 70, rfl⟩
abbrev cc5_stg2_0 : Ref sig .tc := ⟨.vmem, 71, rfl⟩
abbrev cc5_stg2_1 : Ref sig .tc := ⟨.vmem, 72, rfl⟩
abbrev cc5_stg3_0 : Ref sig .tc := ⟨.vmem, 73, rfl⟩
abbrev cc5_stg3_1 : Ref sig .tc := ⟨.vmem, 74, rfl⟩
abbrev cc5_stg4_0 : Ref sig .tc := ⟨.vmem, 75, rfl⟩
abbrev cc5_stg4_1 : Ref sig .tc := ⟨.vmem, 76, rfl⟩
abbrev cc5_stg5_0 : Ref sig .tc := ⟨.vmem, 77, rfl⟩
abbrev cc5_stg6_0 : Ref sig .tc := ⟨.vmem, 78, rfl⟩
abbrev cc5_stg7_0 : Ref sig .tc := ⟨.vmem, 79, rfl⟩
abbrev cc5_stg8_0 : Ref sig .tc := ⟨.vmem, 80, rfl⟩
abbrev cc5_stg9_0 : Ref sig .tc := ⟨.vmem, 81, rfl⟩
abbrev cc5_stg10_0 : Ref sig .tc := ⟨.vmem, 82, rfl⟩
abbrev cc5_stg11_0 : Ref sig .tc := ⟨.vmem, 83, rfl⟩
abbrev cc5_stg12_0 : Ref sig .tc := ⟨.vmem, 84, rfl⟩
abbrev cc5_stg13_0 : Ref sig .tc := ⟨.vmem, 85, rfl⟩
abbrev cc5_stg13_1 : Ref sig .tc := ⟨.vmem, 86, rfl⟩
abbrev cc6_stg0_0 : Ref sig .tc := ⟨.vmem, 87, rfl⟩
abbrev cc6_stg0_1 : Ref sig .tc := ⟨.vmem, 88, rfl⟩
abbrev cc6_stg1_0 : Ref sig .tc := ⟨.vmem, 89, rfl⟩
abbrev cc6_stg1_1 : Ref sig .tc := ⟨.vmem, 90, rfl⟩
abbrev cc6_stg2_0 : Ref sig .tc := ⟨.vmem, 91, rfl⟩
abbrev cc6_stg2_1 : Ref sig .tc := ⟨.vmem, 92, rfl⟩
abbrev cc6_stg3_0 : Ref sig .tc := ⟨.vmem, 93, rfl⟩
abbrev cc6_stg3_1 : Ref sig .tc := ⟨.vmem, 94, rfl⟩
abbrev cc6_stg4_0 : Ref sig .tc := ⟨.vmem, 95, rfl⟩
abbrev cc6_stg4_1 : Ref sig .tc := ⟨.vmem, 96, rfl⟩
abbrev cc6_stg5_0 : Ref sig .tc := ⟨.vmem, 97, rfl⟩
abbrev cc6_stg6_0 : Ref sig .tc := ⟨.vmem, 98, rfl⟩
abbrev cc6_stg7_0 : Ref sig .tc := ⟨.vmem, 99, rfl⟩
abbrev cc6_stg8_0 : Ref sig .tc := ⟨.vmem, 100, rfl⟩
abbrev cc6_stg9_0 : Ref sig .tc := ⟨.vmem, 101, rfl⟩
abbrev cc6_stg10_0 : Ref sig .tc := ⟨.vmem, 102, rfl⟩
abbrev cc6_stg11_0 : Ref sig .tc := ⟨.vmem, 103, rfl⟩
abbrev cc6_stg12_0 : Ref sig .tc := ⟨.vmem, 104, rfl⟩
abbrev cc6_stg13_0 : Ref sig .tc := ⟨.vmem, 105, rfl⟩
abbrev cc6_stg13_1 : Ref sig .tc := ⟨.vmem, 106, rfl⟩
abbrev cc7_stg0_0 : Ref sig .tc := ⟨.vmem, 107, rfl⟩
abbrev cc7_stg0_1 : Ref sig .tc := ⟨.vmem, 108, rfl⟩
abbrev cc7_stg1_0 : Ref sig .tc := ⟨.vmem, 109, rfl⟩
abbrev cc7_stg1_1 : Ref sig .tc := ⟨.vmem, 110, rfl⟩
abbrev cc7_stg2_0 : Ref sig .tc := ⟨.vmem, 111, rfl⟩
abbrev cc7_stg2_1 : Ref sig .tc := ⟨.vmem, 112, rfl⟩
abbrev cc7_stg3_0 : Ref sig .tc := ⟨.vmem, 113, rfl⟩
abbrev cc7_stg3_1 : Ref sig .tc := ⟨.vmem, 114, rfl⟩
abbrev cc7_stg4_0 : Ref sig .tc := ⟨.vmem, 115, rfl⟩
abbrev cc7_stg4_1 : Ref sig .tc := ⟨.vmem, 116, rfl⟩
abbrev cc7_stg5_0 : Ref sig .tc := ⟨.vmem, 117, rfl⟩
abbrev cc7_stg6_0 : Ref sig .tc := ⟨.vmem, 118, rfl⟩
abbrev cc7_stg7_0 : Ref sig .tc := ⟨.vmem, 119, rfl⟩
abbrev cc7_stg8_0 : Ref sig .tc := ⟨.vmem, 120, rfl⟩
abbrev cc7_stg9_0 : Ref sig .tc := ⟨.vmem, 121, rfl⟩
abbrev cc7_stg10_0 : Ref sig .tc := ⟨.vmem, 122, rfl⟩
abbrev cc7_stg11_0 : Ref sig .tc := ⟨.vmem, 123, rfl⟩
abbrev cc7_stg12_0 : Ref sig .tc := ⟨.vmem, 124, rfl⟩
abbrev cc7_stg13_0 : Ref sig .tc := ⟨.vmem, 125, rfl⟩
abbrev cc7_stg13_1 : Ref sig .tc := ⟨.vmem, 126, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem5_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc2_sem4_1 : DmaSem sig := 20
abbrev cc2_sem5_0 : DmaSem sig := 21
abbrev cc2_sem5_1 : DmaSem sig := 22
abbrev cc2_sem6_0 : DmaSem sig := 23
abbrev cc2_sem6_1 : DmaSem sig := 24
abbrev cc2_sem7_0 : DmaSem sig := 25
abbrev cc2_sem7_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem3_1 : DmaSem sig := 34
abbrev cc3_sem4_0 : DmaSem sig := 35
abbrev cc3_sem4_1 : DmaSem sig := 36
abbrev cc3_sem5_0 : DmaSem sig := 37
abbrev cc3_sem6_0 : DmaSem sig := 38
abbrev cc3_sem7_0 : DmaSem sig := 39
abbrev cc3_sem8_0 : DmaSem sig := 40
abbrev cc3_sem9_0 : DmaSem sig := 41
abbrev cc3_sem10_0 : DmaSem sig := 42
abbrev cc3_sem11_0 : DmaSem sig := 43
abbrev cc3_sem12_0 : DmaSem sig := 44
abbrev cc3_sem13_0 : DmaSem sig := 45
abbrev cc3_sem13_1 : DmaSem sig := 46
abbrev cc4_sem0_0 : DmaSem sig := 47
abbrev cc4_sem0_1 : DmaSem sig := 48
abbrev cc4_sem1_0 : DmaSem sig := 49
abbrev cc4_sem1_1 : DmaSem sig := 50
abbrev cc4_sem2_0 : DmaSem sig := 51
abbrev cc4_sem2_1 : DmaSem sig := 52
abbrev cc4_sem3_0 : DmaSem sig := 53
abbrev cc4_sem3_1 : DmaSem sig := 54
abbrev cc4_sem4_0 : DmaSem sig := 55
abbrev cc4_sem4_1 : DmaSem sig := 56
abbrev cc4_sem5_0 : DmaSem sig := 57
abbrev cc4_sem6_0 : DmaSem sig := 58
abbrev cc4_sem7_0 : DmaSem sig := 59
abbrev cc4_sem8_0 : DmaSem sig := 60
abbrev cc4_sem9_0 : DmaSem sig := 61
abbrev cc4_sem10_0 : DmaSem sig := 62
abbrev cc4_sem11_0 : DmaSem sig := 63
abbrev cc4_sem12_0 : DmaSem sig := 64
abbrev cc4_sem13_0 : DmaSem sig := 65
abbrev cc4_sem13_1 : DmaSem sig := 66
abbrev cc5_sem0_0 : DmaSem sig := 67
abbrev cc5_sem0_1 : DmaSem sig := 68
abbrev cc5_sem1_0 : DmaSem sig := 69
abbrev cc5_sem1_1 : DmaSem sig := 70
abbrev cc5_sem2_0 : DmaSem sig := 71
abbrev cc5_sem2_1 : DmaSem sig := 72
abbrev cc5_sem3_0 : DmaSem sig := 73
abbrev cc5_sem3_1 : DmaSem sig := 74
abbrev cc5_sem4_0 : DmaSem sig := 75
abbrev cc5_sem4_1 : DmaSem sig := 76
abbrev cc5_sem5_0 : DmaSem sig := 77
abbrev cc5_sem6_0 : DmaSem sig := 78
abbrev cc5_sem7_0 : DmaSem sig := 79
abbrev cc5_sem8_0 : DmaSem sig := 80
abbrev cc5_sem9_0 : DmaSem sig := 81
abbrev cc5_sem10_0 : DmaSem sig := 82
abbrev cc5_sem11_0 : DmaSem sig := 83
abbrev cc5_sem12_0 : DmaSem sig := 84
abbrev cc5_sem13_0 : DmaSem sig := 85
abbrev cc5_sem13_1 : DmaSem sig := 86
abbrev cc6_sem0_0 : DmaSem sig := 87
abbrev cc6_sem0_1 : DmaSem sig := 88
abbrev cc6_sem1_0 : DmaSem sig := 89
abbrev cc6_sem1_1 : DmaSem sig := 90
abbrev cc6_sem2_0 : DmaSem sig := 91
abbrev cc6_sem2_1 : DmaSem sig := 92
abbrev cc6_sem3_0 : DmaSem sig := 93
abbrev cc6_sem3_1 : DmaSem sig := 94
abbrev cc6_sem4_0 : DmaSem sig := 95
abbrev cc6_sem4_1 : DmaSem sig := 96
abbrev cc6_sem5_0 : DmaSem sig := 97
abbrev cc6_sem6_0 : DmaSem sig := 98
abbrev cc6_sem7_0 : DmaSem sig := 99
abbrev cc6_sem8_0 : DmaSem sig := 100
abbrev cc6_sem9_0 : DmaSem sig := 101
abbrev cc6_sem10_0 : DmaSem sig := 102
abbrev cc6_sem11_0 : DmaSem sig := 103
abbrev cc6_sem12_0 : DmaSem sig := 104
abbrev cc6_sem13_0 : DmaSem sig := 105
abbrev cc6_sem13_1 : DmaSem sig := 106
abbrev cc7_sem0_0 : DmaSem sig := 107
abbrev cc7_sem0_1 : DmaSem sig := 108
abbrev cc7_sem1_0 : DmaSem sig := 109
abbrev cc7_sem1_1 : DmaSem sig := 110
abbrev cc7_sem2_0 : DmaSem sig := 111
abbrev cc7_sem2_1 : DmaSem sig := 112
abbrev cc7_sem3_0 : DmaSem sig := 113
abbrev cc7_sem3_1 : DmaSem sig := 114
abbrev cc7_sem4_0 : DmaSem sig := 115
abbrev cc7_sem4_1 : DmaSem sig := 116
abbrev cc7_sem5_0 : DmaSem sig := 117
abbrev cc7_sem6_0 : DmaSem sig := 118
abbrev cc7_sem7_0 : DmaSem sig := 119
abbrev cc7_sem8_0 : DmaSem sig := 120
abbrev cc7_sem9_0 : DmaSem sig := 121
abbrev cc7_sem10_0 : DmaSem sig := 122
abbrev cc7_sem11_0 : DmaSem sig := 123
abbrev cc7_sem12_0 : DmaSem sig := 124
abbrev cc7_sem13_0 : DmaSem sig := 125
abbrev cc7_sem13_1 : DmaSem sig := 126

abbrev nD : Nat := 1
abbrev τ : Topo := Topo.v7x

variable {F : FTy → Type} [FloatOps F]

abbrev grid0 : Pipeline.Grid := ⟨1, ![100], ![false]⟩

def k0_cond1 (i : grid0.Coords) : BitVec 1 :=
  let arg0 : BitVec 32 := BitVec.ofNat 32 (i 0).val
  let c0_i32 : BitVec 32 := 0#32
  let v7 : BitVec 1 := Scalar.cmpi .eq arg0 c0_i32
  let v8 : BitVec 32 := Scalar.extui v7
  let c0_i32_2 : BitVec 32 := 0#32
  let v9 : BitVec 1 := Scalar.cmpi .ne v8 c0_i32_2
  v9

def k0_cond2 (i : grid0.Coords) : BitVec 1 :=
  let arg0 : BitVec 32 := BitVec.ofNat 32 (i 0).val
  let c0_i32_3 : BitVec 32 := 0#32
  let v10 : BitVec 1 := Scalar.cmpi .sgt arg0 c0_i32_3
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8000x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x9 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x10 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![5, 100], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S8000x9 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x9x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x64x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x1x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x64x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S1x1x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S1x8000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1000x10 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S64x64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x64 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S64x3 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x3 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 2 → Memref sig .tc .vmem S1000x64 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1000x10 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S64x64 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x64 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S64x3 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S1x3 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 2 → Memref sig .tc .vmem S1000x64 .f32 := fun | 0 => Memref.whole cc4_stg13_0 | 1 => Memref.whole cc4_stg13_1 | ⟨_ + 2, h⟩ => absurd h (Nat.not_lt.2 (Nat.le_add_left _ _))
abbrev sem4_13 : Fin 2 → DmaSem sig := fun | 0 => cc4_sem13_0 | 1 => cc4_sem13_1 | ⟨_ + 2, h⟩ => absurd h (Nat.not_lt.2 (Nat.le_add_left _ _))
abbrev reads4_13 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_12 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_13 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S1000x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S1000x10 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S64x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x64 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x64 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S64x64 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S1x64 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 1 → Memref sig .tc .vmem S64x3 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![false]

abbrev stage5_12 : Fin 1 → Memref sig .tc .vmem S1x3 .f32 := fun | 0 => Memref.whole cc5_stg12_0 | ⟨_ + 1, h⟩ => absurd h (Nat.not_lt.2 (Nat.le_add_left _ _))
abbrev sem5_12 : Fin 1 → DmaSem sig := fun | 0 => cc5_sem12_0 | ⟨_ + 1, h⟩ => absurd h (Nat.not_lt.2 (Nat.le_add_left _ _))
abbrev reads5_12 : Fin grid5.rank → Bool := ![false]

abbrev stage5_13 : Fin 2 → Memref sig .tc .vmem S1000x64 .f32 := fun | 0 => Memref.whole cc5_stg13_0 | 1 => Memref.whole cc5_stg13_1 | ⟨_ + 2, h⟩ => absurd h (Nat.not_lt.2 (Nat.le_add_left _ _))
abbrev sem5_13 : Fin 2 → DmaSem sig := fun | 0 => cc5_sem13_0 | 1 => cc5_sem13_1 | ⟨_ + 2, h⟩ => absurd h (Nat.not_lt.2 (Nat.le_add_left _ _))
abbrev reads5_13 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_11 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_12 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_13 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S1000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S1000x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S1000x10 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S64x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x64 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x64 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S64x64 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S1x64 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 1 → Memref sig .tc .vmem S64x3 .f32 := fun | 0 => Memref.whole cc6_stg11_0 | ⟨_ + 1, h⟩ => absurd h (Nat.not_lt.2 (Nat.le_add_left _ _))
abbrev sem6_11 : Fin 1 → DmaSem sig := fun | 0 => cc6_sem11_0 | ⟨_ + 1, h⟩ => absurd h (Nat.not_lt.2 (Nat.le_add_left _ _))
abbrev reads6_11 : Fin grid6.rank → Bool := ![false]

abbrev stage6_12 : Fin 1 → Memref sig .tc .vmem S1x3 .f32 := fun | 0 => Memref.whole cc6_stg12_0 | ⟨_ + 1, h⟩ => absurd h (Nat.not_lt.2 (Nat.le_add_left _ _))
abbrev sem6_12 : Fin 1 → DmaSem sig := fun | 0 => cc6_sem12_0 | ⟨_ + 1, h⟩ => absurd h (Nat.not_lt.2 (Nat.le_add_left _ _))
abbrev reads6_12 : Fin grid6.rank → Bool := ![false]

abbrev stage6_13 : Fin 2 → Memref sig .tc .vmem S1000x64 .f32 := fun | 0 => Memref.whole cc6_stg13_0 | 1 => Memref.whole cc6_stg13_1 | ⟨_ + 2, h⟩ => absurd h (Nat.not_lt.2 (Nat.le_add_left _ _))
abbrev sem6_13 : Fin 2 → DmaSem sig := fun | 0 => cc6_sem13_0 | 1 => cc6_sem13_1 | ⟨_ + 2, h⟩ => absurd h (Nat.not_lt.2 (Nat.le_add_left _ _))
abbrev reads6_13 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_10 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_11 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_12 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_13 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S1000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S1000x1 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S1000x10 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S64x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x64 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x64 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S1x64 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S64x64 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev stage7_10 : Fin 1 → Memref sig .tc .vmem S1x64 .f32 := fun | 0 => Memref.whole cc7_stg10_0 | ⟨_ + 1, h⟩ => absurd h (Nat.not_lt.2 (Nat.le_add_left _ _))
abbrev sem7_10 : Fin 1 → DmaSem sig := fun | 0 => cc7_sem10_0 | ⟨_ + 1, h⟩ => absurd h (Nat.not_lt.2 (Nat.le_add_left _ _))
abbrev reads7_10 : Fin grid7.rank → Bool := ![false]

abbrev stage7_11 : Fin 1 → Memref sig .tc .vmem S64x3 .f32 := fun | 0 => Memref.whole cc7_stg11_0 | ⟨_ + 1, h⟩ => absurd h (Nat.not_lt.2 (Nat.le_add_left _ _))
abbrev sem7_11 : Fin 1 → DmaSem sig := fun | 0 => cc7_sem11_0 | ⟨_ + 1, h⟩ => absurd h (Nat.not_lt.2 (Nat.le_add_left _ _))
abbrev reads7_11 : Fin grid7.rank → Bool := ![false]

abbrev stage7_12 : Fin 1 → Memref sig .tc .vmem S1x3 .f32 := fun | 0 => Memref.whole cc7_stg12_0 | ⟨_ + 1, h⟩ => absurd h (Nat.not_lt.2 (Nat.le_add_left _ _))
abbrev sem7_12 : Fin 1 → DmaSem sig := fun | 0 => cc7_sem12_0 | ⟨_ + 1, h⟩ => absurd h (Nat.not_lt.2 (Nat.le_add_left _ _))
abbrev reads7_12 : Fin grid7.rank → Bool := ![false]

abbrev stage7_13 : Fin 2 → Memref sig .tc .vmem S1000x3 .f32 := fun | 0 => Memref.whole cc7_stg13_0 | 1 => Memref.whole cc7_stg13_1 | ⟨_ + 2, h⟩ => absurd h (Nat.not_lt.2 (Nat.le_add_left _ _))
abbrev sem7_13 : Fin 2 → DmaSem sig := fun | 0 => cc7_sem13_0 | 1 => cc7_sem13_1 | ⟨_ + 2, h⟩ => absurd h (Nat.not_lt.2 (Nat.le_add_left _ _))
abbrev reads7_13 : Fin grid7.rank → Bool := ![true]
-- ==== ReferenceIdeal.lean ====
abbrev S50000x10 : Shape := ⟨2, ![50000, 10]⟩
abbrev S2x800000 : Shape := ⟨2, ![2, 800000]⟩
abbrev S800000x9 : Shape := ⟨2, ![800000, 9]⟩
abbrev S10x64 : Shape := ⟨2, ![10, 64]⟩
abbrev S64 : Shape := ⟨1, ![64]⟩
abbrev S64x64 : Shape := ⟨2, ![64, 64]⟩
abbrev S5x9x64 : Shape := ⟨3, ![5, 9, 64]⟩
abbrev S5x64 : Shape := ⟨2, ![5, 64]⟩
abbrev S5x64x64 : Shape := ⟨3, ![5, 64, 64]⟩
abbrev S5x1x64 : Shape := ⟨3, ![5, 1, 64]⟩
abbrev S64x3 : Shape := ⟨2, ![64, 3]⟩
abbrev S3 : Shape := ⟨1, ![3]⟩
abbrev S_ : Shape := ⟨0, ![]⟩
abbrev S9 : Shape := ⟨1, ![9]⟩
abbrev S1x9 : Shape := ⟨2, ![1, 9]⟩
abbrev S50000x1 : Shape := ⟨2, ![50000, 1]⟩
abbrev S1x800000 : Shape := ⟨2, ![1, 800000]⟩
abbrev S800000 : Shape := ⟨1, ![800000]⟩
abbrev S50000x64 : Shape := ⟨2, ![50000, 64]⟩
abbrev S1x64 : Shape := ⟨2, ![1, 64]⟩
abbrev S50000 : Shape := ⟨1, ![50000]⟩
abbrev S800000x1 : Shape := ⟨2, ![800000, 1]⟩
abbrev S1x9x64 : Shape := ⟨3, ![1, 9, 64]⟩
abbrev S9x64 : Shape := ⟨2, ![9, 64]⟩
abbrev S800000x64 : Shape := ⟨2, ![800000, 64]⟩
abbrev S1x64x64 : Shape := ⟨3, ![1, 64, 64]⟩
abbrev S1 : Shape := ⟨1, ![1]⟩
abbrev S1x1 : Shape := ⟨2, ![1, 1]⟩
abbrev S1x1x64 : Shape := ⟨3, ![1, 1, 64]⟩
abbrev S50000x3 : Shape := ⟨2, ![50000, 3]⟩
abbrev S1x3 : Shape := ⟨2, ![1, 3]⟩

abbrev nBuf : Space → Nat
  | .hbm => 547
  | .vmem => 0
  | .smem => 0
  | _ => 0

abbrev hbmTy0_0 (i : Nat) : BufTy := match i % 128 with
  | 0 => ⟨S50000x10, .f32⟩
  | 1 => ⟨S2x800000, .i32⟩
  | 2 => ⟨S800000x9, .f32⟩
  | 3 => ⟨S10x64, .f32⟩
  | 4 => ⟨S64, .f32⟩
  | 5 => ⟨S64x64, .f32⟩
  | 6 => ⟨S64, .f32⟩
  | 7 => ⟨S5x9x64, .f32⟩
  | 8 => ⟨S5x64, .f32⟩
  | 9 => ⟨S5x64x64, .f32⟩
  | 10 => ⟨S5x64, .f32⟩
  | 11 => ⟨S5x64x64, .f32⟩
  | 12 => ⟨S5x64, .f32⟩
  | 13 => ⟨S5x64x64, .f32⟩
  | 14 => ⟨S5x64, .f32⟩
  | 15 => ⟨S5x1x64, .f32⟩
  | 16 => ⟨S5x64, .f32⟩
  | 17 => ⟨S64x64, .f32⟩
  | 18 => ⟨S64, .f32⟩
  | 19 => ⟨S64x3, .f32⟩
  | 20 => ⟨S3, .f32⟩
  | 21 => ⟨S_, .f32⟩
  | 22 => ⟨S9, .f32⟩
  | 23 => ⟨S1x9, .f32⟩
  | 24 => ⟨S_, .f32⟩
  | 25 => ⟨S1x9, .f32⟩
  | 26 => ⟨S1x9, .f32⟩
  | 27 => ⟨S_, .i32⟩
  | 28 => ⟨S_, .f32⟩
  | 29 => ⟨S9, .f32⟩
  | 30 => ⟨S1x9, .f32⟩
  | 31 => ⟨S_, .f32⟩
  | 32 => ⟨S1x9, .f32⟩
  | 33 => ⟨S1x9, .f32⟩
  | 34 => ⟨S800000x9, .f32⟩
  | 35 => ⟨S800000x9, .f32⟩
  | 36 => ⟨S800000x9, .f32⟩
  | 37 => ⟨S_, .f32⟩
  | 38 => ⟨S_, .f32⟩
  | 39 => ⟨S_, .f32⟩
  | 40 => ⟨S_, .f32⟩
  | 41 => ⟨S9, .f32⟩
  | 42 => ⟨S1x9, .f32⟩
  | 43 => ⟨S1x9, .f32⟩
  | 44 => ⟨S1x9, .f32⟩
  | 45 => ⟨S_, .f32⟩
  | 46 => ⟨S_, .i1⟩
  | 47 => ⟨S_, .f32⟩
  | 48 => ⟨S_, .f32⟩
  | 49 => ⟨S1x9, .f32⟩
  | 50 => ⟨S1x9, .f32⟩
  | 51 => ⟨S1x9, .f32⟩
  | 52 => ⟨S800000x9, .f32⟩
  | 53 => ⟨S800000x9, .f32⟩
  | 54 => ⟨S_, .f32⟩
  | 55 => ⟨S1x9, .f32⟩
  | 56 => ⟨S1x9, .f32⟩
  | 57 => ⟨S800000x9, .f32⟩
  | 58 => ⟨S800000x9, .f32⟩
  | 59 => ⟨S50000x1, .f32⟩
  | 60 => ⟨S1x800000, .i32⟩
  | 61 => ⟨S800000, .i32⟩
  | 62 => ⟨S1x800000, .i32⟩
  | 63 => ⟨S800000, .i32⟩
  | 64 => ⟨S50000x64, .f32⟩
  | 65 => ⟨S1x64, .f32⟩
  | 66 => ⟨S50000x64, .f32⟩
  | 67 => ⟨S50000x64, .f32⟩
  | 68 => ⟨S_, .f32⟩
  | 69 => ⟨S50000x64, .f32⟩
  | 70 => ⟨S50000x64, .f32⟩
  | 71 => ⟨S50000x64, .f32⟩
  | 72 => ⟨S1x64, .f32⟩
  | 73 => ⟨S50000x64, .f32⟩
  | 74 => ⟨S50000x64, .f32⟩
  | 75 => ⟨S_, .f32⟩
  | 76 => ⟨S800000, .f32⟩
  | 77 => ⟨S_, .f32⟩
  | 78 => ⟨S50000, .f32⟩
  | 79 => ⟨S800000x1, .i32⟩
  | 80 => ⟨S50000, .f32⟩
  | 81 => ⟨S_, .f32⟩
  | 82 => ⟨S_, .f32⟩
  | 83 => ⟨S50000, .f32⟩
  | 84 => ⟨S50000, .f32⟩
  | 85 => ⟨S50000x1, .f32⟩
  | 86 => ⟨S1x9x64, .f32⟩
  | 87 => ⟨S9x64, .f32⟩
  | 88 => ⟨S800000x64, .f32⟩
  | 89 => ⟨S1x64, .f32⟩
  | 90 => ⟨S64, .f32⟩
  | 91 => ⟨S1x64, .f32⟩
  | 92 => ⟨S800000x64, .f32⟩
  | 93 => ⟨S800000x64, .f32⟩
  | 94 => ⟨S_, .f32⟩
  | 95 => ⟨S800000x64, .f32⟩
  | 96 => ⟨S800000x64, .f32⟩
  | 97 => ⟨S1x64x64, .f32⟩
  | 98 => ⟨S64x64, .f32⟩
  | 99 => ⟨S800000x64, .f32⟩
  | 100 => ⟨S1x64, .f32⟩
  | 101 => ⟨S64, .f32⟩
  | 102 => ⟨S1x64, .f32⟩
  | 103 => ⟨S800000x64, .f32⟩
  | 104 => ⟨S800000x64, .f32⟩
  | 105 => ⟨S_, .f32⟩
  | 106 => ⟨S800000x64, .f32⟩
  | 107 => ⟨S800000x64, .f32⟩
  | 108 => ⟨S1x64x64, .f32⟩
  | 109 => ⟨S64x64, .f32⟩
  | 110 => ⟨S800000x64, .f32⟩
  | 111 => ⟨S1x64, .f32⟩
  | 112 => ⟨S64, .f32⟩
  | 113 => ⟨S1x64, .f32⟩
  | 114 => ⟨S800000x64, .f32⟩
  | 115 => ⟨S800000x64, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S1, .i32⟩
  | 125 => ⟨S_, .i32⟩
  | 126 => ⟨S800000x1, .i32⟩
  | 127 => ⟨S800000x1, .i1⟩
  | _ => ⟨S50000x10, .f32⟩

abbrev hbmTy0_1 (i : Nat) : BufTy := match i % 128 with
  | 0 => ⟨S1x1, .i32⟩
  | 1 => ⟨S800000x1, .i32⟩
  | 2 => ⟨S800000x1, .i1⟩
  | 3 => ⟨S800000x1, .i1⟩
  | 4 => ⟨S_, .i1⟩
  | 5 => ⟨S800000, .i1⟩
  | 6 => ⟨S800000x64, .f32⟩
  | 7 => ⟨S800000x64, .i1⟩
  | 8 => ⟨S_, .f32⟩
  | 9 => ⟨S800000x64, .f32⟩
  | 10 => ⟨S800000x64, .f32⟩
  | 11 => ⟨S800000x64, .f32⟩
  | 12 => ⟨S_, .f32⟩
  | 13 => ⟨S50000x64, .f32⟩
  | 14 => ⟨S800000x1, .i32⟩
  | 15 => ⟨S50000x64, .f32⟩
  | 16 => ⟨S50000x64, .f32⟩
  | 17 => ⟨S50000x64, .f32⟩
  | 18 => ⟨S1x1x64, .f32⟩
  | 19 => ⟨S1x64, .f32⟩
  | 20 => ⟨S50000x64, .f32⟩
  | 21 => ⟨S1x64, .f32⟩
  | 22 => ⟨S64, .f32⟩
  | 23 => ⟨S1x64, .f32⟩
  | 24 => ⟨S50000x64, .f32⟩
  | 25 => ⟨S50000x64, .f32⟩
  | 26 => ⟨S50000x64, .f32⟩
  | 27 => ⟨S50000x64, .f32⟩
  | 28 => ⟨S_, .f32⟩
  | 29 => ⟨S50000x64, .f32⟩
  | 30 => ⟨S50000x64, .f32⟩
  | 31 => ⟨S_, .f32⟩
  | 32 => ⟨S50000x64, .f32⟩
  | 33 => ⟨S50000x64, .f32⟩
  | 34 => ⟨S1x64x64, .f32⟩
  | 35 => ⟨S64x64, .f32⟩
  | 36 => ⟨S50000x64, .f32⟩
  | 37 => ⟨S1x64, .f32⟩
  | 38 => ⟨S64, .f32⟩
  | 39 => ⟨S1x64, .f32⟩
  | 40 => ⟨S50000x64, .f32⟩
  | 41 => ⟨S50000x64, .f32⟩
  | 42 => ⟨S50000x64, .f32⟩
  | 43 => ⟨S50000x64, .f32⟩
  | 44 => ⟨S50000x64, .f32⟩
  | 45 => ⟨S_, .f32⟩
  | 46 => ⟨S50000x64, .f32⟩
  | 47 => ⟨S50000x64, .f32⟩
  | 48 => ⟨S1x9x64, .f32⟩
  | 49 => ⟨S9x64, .f32⟩
  | 50 => ⟨S800000x64, .f32⟩
  | 51 => ⟨S1x64, .f32⟩
  | 52 => ⟨S64, .f32⟩
  | 53 => ⟨S1x64, .f32⟩
  | 54 => ⟨S800000x64, .f32⟩
  | 55 => ⟨S800000x64, .f32⟩
  | 56 => ⟨S_, .f32⟩
  | 57 => ⟨S800000x64, .f32⟩
  | 58 => ⟨S800000x64, .f32⟩
  | 59 => ⟨S1x64x64, .f32⟩
  | 60 => ⟨S64x64, .f32⟩
  | 61 => ⟨S800000x64, .f32⟩
  | 62 => ⟨S1x64, .f32⟩
  | 63 => ⟨S64, .f32⟩
  | 64 => ⟨S1x64, .f32⟩
  | 65 => ⟨S800000x64, .f32⟩
  | 66 => ⟨S800000x64, .f32⟩
  | 67 => ⟨S_, .f32⟩
  | 68 => ⟨S800000x64, .f32⟩
  | 69 => ⟨S800000x64, .f32⟩
  | 70 => ⟨S1x64x64, .f32⟩
  | 71 => ⟨S64x64, .f32⟩
  | 72 => ⟨S800000x64, .f32⟩
  | 73 => ⟨S1x64, .f32⟩
  | 74 => ⟨S64, .f32⟩
  | 75 => ⟨S1x64, .f32⟩
  | 76 => ⟨S800000x64, .f32⟩
  | 77 => ⟨S800000x64, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S1, .i32⟩
  | 87 => ⟨S_, .i32⟩
  | 88 => ⟨S800000x1, .i32⟩
  | 89 => ⟨S800000x1, .i1⟩
  | 90 => ⟨S1x1, .i32⟩
  | 91 => ⟨S800000x1, .i32⟩
  | 92 => ⟨S800000x1, .i1⟩
  | 93 => ⟨S800000x1, .i1⟩
  | 94 => ⟨S_, .i1⟩
  | 95 => ⟨S800000, .i1⟩
  | 96 => ⟨S800000x64, .f32⟩
  | 97 => ⟨S800000x64, .i1⟩
  | 98 => ⟨S_, .f32⟩
  | 99 => ⟨S800000x64, .f32⟩
  | 100 => ⟨S800000x64, .f32⟩
  | 101 => ⟨S800000x64, .f32⟩
  | 102 => ⟨S_, .f32⟩
  | 103 => ⟨S50000x64, .f32⟩
  | 104 => ⟨S800000x1, .i32⟩
  | 105 => ⟨S50000x64, .f32⟩
  | 106 => ⟨S50000x64, .f32⟩
  | 107 => ⟨S50000x64, .f32⟩
  | 108 => ⟨S1x1x64, .f32⟩
  | 109 => ⟨S1x64, .f32⟩
  | 110 => ⟨S50000x64, .f32⟩
  | 111 => ⟨S1x64, .f32⟩
  | 112 => ⟨S64, .f32⟩
  | 113 => ⟨S1x64, .f32⟩
  | 114 => ⟨S50000x64, .f32⟩
  | 115 => ⟨S50000x64, .f32⟩
  | 116 => ⟨S50000x64, .f32⟩
  | 117 => ⟨S50000x64, .f32⟩
  | 118 => ⟨S_, .f32⟩
  | 119 => ⟨S50000x64, .f32⟩
  | 120 => ⟨S50000x64, .f32⟩
  | 121 => ⟨S_, .f32⟩
  | 122 => ⟨S50000x64, .f32⟩
  | 123 => ⟨S50000x64, .f32⟩
  | 124 => ⟨S1x64x64, .f32⟩
  | 125 => ⟨S64x64, .f32⟩
  | 126 => ⟨S50000x64, .f32⟩
  | 127 => ⟨S1x64, .f32⟩
  | _ => ⟨S50000x10, .f32⟩

abbrev hbmTy0_2 (i : Nat) : BufTy := match i % 128 with
  | 0 => ⟨S64, .f32⟩
  | 1 => ⟨S1x64, .f32⟩
  | 2 => ⟨S50000x64, .f32⟩
  | 3 => ⟨S50000x64, .f32⟩
  | 4 => ⟨S50000x64, .f32⟩
  | 5 => ⟨S50000x64, .f32⟩
  | 6 => ⟨S50000x64, .f32⟩
  | 7 => ⟨S_, .f32⟩
  | 8 => ⟨S50000x64, .f32⟩
  | 9 => ⟨S50000x64, .f32⟩
  | 10 => ⟨S1x9x64, .f32⟩
  | 11 => ⟨S9x64, .f32⟩
  | 12 => ⟨S800000x64, .f32⟩
  | 13 => ⟨S1x64, .f32⟩
  | 14 => ⟨S64, .f32⟩
  | 15 => ⟨S1x64, .f32⟩
  | 16 => ⟨S800000x64, .f32⟩
  | 17 => ⟨S800000x64, .f32⟩
  | 18 => ⟨S_, .f32⟩
  | 19 => ⟨S800000x64, .f32⟩
  | 20 => ⟨S800000x64, .f32⟩
  | 21 => ⟨S1x64x64, .f32⟩
  | 22 => ⟨S64x64, .f32⟩
  | 23 => ⟨S800000x64, .f32⟩
  | 24 => ⟨S1x64, .f32⟩
  | 25 => ⟨S64, .f32⟩
  | 26 => ⟨S1x64, .f32⟩
  | 27 => ⟨S800000x64, .f32⟩
  | 28 => ⟨S800000x64, .f32⟩
  | 29 => ⟨S_, .f32⟩
  | 30 => ⟨S800000x64, .f32⟩
  | 31 => ⟨S800000x64, .f32⟩
  | 32 => ⟨S1x64x64, .f32⟩
  | 33 => ⟨S64x64, .f32⟩
  | 34 => ⟨S800000x64, .f32⟩
  | 35 => ⟨S1x64, .f32⟩
  | 36 => ⟨S64, .f32⟩
  | 37 => ⟨S1x64, .f32⟩
  | 38 => ⟨S800000x64, .f32⟩
  | 39 => ⟨S800000x64, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S1, .i32⟩
  | 49 => ⟨S_, .i32⟩
  | 50 => ⟨S800000x1, .i32⟩
  | 51 => ⟨S800000x1, .i1⟩
  | 52 => ⟨S1x1, .i32⟩
  | 53 => ⟨S800000x1, .i32⟩
  | 54 => ⟨S800000x1, .i1⟩
  | 55 => ⟨S800000x1, .i1⟩
  | 56 => ⟨S_, .i1⟩
  | 57 => ⟨S800000, .i1⟩
  | 58 => ⟨S800000x64, .f32⟩
  | 59 => ⟨S800000x64, .i1⟩
  | 60 => ⟨S_, .f32⟩
  | 61 => ⟨S800000x64, .f32⟩
  | 62 => ⟨S800000x64, .f32⟩
  | 63 => ⟨S800000x64, .f32⟩
  | 64 => ⟨S_, .f32⟩
  | 65 => ⟨S50000x64, .f32⟩
  | 66 => ⟨S800000x1, .i32⟩
  | 67 => ⟨S50000x64, .f32⟩
  | 68 => ⟨S50000x64, .f32⟩
  | 69 => ⟨S50000x64, .f32⟩
  | 70 => ⟨S1x1x64, .f32⟩
  | 71 => ⟨S1x64, .f32⟩
  | 72 => ⟨S50000x64, .f32⟩
  | 73 => ⟨S1x64, .f32⟩
  | 74 => ⟨S64, .f32⟩
  | 75 => ⟨S1x64, .f32⟩
  | 76 => ⟨S50000x64, .f32⟩
  | 77 => ⟨S50000x64, .f32⟩
  | 78 => ⟨S50000x64, .f32⟩
  | 79 => ⟨S50000x64, .f32⟩
  | 80 => ⟨S_, .f32⟩
  | 81 => ⟨S50000x64, .f32⟩
  | 82 => ⟨S50000x64, .f32⟩
  | 83 => ⟨S_, .f32⟩
  | 84 => ⟨S50000x64, .f32⟩
  | 85 => ⟨S50000x64, .f32⟩
  | 86 => ⟨S1x64x64, .f32⟩
  | 87 => ⟨S64x64, .f32⟩
  | 88 => ⟨S50000x64, .f32⟩
  | 89 => ⟨S1x64, .f32⟩
  | 90 => ⟨S64, .f32⟩
  | 91 => ⟨S1x64, .f32⟩
  | 92 => ⟨S50000x64, .f32⟩
  | 93 => ⟨S50000x64, .f32⟩
  | 94 => ⟨S50000x64, .f32⟩
  | 95 => ⟨S50000x64, .f32⟩
  | 96 => ⟨S50000x64, .f32⟩
  | 97 => ⟨S_, .f32⟩
  | 98 => ⟨S50000x64, .f32⟩
  | 99 => ⟨S50000x64, .f32⟩
  | 100 => ⟨S1x9x64, .f32⟩
  | 101 => ⟨S9x64, .f32⟩
  | 102 => ⟨S800000x64, .f32⟩
  | 103 => ⟨S1x64, .f32⟩
  | 104 => ⟨S64, .f32⟩
  | 105 => ⟨S1x64, .f32⟩
  | 106 => ⟨S800000x64, .f32⟩
  | 107 => ⟨S800000x64, .f32⟩
  | 108 => ⟨S_, .f32⟩
  | 109 => ⟨S800000x64, .f32⟩
  | 110 => ⟨S800000x64, .f32⟩
  | 111 => ⟨S1x64x64, .f32⟩
  | 112 => ⟨S64x64, .f32⟩
  | 113 => ⟨S800000x64, .f32⟩
  | 114 => ⟨S1x64, .f32⟩
  | 115 => ⟨S64, .f32⟩
  | 116 => ⟨S1x64, .f32⟩
  | 117 => ⟨S800000x64, .f32⟩
  | 118 => ⟨S800000x64, .f32⟩
  | 119 => ⟨S_, .f32⟩
  | 120 => ⟨S800000x64, .f32⟩
  | 121 => ⟨S800000x64, .f32⟩
  | 122 => ⟨S1x64x64, .f32⟩
  | 123 => ⟨S64x64, .f32⟩
  | 124 => ⟨S800000x64, .f32⟩
  | 125 => ⟨S1x64, .f32⟩
  | 126 => ⟨S64, .f32⟩
  | 127 => ⟨S1x64, .f32⟩
  | _ => ⟨S50000x10, .f32⟩

abbrev hbmTy0_3 (i : Nat) : BufTy := match i % 128 with
  | 0 => ⟨S800000x64, .f32⟩
  | 1 => ⟨S800000x64, .f32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S1, .i32⟩
  | 11 => ⟨S_, .i32⟩
  | 12 => ⟨S800000x1, .i32⟩
  | 13 => ⟨S800000x1, .i1⟩
  | 14 => ⟨S1x1, .i32⟩
  | 15 => ⟨S800000x1, .i32⟩
  | 16 => ⟨S800000x1, .i1⟩
  | 17 => ⟨S800000x1, .i1⟩
  | 18 => ⟨S_, .i1⟩
  | 19 => ⟨S800000, .i1⟩
  | 20 => ⟨S800000x64, .f32⟩
  | 21 => ⟨S800000x64, .i1⟩
  | 22 => ⟨S_, .f32⟩
  | 23 => ⟨S800000x64, .f32⟩
  | 24 => ⟨S800000x64, .f32⟩
  | 25 => ⟨S800000x64, .f32⟩
  | 26 => ⟨S_, .f32⟩
  | 27 => ⟨S50000x64, .f32⟩
  | 28 => ⟨S800000x1, .i32⟩
  | 29 => ⟨S50000x64, .f32⟩
  | 30 => ⟨S50000x64, .f32⟩
  | 31 => ⟨S50000x64, .f32⟩
  | 32 => ⟨S1x1x64, .f32⟩
  | 33 => ⟨S1x64, .f32⟩
  | 34 => ⟨S50000x64, .f32⟩
  | 35 => ⟨S1x64, .f32⟩
  | 36 => ⟨S64, .f32⟩
  | 37 => ⟨S1x64, .f32⟩
  | 38 => ⟨S50000x64, .f32⟩
  | 39 => ⟨S50000x64, .f32⟩
  | 40 => ⟨S50000x64, .f32⟩
  | 41 => ⟨S50000x64, .f32⟩
  | 42 => ⟨S_, .f32⟩
  | 43 => ⟨S50000x64, .f32⟩
  | 44 => ⟨S50000x64, .f32⟩
  | 45 => ⟨S_, .f32⟩
  | 46 => ⟨S50000x64, .f32⟩
  | 47 => ⟨S50000x64, .f32⟩
  | 48 => ⟨S1x64x64, .f32⟩
  | 49 => ⟨S64x64, .f32⟩
  | 50 => ⟨S50000x64, .f32⟩
  | 51 => ⟨S1x64, .f32⟩
  | 52 => ⟨S64, .f32⟩
  | 53 => ⟨S1x64, .f32⟩
  | 54 => ⟨S50000x64, .f32⟩
  | 55 => ⟨S50000x64, .f32⟩
  | 56 => ⟨S50000x64, .f32⟩
  | 57 => ⟨S50000x64, .f32⟩
  | 58 => ⟨S50000x64, .f32⟩
  | 59 => ⟨S_, .f32⟩
  | 60 => ⟨S50000x64, .f32⟩
  | 61 => ⟨S50000x64, .f32⟩
  | 62 => ⟨S1x9x64, .f32⟩
  | 63 => ⟨S9x64, .f32⟩
  | 64 => ⟨S800000x64, .f32⟩
  | 65 => ⟨S1x64, .f32⟩
  | 66 => ⟨S64, .f32⟩
  | 67 => ⟨S1x64, .f32⟩
  | 68 => ⟨S800000x64, .f32⟩
  | 69 => ⟨S800000x64, .f32⟩
  | 70 => ⟨S_, .f32⟩
  | 71 => ⟨S800000x64, .f32⟩
  | 72 => ⟨S800000x64, .f32⟩
  | 73 => ⟨S1x64x64, .f32⟩
  | 74 => ⟨S64x64, .f32⟩
  | 75 => ⟨S800000x64, .f32⟩
  | 76 => ⟨S1x64, .f32⟩
  | 77 => ⟨S64, .f32⟩
  | 78 => ⟨S1x64, .f32⟩
  | 79 => ⟨S800000x64, .f32⟩
  | 80 => ⟨S800000x64, .f32⟩
  | 81 => ⟨S_, .f32⟩
  | 82 => ⟨S800000x64, .f32⟩
  | 83 => ⟨S800000x64, .f32⟩
  | 84 => ⟨S1x64x64, .f32⟩
  | 85 => ⟨S64x64, .f32⟩
  | 86 => ⟨S800000x64, .f32⟩
  | 87 => ⟨S1x64, .f32⟩
  | 88 => ⟨S64, .f32⟩
  | 89 => ⟨S1x64, .f32⟩
  | 90 => ⟨S800000x64, .f32⟩
  | 91 => ⟨S800000x64, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S1, .i32⟩
  | 101 => ⟨S_, .i32⟩
  | 102 => ⟨S800000x1, .i32⟩
  | 103 => ⟨S800000x1, .i1⟩
  | 104 => ⟨S1x1, .i32⟩
  | 105 => ⟨S800000x1, .i32⟩
  | 106 => ⟨S800000x1, .i1⟩
  | 107 => ⟨S800000x1, .i1⟩
  | 108 => ⟨S_, .i1⟩
  | 109 => ⟨S800000, .i1⟩
  | 110 => ⟨S800000x64, .f32⟩
  | 111 => ⟨S800000x64, .i1⟩
  | 112 => ⟨S_, .f32⟩
  | 113 => ⟨S800000x64, .f32⟩
  | 114 => ⟨S800000x64, .f32⟩
  | 115 => ⟨S800000x64, .f32⟩
  | 116 => ⟨S_, .f32⟩
  | 117 => ⟨S50000x64, .f32⟩
  | 118 => ⟨S800000x1, .i32⟩
  | 119 => ⟨S50000x64, .f32⟩
  | 120 => ⟨S50000x64, .f32⟩
  | 121 => ⟨S50000x64, .f32⟩
  | 122 => ⟨S1x1x64, .f32⟩
  | 123 => ⟨S1x64, .f32⟩
  | 124 => ⟨S50000x64, .f32⟩
  | 125 => ⟨S1x64, .f32⟩
  | 126 => ⟨S64, .f32⟩
  | 127 => ⟨S1x64, .f32⟩
  | _ => ⟨S50000x10, .f32⟩

abbrev hbmTy0_4 (i : Nat) : BufTy := match i % 128 with
  | 0 => ⟨S50000x64, .f32⟩
  | 1 => ⟨S50000x64, .f32⟩
  | 2 => ⟨S50000x64, .f32⟩
  | 3 => ⟨S50000x64, .f32⟩
  | 4 => ⟨S_, .f32⟩
  | 5 => ⟨S50000x64, .f32⟩
  | 6 => ⟨S50000x64, .f32⟩
  | 7 => ⟨S_, .f32⟩
  | 8 => ⟨S50000x64, .f32⟩
  | 9 => ⟨S50000x64, .f32⟩
  | 10 => ⟨S1x64x64, .f32⟩
  | 11 => ⟨S64x64, .f32⟩
  | 12 => ⟨S50000x64, .f32⟩
  | 13 => ⟨S1x64, .f32⟩
  | 14 => ⟨S64, .f32⟩
  | 15 => ⟨S1x64, .f32⟩
  | 16 => ⟨S50000x64, .f32⟩
  | 17 => ⟨S50000x64, .f32⟩
  | 18 => ⟨S50000x64, .f32⟩
  | 19 => ⟨S50000x64, .f32⟩
  | 20 => ⟨S50000x64, .f32⟩
  | 21 => ⟨S_, .f32⟩
  | 22 => ⟨S50000x64, .f32⟩
  | 23 => ⟨S50000x64, .f32⟩
  | 24 => ⟨S50000x64, .f32⟩
  | 25 => ⟨S1x64, .f32⟩
  | 26 => ⟨S50000x64, .f32⟩
  | 27 => ⟨S50000x64, .f32⟩
  | 28 => ⟨S_, .f32⟩
  | 29 => ⟨S50000x64, .f32⟩
  | 30 => ⟨S50000x64, .f32⟩
  | 31 => ⟨S50000x3, .f32⟩
  | 32 => ⟨S1x3, .f32⟩
  | 33 => ⟨S50000x3, .f32⟩
  | 34 => ⟨S50000x3, .f32⟩
  | _ => ⟨S50000x10, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x10, .f32⟩

abbrev bufTy : (tb : Table) → Fin (tcTables nBuf tb) → BufTy
  | .hbm, ⟨i, _⟩ => hbmTy i
  | _, _ => ⟨S50000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_v1 : Ref sig .tc := ⟨.hbm, 23, rfl⟩
abbrev main_cst_0 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_call0_call0_cst : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_call0_cst_0 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_cst_1 : Ref sig .tc := ⟨.hbm, 38, rfl⟩
abbrev main_call0_call0_v8 : Ref sig .tc := ⟨.hbm, 39, rfl⟩
abbrev main_call0_call0_cst_2 : Ref sig .tc := ⟨.hbm, 40, rfl⟩
abbrev main_call0_call0_v9 : Ref sig .tc := ⟨.hbm, 41, rfl⟩
abbrev main_call0_call0_v10 : Ref sig .tc := ⟨.hbm, 42, rfl⟩
abbrev main_call0_call0_v11 : Ref sig .tc := ⟨.hbm, 43, rfl⟩
abbrev main_call0_call0_v12 : Ref sig .tc := ⟨.hbm, 44, rfl⟩
abbrev main_call0_call0_cst_3 : Ref sig .tc := ⟨.hbm, 45, rfl⟩
abbrev main_call0_call0_v13 : Ref sig .tc := ⟨.hbm, 46, rfl⟩
abbrev main_call0_call0_cst_4 : Ref sig .tc := ⟨.hbm, 47, rfl⟩
abbrev main_call0_call0_call0_v0 : Ref sig .tc := ⟨.hbm, 48, rfl⟩
abbrev main_call0_call0_call0_v1 : Ref sig .tc := ⟨.hbm, 49, rfl⟩
abbrev main_call0_v0 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_cst_1 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_cst_2 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_cst_3 : Ref sig .tc := ⟨.hbm, 75, rfl⟩
abbrev main_v26 : Ref sig .tc := ⟨.hbm, 76, rfl⟩
abbrev main_cst_4 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_cst_5 : Ref sig .tc := ⟨.hbm, 81, rfl⟩
abbrev main_call1_v0 : Ref sig .tc := ⟨.hbm, 82, rfl⟩
abbrev main_call1_v1 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_cst_6 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_cst_7 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_call2_c : Ref sig .tc := ⟨.hbm, 116, rfl⟩
abbrev main_call2_v0 : Ref sig .tc := ⟨.hbm, 117, rfl⟩
abbrev main_call2_v1 : Ref sig .tc := ⟨.hbm, 118, rfl⟩
abbrev main_call2_c_0 : Ref sig .tc := ⟨.hbm, 119, rfl⟩
abbrev main_call2_v2 : Ref sig .tc := ⟨.hbm, 120, rfl⟩
abbrev main_call2_v3 : Ref sig .tc := ⟨.hbm, 121, rfl⟩
abbrev main_call2_v4 : Ref sig .tc := ⟨.hbm, 122, rfl⟩
abbrev main_call2_v5 : Ref sig .tc := ⟨.hbm, 123, rfl⟩
abbrev main_call2_c_1 : Ref sig .tc := ⟨.hbm, 124, rfl⟩
abbrev main_call2_c_2 : Ref sig .tc := ⟨.hbm, 125, rfl⟩
abbrev main_call2_v6 : Ref sig .tc := ⟨.hbm, 126, rfl⟩
abbrev main_call2_v7 : Ref sig .tc := ⟨.hbm, 127, rfl⟩
abbrev main_call2_v8 : Ref sig .tc := ⟨.hbm, 128, rfl⟩
abbrev main_call2_v9 : Ref sig .tc := ⟨.hbm, 129, rfl⟩
abbrev main_call2_v10 : Ref sig .tc := ⟨.hbm, 130, rfl⟩
abbrev main_call2_v11 : Ref sig .tc := ⟨.hbm, 131, rfl⟩
abbrev main_call2_c_3 : Ref sig .tc := ⟨.hbm, 132, rfl⟩
abbrev main_call2_v12 : Ref sig .tc := ⟨.hbm, 133, rfl⟩
abbrev main_call2_v13 : Ref sig .tc := ⟨.hbm, 134, rfl⟩
abbrev main_call2_v14 : Ref sig .tc := ⟨.hbm, 135, rfl⟩
abbrev main_call2_cst : Ref sig .tc := ⟨.hbm, 136, rfl⟩
abbrev main_call2_v15 : Ref sig .tc := ⟨.hbm, 137, rfl⟩
abbrev main_v60 : Ref sig .tc := ⟨.hbm, 138, rfl⟩
abbrev main_v61 : Ref sig .tc := ⟨.hbm, 139, rfl⟩
abbrev main_cst_8 : Ref sig .tc := ⟨.hbm, 140, rfl⟩
abbrev main_v62 : Ref sig .tc := ⟨.hbm, 141, rfl⟩
abbrev main_v63 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_v72 : Ref sig .tc := ⟨.hbm, 151, rfl⟩
abbrev main_v73 : Ref sig .tc := ⟨.hbm, 152, rfl⟩
abbrev main_v74 : Ref sig .tc := ⟨.hbm, 153, rfl⟩
abbrev main_v75 : Ref sig .tc := ⟨.hbm, 154, rfl⟩
abbrev main_v76 : Ref sig .tc := ⟨.hbm, 155, rfl⟩
abbrev main_cst_9 : Ref sig .tc := ⟨.hbm, 156, rfl⟩
abbrev main_v77 : Ref sig .tc := ⟨.hbm, 157, rfl⟩
abbrev main_v78 : Ref sig .tc := ⟨.hbm, 158, rfl⟩
abbrev main_cst_10 : Ref sig .tc := ⟨.hbm, 159, rfl⟩
abbrev main_v79 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_cst_11 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_cst_12 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_cst_13 : Ref sig .tc := ⟨.hbm, 195, rfl⟩
abbrev main_v112 : Ref sig .tc := ⟨.hbm, 196, rfl⟩
abbrev main_v113 : Ref sig .tc := ⟨.hbm, 197, rfl⟩
abbrev main_v114 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_v118 : Ref sig .tc := ⟨.hbm, 202, rfl⟩
abbrev main_v119 : Ref sig .tc := ⟨.hbm, 203, rfl⟩
abbrev main_v120 : Ref sig .tc := ⟨.hbm, 204, rfl⟩
abbrev main_v121 : Ref sig .tc := ⟨.hbm, 205, rfl⟩
abbrev main_call3_c : Ref sig .tc := ⟨.hbm, 206, rfl⟩
abbrev main_call3_v0 : Ref sig .tc := ⟨.hbm, 207, rfl⟩
abbrev main_call3_v1 : Ref sig .tc := ⟨.hbm, 208, rfl⟩
abbrev main_call3_c_0 : Ref sig .tc := ⟨.hbm, 209, rfl⟩
abbrev main_call3_v2 : Ref sig .tc := ⟨.hbm, 210, rfl⟩
abbrev main_call3_v3 : Ref sig .tc := ⟨.hbm, 211, rfl⟩
abbrev main_call3_v4 : Ref sig .tc := ⟨.hbm, 212, rfl⟩
abbrev main_call3_v5 : Ref sig .tc := ⟨.hbm, 213, rfl⟩
abbrev main_call3_c_1 : Ref sig .tc := ⟨.hbm, 214, rfl⟩
abbrev main_call3_c_2 : Ref sig .tc := ⟨.hbm, 215, rfl⟩
abbrev main_call3_v6 : Ref sig .tc := ⟨.hbm, 216, rfl⟩
abbrev main_call3_v7 : Ref sig .tc := ⟨.hbm, 217, rfl⟩
abbrev main_call3_v8 : Ref sig .tc := ⟨.hbm, 218, rfl⟩
abbrev main_call3_v9 : Ref sig .tc := ⟨.hbm, 219, rfl⟩
abbrev main_call3_v10 : Ref sig .tc := ⟨.hbm, 220, rfl⟩
abbrev main_call3_v11 : Ref sig .tc := ⟨.hbm, 221, rfl⟩
abbrev main_call3_c_3 : Ref sig .tc := ⟨.hbm, 222, rfl⟩
abbrev main_call3_v12 : Ref sig .tc := ⟨.hbm, 223, rfl⟩
abbrev main_call3_v13 : Ref sig .tc := ⟨.hbm, 224, rfl⟩
abbrev main_call3_v14 : Ref sig .tc := ⟨.hbm, 225, rfl⟩
abbrev main_call3_cst : Ref sig .tc := ⟨.hbm, 226, rfl⟩
abbrev main_call3_v15 : Ref sig .tc := ⟨.hbm, 227, rfl⟩
abbrev main_v122 : Ref sig .tc := ⟨.hbm, 228, rfl⟩
abbrev main_v123 : Ref sig .tc := ⟨.hbm, 229, rfl⟩
abbrev main_cst_14 : Ref sig .tc := ⟨.hbm, 230, rfl⟩
abbrev main_v124 : Ref sig .tc := ⟨.hbm, 231, rfl⟩
abbrev main_v125 : Ref sig .tc := ⟨.hbm, 232, rfl⟩
abbrev main_v126 : Ref sig .tc := ⟨.hbm, 233, rfl⟩
abbrev main_v127 : Ref sig .tc := ⟨.hbm, 234, rfl⟩
abbrev main_v128 : Ref sig .tc := ⟨.hbm, 235, rfl⟩
abbrev main_v129 : Ref sig .tc := ⟨.hbm, 236, rfl⟩
abbrev main_v130 : Ref sig .tc := ⟨.hbm, 237, rfl⟩
abbrev main_v131 : Ref sig .tc := ⟨.hbm, 238, rfl⟩
abbrev main_v132 : Ref sig .tc := ⟨.hbm, 239, rfl⟩
abbrev main_v133 : Ref sig .tc := ⟨.hbm, 240, rfl⟩
abbrev main_v134 : Ref sig .tc := ⟨.hbm, 241, rfl⟩
abbrev main_v135 : Ref sig .tc := ⟨.hbm, 242, rfl⟩
abbrev main_v136 : Ref sig .tc := ⟨.hbm, 243, rfl⟩
abbrev main_v137 : Ref sig .tc := ⟨.hbm, 244, rfl⟩
abbrev main_v138 : Ref sig .tc := ⟨.hbm, 245, rfl⟩
abbrev main_cst_15 : Ref sig .tc := ⟨.hbm, 246, rfl⟩
abbrev main_v139 : Ref sig .tc := ⟨.hbm, 247, rfl⟩
abbrev main_v140 : Ref sig .tc := ⟨.hbm, 248, rfl⟩
abbrev main_cst_16 : Ref sig .tc := ⟨.hbm, 249, rfl⟩
abbrev main_v141 : Ref sig .tc := ⟨.hbm, 250, rfl⟩
abbrev main_v142 : Ref sig .tc := ⟨.hbm, 251, rfl⟩
abbrev main_v143 : Ref sig .tc := ⟨.hbm, 252, rfl⟩
abbrev main_v144 : Ref sig .tc := ⟨.hbm, 253, rfl⟩
abbrev main_v145 : Ref sig .tc := ⟨.hbm, 254, rfl⟩
abbrev main_v146 : Ref sig .tc := ⟨.hbm, 255, rfl⟩
abbrev main_v147 : Ref sig .tc := ⟨.hbm, 256, rfl⟩
abbrev main_v148 : Ref sig .tc := ⟨.hbm, 257, rfl⟩
abbrev main_v149 : Ref sig .tc := ⟨.hbm, 258, rfl⟩
abbrev main_v150 : Ref sig .tc := ⟨.hbm, 259, rfl⟩
abbrev main_v151 : Ref sig .tc := ⟨.hbm, 260, rfl⟩
abbrev main_v152 : Ref sig .tc := ⟨.hbm, 261, rfl⟩
abbrev main_v153 : Ref sig .tc := ⟨.hbm, 262, rfl⟩
abbrev main_cst_17 : Ref sig .tc := ⟨.hbm, 263, rfl⟩
abbrev main_v154 : Ref sig .tc := ⟨.hbm, 264, rfl⟩
abbrev main_v155 : Ref sig .tc := ⟨.hbm, 265, rfl⟩
abbrev main_v156 : Ref sig .tc := ⟨.hbm, 266, rfl⟩
abbrev main_v157 : Ref sig .tc := ⟨.hbm, 267, rfl⟩
abbrev main_v158 : Ref sig .tc := ⟨.hbm, 268, rfl⟩
abbrev main_v159 : Ref sig .tc := ⟨.hbm, 269, rfl⟩
abbrev main_v160 : Ref sig .tc := ⟨.hbm, 270, rfl⟩
abbrev main_v161 : Ref sig .tc := ⟨.hbm, 271, rfl⟩
abbrev main_v162 : Ref sig .tc := ⟨.hbm, 272, rfl⟩
abbrev main_v163 : Ref sig .tc := ⟨.hbm, 273, rfl⟩
abbrev main_cst_18 : Ref sig .tc := ⟨.hbm, 274, rfl⟩
abbrev main_v164 : Ref sig .tc := ⟨.hbm, 275, rfl⟩
abbrev main_v165 : Ref sig .tc := ⟨.hbm, 276, rfl⟩
abbrev main_v166 : Ref sig .tc := ⟨.hbm, 277, rfl⟩
abbrev main_v167 : Ref sig .tc := ⟨.hbm, 278, rfl⟩
abbrev main_v168 : Ref sig .tc := ⟨.hbm, 279, rfl⟩
abbrev main_v169 : Ref sig .tc := ⟨.hbm, 280, rfl⟩
abbrev main_v170 : Ref sig .tc := ⟨.hbm, 281, rfl⟩
abbrev main_v171 : Ref sig .tc := ⟨.hbm, 282, rfl⟩
abbrev main_v172 : Ref sig .tc := ⟨.hbm, 283, rfl⟩
abbrev main_v173 : Ref sig .tc := ⟨.hbm, 284, rfl⟩
abbrev main_cst_19 : Ref sig .tc := ⟨.hbm, 285, rfl⟩
abbrev main_v174 : Ref sig .tc := ⟨.hbm, 286, rfl⟩
abbrev main_v175 : Ref sig .tc := ⟨.hbm, 287, rfl⟩
abbrev main_v176 : Ref sig .tc := ⟨.hbm, 288, rfl⟩
abbrev main_v177 : Ref sig .tc := ⟨.hbm, 289, rfl⟩
abbrev main_v178 : Ref sig .tc := ⟨.hbm, 290, rfl⟩
abbrev main_v179 : Ref sig .tc := ⟨.hbm, 291, rfl⟩
abbrev main_v180 : Ref sig .tc := ⟨.hbm, 292, rfl⟩
abbrev main_v181 : Ref sig .tc := ⟨.hbm, 293, rfl⟩
abbrev main_v182 : Ref sig .tc := ⟨.hbm, 294, rfl⟩
abbrev main_v183 : Ref sig .tc := ⟨.hbm, 295, rfl⟩
abbrev main_call4_c : Ref sig .tc := ⟨.hbm, 296, rfl⟩
abbrev main_call4_v0 : Ref sig .tc := ⟨.hbm, 297, rfl⟩
abbrev main_call4_v1 : Ref sig .tc := ⟨.hbm, 298, rfl⟩
abbrev main_call4_c_0 : Ref sig .tc := ⟨.hbm, 299, rfl⟩
abbrev main_call4_v2 : Ref sig .tc := ⟨.hbm, 300, rfl⟩
abbrev main_call4_v3 : Ref sig .tc := ⟨.hbm, 301, rfl⟩
abbrev main_call4_v4 : Ref sig .tc := ⟨.hbm, 302, rfl⟩
abbrev main_call4_v5 : Ref sig .tc := ⟨.hbm, 303, rfl⟩
abbrev main_call4_c_1 : Ref sig .tc := ⟨.hbm, 304, rfl⟩
abbrev main_call4_c_2 : Ref sig .tc := ⟨.hbm, 305, rfl⟩
abbrev main_call4_v6 : Ref sig .tc := ⟨.hbm, 306, rfl⟩
abbrev main_call4_v7 : Ref sig .tc := ⟨.hbm, 307, rfl⟩
abbrev main_call4_v8 : Ref sig .tc := ⟨.hbm, 308, rfl⟩
abbrev main_call4_v9 : Ref sig .tc := ⟨.hbm, 309, rfl⟩
abbrev main_call4_v10 : Ref sig .tc := ⟨.hbm, 310, rfl⟩
abbrev main_call4_v11 : Ref sig .tc := ⟨.hbm, 311, rfl⟩
abbrev main_call4_c_3 : Ref sig .tc := ⟨.hbm, 312, rfl⟩
abbrev main_call4_v12 : Ref sig .tc := ⟨.hbm, 313, rfl⟩
abbrev main_call4_v13 : Ref sig .tc := ⟨.hbm, 314, rfl⟩
abbrev main_call4_v14 : Ref sig .tc := ⟨.hbm, 315, rfl⟩
abbrev main_call4_cst : Ref sig .tc := ⟨.hbm, 316, rfl⟩
abbrev main_call4_v15 : Ref sig .tc := ⟨.hbm, 317, rfl⟩
abbrev main_v184 : Ref sig .tc := ⟨.hbm, 318, rfl⟩
abbrev main_v185 : Ref sig .tc := ⟨.hbm, 319, rfl⟩
abbrev main_cst_20 : Ref sig .tc := ⟨.hbm, 320, rfl⟩
abbrev main_v186 : Ref sig .tc := ⟨.hbm, 321, rfl⟩
abbrev main_v187 : Ref sig .tc := ⟨.hbm, 322, rfl⟩
abbrev main_v188 : Ref sig .tc := ⟨.hbm, 323, rfl⟩
abbrev main_v189 : Ref sig .tc := ⟨.hbm, 324, rfl⟩
abbrev main_v190 : Ref sig .tc := ⟨.hbm, 325, rfl⟩
abbrev main_v191 : Ref sig .tc := ⟨.hbm, 326, rfl⟩
abbrev main_v192 : Ref sig .tc := ⟨.hbm, 327, rfl⟩
abbrev main_v193 : Ref sig .tc := ⟨.hbm, 328, rfl⟩
abbrev main_v194 : Ref sig .tc := ⟨.hbm, 329, rfl⟩
abbrev main_v195 : Ref sig .tc := ⟨.hbm, 330, rfl⟩
abbrev main_v196 : Ref sig .tc := ⟨.hbm, 331, rfl⟩
abbrev main_v197 : Ref sig .tc := ⟨.hbm, 332, rfl⟩
abbrev main_v198 : Ref sig .tc := ⟨.hbm, 333, rfl⟩
abbrev main_v199 : Ref sig .tc := ⟨.hbm, 334, rfl⟩
abbrev main_v200 : Ref sig .tc := ⟨.hbm, 335, rfl⟩
abbrev main_cst_21 : Ref sig .tc := ⟨.hbm, 336, rfl⟩
abbrev main_v201 : Ref sig .tc := ⟨.hbm, 337, rfl⟩
abbrev main_v202 : Ref sig .tc := ⟨.hbm, 338, rfl⟩
abbrev main_cst_22 : Ref sig .tc := ⟨.hbm, 339, rfl⟩
abbrev main_v203 : Ref sig .tc := ⟨.hbm, 340, rfl⟩
abbrev main_v204 : Ref sig .tc := ⟨.hbm, 341, rfl⟩
abbrev main_v205 : Ref sig .tc := ⟨.hbm, 342, rfl⟩
abbrev main_v206 : Ref sig .tc := ⟨.hbm, 343, rfl⟩
abbrev main_v207 : Ref sig .tc := ⟨.hbm, 344, rfl⟩
abbrev main_v208 : Ref sig .tc := ⟨.hbm, 345, rfl⟩
abbrev main_v209 : Ref sig .tc := ⟨.hbm, 346, rfl⟩
abbrev main_v210 : Ref sig .tc := ⟨.hbm, 347, rfl⟩
abbrev main_v211 : Ref sig .tc := ⟨.hbm, 348, rfl⟩
abbrev main_v212 : Ref sig .tc := ⟨.hbm, 349, rfl⟩
abbrev main_v213 : Ref sig .tc := ⟨.hbm, 350, rfl⟩
abbrev main_v214 : Ref sig .tc := ⟨.hbm, 351, rfl⟩
abbrev main_v215 : Ref sig .tc := ⟨.hbm, 352, rfl⟩
abbrev main_cst_23 : Ref sig .tc := ⟨.hbm, 353, rfl⟩
abbrev main_v216 : Ref sig .tc := ⟨.hbm, 354, rfl⟩
abbrev main_v217 : Ref sig .tc := ⟨.hbm, 355, rfl⟩
abbrev main_v218 : Ref sig .tc := ⟨.hbm, 356, rfl⟩
abbrev main_v219 : Ref sig .tc := ⟨.hbm, 357, rfl⟩
abbrev main_v220 : Ref sig .tc := ⟨.hbm, 358, rfl⟩
abbrev main_v221 : Ref sig .tc := ⟨.hbm, 359, rfl⟩
abbrev main_v222 : Ref sig .tc := ⟨.hbm, 360, rfl⟩
abbrev main_v223 : Ref sig .tc := ⟨.hbm, 361, rfl⟩
abbrev main_v224 : Ref sig .tc := ⟨.hbm, 362, rfl⟩
abbrev main_v225 : Ref sig .tc := ⟨.hbm, 363, rfl⟩
abbrev main_cst_24 : Ref sig .tc := ⟨.hbm, 364, rfl⟩
abbrev main_v226 : Ref sig .tc := ⟨.hbm, 365, rfl⟩
abbrev main_v227 : Ref sig .tc := ⟨.hbm, 366, rfl⟩
abbrev main_v228 : Ref sig .tc := ⟨.hbm, 367, rfl⟩
abbrev main_v229 : Ref sig .tc := ⟨.hbm, 368, rfl⟩
abbrev main_v230 : Ref sig .tc := ⟨.hbm, 369, rfl⟩
abbrev main_v231 : Ref sig .tc := ⟨.hbm, 370, rfl⟩
abbrev main_v232 : Ref sig .tc := ⟨.hbm, 371, rfl⟩
abbrev main_v233 : Ref sig .tc := ⟨.hbm, 372, rfl⟩
abbrev main_v234 : Ref sig .tc := ⟨.hbm, 373, rfl⟩
abbrev main_v235 : Ref sig .tc := ⟨.hbm, 374, rfl⟩
abbrev main_cst_25 : Ref sig .tc := ⟨.hbm, 375, rfl⟩
abbrev main_v236 : Ref sig .tc := ⟨.hbm, 376, rfl⟩
abbrev main_v237 : Ref sig .tc := ⟨.hbm, 377, rfl⟩
abbrev main_v238 : Ref sig .tc := ⟨.hbm, 378, rfl⟩
abbrev main_v239 : Ref sig .tc := ⟨.hbm, 379, rfl⟩
abbrev main_v240 : Ref sig .tc := ⟨.hbm, 380, rfl⟩
abbrev main_v241 : Ref sig .tc := ⟨.hbm, 381, rfl⟩
abbrev main_v242 : Ref sig .tc := ⟨.hbm, 382, rfl⟩
abbrev main_v243 : Ref sig .tc := ⟨.hbm, 383, rfl⟩
abbrev main_v244 : Ref sig .tc := ⟨.hbm, 384, rfl⟩
abbrev main_v245 : Ref sig .tc := ⟨.hbm, 385, rfl⟩
abbrev main_call5_c : Ref sig .tc := ⟨.hbm, 386, rfl⟩
abbrev main_call5_v0 : Ref sig .tc := ⟨.hbm, 387, rfl⟩
abbrev main_call5_v1 : Ref sig .tc := ⟨.hbm, 388, rfl⟩
abbrev main_call5_c_0 : Ref sig .tc := ⟨.hbm, 389, rfl⟩
abbrev main_call5_v2 : Ref sig .tc := ⟨.hbm, 390, rfl⟩
abbrev main_call5_v3 : Ref sig .tc := ⟨.hbm, 391, rfl⟩
abbrev main_call5_v4 : Ref sig .tc := ⟨.hbm, 392, rfl⟩
abbrev main_call5_v5 : Ref sig .tc := ⟨.hbm, 393, rfl⟩
abbrev main_call5_c_1 : Ref sig .tc := ⟨.hbm, 394, rfl⟩
abbrev main_call5_c_2 : Ref sig .tc := ⟨.hbm, 395, rfl⟩
abbrev main_call5_v6 : Ref sig .tc := ⟨.hbm, 396, rfl⟩
abbrev main_call5_v7 : Ref sig .tc := ⟨.hbm, 397, rfl⟩
abbrev main_call5_v8 : Ref sig .tc := ⟨.hbm, 398, rfl⟩
abbrev main_call5_v9 : Ref sig .tc := ⟨.hbm, 399, rfl⟩
abbrev main_call5_v10 : Ref sig .tc := ⟨.hbm, 400, rfl⟩
abbrev main_call5_v11 : Ref sig .tc := ⟨.hbm, 401, rfl⟩
abbrev main_call5_c_3 : Ref sig .tc := ⟨.hbm, 402, rfl⟩
abbrev main_call5_v12 : Ref sig .tc := ⟨.hbm, 403, rfl⟩
abbrev main_call5_v13 : Ref sig .tc := ⟨.hbm, 404, rfl⟩
abbrev main_call5_v14 : Ref sig .tc := ⟨.hbm, 405, rfl⟩
abbrev main_call5_cst : Ref sig .tc := ⟨.hbm, 406, rfl⟩
abbrev main_call5_v15 : Ref sig .tc := ⟨.hbm, 407, rfl⟩
abbrev main_v246 : Ref sig .tc := ⟨.hbm, 408, rfl⟩
abbrev main_v247 : Ref sig .tc := ⟨.hbm, 409, rfl⟩
abbrev main_cst_26 : Ref sig .tc := ⟨.hbm, 410, rfl⟩
abbrev main_v248 : Ref sig .tc := ⟨.hbm, 411, rfl⟩
abbrev main_v249 : Ref sig .tc := ⟨.hbm, 412, rfl⟩
abbrev main_v250 : Ref sig .tc := ⟨.hbm, 413, rfl⟩
abbrev main_v251 : Ref sig .tc := ⟨.hbm, 414, rfl⟩
abbrev main_v252 : Ref sig .tc := ⟨.hbm, 415, rfl⟩
abbrev main_v253 : Ref sig .tc := ⟨.hbm, 416, rfl⟩
abbrev main_v254 : Ref sig .tc := ⟨.hbm, 417, rfl⟩
abbrev main_v255 : Ref sig .tc := ⟨.hbm, 418, rfl⟩
abbrev main_v256 : Ref sig .tc := ⟨.hbm, 419, rfl⟩
abbrev main_v257 : Ref sig .tc := ⟨.hbm, 420, rfl⟩
abbrev main_v258 : Ref sig .tc := ⟨.hbm, 421, rfl⟩
abbrev main_v259 : Ref sig .tc := ⟨.hbm, 422, rfl⟩
abbrev main_v260 : Ref sig .tc := ⟨.hbm, 423, rfl⟩
abbrev main_v261 : Ref sig .tc := ⟨.hbm, 424, rfl⟩
abbrev main_v262 : Ref sig .tc := ⟨.hbm, 425, rfl⟩
abbrev main_cst_27 : Ref sig .tc := ⟨.hbm, 426, rfl⟩
abbrev main_v263 : Ref sig .tc := ⟨.hbm, 427, rfl⟩
abbrev main_v264 : Ref sig .tc := ⟨.hbm, 428, rfl⟩
abbrev main_cst_28 : Ref sig .tc := ⟨.hbm, 429, rfl⟩
abbrev main_v265 : Ref sig .tc := ⟨.hbm, 430, rfl⟩
abbrev main_v266 : Ref sig .tc := ⟨.hbm, 431, rfl⟩
abbrev main_v267 : Ref sig .tc := ⟨.hbm, 432, rfl⟩
abbrev main_v268 : Ref sig .tc := ⟨.hbm, 433, rfl⟩
abbrev main_v269 : Ref sig .tc := ⟨.hbm, 434, rfl⟩
abbrev main_v270 : Ref sig .tc := ⟨.hbm, 435, rfl⟩
abbrev main_v271 : Ref sig .tc := ⟨.hbm, 436, rfl⟩
abbrev main_v272 : Ref sig .tc := ⟨.hbm, 437, rfl⟩
abbrev main_v273 : Ref sig .tc := ⟨.hbm, 438, rfl⟩
abbrev main_v274 : Ref sig .tc := ⟨.hbm, 439, rfl⟩
abbrev main_v275 : Ref sig .tc := ⟨.hbm, 440, rfl⟩
abbrev main_v276 : Ref sig .tc := ⟨.hbm, 441, rfl⟩
abbrev main_v277 : Ref sig .tc := ⟨.hbm, 442, rfl⟩
abbrev main_cst_29 : Ref sig .tc := ⟨.hbm, 443, rfl⟩
abbrev main_v278 : Ref sig .tc := ⟨.hbm, 444, rfl⟩
abbrev main_v279 : Ref sig .tc := ⟨.hbm, 445, rfl⟩
abbrev main_v280 : Ref sig .tc := ⟨.hbm, 446, rfl⟩
abbrev main_v281 : Ref sig .tc := ⟨.hbm, 447, rfl⟩
abbrev main_v282 : Ref sig .tc := ⟨.hbm, 448, rfl⟩
abbrev main_v283 : Ref sig .tc := ⟨.hbm, 449, rfl⟩
abbrev main_v284 : Ref sig .tc := ⟨.hbm, 450, rfl⟩
abbrev main_v285 : Ref sig .tc := ⟨.hbm, 451, rfl⟩
abbrev main_v286 : Ref sig .tc := ⟨.hbm, 452, rfl⟩
abbrev main_v287 : Ref sig .tc := ⟨.hbm, 453, rfl⟩
abbrev main_cst_30 : Ref sig .tc := ⟨.hbm, 454, rfl⟩
abbrev main_v288 : Ref sig .tc := ⟨.hbm, 455, rfl⟩
abbrev main_v289 : Ref sig .tc := ⟨.hbm, 456, rfl⟩
abbrev main_v290 : Ref sig .tc := ⟨.hbm, 457, rfl⟩
abbrev main_v291 : Ref sig .tc := ⟨.hbm, 458, rfl⟩
abbrev main_v292 : Ref sig .tc := ⟨.hbm, 459, rfl⟩
abbrev main_v293 : Ref sig .tc := ⟨.hbm, 460, rfl⟩
abbrev main_v294 : Ref sig .tc := ⟨.hbm, 461, rfl⟩
abbrev main_v295 : Ref sig .tc := ⟨.hbm, 462, rfl⟩
abbrev main_v296 : Ref sig .tc := ⟨.hbm, 463, rfl⟩
abbrev main_v297 : Ref sig .tc := ⟨.hbm, 464, rfl⟩
abbrev main_cst_31 : Ref sig .tc := ⟨.hbm, 465, rfl⟩
abbrev main_v298 : Ref sig .tc := ⟨.hbm, 466, rfl⟩
abbrev main_v299 : Ref sig .tc := ⟨.hbm, 467, rfl⟩
abbrev main_v300 : Ref sig .tc := ⟨.hbm, 468, rfl⟩
abbrev main_v301 : Ref sig .tc := ⟨.hbm, 469, rfl⟩
abbrev main_v302 : Ref sig .tc := ⟨.hbm, 470, rfl⟩
abbrev main_v303 : Ref sig .tc := ⟨.hbm, 471, rfl⟩
abbrev main_v304 : Ref sig .tc := ⟨.hbm, 472, rfl⟩
abbrev main_v305 : Ref sig .tc := ⟨.hbm, 473, rfl⟩
abbrev main_v306 : Ref sig .tc := ⟨.hbm, 474, rfl⟩
abbrev main_v307 : Ref sig .tc := ⟨.hbm, 475, rfl⟩
abbrev main_call6_c : Ref sig .tc := ⟨.hbm, 476, rfl⟩
abbrev main_call6_v0 : Ref sig .tc := ⟨.hbm, 477, rfl⟩
abbrev main_call6_v1 : Ref sig .tc := ⟨.hbm, 478, rfl⟩
abbrev main_call6_c_0 : Ref sig .tc := ⟨.hbm, 479, rfl⟩
abbrev main_call6_v2 : Ref sig .tc := ⟨.hbm, 480, rfl⟩
abbrev main_call6_v3 : Ref sig .tc := ⟨.hbm, 481, rfl⟩
abbrev main_call6_v4 : Ref sig .tc := ⟨.hbm, 482, rfl⟩
abbrev main_call6_v5 : Ref sig .tc := ⟨.hbm, 483, rfl⟩
abbrev main_call6_c_1 : Ref sig .tc := ⟨.hbm, 484, rfl⟩
abbrev main_call6_c_2 : Ref sig .tc := ⟨.hbm, 485, rfl⟩
abbrev main_call6_v6 : Ref sig .tc := ⟨.hbm, 486, rfl⟩
abbrev main_call6_v7 : Ref sig .tc := ⟨.hbm, 487, rfl⟩
abbrev main_call6_v8 : Ref sig .tc := ⟨.hbm, 488, rfl⟩
abbrev main_call6_v9 : Ref sig .tc := ⟨.hbm, 489, rfl⟩
abbrev main_call6_v10 : Ref sig .tc := ⟨.hbm, 490, rfl⟩
abbrev main_call6_v11 : Ref sig .tc := ⟨.hbm, 491, rfl⟩
abbrev main_call6_c_3 : Ref sig .tc := ⟨.hbm, 492, rfl⟩
abbrev main_call6_v12 : Ref sig .tc := ⟨.hbm, 493, rfl⟩
abbrev main_call6_v13 : Ref sig .tc := ⟨.hbm, 494, rfl⟩
abbrev main_call6_v14 : Ref sig .tc := ⟨.hbm, 495, rfl⟩
abbrev main_call6_cst : Ref sig .tc := ⟨.hbm, 496, rfl⟩
abbrev main_call6_v15 : Ref sig .tc := ⟨.hbm, 497, rfl⟩
abbrev main_v308 : Ref sig .tc := ⟨.hbm, 498, rfl⟩
abbrev main_v309 : Ref sig .tc := ⟨.hbm, 499, rfl⟩
abbrev main_cst_32 : Ref sig .tc := ⟨.hbm, 500, rfl⟩
abbrev main_v310 : Ref sig .tc := ⟨.hbm, 501, rfl⟩
abbrev main_v311 : Ref sig .tc := ⟨.hbm, 502, rfl⟩
abbrev main_v312 : Ref sig .tc := ⟨.hbm, 503, rfl⟩
abbrev main_v313 : Ref sig .tc := ⟨.hbm, 504, rfl⟩
abbrev main_v314 : Ref sig .tc := ⟨.hbm, 505, rfl⟩
abbrev main_v315 : Ref sig .tc := ⟨.hbm, 506, rfl⟩
abbrev main_v316 : Ref sig .tc := ⟨.hbm, 507, rfl⟩
abbrev main_v317 : Ref sig .tc := ⟨.hbm, 508, rfl⟩
abbrev main_v318 : Ref sig .tc := ⟨.hbm, 509, rfl⟩
abbrev main_v319 : Ref sig .tc := ⟨.hbm, 510, rfl⟩
abbrev main_v320 : Ref sig .tc := ⟨.hbm, 511, rfl⟩
abbrev main_v321 : Ref sig .tc := ⟨.hbm, 512, rfl⟩
abbrev main_v322 : Ref sig .tc := ⟨.hbm, 513, rfl⟩
abbrev main_v323 : Ref sig .tc := ⟨.hbm, 514, rfl⟩
abbrev main_v324 : Ref sig .tc := ⟨.hbm, 515, rfl⟩
abbrev main_cst_33 : Ref sig .tc := ⟨.hbm, 516, rfl⟩
abbrev main_v325 : Ref sig .tc := ⟨.hbm, 517, rfl⟩
abbrev main_v326 : Ref sig .tc := ⟨.hbm, 518, rfl⟩
abbrev main_cst_34 : Ref sig .tc := ⟨.hbm, 519, rfl⟩
abbrev main_v327 : Ref sig .tc := ⟨.hbm, 520, rfl⟩
abbrev main_v328 : Ref sig .tc := ⟨.hbm, 521, rfl⟩
abbrev main_v329 : Ref sig .tc := ⟨.hbm, 522, rfl⟩
abbrev main_v330 : Ref sig .tc := ⟨.hbm, 523, rfl⟩
abbrev main_v331 : Ref sig .tc := ⟨.hbm, 524, rfl⟩
abbrev main_v332 : Ref sig .tc := ⟨.hbm, 525, rfl⟩
abbrev main_v333 : Ref sig .tc := ⟨.hbm, 526, rfl⟩
abbrev main_v334 : Ref sig .tc := ⟨.hbm, 527, rfl⟩
abbrev main_v335 : Ref sig .tc := ⟨.hbm, 528, rfl⟩
abbrev main_v336 : Ref sig .tc := ⟨.hbm, 529, rfl⟩
abbrev main_v337 : Ref sig .tc := ⟨.hbm, 530, rfl⟩
abbrev main_v338 : Ref sig .tc := ⟨.hbm, 531, rfl⟩
abbrev main_v339 : Ref sig .tc := ⟨.hbm, 532, rfl⟩
abbrev main_cst_35 : Ref sig .tc := ⟨.hbm, 533, rfl⟩
abbrev main_v340 : Ref sig .tc := ⟨.hbm, 534, rfl⟩
abbrev main_v341 : Ref sig .tc := ⟨.hbm, 535, rfl⟩
abbrev main_v342 : Ref sig .tc := ⟨.hbm, 536, rfl⟩
abbrev main_v343 : Ref sig .tc := ⟨.hbm, 537, rfl⟩
abbrev main_v344 : Ref sig .tc := ⟨.hbm, 538, rfl⟩
abbrev main_v345 : Ref sig .tc := ⟨.hbm, 539, rfl⟩
abbrev main_cst_36 : Ref sig .tc := ⟨.hbm, 540, rfl⟩
abbrev main_v346 : Ref sig .tc := ⟨.hbm, 541, rfl⟩
abbrev main_v347 : Ref sig .tc := ⟨.hbm, 542, rfl⟩
abbrev main_v348 : Ref sig .tc := ⟨.hbm, 543, rfl⟩
abbrev main_v349 : Ref sig .tc := ⟨.hbm, 544, rfl⟩
abbrev main_v350 : Ref sig .tc := ⟨.hbm, 545, rfl⟩
abbrev main_v351 : Ref sig .tc := ⟨.hbm, 546, rfl⟩

abbrev nD : Nat := 1
abbrev τ : Topo := Topo.v7x

variable {F : FTy → Type} [FloatOps F]
-- ==== Proof.Common.lean ====
/-
  Two general facts about a pipelined call whose body writes its one result block whole from the blocks of its inputs,
  keeps nothing between grid points but (perhaps) that result block, and owes no other core anything.

  `obligation_of_run` reduces the body obligation to a statement about one run of the body at one grid point.
  `segOf` is the record of such a call inside a longer `@main`: it is entered with every unscoped buffer held at some
  contents, and left with the result array at what the pipeline makes of it and every other buffer as it was. Two
  input windows may read the same array.
-/
module

public import Idealize.ShloMosaic.Lib.Pipeline.FrameBody
public import Idealize.ShloMosaic.Lib.Pipeline.RegionsLoop
public import Idealize.ShloMosaic.Lib.Pipeline.Value
public import Idealize.ShloMosaic.Lib.Tactic

@[expose] public section

noncomputable section

namespace Cert.Common

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Λ₀ : Idealize.SL.Sem.Labels} {Val : EltTy → Type} [∀ e, Nonempty (Val e)]

local notation "𝕄" => MT nD τ sig Unit Val ℕ (UR sig nD τ) ℕ

/-- Window `w`'s block at point `t`, read off the arrays' contents `V`. -/
abbrev iblk (cfg : Cfg sig Λ₀) (V : Valuation τ sig Val) (w : Fin cfg.W) (t : Fin cfg.N) :
    ((cfg.win w).xblock (cfg.grid.coords t)).Idx → Val (cfg.win w).elt :=
  ((cfg.win w).blk t).view.read Val (V (arrRef cfg.spec w))

/-- Window `w`'s block at point `t`, as the whole contents of a staging buffer. -/
def blk (cfg : Cfg sig Λ₀) (V : Valuation τ sig Val) (w : Fin cfg.W) (t : Fin cfg.N) : (cfg.win w).block.Idx → Val (cfg.win w).elt :=
  (cfg.win w).fill (cfg.grid.coords t) (fun _ => Classical.arbitrary _) (iblk cfg V w t)

/-- What the body leaves: the result's window `wo` at `out t`, every other window at its block. -/
def aft (cfg : Cfg sig Λ₀) (V : Valuation τ sig Val) (wo : Fin cfg.W) (out : Fin cfg.N → (cfg.win wo).block.Idx → Val (cfg.win wo).elt)
    (w : Fin cfg.W) (t : Fin cfg.N) : (cfg.win w).block.Idx → Val (cfg.win w).elt :=
  if h : w = wo then h ▸ out t else blk cfg V w t

theorem aft_self (cfg : Cfg sig Λ₀) (V : Valuation τ sig Val) (wo : Fin cfg.W) (out : Fin cfg.N → (cfg.win wo).block.Idx → Val (cfg.win wo).elt)
    (t : Fin cfg.N) : aft cfg V wo out wo t = out t := by
  unfold aft; rw [dif_pos rfl]

/-- The proof data of a call entered at contents `V`: what the body leaves in each staging buffer is `after`; the
    invariant is the scoped buffers the call does not stage; nothing is owed. -/
def mkDat (cfg : Cfg sig Λ₀) (c : Dev nD) (V : Valuation τ sig Val)
    (after : (w : Fin cfg.W) → Fin cfg.N → (cfg.win w).block.Idx → Val (cfg.win w).elt) :
    Dat τ Val Unit ℕ (UR sig nD τ) ℕ cfg c where
  A w := V (arrRef cfg.spec w)
  after := after
  Φ _ := scopedRest cfg.spec c
  q w := shareOf cfg.spec w
  owed _ := 0

/-- A view's buffer held whole is the view held at what it reads there (`owns`, unfolded). -/
theorem own_intro (c : Dev nD) {sp : Space} {S : Shape} {e : EltTy} (M : Memref sig .tc sp S e) (f : Buf Val (M.view.loc (c : Thread nD τ)))
    (x : S.Idx → Val e) (h : M.view.read Val f = x) :
    (M.view.loc (c : Thread nD τ) ↦[M.view.set]{fullShare} f : sProp 𝕄) ⊢ iprop(∃ g, ⌜M.view.read Val g = x⌝ ∗ M.view.loc (c : Thread nD τ) ↦[M.view.set]{fullShare} g) := by
  iintro H
  iexists f
  isplitr
  · ipureintro; exact h
  iexact H

omit [∀ e, Nonempty (Val e)] in
/-- A load of a whole buffer reads all of it. -/
theorem readAt_all {κ : Kind} {sp : Space} {S : Shape} {e : EltTy} (v : View sig κ sp S e) (f : v.ty.Contents Val)
    {off : Fin S.rank → Nat} (h : off = fun _ => 0) (inb : ∀ a, off a + S.size a ≤ S.size a) :
    v.readAt Val (Rect.unit off S.size inb).toLoadRect f = v.read Val f :=
  View.ld_unit_zero h inb (v.read Val f)

/-- A store to a whole buffer leaves the value stored. -/
theorem read_store_all {κ : Kind} {sp : Space} {S : Shape} {e : EltTy} (v : View sig κ sp S e) (f : v.ty.Contents Val)
    {off : Fin S.rank → Nat} (h : off = fun _ => 0) (inb : ∀ a, off a + S.size a ≤ S.size a) (w : S.Idx → Val e) :
    v.read Val (v.writes Val f [⟨Rect.unit off S.size inb, w⟩]) = w := by
  rw [View.read_writes_eq_canon _ _ _ fun y => ⟨_, List.mem_singleton_self _, View.mem_set_unit_zero h inb y⟩,
    View.canon_unit_zero h]

theorem zeros2 : (![0, 0] : Fin 2 → ℕ) = fun _ => 0 := by funext a; fin_cases a <;> rfl

theorem zeros3 : (![0, 0, 0] : Fin 3 → ℕ) = fun _ => 0 := by funext a; fin_cases a <;> rfl

section Body

variable {cfg : Cfg sig Λ₀} {c : Dev nD} {V : Valuation τ sig Val} {wo : Fin cfg.W}
  {out : Fin cfg.N → (cfg.win wo).block.Idx → Val (cfg.win wo).elt}

/-- An input's buffer holds its block whenever the body runs. -/
theorem before_in (hlive : ∀ w i, cfg.idle w i = false) (hclip : ∀ w i a, (cfg.win w).clip i a = none)
    (hwo : ∀ w, (cfg.win w).isOut = true ↔ w = wo)
    (w : Fin cfg.W) (hw : ¬ w = wo) (t : Fin cfg.N) (d : (cfg.win w).block.Idx → Val (cfg.win w).elt) :
    (mkDat (nD := nD) cfg c V (aft cfg V wo out)).before w t d = blk cfg V w t := by
  have hin : (cfg.win w).isOut = false := by
    rw [Bool.eq_false_iff]; exact fun h => hw ((hwo w).mp h)
  have ha : ∀ t, (mkDat (nD := nD) cfg c V (aft cfg V wo out)).after w t = blk cfg V w t := fun t => by
    show aft cfg V wo out w t = _; unfold aft; rw [dif_neg hw]
  refine ((mkDat cfg c V (aft cfg V wo out)).before_in_eq_fetched w hin (hlive w)
    (fun t t' _ => funext fun a => (hclip w _ a).trans (hclip w _ a).symm) (fun t => ?_) t d).trans ?_
  · rw [ha]; unfold blk; exact Window.cut_fill _ _ _ _
  · exact Pipeline.fill_of_clip_none w _ (hclip w _) d _ _

/-- The body obligation from one run of the body at each point: every input's buffer at its block and the result's at
    what it holds then, to every buffer at what the body leaves. -/
theorem obligation_of_run (hlive : ∀ w i, cfg.idle w i = false) (hclip : ∀ w i a, (cfg.win w).clip i a = none)
    (hwo : ∀ w, (cfg.win w).isOut = true ↔ w = wo)
    (defs₀ : Defs nD τ sig Val Λ₀) (𝒱₀ : Variants)
    (hrun : ∀ (t : Fin cfg.N) (K : sProp 𝕄),
      iprop((bigSep Finset.univ fun w : Fin cfg.W => if w = wo
          then iprop(∃ d, owns c ((cfg.win w).stage (cfg.slots t w)) fullShare ((mkDat (nD := nD) cfg c V (aft cfg V wo out)).before w t d))
          else owns c ((cfg.win w).stage (cfg.slots t w)) fullShare (blk cfg V w t))
        ∗ (iprop(bigSep Finset.univ fun w : Fin cfg.W => owns c ((cfg.win w).stage (cfg.slots t w)) fullShare (aft cfg V wo out w t)) -∗ K))
      ⊢ wp frame (wpE defs₀ 𝒱₀ c none) Set.univ (defs₀ .tc cfg.body (cfg.bodyArgs t (cfg.slots t))) fun _ => K) :
    BodyObligation (mkDat (nD := nD) cfg c V (aft cfg V wo out)) defs₀ 𝒱₀ () Set.univ := fun t => by
  have hin : (bigSep Finset.univ fun w : Fin cfg.W =>
        iprop(∃ d, owns c ((cfg.win w).stage (cfg.slots t w)) fullShare ((mkDat (nD := nD) cfg c V (aft cfg V wo out)).before w t d)) : sProp 𝕄)
      ⊢ bigSep Finset.univ fun w : Fin cfg.W => if w = wo
          then iprop(∃ d, owns c ((cfg.win w).stage (cfg.slots t w)) fullShare ((mkDat (nD := nD) cfg c V (aft cfg V wo out)).before w t d))
          else owns c ((cfg.win w).stage (cfg.slots t w)) fullShare (blk cfg V w t) := by
    refine bigSep_mono fun w _ => ?_
    by_cases ho : w = wo
    · rw [if_pos ho]
      exact BI.Entails.refl _
    · rw [if_neg ho]
      show iprop(∃ d, owns c ((cfg.win w).stage (cfg.slots t w)) fullShare ((mkDat (nD := nD) cfg c V (aft cfg V wo out)).before w t d))
        ⊢ (owns c ((cfg.win w).stage (cfg.slots t w)) fullShare (blk cfg V w t) : sProp 𝕄)
      iintro ⟨%d, H⟩
      rw [before_in hlive hclip hwo w ho t d]
      iexact H
  have hout : (bigSep Finset.univ fun w : Fin cfg.W => owns c ((cfg.win w).stage (cfg.slots t w)) fullShare (aft cfg V wo out w t) : sProp 𝕄)
      ⊢ bigSep Finset.univ fun w : Fin cfg.W =>
          match cfg.idle w (cfg.grid.coords t) with
          | true =>
            match (cfg.win w).flush t with
            | false => iprop(∃ d, owns c ((cfg.win w).stage (cfg.slots t w)) fullShare ((mkDat (nD := nD) cfg c V (aft cfg V wo out)).before w t d))
            | true => owns c ((cfg.win w).stage (cfg.slots t w)) fullShare ((mkDat (nD := nD) cfg c V (aft cfg V wo out)).after w t)
          | false => owns c ((cfg.win w).stage (cfg.slots t w)) fullShare ((mkDat (nD := nD) cfg c V (aft cfg V wo out)).after w t) := by
    refine bigSep_mono fun w _ => ?_
    rw [hlive w]
    exact BI.Entails.refl _
  rw [show (mkDat (nD := nD) cfg c V (aft cfg V wo out)).Φ t.castSucc = scopedRest cfg.spec c from rfl,
    show (mkDat (nD := nD) cfg c V (aft cfg V wo out)).Φ t.succ = scopedRest cfg.spec c from rfl,
    show (mkDat (nD := nD) cfg c V (aft cfg V wo out)).owesAt () t.succ = (mkDat (nD := nD) cfg c V (aft cfg V wo out)).owesAt () t.castSucc from rfl]
  iintro ⟨HΦ, HO, Hw⟩
  iapply (hrun t _)
  isplitl [Hw]
  · iapply hin; iexact Hw
  iintro Hw
  isplitl [HΦ]; · iexact HΦ
  isplitl [HO]; · iexact HO
  iapply hout; iexact Hw

end Body

section Region

variable {P : Type} [Fintype P] {cfgs : P → Cfg sig Λ₀}

set_option backward.isDefEq.respectTransparency.types false in
/-- One call of a longer `@main`, entered with the unscoped buffers at `V` and left with them at `V` but for the result
    array `r`, which holds what the pipeline leaves in it. -/
def segOf {p : P} (kit : LaunchFacts₀ (nD := nD) (τ := τ) cfgs p)
    (pdats : (p : P) → (c : Dev nD) → Dat τ Val Unit ℕ (UR sig nD τ) ℕ (cfgs p) c)
    (defs₀ : Defs nD τ sig Val Λ₀) (𝒱₀ : Variants) (L : GSem nD τ sig → Finset Unit) (lv : GSem nD τ sig → Unit → ℕ)
    (V : Dev nD → Valuation τ sig Val)
    (after : (c : Dev nD) → (w : Fin (cfgs p).W) → Fin (cfgs p).N → ((cfgs p).win w).block.Idx → Val ((cfgs p).win w).elt)
    (hdat : ∀ c, pdats p c = mkDat (cfgs p) c (V c) (after c))
    (hbody : ∀ c, BodyObligation (mkDat (nD := nD) (cfgs p) c (V c) (after c)) defs₀ 𝒱₀ () Set.univ)
    (Vp : Dev nD → Valuation τ sig Val)
    (hVout : ∀ c w, ((cfgs p).win w).isOut = true → (mkDat (nD := nD) (cfgs p) c (V c) (after c)).arrAt w (cfgs p).N = Vp c (arrRef (cfgs p).spec w))
    (hVin : ∀ c w, ((cfgs p).win w).isOut = false → Vp c (arrRef (cfgs p).spec w) = V c (arrRef (cfgs p).spec w))
    (hVrest : ∀ c (b : Ref sig .tc), b ∉ Finset.univ.image (arrRef (cfgs p).spec) → Vp c b = V c b) :
    RegionSeg (fun p => (cfgs p).toPCfg (Val := Val)) (fun p => (cfgs p).toPCfg_adm) pdats () defs₀ 𝒱₀ L lv p where
  win := kit.win
  block_pos := kit.block_pos
  stage_whole := kit.stage_whole
  K := PEmpty
  osem k := k.elim
  ho := OwnSemFacts.none _
  hbody c := by rw [hdat c]; exact (hbody c).loose
  hwaits := hwaits_of_owed_zero _ _ _ _ L lv p fun c _ => by rw [hdat c]; rfl
  pre c := iprop(StableHlo.held (c : Thread nD τ) (ucRefs τ sig) (V c) ∗ ∃ W, owes (c : Thread nD τ) (0 : CellTallies nD τ sig Unit) W)
  post c := iprop(StableHlo.held (c : Thread nD τ) (ucRefs τ sig) (Vp c) ∗ ∃ W, owes (c : Thread nD τ) (0 : CellTallies nD τ sig Unit) W)
  X _ := BI.emp
  Y _ := BI.emp
  Z c := unscopedRest (Ix := Unit) (Name := ℕ) (U := UR sig nD τ) (Lvl := ℕ) (cfgs p).spec c (fun b => V c b)
  hentry c := by
    rw [ownSems0_none, ← unscopedBufs_held (Ix := Unit) (Name := ℕ) (U := UR sig nD τ) (Lvl := ℕ) c (V c)]
    have hsplit := arrays_of_unscopedBufs_shared (p := p) (fun p => (cfgs p).toPCfg (Val := Val)) (fun p => (cfgs p).toPCfg_adm) pdats
      kit.win kit.sharedIn kit.arr_whole c (fun w _ => by rw [hdat c]; rfl) (fun b => V c b) (fun w => by rw [hdat c]; rfl)
    iintro ⟨⟨Hub, HO⟩, -, -⟩
    ihave H := hsplit $$ Hub
    icases H with ⟨Ha, Hrest⟩
    imodintro
    isplitl [Ha]; · iexact Ha
    isplitr; · unfold prefHeld; rw [show (Finset.univ : Finset (Fin ((cfgs p).toPCfg (Val := Val)).pre.K)) = ∅ from rfl, BI.bigSep_empty]; iempintro
    isplitl [HO]
    · rw [hdat c]
      unfold Dat.owesAt owesWithin
      icases HO with ⟨%W, HO⟩; iexists W; isplitr; · ipureintro; exact fun _ _ => Or.inl trivial
      iexact HO
    isplitr; · iempintro
    iexact Hrest
  hin c := by
    rw [show (pdats p c).Φ 0 = scopedRest (cfgs p).spec c from by rw [hdat c]; rfl]
    iintro ⟨-, -, Hr⟩; iexact Hr
  hout c := by
    rw [ownSems0_none, show (pdats p c).Φ (Fin.last _) = scopedRest (cfgs p).spec c from by rw [hdat c]; rfl]
    iintro Hr
    isplitr; · iempintro
    isplitr; · iempintro
    iexact Hr
  hexit c := by
    have hjoin := unscopedBufs_of_arrays_shared (p := p) (fun p => (cfgs p).toPCfg (Val := Val)) (fun p => (cfgs p).toPCfg_adm)
      (Ix := Unit) (Name := ℕ) (U := UR sig nD τ) (Lvl := ℕ) kit.win kit.sharedIn kit.arr_whole c pdats
      (fun w _ => by rw [hdat c]; rfl) (fun b => V c b) (fun b => Vp c b) ((pdats p c).arrAt · (cfgs p).N)
      (fun w => by
        rw [hdat c]
        cases ho : ((cfgs p).win w).isOut
        · exact ((mkDat (cfgs p) c (V c) (after c)).arrAt_in w ho _).trans (hVin c w ho).symm
        · exact hVout c w ho)
      (fun b hb => hVrest c b hb)
    rw [← unscopedBufs_held (Ix := Unit) (Name := ℕ) (U := UR sig nD τ) (Lvl := ℕ) c (Vp c)]
    iintro ⟨Ha, HO, -, Hrest⟩
    imodintro
    isplitl [Ha Hrest]
    · iapply hjoin; isplitl [Ha] <;> iassumption
    rw [hdat c]
    unfold Dat.owesAt owesWithin
    icases HO with ⟨%W, -, HO⟩; iexists W; iexact HO

/-- The buffers after a call entered at `V` whose only result's window is `wo`. -/
def leave (cfg : Cfg sig Λ₀) (c : Dev nD) (V : Valuation τ sig Val) (wo : Fin cfg.W)
    (out : Fin cfg.N → (cfg.win wo).block.Idx → Val (cfg.win wo).elt) : Valuation τ sig Val :=
  Function.update V (Proc.devRef (τ := τ) .tc (arrRef cfg.spec wo)) ((mkDat (nD := nD) cfg c V (aft cfg V wo out)).arrAt wo cfg.N)

set_option backward.isDefEq.respectTransparency.types false in
/-- Such a call as a segment of `@main`. -/
def segLeave {p : P} (kit : LaunchFacts₀ (nD := nD) (τ := τ) cfgs p)
    (pdats : (p : P) → (c : Dev nD) → Dat τ Val Unit ℕ (UR sig nD τ) ℕ (cfgs p) c)
    (defs₀ : Defs nD τ sig Val Λ₀) (𝒱₀ : Variants) (L : GSem nD τ sig → Finset Unit) (lv : GSem nD τ sig → Unit → ℕ)
    (V : Dev nD → Valuation τ sig Val) (wo : Fin (cfgs p).W)
    (out : (c : Dev nD) → Fin (cfgs p).N → ((cfgs p).win wo).block.Idx → Val ((cfgs p).win wo).elt)
    (hdat : ∀ c, pdats p c = mkDat (cfgs p) c (V c) (aft (cfgs p) (V c) wo (out c)))
    (hbody : ∀ c, BodyObligation (mkDat (nD := nD) (cfgs p) c (V c) (aft (cfgs p) (V c) wo (out c))) defs₀ 𝒱₀ () Set.univ)
    (hwo : ∀ w, ((cfgs p).win w).isOut = true → w = wo)
    (hne : ∀ w, ((cfgs p).win w).isOut = false → arrRef (cfgs p).spec w ≠ arrRef (cfgs p).spec wo) :
    RegionSeg (fun p => (cfgs p).toPCfg (Val := Val)) (fun p => (cfgs p).toPCfg_adm) pdats () defs₀ 𝒱₀ L lv p :=
  segOf kit pdats defs₀ 𝒱₀ L lv V (fun c => aft (cfgs p) (V c) wo (out c)) hdat hbody (fun c => leave (cfgs p) c (V c) wo (out c))
    (fun c w ho => by
      obtain rfl := hwo w ho
      unfold leave
      rw [Function.update_self])
    (fun c w hi => by
      unfold leave
      rw [Function.update_of_ne fun h => hne w hi (Proc.devRef_injective _ h)])
    (fun c b hb => by
      unfold leave
      rw [Function.update_of_ne fun h => hb (Finset.mem_image.mpr ⟨wo, Finset.mem_univ _, (Proc.devRef_injective _ h).symm⟩)])

end Region

end Cert.Common
-- ==== Proof.KernelIdeal.Body.lean ====
/-
  One run of each call's body, from its staging buffers: every input is left as it was and the result's buffer holds
  the body's value of the inputs. The four middle node updates run the same body.
-/
module

public import proofs.«01_k».proof.Proof.Common
public import proofs.«01_k».proof.Proof.Gen.KernelIdeal.Launch
public import proofs.«01_k».proof.Proof.Gen.KernelIdeal.Skeleton
public import proofs.«01_k».proof.Proof.Gen.KernelIdeal.Points
public import Idealize.ShloMosaic.Lib.Claim
public import Idealize.ShloMosaic.Lib.Ring
public import Idealize.ShloMosaic.Lib.WordCmp

@[expose] public section

set_option maxRecDepth 16384

noncomputable section

namespace Cert.KernelIdeal.Hand

open Cert.KernelIdeal Cert.KernelIdeal.Gen Cert.Common

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A body's buffer of core `c`, held whole at `x`. -/
abbrev own (c : Dev nD) {S : Shape} {e : EltTy} (M : Memref sig .tc .vmem S e) (x : S.Idx → Elt F e) : sProp 𝕄 :=
  owns (c : Thread nD τ) M fullShare x

/-- The column of `x` that the node update reads. -/
abbrev col4 (x : Vec F S1000x10 .f32) : Vec F S1000x1 .f32 :=
  View.ld x (Rect.unit (s := S1000x10) ![0, 4] S1000x1.size inb_S1000x10_S1000x1_0_4)

/-- What a node update leaves in its result block. -/
abbrev nodeOut (v v0 agg : Vec F S1000x64 .f32) (cnt : Vec F S1000x1 .f32) (x : Vec F S1000x10 .f32) (sw : Vec F S64x64 .f32)
    (sb gw gb : Vec F S1x64 .f32) : Vec F S1000x64 .f32 :=
  k3_pay1 cnt (col4 x) gw gb v sw sb agg v0

set_option maxHeartbeats 1000000 in
theorem run_node (c : Dev nD) (E : Set ℕ) (i : grid3.Coords)
    (a1 : Memref sig .tc .vmem S1000x64 .f32) (h1 : a1.IsWhole) (a2 : Memref sig .tc .vmem S1000x64 .f32) (h2 : a2.IsWhole)
    (a3 : Memref sig .tc .vmem S1000x64 .f32) (h3 : a3.IsWhole) (a4 : Memref sig .tc .vmem S1000x1 .f32) (h4 : a4.IsWhole)
    (a5 : Memref sig .tc .vmem S1000x10 .f32) (h5 : a5.IsWhole) (a6 : Memref sig .tc .vmem S64x64 .f32) (h6 : a6.IsWhole)
    (a7 : Memref sig .tc .vmem S1x64 .f32) (h7 : a7.IsWhole) (a8 : Memref sig .tc .vmem S1x64 .f32) (h8 : a8.IsWhole)
    (a9 : Memref sig .tc .vmem S1x64 .f32) (h9 : a9.IsWhole) (a10 : Memref sig .tc .vmem S64x64 .f32) (h10 : a10.IsWhole)
    (a11 : Memref sig .tc .vmem S1x64 .f32) (h11 : a11.IsWhole) (a12 : Memref sig .tc .vmem S64x3 .f32) (h12 : a12.IsWhole)
    (a13 : Memref sig .tc .vmem S1x3 .f32) (h13 : a13.IsWhole) (a14 : Memref sig .tc .vmem S1000x64 .f32) (h14 : a14.IsWhole)
    (x1 x2 x3 : Vec F S1000x64 .f32) (x4 : Vec F S1000x1 .f32) (x5 : Vec F S1000x10 .f32) (x6 : Vec F S64x64 .f32)
    (x7 x8 x9 : Vec F S1x64 .f32) (x10 : Vec F S64x64 .f32) (x11 : Vec F S1x64 .f32) (x12 : Vec F S64x3 .f32) (x13 : Vec F S1x3 .f32)
    (y : Type) (before : y → Vec F S1000x64 .f32) (K : sProp 𝕄) :
    iprop((own c a1 x1 ∗ own c a2 x2 ∗ own c a3 x3 ∗ own c a4 x4 ∗ own c a5 x5 ∗ own c a6 x6 ∗ own c a7 x7 ∗ own c a8 x8 ∗ own c a9 x9
          ∗ own c a10 x10 ∗ own c a11 x11 ∗ own c a12 x12 ∗ own c a13 x13 ∗ (∃ d, own c a14 (before d)))
        ∗ (iprop(own c a1 x1 ∗ own c a2 x2 ∗ own c a3 x3 ∗ own c a4 x4 ∗ own c a5 x5 ∗ own c a6 x6 ∗ own c a7 x7 ∗ own c a8 x8 ∗ own c a9 x9
          ∗ own c a10 x10 ∗ own c a11 x11 ∗ own c a12 x12 ∗ own c a13 x13 ∗ own c a14 (nodeOut x1 x2 x3 x4 x5 x6 x7 x8 x9)) -∗ K))
      ⊢ wp frame (wpE (defs₀ (F := F)) Variants.none c none) E
          (cc3__node_body i a1 h1 a2 h2 a3 h3 a4 h4 a5 h5 a6 h6 a7 h7 a8 h8 a9 h9 a10 h10 a11 h11 a12 h12 a13 h13 a14 h14) fun _ => K := by
  simp only [cc3__node_body_eq_skeleton]; unfold cc3__node_body_skel
  simp only [k3_part1_eq_skeleton]
  unfold own owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
    ⟨%f9, %e9, H9⟩, H10, H11, H12, H13, ⟨%d, %f14, -, H14⟩⟩, Hk⟩
  sl_exec
  sl_step
  iapply Hk
  isplitl [H1]; · iapply (own_intro c a1 f1 x1 e1); iexact H1
  isplitl [H2]; · iapply (own_intro c a2 f2 x2 e2); iexact H2
  isplitl [H3]; · iapply (own_intro c a3 f3 x3 e3); iexact H3
  isplitl [H4]; · iapply (own_intro c a4 f4 x4 e4); iexact H4
  isplitl [H5]; · iapply (own_intro c a5 f5 x5 e5); iexact H5
  isplitl [H6]; · iapply (own_intro c a6 f6 x6 e6); iexact H6
  isplitl [H7]; · iapply (own_intro c a7 f7 x7 e7); iexact H7
  isplitl [H8]; · iapply (own_intro c a8 f8 x8 e8); iexact H8
  isplitl [H9]; · iapply (own_intro c a9 f9 x9 e9); iexact H9
  isplitl [H10]; · iexact H10
  isplitl [H11]; · iexact H11
  isplitl [H12]; · iexact H12
  isplitl [H13]; · iexact H13
  iexists _; isplitr; swap; · iexact H14
  ipureintro
  refine (read_store_all _ _ zeros2 _ _).trans ?_
  subst e1 e2 e3 e4 e5 e6 e7 e8 e9
  sl_unfold_words
  congr 1 <;> exact readAt_all _ _ zeros2 _

/-- What the last node update, with the projection behind it, leaves in its result block. -/
abbrev finalOut (v v0 agg : Vec F S1000x64 .f32) (cnt : Vec F S1000x1 .f32) (x : Vec F S1000x10 .f32) (sw : Vec F S64x64 .f32)
    (sb gw gb : Vec F S1x64 .f32) (pw1 : Vec F S64x64 .f32) (pb1 : Vec F S1x64 .f32) (pw2 : Vec F S64x3 .f32) (pb2 : Vec F S1x3 .f32) :
    Vec F S1000x3 .f32 :=
  k7_pay1 (k7_pay2 cnt (col4 x) gw gb v sw sb agg v0) pw1 pb1 pw2 pb2

set_option maxHeartbeats 1000000 in
theorem run_final (c : Dev nD) (E : Set ℕ) (i : grid7.Coords)
    (a1 : Memref sig .tc .vmem S1000x64 .f32) (h1 : a1.IsWhole) (a2 : Memref sig .tc .vmem S1000x64 .f32) (h2 : a2.IsWhole)
    (a3 : Memref sig .tc .vmem S1000x64 .f32) (h3 : a3.IsWhole) (a4 : Memref sig .tc .vmem S1000x1 .f32) (h4 : a4.IsWhole)
    (a5 : Memref sig .tc .vmem S1000x10 .f32) (h5 : a5.IsWhole) (a6 : Memref sig .tc .vmem S64x64 .f32) (h6 : a6.IsWhole)
    (a7 : Memref sig .tc .vmem S1x64 .f32) (h7 : a7.IsWhole) (a8 : Memref sig .tc .vmem S1x64 .f32) (h8 : a8.IsWhole)
    (a9 : Memref sig .tc .vmem S1x64 .f32) (h9 : a9.IsWhole) (a10 : Memref sig .tc .vmem S64x64 .f32) (h10 : a10.IsWhole)
    (a11 : Memref sig .tc .vmem S1x64 .f32) (h11 : a11.IsWhole) (a12 : Memref sig .tc .vmem S64x3 .f32) (h12 : a12.IsWhole)
    (a13 : Memref sig .tc .vmem S1x3 .f32) (h13 : a13.IsWhole) (a14 : Memref sig .tc .vmem S1000x3 .f32) (h14 : a14.IsWhole)
    (x1 x2 x3 : Vec F S1000x64 .f32) (x4 : Vec F S1000x1 .f32) (x5 : Vec F S1000x10 .f32) (x6 : Vec F S64x64 .f32)
    (x7 x8 x9 : Vec F S1x64 .f32) (x10 : Vec F S64x64 .f32) (x11 : Vec F S1x64 .f32) (x12 : Vec F S64x3 .f32) (x13 : Vec F S1x3 .f32)
    (y : Type) (before : y → Vec F S1000x3 .f32) (K : sProp 𝕄) :
    iprop((own c a1 x1 ∗ own c a2 x2 ∗ own c a3 x3 ∗ own c a4 x4 ∗ own c a5 x5 ∗ own c a6 x6 ∗ own c a7 x7 ∗ own c a8 x8 ∗ own c a9 x9
          ∗ own c a10 x10 ∗ own c a11 x11 ∗ own c a12 x12 ∗ own c a13 x13 ∗ (∃ d, own c a14 (before d)))
        ∗ (iprop(own c a1 x1 ∗ own c a2 x2 ∗ own c a3 x3 ∗ own c a4 x4 ∗ own c a5 x5 ∗ own c a6 x6 ∗ own c a7 x7 ∗ own c a8 x8 ∗ own c a9 x9
          ∗ own c a10 x10 ∗ own c a11 x11 ∗ own c a12 x12 ∗ own c a13 x13
          ∗ own c a14 (finalOut x1 x2 x3 x4 x5 x6 x7 x8 x9 x10 x11 x12 x13)) -∗ K))
      ⊢ wp frame (wpE (defs₀ (F := F)) Variants.none c none) E
          (cc7__node_body i a1 h1 a2 h2 a3 h3 a4 h4 a5 h5 a6 h6 a7 h7 a8 h8 a9 h9 a10 h10 a11 h11 a12 h12 a13 h13 a14 h14) fun _ => K := by
  simp only [cc7__node_body_eq_skeleton]; unfold cc7__node_body_skel
  simp only [k7_part1_eq_skeleton]
  unfold own owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
    ⟨%f9, %e9, H9⟩, ⟨%f10, %e10, H10⟩, ⟨%f11, %e11, H11⟩, ⟨%f12, %e12, H12⟩, ⟨%f13, %e13, H13⟩, ⟨%d, %f14, -, H14⟩⟩, Hk⟩
  sl_exec
  sl_step
  iapply Hk
  isplitl [H1]; · iapply (own_intro c a1 f1 x1 e1); iexact H1
  isplitl [H2]; · iapply (own_intro c a2 f2 x2 e2); iexact H2
  isplitl [H3]; · iapply (own_intro c a3 f3 x3 e3); iexact H3
  isplitl [H4]; · iapply (own_intro c a4 f4 x4 e4); iexact H4
  isplitl [H5]; · iapply (own_intro c a5 f5 x5 e5); iexact H5
  isplitl [H6]; · iapply (own_intro c a6 f6 x6 e6); iexact H6
  isplitl [H7]; · iapply (own_intro c a7 f7 x7 e7); iexact H7
  isplitl [H8]; · iapply (own_intro c a8 f8 x8 e8); iexact H8
  isplitl [H9]; · iapply (own_intro c a9 f9 x9 e9); iexact H9
  isplitl [H10]; · iapply (own_intro c a10 f10 x10 e10); iexact H10
  isplitl [H11]; · iapply (own_intro c a11 f11 x11 e11); iexact H11
  isplitl [H12]; · iapply (own_intro c a12 f12 x12 e12); iexact H12
  isplitl [H13]; · iapply (own_intro c a13 f13 x13 e13); iexact H13
  iexists _; isplitr; swap; · iexact H14
  ipureintro
  refine (read_store_all _ _ zeros2 _ _).trans ?_
  subst e1 e2 e3 e4 e5 e6 e7 e8 e9 e10 e11 e12 e13
  sl_unfold_words
  congr 1
  · congr 1 <;> exact readAt_all _ _ zeros2 _
  all_goals exact readAt_all _ _ zeros2 _

set_option maxHeartbeats 1000000 in
theorem run_lift (c : Dev nD) (E : Set ℕ) (i : grid1.Coords)
    (a1 : Memref sig .tc .vmem S1000x10 .f32) (h1 : a1.IsWhole) (a2 : Memref sig .tc .vmem S10x64 .f32) (h2 : a2.IsWhole)
    (a3 : Memref sig .tc .vmem S1x64 .f32) (h3 : a3.IsWhole) (a4 : Memref sig .tc .vmem S64x64 .f32) (h4 : a4.IsWhole)
    (a5 : Memref sig .tc .vmem S1x64 .f32) (h5 : a5.IsWhole) (a6 : Memref sig .tc .vmem S1000x64 .f32) (h6 : a6.IsWhole)
    (x1 : Vec F S1000x10 .f32) (x2 : Vec F S10x64 .f32) (x3 : Vec F S1x64 .f32) (x4 : Vec F S64x64 .f32) (x5 : Vec F S1x64 .f32)
    (y : Type) (before : y → Vec F S1000x64 .f32) (K : sProp 𝕄) :
    iprop((own c a1 x1 ∗ own c a2 x2 ∗ own c a3 x3 ∗ own c a4 x4 ∗ own c a5 x5 ∗ (∃ d, own c a6 (before d)))
        ∗ (iprop(own c a1 x1 ∗ own c a2 x2 ∗ own c a3 x3 ∗ own c a4 x4 ∗ own c a5 x5 ∗ own c a6 (k1_pay1 x1 x2 x3 x4 x5)) -∗ K))
      ⊢ wp frame (wpE (defs₀ (F := F)) Variants.none c none) E
          (cc1__lift_body i a1 h1 a2 h2 a3 h3 a4 h4 a5 h5 a6 h6) fun _ => K := by
  simp only [cc1__lift_body_eq_skeleton]; unfold cc1__lift_body_skel
  unfold own owns
  iintro ⟨⟨⟨%f1, %e1, H1⟩, ⟨%f2, %e2, H2⟩, ⟨%f3, %e3, H3⟩, ⟨%f4, %e4, H4⟩, ⟨%f5, %e5, H5⟩, ⟨%d, %f6, -, H6⟩⟩, Hk⟩
  sl_exec
  sl_step
  iapply Hk
  isplitl [H1]; · iapply (own_intro c a1 f1 x1 e1); iexact H1
  isplitl [H2]; · iapply (own_intro c a2 f2 x2 e2); iexact H2
  isplitl [H3]; · iapply (own_intro c a3 f3 x3 e3); iexact H3
  isplitl [H4]; · iapply (own_intro c a4 f4 x4 e4); iexact H4
  isplitl [H5]; · iapply (own_intro c a5 f5 x5 e5); iexact H5
  iexists _; isplitr; swap; · iexact H6
  ipureintro
  refine (read_store_all _ _ zeros2 _ _).trans ?_
  subst e1 e2 e3 e4 e5
  congr 1 <;> exact readAt_all _ _ zeros2 _

set_option maxHeartbeats 1000000 in
theorem run_edge (c : Dev nD) (E : Set ℕ) (i : grid2.Coords)
    (a1 : Memref sig .tc .vmem S8000x9 .f32) (h1 : a1.IsWhole) (a2 : Memref sig .tc .vmem S1x9x64 .f32) (h2 : a2.IsWhole)
    (a3 : Memref sig .tc .vmem S1x1x64 .f32) (h3 : a3.IsWhole) (a4 : Memref sig .tc .vmem S1x64x64 .f32) (h4 : a4.IsWhole)
    (a5 : Memref sig .tc .vmem S1x1x64 .f32) (h5 : a5.IsWhole) (a6 : Memref sig .tc .vmem S1x64x64 .f32) (h6 : a6.IsWhole)
    (a7 : Memref sig .tc .vmem S1x1x64 .f32) (h7 : a7.IsWhole) (a8 : Memref sig .tc .vmem S1x8000x64 .f32) (h8 : a8.IsWhole)
    (x1 : Vec F S8000x9 .f32) (x2 : Vec F S1x9x64 .f32) (x3 : Vec F S1x1x64 .f32) (x4 : Vec F S1x64x64 .f32) (x5 : Vec F S1x1x64 .f32)
    (x6 : Vec F S1x64x64 .f32) (x7 : Vec F S1x1x64 .f32) (y : Type) (before : y → Vec F S1x8000x64 .f32) (K : sProp 𝕄) :
    iprop((own c a1 x1 ∗ own c a2 x2 ∗ own c a3 x3 ∗ own c a4 x4 ∗ own c a5 x5 ∗ own c a6 x6 ∗ own c a7 x7 ∗ (∃ d, own c a8 (before d)))
        ∗ (iprop(own c a1 x1 ∗ own c a2 x2 ∗ own c a3 x3 ∗ own c a4 x4 ∗ own c a5 x5 ∗ own c a6 x6 ∗ own c a7 x7
          ∗ own c a8 (k2_pay1 x1 x2 x3 x4 x5 x6 x7)) -∗ K))
      ⊢ wp frame (wpE (defs₀ (F := F)) Variants.none c none) E
          (cc2__edge_mlp_body i a1 h1 a2 h2 a3 h3 a4 h4 a5 h5 a6 h6 a7 h7 a8 h8) fun _ => K := by
  simp only [cc2__edge_mlp_body_eq_skeleton]; unfold cc2__edge_mlp_body_skel
  simp only [k2_part1_eq_skeleton]
  unfold own owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩,
    ⟨%d, %f8, -, H8⟩⟩, Hk⟩
  sl_exec
  sl_step
  iapply Hk
  isplitl [H1]; · iapply (own_intro c a1 f1 x1 e1); iexact H1
  isplitl [H2]; · iapply (own_intro c a2 f2 x2 e2); iexact H2
  isplitl [H3]; · iapply (own_intro c a3 f3 x3 e3); iexact H3
  isplitl [H4]; · iapply (own_intro c a4 f4 x4 e4); iexact H4
  isplitl [H5]; · iapply (own_intro c a5 f5 x5 e5); iexact H5
  isplitl [H6]; · iapply (own_intro c a6 f6 x6 e6); iexact H6
  isplitl [H7]; · iapply (own_intro c a7 f7 x7 e7); iexact H7
  iexists _; isplitr; swap; · iexact H8
  ipureintro
  refine (read_store_all _ _ zeros3 _ _).trans ?_
  subst e1 e2 e3 e4 e5 e6 e7
  sl_unfold_words
  congr 1 <;> first | exact readAt_all _ _ zeros2 _ | exact readAt_all _ _ zeros3 _

set_option maxHeartbeats 1000000 in
/-- The first point of the moments: the block's own two rows of sums. -/
theorem run_moments_first (c : Dev nD) (E : Set ℕ) (i : grid0.Coords) (hc1 : k0_cond1 i = 1#1) (hc2 : ¬ k0_cond2 i = 1#1)
    (a1 : Memref sig .tc .vmem S8000x9 .f32) (h1 : a1.IsWhole) (a2 : Memref sig .tc .vmem S2x9 .f32) (h2 : a2.IsWhole)
    (x1 : Vec F S8000x9 .f32) (y : Type) (before : y → Vec F S2x9 .f32) (K : sProp 𝕄) :
    iprop((own c a1 x1 ∗ (∃ d, own c a2 (before d))) ∗ (iprop(own c a1 x1 ∗ own c a2 (k0_pay1 x1)) -∗ K))
      ⊢ wp frame (wpE (defs₀ (F := F)) Variants.none c none) E (cc0__moments_body i a1 h1 a2 h2) fun _ => K := by
  simp only [cc0__moments_body_eq_skeleton]; unfold cc0__moments_body_skel
  simp only [hc1, hc2, ↓reduceDIte]
  unfold own owns
  iintro ⟨⟨⟨%f1, %e1, H1⟩, ⟨%d, %f2, -, H2⟩⟩, Hk⟩
  sl_exec
  sl_step
  iapply Hk
  isplitl [H1]; · iapply (own_intro c a1 f1 x1 e1); iexact H1
  iexists _; isplitr; swap; · iexact H2
  ipureintro
  refine (read_store_all _ _ zeros2 _ _).trans ?_
  subst e1
  congr 1 <;> exact readAt_all _ _ zeros2 _

set_option maxHeartbeats 1000000 in
/-- A later point of the moments: the two rows so far, with the block's own added. -/
theorem run_moments_later (c : Dev nD) (E : Set ℕ) (i : grid0.Coords) (hc1 : ¬ k0_cond1 i = 1#1) (hc2 : k0_cond2 i = 1#1)
    (a1 : Memref sig .tc .vmem S8000x9 .f32) (h1 : a1.IsWhole) (a2 : Memref sig .tc .vmem S2x9 .f32) (h2 : a2.IsWhole)
    (x1 : Vec F S8000x9 .f32) (x2 : Vec F S2x9 .f32) (K : sProp 𝕄) :
    iprop((own c a1 x1 ∗ own c a2 x2) ∗ (iprop(own c a1 x1 ∗ own c a2 (k0_pay2 x1 x2)) -∗ K))
      ⊢ wp frame (wpE (defs₀ (F := F)) Variants.none c none) E (cc0__moments_body i a1 h1 a2 h2) fun _ => K := by
  simp only [cc0__moments_body_eq_skeleton]; unfold cc0__moments_body_skel
  simp only [hc1, hc2, ↓reduceDIte]
  unfold own owns
  iintro ⟨⟨⟨%f1, %e1, H1⟩, ⟨%f2, %e2, H2⟩⟩, Hk⟩
  sl_exec
  sl_step
  iapply Hk
  isplitl [H1]; · iapply (own_intro c a1 f1 x1 e1); iexact H1
  iexists _; isplitr; swap; · iexact H2
  ipureintro
  refine (read_store_all _ _ zeros2 _ _).trans ?_
  subst e1 e2
  congr 1 <;> exact readAt_all _ _ zeros2 _

end Cert.KernelIdeal.Hand
-- ==== Proof.KernelIdeal.Dats.lean ====
/-
  What each call leaves in its result at every point, and the body's obligation there.
-/
module

public import proofs.«01_k».proof.Proof.KernelIdeal.Body

@[expose] public section

set_option maxRecDepth 100000

noncomputable section

namespace Cert.KernelIdeal.Hand

open Cert.KernelIdeal Cert.KernelIdeal.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

/-! ## The moments, which accumulate in one result block -/

theorem cond0_first : ∀ t : Fin cfg0.N, t.val = 0 →
    k0_cond1 (cfg0.grid.coords t) = 1#1 ∧ ¬ k0_cond2 (cfg0.grid.coords t) = 1#1 := by
  decide +kernel

theorem cond0_later : ∀ t : Fin cfg0.N, t.val ≠ 0 →
    ¬ k0_cond1 (cfg0.grid.coords t) = 1#1 ∧ k0_cond2 (cfg0.grid.coords t) = 1#1 := by
  decide +kernel

/-- No point leaves the result's buffer alone. -/
theorem live0 : ∀ (w : Fin cfg0.W) (i : cfg0.grid.Coords), cfg0.idle w i = false := by
  have h : ∀ n : Fin 100,
      (!(Scalar.cmpi .ne (Scalar.extui (Scalar.cmpi .eq (BitVec.ofNat 32 n.val) 0#32) : BitVec 32) 0#32 == 1#1)
        && !(Scalar.cmpi .ne (Scalar.extui (Scalar.cmpi .sgt (BitVec.ofNat 32 n.val) 0#32) : BitVec 32) 0#32 == 1#1)) = false := by
    decide +kernel
  intro w i
  fin_cases w
  · rfl
  · exact h (i 0)

/-- The two rows of sums over the first `n + 1` blocks. -/
def acc0 (V : Valuation τ sig (Elt F)) : (n : ℕ) → n < cfg0.N → Vec F S2x9 .f32
  | 0, h => k0_pay1 (blk cfg0 V 0 ⟨0, h⟩)
  | n + 1, h => k0_pay2 (blk cfg0 V 0 ⟨n + 1, h⟩) (acc0 V n (Nat.lt_of_succ_lt h))

def res0 (V : Valuation τ sig (Elt F)) (t : Fin cfg0.N) : (cfg0.win 1).block.Idx → Elt F (cfg0.win 1).elt :=
  acc0 V t.val t.isLt

theorem obligation0 (c : Dev nD) (V : Valuation τ sig (Elt F)) :
    BodyObligation (mkDat (nD := nD) cfg0 c V (aft cfg0 V 1 (res0 V))) (defs₀ (F := F)) Variants.none () Set.univ := by
  have hclip : ∀ (w : Fin cfg0.W) i a, (cfg0.win w).clip i a = none := fun w i a => by fin_cases w <;> rfl
  refine obligation_of_run live0 hclip (fun w => by fin_cases w <;> decide) _ _ fun t K => ?_
  rw [bigSep_W0, bigSep_W0]
  rw [show (defs₀ (F := F)) .tc cfg0.body (cfg0.bodyArgs t (cfg0.slots t)) = bodyAt0 t from by unfold defs₀; rw [Defs.onTc_tc]]
  by_cases ht : t.val = 0
  · obtain ⟨h1, h2⟩ := cond0_first t ht
    obtain rfl : t = ⟨0, by decide⟩ := Fin.ext ht
    exact run_moments_first c Set.univ _ h1 h2 _ _ _ _ (blk cfg0 V 0 _) _
      ((mkDat (nD := nD) cfg0 c V (aft cfg0 V 1 (res0 V))).before 1 _) K
  · obtain ⟨h1, h2⟩ := cond0_later t ht
    obtain ⟨n, hn⟩ : ∃ n, t.val = n + 1 := Nat.exists_eq_succ_of_ne_zero ht
    have hlt : n + 1 < cfg0.N := hn ▸ t.isLt
    obtain rfl : t = ⟨n + 1, hlt⟩ := Fin.ext hn
    have hb : ∀ d, (mkDat (nD := nD) cfg0 c V (aft cfg0 V 1 (res0 V))).before 1 ⟨n + 1, hlt⟩ d = acc0 V n (Nat.lt_of_succ_lt hlt) := fun d => by
      refine ((mkDat (nD := nD) cfg0 c V (aft cfg0 V 1 (res0 V))).before_out_kept 1 rfl ⟨n + 1, hlt⟩ ht ?_ (live0 1) (hclip 1) d).trans ?_
      · rw [Bool.eq_false_iff]
        intro hf
        have := (flush0_1 _).mp hf
        have hN : cfg0.N = 100 := rfl
        simp only [Nat.add_sub_cancel] at this
        omega
      · exact aft_self cfg0 V 1 (res0 V) _
    have hrun := run_moments_later c Set.univ _ h1 h2 (win0_0.stage (cfg0.slots ⟨n + 1, hlt⟩ 0)) (hstage0_0 ((cfg0.slots ⟨n + 1, hlt⟩ 0).cast nbuf0_0))
      (win0_1.stage (cfg0.slots ⟨n + 1, hlt⟩ 1)) (hstage0_1 ((cfg0.slots ⟨n + 1, hlt⟩ 1).cast nbuf0_1)) (blk cfg0 V 0 ⟨n + 1, hlt⟩)
      (acc0 V n (Nat.lt_of_succ_lt hlt)) K
    have hin : iprop(∃ d, owns (c : Thread nD τ) (win0_1.stage (cfg0.slots ⟨n + 1, hlt⟩ 1)) fullShare
          ((mkDat (nD := nD) cfg0 c V (aft cfg0 V 1 (res0 V))).before 1 ⟨n + 1, hlt⟩ d))
        ⊢ (own c (win0_1.stage (cfg0.slots ⟨n + 1, hlt⟩ 1)) (acc0 V n (Nat.lt_of_succ_lt hlt)) : sProp 𝕄) := by
      iintro ⟨%d, H⟩
      rw [hb d]
      iexact H
    exact (sep_mono (sep_mono (BI.Entails.refl _) hin) (BI.Entails.refl _)).trans hrun

def res1 (V : Valuation τ sig (Elt F)) (t : Fin cfg1.N) : (cfg1.win 5).block.Idx → Elt F (cfg1.win 5).elt :=
  k1_pay1 (blk cfg1 V 0 t) (blk cfg1 V 1 t) (blk cfg1 V 2 t) (blk cfg1 V 3 t) (blk cfg1 V 4 t)

theorem obligation1 (c : Dev nD) (V : Valuation τ sig (Elt F)) :
    BodyObligation (mkDat (nD := nD) cfg1 c V (aft cfg1 V 5 (res1 V))) (defs₀ (F := F)) Variants.none () Set.univ := by
  refine obligation_of_run (fun _ _ => rfl) (fun w i a => by fin_cases w <;> rfl) (fun w => by fin_cases w <;> decide) _ _ fun t K => ?_
  rw [bigSep_W1, bigSep_W1]
  rw [show (defs₀ (F := F)) .tc cfg1.body (cfg1.bodyArgs t (cfg1.slots t)) = bodyAt1 t from by unfold defs₀; rw [Defs.onTc_tc]]
  exact run_lift c Set.univ _ _ _ _ _ _ _ _ _ _ _ _ _ (blk cfg1 V 0 t) (blk cfg1 V 1 t) (blk cfg1 V 2 t) (blk cfg1 V 3 t) (blk cfg1 V 4 t) _
    ((mkDat (nD := nD) cfg1 c V (aft cfg1 V 5 (res1 V))).before 5 t) K

def res2 (V : Valuation τ sig (Elt F)) (t : Fin cfg2.N) : (cfg2.win 7).block.Idx → Elt F (cfg2.win 7).elt :=
  k2_pay1 (blk cfg2 V 0 t) (blk cfg2 V 1 t) (blk cfg2 V 2 t) (blk cfg2 V 3 t) (blk cfg2 V 4 t) (blk cfg2 V 5 t) (blk cfg2 V 6 t)

theorem obligation2 (c : Dev nD) (V : Valuation τ sig (Elt F)) :
    BodyObligation (mkDat (nD := nD) cfg2 c V (aft cfg2 V 7 (res2 V))) (defs₀ (F := F)) Variants.none () Set.univ := by
  refine obligation_of_run (fun _ _ => rfl) (fun w i a => by fin_cases w <;> rfl) (fun w => by fin_cases w <;> decide) _ _ fun t K => ?_
  rw [bigSep_W2, bigSep_W2]
  rw [show (defs₀ (F := F)) .tc cfg2.body (cfg2.bodyArgs t (cfg2.slots t)) = bodyAt2 t from by unfold defs₀; rw [Defs.onTc_tc]]
  exact run_edge c Set.univ _ _ _ _ _ _ _ _ _ _ _ _ _ _ _ _ _ (blk cfg2 V 0 t) (blk cfg2 V 1 t) (blk cfg2 V 2 t) (blk cfg2 V 3 t) (blk cfg2 V 4 t) (blk cfg2 V 5 t) (blk cfg2 V 6 t) _
    ((mkDat (nD := nD) cfg2 c V (aft cfg2 V 7 (res2 V))).before 7 t) K

def res3 (V : Valuation τ sig (Elt F)) (t : Fin cfg3.N) : (cfg3.win 13).block.Idx → Elt F (cfg3.win 13).elt :=
  nodeOut (blk cfg3 V 0 t) (blk cfg3 V 1 t) (blk cfg3 V 2 t) (blk cfg3 V 3 t) (blk cfg3 V 4 t) (blk cfg3 V 5 t) (blk cfg3 V 6 t) (blk cfg3 V 7 t) (blk cfg3 V 8 t)

theorem obligation3 (c : Dev nD) (V : Valuation τ sig (Elt F)) :
    BodyObligation (mkDat (nD := nD) cfg3 c V (aft cfg3 V 13 (res3 V))) (defs₀ (F := F)) Variants.none () Set.univ := by
  refine obligation_of_run (fun _ _ => rfl) (fun w i a => by fin_cases w <;> rfl) (fun w => by fin_cases w <;> decide) _ _ fun t K => ?_
  rw [bigSep_W3, bigSep_W3]
  rw [show (defs₀ (F := F)) .tc cfg3.body (cfg3.bodyArgs t (cfg3.slots t)) = bodyAt3 t from by unfold defs₀; rw [Defs.onTc_tc]]
  exact run_node c Set.univ _ _ _ _ _ _ _ _ _ _ _ _ _ _ _ _ _ _ _ _ _ _ _ _ _ _ _ _ _ (blk cfg3 V 0 t) (blk cfg3 V 1 t) (blk cfg3 V 2 t) (blk cfg3 V 3 t) (blk cfg3 V 4 t) (blk cfg3 V 5 t) (blk cfg3 V 6 t) (blk cfg3 V 7 t) (blk cfg3 V 8 t) (blk cfg3 V 9 t) (blk cfg3 V 10 t) (blk cfg3 V 11 t) (blk cfg3 V 12 t) _
    ((mkDat (nD := nD) cfg3 c V (aft cfg3 V 13 (res3 V))).before 13 t) K

def res4 (V : Valuation τ sig (Elt F)) (t : Fin cfg4.N) : (cfg4.win 13).block.Idx → Elt F (cfg4.win 13).elt :=
  nodeOut (blk cfg4 V 0 t) (blk cfg4 V 1 t) (blk cfg4 V 2 t) (blk cfg4 V 3 t) (blk cfg4 V 4 t) (blk cfg4 V 5 t) (blk cfg4 V 6 t) (blk cfg4 V 7 t) (blk cfg4 V 8 t)

theorem obligation4 (c : Dev nD) (V : Valuation τ sig (Elt F)) :
    BodyObligation (mkDat (nD := nD) cfg4 c V (aft cfg4 V 13 (res4 V))) (defs₀ (F := F)) Variants.none () Set.univ := by
  refine obligation_of_run (fun _ _ => rfl) (fun w i a => by fin_cases w <;> rfl) (fun w => by fin_cases w <;> decide) _ _ fun t K => ?_
  rw [bigSep_W4, bigSep_W4]
  rw [show (defs₀ (F := F)) .tc cfg4.body (cfg4.bodyArgs t (cfg4.slots t)) = bodyAt4 t from by unfold defs₀; rw [Defs.onTc_tc]]
  unfold bodyAt4
  rw [show cc4__node_body (F := F) = cc3__node_body from rfl]
  exact run_node c Set.univ _ _ _ _ _ _ _ _ _ _ _ _ _ _ _ _ _ _ _ _ _ _ _ _ _ _ _ _ _ (blk cfg4 V 0 t) (blk cfg4 V 1 t) (blk cfg4 V 2 t) (blk cfg4 V 3 t) (blk cfg4 V 4 t) (blk cfg4 V 5 t) (blk cfg4 V 6 t) (blk cfg4 V 7 t) (blk cfg4 V 8 t) (blk cfg4 V 9 t) (blk cfg4 V 10 t) (blk cfg4 V 11 t) (blk cfg4 V 12 t) _
    ((mkDat (nD := nD) cfg4 c V (aft cfg4 V 13 (res4 V))).before 13 t) K

def res5 (V : Valuation τ sig (Elt F)) (t : Fin cfg5.N) : (cfg5.win 13).block.Idx → Elt F (cfg5.win 13).elt :=
  nodeOut (blk cfg5 V 0 t) (blk cfg5 V 1 t) (blk cfg5 V 2 t) (blk cfg5 V 3 t) (blk cfg5 V 4 t) (blk cfg5 V 5 t) (blk cfg5 V 6 t) (blk cfg5 V 7 t) (blk cfg5 V 8 t)

theorem obligation5 (c : Dev nD) (V : Valuation τ sig (Elt F)) :
    BodyObligation (mkDat (nD := nD) cfg5 c V (aft cfg5 V 13 (res5 V))) (defs₀ (F := F)) Variants.none () Set.univ := by
  refine obligation_of_run (fun _ _ => rfl) (fun w i a => by fin_cases w <;> rfl) (fun w => by fin_cases w <;> decide) _ _ fun t K => ?_
  rw [bigSep_W5, bigSep_W5]
  rw [show (defs₀ (F := F)) .tc cfg5.body (cfg5.bodyArgs t (cfg5.slots t)) = bodyAt5 t from by unfold defs₀; rw [Defs.onTc_tc]]
  unfold bodyAt5
  rw [show cc5__node_body (F := F) = cc3__node_body from rfl]
  exact run_node c Set.univ _ _ _ _ _ _ _ _ _ _ _ _ _ _ _ _ _ _ _ _ _ _ _ _ _ _ _ _ _ (blk cfg5 V 0 t) (blk cfg5 V 1 t) (blk cfg5 V 2 t) (blk cfg5 V 3 t) (blk cfg5 V 4 t) (blk cfg5 V 5 t) (blk cfg5 V 6 t) (blk cfg5 V 7 t) (blk cfg5 V 8 t) (blk cfg5 V 9 t) (blk cfg5 V 10 t) (blk cfg5 V 11 t) (blk cfg5 V 12 t) _
    ((mkDat (nD := nD) cfg5 c V (aft cfg5 V 13 (res5 V))).before 13 t) K

def res6 (V : Valuation τ sig (Elt F)) (t : Fin cfg6.N) : (cfg6.win 13).block.Idx → Elt F (cfg6.win 13).elt :=
  nodeOut (blk cfg6 V 0 t) (blk cfg6 V 1 t) (blk cfg6 V 2 t) (blk cfg6 V 3 t) (blk cfg6 V 4 t) (blk cfg6 V 5 t) (blk cfg6 V 6 t) (blk cfg6 V 7 t) (blk cfg6 V 8 t)

theorem obligation6 (c : Dev nD) (V : Valuation τ sig (Elt F)) :
    BodyObligation (mkDat (nD := nD) cfg6 c V (aft cfg6 V 13 (res6 V))) (defs₀ (F := F)) Variants.none () Set.univ := by
  refine obligation_of_run (fun _ _ => rfl) (fun w i a => by fin_cases w <;> rfl) (fun w => by fin_cases w <;> decide) _ _ fun t K => ?_
  rw [bigSep_W6, bigSep_W6]
  rw [show (defs₀ (F := F)) .tc cfg6.body (cfg6.bodyArgs t (cfg6.slots t)) = bodyAt6 t from by unfold defs₀; rw [Defs.onTc_tc]]
  unfold bodyAt6
  rw [show cc6__node_body (F := F) = cc3__node_body from rfl]
  exact run_node c Set.univ _ _ _ _ _ _ _ _ _ _ _ _ _ _ _ _ _ _ _ _ _ _ _ _ _ _ _ _ _ (blk cfg6 V 0 t) (blk cfg6 V 1 t) (blk cfg6 V 2 t) (blk cfg6 V 3 t) (blk cfg6 V 4 t) (blk cfg6 V 5 t) (blk cfg6 V 6 t) (blk cfg6 V 7 t) (blk cfg6 V 8 t) (blk cfg6 V 9 t) (blk cfg6 V 10 t) (blk cfg6 V 11 t) (blk cfg6 V 12 t) _
    ((mkDat (nD := nD) cfg6 c V (aft cfg6 V 13 (res6 V))).before 13 t) K

def res7 (V : Valuation τ sig (Elt F)) (t : Fin cfg7.N) : (cfg7.win 13).block.Idx → Elt F (cfg7.win 13).elt :=
  finalOut (blk cfg7 V 0 t) (blk cfg7 V 1 t) (blk cfg7 V 2 t) (blk cfg7 V 3 t) (blk cfg7 V 4 t) (blk cfg7 V 5 t) (blk cfg7 V 6 t) (blk cfg7 V 7 t) (blk cfg7 V 8 t) (blk cfg7 V 9 t) (blk cfg7 V 10 t) (blk cfg7 V 11 t) (blk cfg7 V 12 t)

theorem obligation7 (c : Dev nD) (V : Valuation τ sig (Elt F)) :
    BodyObligation (mkDat (nD := nD) cfg7 c V (aft cfg7 V 13 (res7 V))) (defs₀ (F := F)) Variants.none () Set.univ := by
  refine obligation_of_run (fun _ _ => rfl) (fun w i a => by fin_cases w <;> rfl) (fun w => by fin_cases w <;> decide) _ _ fun t K => ?_
  rw [bigSep_W7, bigSep_W7]
  rw [show (defs₀ (F := F)) .tc cfg7.body (cfg7.bodyArgs t (cfg7.slots t)) = bodyAt7 t from by unfold defs₀; rw [Defs.onTc_tc]]
  exact run_final c Set.univ _ _ _ _ _ _ _ _ _ _ _ _ _ _ _ _ _ _ _ _ _ _ _ _ _ _ _ _ _ (blk cfg7 V 0 t) (blk cfg7 V 1 t) (blk cfg7 V 2 t) (blk cfg7 V 3 t) (blk cfg7 V 4 t) (blk cfg7 V 5 t) (blk cfg7 V 6 t) (blk cfg7 V 7 t) (blk cfg7 V 8 t) (blk cfg7 V 9 t) (blk cfg7 V 10 t) (blk cfg7 V 11 t) (blk cfg7 V 12 t) _
    ((mkDat (nD := nD) cfg7 c V (aft cfg7 V 13 (res7 V))).before 13 t) K

end Cert.KernelIdeal.Hand
-- ==== Proof.KernelIdeal.Run.lean ====
/-
  The whole `@main`: the buffers before and after every call, and the run of every execution of it.
-/
module

public import proofs.«01_k».proof.Proof.KernelIdeal.Dats
public import proofs.«01_k».proof.Proof.Gen.KernelIdeal.Regions

@[expose] public section

set_option maxRecDepth 100000

noncomputable section

namespace Cert.KernelIdeal.Hand

open Cert.KernelIdeal Cert.KernelIdeal.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg)

variable {F : FTy → Type} [FloatOps F]
local notation "𝕄" => MT nD τ sig Unit (Elt F) ℕ (UR sig nD τ) ℕ

variable (m : (ℓ : Loc nD τ sig) → Buf (Elt F) ℓ)

/-! ## The buffers before (`B`) and after (`A`) every call -/

def B0 (c : Dev nD) : Valuation τ sig (Elt F) := V3 m c
def A0 (c : Dev nD) : Valuation τ sig (Elt F) := leave cfg0 c (B0 m c) 1 (res0 (B0 m c))
def B1 (c : Dev nD) : Valuation τ sig (Elt F) := StableHlo.after hostOps1 (A0 m c)
def A1 (c : Dev nD) : Valuation τ sig (Elt F) := leave cfg1 c (B1 m c) 5 (res1 (B1 m c))
def B2 (c : Dev nD) : Valuation τ sig (Elt F) := StableHlo.after hostOps2 (A1 m c)
def A2 (c : Dev nD) : Valuation τ sig (Elt F) := leave cfg2 c (B2 m c) 7 (res2 (B2 m c))
def B3 (c : Dev nD) : Valuation τ sig (Elt F) := StableHlo.after hostOps3_2 (StableHlo.after hostOps3_1 (StableHlo.after hostOps3 (A2 m c)))
def A3 (c : Dev nD) : Valuation τ sig (Elt F) := leave cfg3 c (B3 m c) 13 (res3 (B3 m c))
def B4 (c : Dev nD) : Valuation τ sig (Elt F) := StableHlo.after hostOps4_2 (StableHlo.after hostOps4_1 (StableHlo.after hostOps4 (A3 m c)))
def A4 (c : Dev nD) : Valuation τ sig (Elt F) := leave cfg4 c (B4 m c) 13 (res4 (B4 m c))
def B5 (c : Dev nD) : Valuation τ sig (Elt F) := StableHlo.after hostOps5_2 (StableHlo.after hostOps5_1 (StableHlo.after hostOps5 (A4 m c)))
def A5 (c : Dev nD) : Valuation τ sig (Elt F) := leave cfg5 c (B5 m c) 13 (res5 (B5 m c))
def B6 (c : Dev nD) : Valuation τ sig (Elt F) := StableHlo.after hostOps6_2 (StableHlo.after hostOps6_1 (StableHlo.after hostOps6 (A5 m c)))
def A6 (c : Dev nD) : Valuation τ sig (Elt F) := leave cfg6 c (B6 m c) 13 (res6 (B6 m c))
def B7 (c : Dev nD) : Valuation τ sig (Elt F) := StableHlo.after hostOps7_2 (StableHlo.after hostOps7_1 (StableHlo.after hostOps7 (A6 m c)))
def A7 (c : Dev nD) : Valuation τ sig (Elt F) := leave cfg7 c (B7 m c) 13 (res7 (B7 m c))

/-- What every call leaves, as the generated account of `@main` reads it. -/
def outs : Outs (F := F) := fun k r c => match k with
  | 4 => A0 m c r
  | 6 => A1 m c r
  | 8 => A2 m c r
  | 12 => A3 m c r
  | 16 => A4 m c r
  | 20 => A5 m c r
  | 24 => A6 m c r
  | _ => A7 m c r

theorem update_leave (cfg : Cfg sig Λ₀) (c : Dev nD) (V : Valuation τ sig (Elt F)) (wo : Fin cfg.W)
    (out : Fin cfg.N → (cfg.win wo).block.Idx → Elt F (cfg.win wo).elt) :
    Function.update V (Proc.devRef .tc (Pipeline.arrRef cfg.spec wo)) (leave (nD := nD) cfg c V wo out (Proc.devRef .tc (Pipeline.arrRef cfg.spec wo)))
      = leave cfg c V wo out := by
  unfold leave; rw [Function.update_self]

theorem V4_eq (c : Dev nD) : V4 m (outs m) c = A0 m c := update_leave cfg0 c (B0 m c) 1 _
theorem V5_eq (c : Dev nD) : V5 m (outs m) c = B1 m c := by
  unfold B1; rw [← V4_eq m c]
theorem V6_eq (c : Dev nD) : V6 m (outs m) c = A1 m c := by
  unfold V6; rw [V5_eq m c]; exact update_leave cfg1 c (B1 m c) 5 _
theorem V7_eq (c : Dev nD) : V7 m (outs m) c = B2 m c := by
  unfold B2; rw [← V6_eq m c]
theorem V8_eq (c : Dev nD) : V8 m (outs m) c = A2 m c := by
  unfold V8; rw [V7_eq m c]; exact update_leave cfg2 c (B2 m c) 7 _
theorem V11_eq (c : Dev nD) : V11 m (outs m) c = B3 m c := by
  unfold B3; rw [← V8_eq m c]
theorem V12_eq (c : Dev nD) : V12 m (outs m) c = A3 m c := by
  unfold V12; rw [V11_eq m c]; exact update_leave cfg3 c (B3 m c) 13 _
theorem V15_eq (c : Dev nD) : V15 m (outs m) c = B4 m c := by
  unfold B4; rw [← V12_eq m c]
theorem V16_eq (c : Dev nD) : V16 m (outs m) c = A4 m c := by
  unfold V16; rw [V15_eq m c]; exact update_leave cfg4 c (B4 m c) 13 _
theorem V19_eq (c : Dev nD) : V19 m (outs m) c = B5 m c := by
  unfold B5; rw [← V16_eq m c]
theorem V20_eq (c : Dev nD) : V20 m (outs m) c = A5 m c := by
  unfold V20; rw [V19_eq m c]; exact update_leave cfg5 c (B5 m c) 13 _
theorem V23_eq (c : Dev nD) : V23 m (outs m) c = B6 m c := by
  unfold B6; rw [← V20_eq m c]
theorem V24_eq (c : Dev nD) : V24 m (outs m) c = A6 m c := by
  unfold V24; rw [V23_eq m c]; exact update_leave cfg6 c (B6 m c) 13 _
theorem V27_eq (c : Dev nD) : V27 m (outs m) c = B7 m c := by
  unfold B7; rw [← V24_eq m c]
theorem V28_eq (c : Dev nD) : V28 m (outs m) c = A7 m c := by
  unfold V28; rw [V27_eq m c]; exact update_leave cfg7 c (B7 m c) 13 _

/-! ## The calls' proof data and segments -/

def pdats : (p : Fin 8) → (c : Dev nD) → Dat τ (Elt F) Unit ℕ (UR sig nD τ) ℕ (cfgs p) c
  | ⟨0, _⟩, c => mkDat cfg0 c (B0 m c) (aft cfg0 (B0 m c) 1 (res0 (B0 m c)))
  | ⟨1, _⟩, c => mkDat cfg1 c (B1 m c) (aft cfg1 (B1 m c) 5 (res1 (B1 m c)))
  | ⟨2, _⟩, c => mkDat cfg2 c (B2 m c) (aft cfg2 (B2 m c) 7 (res2 (B2 m c)))
  | ⟨3, _⟩, c => mkDat cfg3 c (B3 m c) (aft cfg3 (B3 m c) 13 (res3 (B3 m c)))
  | ⟨4, _⟩, c => mkDat cfg4 c (B4 m c) (aft cfg4 (B4 m c) 13 (res4 (B4 m c)))
  | ⟨5, _⟩, c => mkDat cfg5 c (B5 m c) (aft cfg5 (B5 m c) 13 (res5 (B5 m c)))
  | ⟨6, _⟩, c => mkDat cfg6 c (B6 m c) (aft cfg6 (B6 m c) 13 (res6 (B6 m c)))
  | ⟨7, _⟩, c => mkDat cfg7 c (B7 m c) (aft cfg7 (B7 m c) 13 (res7 (B7 m c)))

/-- No cell has a level: nothing is owed. -/
abbrev noLev : GSem nD τ sig → Finset Unit := fun _ => ∅
abbrev lev0 : GSem nD τ sig → Unit → ℕ := fun _ _ => 0

def reg0 : RegionSeg (pcfgs (F := F)) adm (pdats m) () defs₀ Variants.none noLev lev0 0 :=
  segLeave (p := (0 : Fin 8)) launch0.to₀ (pdats m) defs₀ Variants.none noLev lev0 (B0 m) 1 (fun c => res0 (B0 m c)) (fun _ => rfl)
    (fun c => obligation0 c (B0 m c)) (fun w h => by revert h; fin_cases w <;> decide) (fun w h => by revert h; fin_cases w <;> decide)
def reg1 : RegionSeg (pcfgs (F := F)) adm (pdats m) () defs₀ Variants.none noLev lev0 1 :=
  segLeave (p := (1 : Fin 8)) launch1.to₀ (pdats m) defs₀ Variants.none noLev lev0 (B1 m) 5 (fun c => res1 (B1 m c)) (fun _ => rfl)
    (fun c => obligation1 c (B1 m c)) (fun w h => by revert h; fin_cases w <;> decide) (fun w h => by revert h; fin_cases w <;> decide)
def reg2 : RegionSeg (pcfgs (F := F)) adm (pdats m) () defs₀ Variants.none noLev lev0 2 :=
  segLeave (p := (2 : Fin 8)) launch2.to₀ (pdats m) defs₀ Variants.none noLev lev0 (B2 m) 7 (fun c => res2 (B2 m c)) (fun _ => rfl)
    (fun c => obligation2 c (B2 m c)) (fun w h => by revert h; fin_cases w <;> decide) (fun w h => by revert h; fin_cases w <;> decide)
def reg3 : RegionSeg (pcfgs (F := F)) adm (pdats m) () defs₀ Variants.none noLev lev0 3 :=
  segLeave (p := (3 : Fin 8)) launch₀3 (pdats m) defs₀ Variants.none noLev lev0 (B3 m) 13 (fun c => res3 (B3 m c)) (fun _ => rfl)
    (fun c => obligation3 c (B3 m c)) (fun w h => by revert h; fin_cases w <;> decide) (fun w h => by revert h; fin_cases w <;> decide)
def reg4 : RegionSeg (pcfgs (F := F)) adm (pdats m) () defs₀ Variants.none noLev lev0 4 :=
  segLeave (p := (4 : Fin 8)) launch4.to₀ (pdats m) defs₀ Variants.none noLev lev0 (B4 m) 13 (fun c => res4 (B4 m c)) (fun _ => rfl)
    (fun c => obligation4 c (B4 m c)) (fun w h => by revert h; fin_cases w <;> decide) (fun w h => by revert h; fin_cases w <;> decide)
def reg5 : RegionSeg (pcfgs (F := F)) adm (pdats m) () defs₀ Variants.none noLev lev0 5 :=
  segLeave (p := (5 : Fin 8)) launch5.to₀ (pdats m) defs₀ Variants.none noLev lev0 (B5 m) 13 (fun c => res5 (B5 m c)) (fun _ => rfl)
    (fun c => obligation5 c (B5 m c)) (fun w h => by revert h; fin_cases w <;> decide) (fun w h => by revert h; fin_cases w <;> decide)
def reg6 : RegionSeg (pcfgs (F := F)) adm (pdats m) () defs₀ Variants.none noLev lev0 6 :=
  segLeave (p := (6 : Fin 8)) launch6.to₀ (pdats m) defs₀ Variants.none noLev lev0 (B6 m) 13 (fun c => res6 (B6 m c)) (fun _ => rfl)
    (fun c => obligation6 c (B6 m c)) (fun w h => by revert h; fin_cases w <;> decide) (fun w h => by revert h; fin_cases w <;> decide)
def reg7 : RegionSeg (pcfgs (F := F)) adm (pdats m) () defs₀ Variants.none noLev lev0 7 :=
  segLeave (p := (7 : Fin 8)) launch7.to₀ (pdats m) defs₀ Variants.none noLev lev0 (B7 m) 13 (fun c => res7 (B7 m c)) (fun _ => rfl)
    (fun c => obligation7 c (B7 m c)) (fun w h => by revert h; fin_cases w <;> decide) (fun w h => by revert h; fin_cases w <;> decide)

/-- What a core holds beside its buffers between the calls: it owes nothing. -/
def rest (c : Dev nD) : sProp 𝕄 := iprop(∃ W, owes (c : Thread nD τ) (0 : CellTallies nD τ sig Unit) W)

-- the launch theorem's implicit arguments are found by unifying its conclusion with this one, which takes unfolding
-- plain definitions in a metavariable's type
set_option backward.isDefEq.respectTransparency.types false in
set_option maxHeartbeats 2000000 in
/-- Every weakly fair execution of `@main` from memory `m` with zero counters terminates, and every final state holds
    each unscoped buffer at its last contents and has every counter at zero. -/
theorem run_all (ρ : Dev nD → PrngReg) :
    θ_run defs (onTc (τ := τ) (main (F := F))) ⟨m, fun _ => 0, ρ⟩ (fun r =>
      (∀ c : Dev nD, ∀ b ∈ Pipeline.ucRefs τ sig, r.2.mem (c, b) = V28 m (outs m) c b) ∧ r.2.sem = fun _ => 0) := by
  have hpre0 : ∀ c : Dev nD, iprop(StableHlo.held (c : Thread nD τ) (Pipeline.ucRefs τ sig) (V3 m c) ∗ rest c) ⊢ (reg0 m).pre c :=
    fun c => by exact BI.Entails.refl _
  have hpost0 : ∀ c : Dev nD, (reg0 m).post c ⊢ iprop(StableHlo.held (c : Thread nD τ) (Pipeline.ucRefs τ sig) (V4 m (outs m) c) ∗ rest c) :=
    fun c => by rw [V4_eq m c]; exact BI.Entails.refl _
  have hpre1 : ∀ c : Dev nD, iprop(StableHlo.held (c : Thread nD τ) (Pipeline.ucRefs τ sig) (V5 m (outs m) c) ∗ rest c) ⊢ (reg1 m).pre c :=
    fun c => by rw [V5_eq m c]; exact BI.Entails.refl _
  have hpost1 : ∀ c : Dev nD, (reg1 m).post c ⊢ iprop(StableHlo.held (c : Thread nD τ) (Pipeline.ucRefs τ sig) (V6 m (outs m) c) ∗ rest c) :=
    fun c => by rw [V6_eq m c]; exact BI.Entails.refl _
  have hpre2 : ∀ c : Dev nD, iprop(StableHlo.held (c : Thread nD τ) (Pipeline.ucRefs τ sig) (V7 m (outs m) c) ∗ rest c) ⊢ (reg2 m).pre c :=
    fun c => by rw [V7_eq m c]; exact BI.Entails.refl _
  have hpost2 : ∀ c : Dev nD, (reg2 m).post c ⊢ iprop(StableHlo.held (c : Thread nD τ) (Pipeline.ucRefs τ sig) (V8 m (outs m) c) ∗ rest c) :=
    fun c => by rw [V8_eq m c]; exact BI.Entails.refl _
  have hpre3 : ∀ c : Dev nD, iprop(StableHlo.held (c : Thread nD τ) (Pipeline.ucRefs τ sig) (V11 m (outs m) c) ∗ rest c) ⊢ (reg3 m).pre c :=
    fun c => by rw [V11_eq m c]; exact BI.Entails.refl _
  have hpost3 : ∀ c : Dev nD, (reg3 m).post c ⊢ iprop(StableHlo.held (c : Thread nD τ) (Pipeline.ucRefs τ sig) (V12 m (outs m) c) ∗ rest c) :=
    fun c => by rw [V12_eq m c]; exact BI.Entails.refl _
  have hpre4 : ∀ c : Dev nD, iprop(StableHlo.held (c : Thread nD τ) (Pipeline.ucRefs τ sig) (V15 m (outs m) c) ∗ rest c) ⊢ (reg4 m).pre c :=
    fun c => by rw [V15_eq m c]; exact BI.Entails.refl _
  have hpost4 : ∀ c : Dev nD, (reg4 m).post c ⊢ iprop(StableHlo.held (c : Thread nD τ) (Pipeline.ucRefs τ sig) (V16 m (outs m) c) ∗ rest c) :=
    fun c => by rw [V16_eq m c]; exact BI.Entails.refl _
  have hpre5 : ∀ c : Dev nD, iprop(StableHlo.held (c : Thread nD τ) (Pipeline.ucRefs τ sig) (V19 m (outs m) c) ∗ rest c) ⊢ (reg5 m).pre c :=
    fun c => by rw [V19_eq m c]; exact BI.Entails.refl _
  have hpost5 : ∀ c : Dev nD, (reg5 m).post c ⊢ iprop(StableHlo.held (c : Thread nD τ) (Pipeline.ucRefs τ sig) (V20 m (outs m) c) ∗ rest c) :=
    fun c => by rw [V20_eq m c]; exact BI.Entails.refl _
  have hpre6 : ∀ c : Dev nD, iprop(StableHlo.held (c : Thread nD τ) (Pipeline.ucRefs τ sig) (V23 m (outs m) c) ∗ rest c) ⊢ (reg6 m).pre c :=
    fun c => by rw [V23_eq m c]; exact BI.Entails.refl _
  have hpost6 : ∀ c : Dev nD, (reg6 m).post c ⊢ iprop(StableHlo.held (c : Thread nD τ) (Pipeline.ucRefs τ sig) (V24 m (outs m) c) ∗ rest c) :=
    fun c => by rw [V24_eq m c]; exact BI.Entails.refl _
  have hpre7 : ∀ c : Dev nD, iprop(StableHlo.held (c : Thread nD τ) (Pipeline.ucRefs τ sig) (V27 m (outs m) c) ∗ rest c) ⊢ (reg7 m).pre c :=
    fun c => by rw [V27_eq m c]; exact BI.Entails.refl _
  have hpost7 : ∀ c : Dev nD, (reg7 m).post c ⊢ iprop(StableHlo.held (c : Thread nD τ) (Pipeline.ucRefs τ sig) (V28 m (outs m) c) ∗ rest c) :=
    fun c => by rw [V28_eq m c]; exact BI.Entails.refl _
  refine Pipeline.θ_run_regions_kit_dev_sems (pcfgs (F := F)) adm (pdats m) () cellOf_inj emb₁ defs₀ Variants.none noLev lev0 m ρ main
    (segs m (outs m) Variants.none noLev lev0 (fun _ => rest) () (pdats m) (reg0 m) (reg1 m) (reg2 m) (reg3 m) (reg4 m) (reg5 m) (reg6 m) (reg7 m))
    (fun c Q => by
      rewrite [main_chain c, Seg.run_eq_chain,
        show (segs m (outs m) Variants.none noLev lev0 (fun _ => rest) () (pdats m) (reg0 m) (reg1 m) (reg2 m) (reg3 m) (reg4 m) (reg5 m) (reg6 m)
          (reg7 m) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          Prog.lift (.customCall (Pipeline.entry 3) ()),
          StableHlo.seq hostOps4,
          StableHlo.seq hostOps4_1,
          StableHlo.seq hostOps4_2,
          Prog.lift (.customCall (Pipeline.entry 4) ()),
          StableHlo.seq hostOps5,
          StableHlo.seq hostOps5_1,
          StableHlo.seq hostOps5_2,
          Prog.lift (.customCall (Pipeline.entry 5) ()),
          StableHlo.seq hostOps6,
          StableHlo.seq hostOps6_1,
          StableHlo.seq hostOps6_2,
          Prog.lift (.customCall (Pipeline.entry 6) ()),
          StableHlo.seq hostOps7,
          StableHlo.seq hostOps7_1,
          StableHlo.seq hostOps7_2,
          Prog.lift (.customCall (Pipeline.entry 7) ()) ] from rfl]
      dsimp (config := { failIfUnchanged := false }) only
      exact .rfl)
    (fun c => by simp only [segs, Seg.pipes_host, Seg.pipes_region, Seg.pipes_nil]; decide) 0 (fun _ _ => rfl) (fun _ => BI.emp)
    (initOf (Pipeline.cells cfgs cellOf_inj) (Pipeline.launchToks cfgs cellOf_inj)) ?_
    (T₀ := fun c => iprop(StableHlo.held (c : Thread nD τ) (Pipeline.ucRefs τ sig) (V0 m c) ∗ rest c))
    (Tₙ := fun c => StableHlo.held (c : Thread nD τ) (Pipeline.ucRefs τ sig) (V28 m (outs m) c))
    (hch := fun c => ⟨.rfl, .rfl, .rfl, hpre0 c, hpost0 c, hpre1 c, hpost1 c, hpre2 c, hpost2 c, .rfl, .rfl, hpre3 c, hpost3 c, .rfl, .rfl,
      hpre4 c, hpost4 c, .rfl, .rfl, hpre5 c, hpost5 c, .rfl, .rfl, hpre6 c, hpost6 c, .rfl, .rfl, hpre7 c, hpost7 c⟩)
    (hinit := ?_) (QY := fun c s => ∀ b ∈ Pipeline.ucRefs τ sig, s.mem (c, b) = V28 m (outs m) c b)
    (hfin := fun c s' => ?_) (hQ := fun _ h hz => ⟨h, funext fun g => hz g (.inr (regions_no_unscoped g.2))⟩)
  · iintro Hu
    imodintro
    isplitl [Hu]
    · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach noLev lev0 fun c => ?_
    rw [show unscopedBufs c (fun b => m ((c : Thread nD τ).loc b)) = (StableHlo.held (c : Thread nD τ) (Pipeline.ucRefs τ sig) (V0 m c) : sProp 𝕄)
      from Pipeline.unscopedBufs_held c (V0 m c)]
    unfold rest
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V28 m (outs m) c) s') $$ [Hh HSI]
    · isplitl [Hh] <;> iassumption
    icases Hr with ⟨%h, HSI⟩
    imodintro
    isplitr
    · ipureintro
      exact fun b hb => h b hb
    · iexact HSI

/-- A buffer of the program that no call scopes is unscoped. -/
theorem mem_uc (r : Ref sig .tc) (h : ¬(Proc.devRef (τ := τ) .tc r).isScoped = true) : Proc.devRef (τ := τ) .tc r ∈ Pipeline.ucRefs τ sig :=
  Finset.mem_filter.mpr ⟨StableHlo.devRef_mem_tcRefs r, h⟩

/-- Every argument ends as launched. -/
theorem run_args (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  (θ_run _ _ _).mono (fun _ h => ⟨fun c => ⟨(h.1 c _ (mem_uc main_arg0 (by decide))).trans (V28_main_arg0 m (outs m) c),
    (h.1 c _ (mem_uc main_arg1 (by decide))).trans (V28_main_arg1 m (outs m) c),
    (h.1 c _ (mem_uc main_arg2 (by decide))).trans (V28_main_arg2 m (outs m) c),
    (h.1 c _ (mem_uc main_arg3 (by decide))).trans (V28_main_arg3 m (outs m) c),
    (h.1 c _ (mem_uc main_arg4 (by decide))).trans (V28_main_arg4 m (outs m) c),
    (h.1 c _ (mem_uc main_arg5 (by decide))).trans (V28_main_arg5 m (outs m) c),
    (h.1 c _ (mem_uc main_arg6 (by decide))).trans (V28_main_arg6 m (outs m) c),
    (h.1 c _ (mem_uc main_arg7 (by decide))).trans (V28_main_arg7 m (outs m) c),
    (h.1 c _ (mem_uc main_arg8 (by decide))).trans (V28_main_arg8 m (outs m) c),
    (h.1 c _ (mem_uc main_arg9 (by decide))).trans (V28_main_arg9 m (outs m) c),
    (h.1 c _ (mem_uc main_arg10 (by decide))).trans (V28_main_arg10 m (outs m) c),
    (h.1 c _ (mem_uc main_arg11 (by decide))).trans (V28_main_arg11 m (outs m) c),
    (h.1 c _ (mem_uc main_arg12 (by decide))).trans (V28_main_arg12 m (outs m) c),
    (h.1 c _ (mem_uc main_arg13 (by decide))).trans (V28_main_arg13 m (outs m) c),
    (h.1 c _ (mem_uc main_arg14 (by decide))).trans (V28_main_arg14 m (outs m) c),
    (h.1 c _ (mem_uc main_arg15 (by decide))).trans (V28_main_arg15 m (outs m) c),
    (h.1 c _ (mem_uc main_arg16 (by decide))).trans (V28_main_arg16 m (outs m) c),
    (h.1 c _ (mem_uc main_arg17 (by decide))).trans (V28_main_arg17 m (outs m) c),
    (h.1 c _ (mem_uc main_arg18 (by decide))).trans (V28_main_arg18 m (outs m) c),
    (h.1 c _ (mem_uc main_arg19 (by decide))).trans (V28_main_arg19 m (outs m) c),
    (h.1 c _ (mem_uc main_arg20 (by decide))).trans (V28_main_arg20 m (outs m) c)⟩, h.2⟩) (run_all m ρ)

end Cert.KernelIdeal.Hand
-- ==== Proof.Reference.Use.lean ====
/- The reference's run at `Ideal`, with its semaphores (it has none). -/
module

public import proofs.«01_k».proof.Defs
public import proofs.«01_k».proof.Proof.Gen.ReferenceIdeal
public import proofs.«01_k».proof.Proof.Gen.ReferenceIdeal.Run
public import proofs.«01_k».proof.Proof.Gen.ReferenceIdeal.Read

@[expose] public section

noncomputable section

namespace Cert.ReferenceIdeal.Hand

open Idealize.ShloMosaic Idealize.SL.Sem

theorem frame : Cert.quiescent_ReferenceIdeal (hReferenceIdeal := Cert.ReferenceIdeal.Gen.facts) := fun m g _ =>
  (θ_run Cert.ReferenceIdeal.defs (onTc Cert.ReferenceIdeal.main) _).mono
    (fun r h => ⟨fun c => (h c).2, Idealize.ShloMosaic.sem_eq_zero_of_no_sems (by decide) r.2⟩)
    (Cert.ReferenceIdeal.Value.run m g)

end Cert.ReferenceIdeal.Hand

end
-- ==== Proof.Value.Host.lean ====
/-
  The host's row gather, row scatter-add and stable sort read at an index, over the extended reals where a sum is taken.
-/
module

public import Idealize.ShloMosaic.Lib.ValueIdx
public import Idealize.ShloMosaic.Lib.SortFacts
public import Idealize.ShloMosaic.PureOps.Ideal.Laws

@[expose] public section

noncomputable section

open scoped BigOperators

namespace Cert.Value

open Idealize.ShloMosaic Idealize.ShloMosaic.ValueIdx

/-! ## Gathers -/

abbrev rowDims (N C E : ℕ) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- A row gather at `(e, h)`: the row the index names, read signed and clamped. -/
theorem gather_row_apply {α : Type} {N C E w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (h : Fin C) :
    Host.gather (rowDims N C E wf) x idx (ix2 e h) = x (ix2 ⟨min (idx (ix2 e 0)).toInt.toNat (N - 1), by omega⟩ h) := by
  unfold Host.gather
  congr 1
  funext a
  refine Fin.ext ?_
  have hsi : ∀ k, (rowDims N C E wf).siIdx (ix2 e h) k = ix2 e 0 := by
    intro k; funext b; refine Fin.ext ?_
    match b with
    | ⟨0, _⟩ => rfl
    | ⟨1, _⟩ => have hk : k.val < 1 := k.isLt; show k.val = 0; omega
  show (rowDims N C E wf).start (ix2 e h) idx a + (rowDims N C E wf).batchCoord (ix2 e h) a + (rowDims N C E wf).offCoord (ix2 e h) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, _⟩ : Fin 2) ∈ (rowDims N C E wf).startIndexMap from List.mem_singleton.mpr rfl), hsi]
    rfl
  | ⟨1, _⟩ =>
    unfold GatherDims.start
    rw [dif_neg (show (⟨1, by omega⟩ : Fin 2) ∉ (rowDims N C E wf).startIndexMap from by simp)]
    show 0 + 0 + (rowDims N C E wf).offCoord (ix2 e h) 1 = h.val
    rw [Nat.zero_add]
    rfl

abbrev flatDims (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- An element gather at `e`: the element the index names, read signed and clamped. -/
theorem gather_flat_apply {α : Type} {N E w : ℕ} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatDims N E wf) x idx (ix1 e) = x (ix1 ⟨min (idx (ix2 e 0)).toInt.toNat (N - 1), by omega⟩) := by
  unfold Host.gather
  congr 1
  funext a
  obtain rfl : a = 0 := Subsingleton.elim _ _
  refine Fin.ext ?_
  have hsi : ∀ k, (flatDims N E wf).siIdx (ix1 e) k = ix2 e 0 := by
    intro k; funext b; refine Fin.ext ?_
    match b with
    | ⟨0, _⟩ => rfl
    | ⟨1, _⟩ => have hk : k.val < 1 := k.isLt; show k.val = 0; omega
  show (flatDims N E wf).start (ix1 e) idx 0 + (flatDims N E wf).batchCoord (ix1 e) 0 + (flatDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ (flatDims N E wf).startIndexMap from List.mem_singleton.mpr rfl), hsi]
  rfl

/-! ## Scatter-adds -/

abbrev rowScatter (N C E : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- A row scatter-add at `(n, h)`: the operand there plus the updates of the rows whose index names `n`. -/
theorem scatter_row_apply {N C E w : ℕ} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (u : (⟨2, ![E, C]⟩ : Shape).Idx → EReal) (n : Fin N) (h : Fin C) :
    Ideal.hostScatterAdd (rowScatter N C E wf) x idx u (ix2 n h)
      = x (ix2 n h) + ∑ e : Fin E, if (idx (ix2 e 0)).toInt = (n.val : ℤ) then u (ix2 e h) else 0 := by
  unfold Ideal.hostScatterAdd
  congr 1
  have hsi : ∀ (j : (⟨2, ![E, C]⟩ : Shape).Idx) k, (rowScatter N C E wf).siIdx j k = ix2 (j 0) 0 := by
    intro j k; funext b; refine Fin.ext ?_
    match b with
    | ⟨0, _⟩ => rfl
    | ⟨1, _⟩ => have hk : k.val < 1 := k.isLt; show k.val = 0; omega
  have s0 : ∀ j, (rowScatter N C E wf).start j idx 0 = (idx (ix2 (j 0) 0)).toInt := by
    intro j; unfold ScatterDims.start
    rw [dif_pos (show (0 : Fin 2) ∈ (rowScatter N C E wf).scatterDimsToOperandDims from List.mem_singleton.mpr rfl), hsi]
    rfl
  have s1 : ∀ j, (rowScatter N C E wf).start j idx 1 = 0 := by
    intro j; unfold ScatterDims.start
    rw [dif_neg (show (1 : Fin 2) ∉ (rowScatter N C E wf).scatterDimsToOperandDims from by simp)]
  have w0 : ∀ j, (rowScatter N C E wf).window j 0 = 0 := by
    intro j; unfold ScatterDims.window
    rw [dif_neg (fun h => by simp [ScatterDims.sKept, Shape.kept] at h)]
  have w1 : ∀ j : (⟨2, ![E, C]⟩ : Shape).Idx, (rowScatter N C E wf).window j 1 = (j 1).val := fun j => rfl
  have key : ∀ (e : Fin E) (c : Fin C), (rowScatter N C E wf).resultIdx? (ix2 e c) idx = some (ix2 n h)
      ↔ ((idx (ix2 e 0)).toInt = (n.val : ℤ) ∧ c = h) := by
    intro e c
    unfold ScatterDims.resultIdx?
    constructor
    · intro H
      split at H
      · rename_i hb
        have H := Option.some.inj H
        have h0 := congrArg Fin.val (congrFun H 0)
        have h1 := congrArg Fin.val (congrFun H 1)
        have b0 := (hb 0).1
        simp only [s0, w0, s1, w1] at h0 h1 b0
        refine ⟨?_, Fin.ext ?_⟩
        · have : ((idx (ix2 e 0)).toInt + ((0 : ℕ) : ℤ)).toNat = n.val := h0
          have b0' : 0 ≤ (idx (ix2 e 0)).toInt + ((0 : ℕ) : ℤ) := b0
          omega
        · have : ((0 : ℤ) + ((c.val : ℕ) : ℤ)).toNat = h.val := h1
          omega
      · exact absurd H (by simp)
    · rintro ⟨H, rfl⟩
      have hb : ∀ a, 0 ≤ (rowScatter N C E wf).start (ix2 e c) idx a + (rowScatter N C E wf).window (ix2 e c) a
          ∧ (rowScatter N C E wf).start (ix2 e c) idx a + (rowScatter N C E wf).window (ix2 e c) a < (⟨2, ![N, C]⟩ : Shape).size a := by
        intro a
        match a with
        | ⟨0, _⟩ =>
          have e0 := s0 (ix2 e c); have e1 := w0 (ix2 e c)
          show 0 ≤ (rowScatter N C E wf).start (ix2 e c) idx 0 + (rowScatter N C E wf).window (ix2 e c) 0
            ∧ (rowScatter N C E wf).start (ix2 e c) idx 0 + (rowScatter N C E wf).window (ix2 e c) 0 < (N : ℤ)
          rw [e0, e1, show (idx (ix2 ((ix2 e c) 0) 0)).toInt = (n.val : ℤ) from H]
          have := n.isLt; omega
        | ⟨1, _⟩ =>
          have e0 := s1 (ix2 e c); have e1 := w1 (ix2 e c)
          show 0 ≤ (rowScatter N C E wf).start (ix2 e c) idx 1 + (rowScatter N C E wf).window (ix2 e c) 1
            ∧ (rowScatter N C E wf).start (ix2 e c) idx 1 + (rowScatter N C E wf).window (ix2 e c) 1 < (C : ℤ)
          rw [e0, e1]
          have : ((ix2 e c : (⟨2, ![E, C]⟩ : Shape).Idx) 1).val < C := c.isLt
          omega
      rw [dif_pos hb]
      congr 1
      funext a
      refine Fin.ext ?_
      match a with
      | ⟨0, _⟩ =>
        show ((rowScatter N C E wf).start (ix2 e c) idx 0 + (rowScatter N C E wf).window (ix2 e c) 0).toNat = n.val
        rw [s0, w0, show (idx (ix2 ((ix2 e c) 0) 0)).toInt = (n.val : ℤ) from H]; omega
      | ⟨1, _⟩ =>
        show ((rowScatter N C E wf).start (ix2 e c) idx 1 + (rowScatter N C E wf).window (ix2 e c) 1).toNat = c.val
        rw [s1, w1]
        show ((0 : ℤ) + (c.val : ℤ)).toNat = c.val
        omega
  rw [Finset.sum_filter, sum_idx2]
  refine Finset.sum_congr rfl fun e _ => ?_
  simp only [key]
  by_cases H : (idx (ix2 e 0)).toInt = (n.val : ℤ)
  · simp [H]
  · simp [H]

abbrev flatScatter (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- An element scatter-add at `n`: the operand there plus the updates whose index names `n`. -/
theorem scatter_flat_apply {N E w : ℕ} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (u : (⟨1, ![E]⟩ : Shape).Idx → EReal) (n : Fin N) :
    Ideal.hostScatterAdd (flatScatter N E wf) x idx u (ix1 n)
      = x (ix1 n) + ∑ e : Fin E, if (idx (ix2 e 0)).toInt = (n.val : ℤ) then u (ix1 e) else 0 := by
  unfold Ideal.hostScatterAdd
  congr 1
  have hsi : ∀ (j : (⟨1, ![E]⟩ : Shape).Idx) k, (flatScatter N E wf).siIdx j k = ix2 (j 0) 0 := by
    intro j k; funext b; refine Fin.ext ?_
    match b with
    | ⟨0, _⟩ => rfl
    | ⟨1, _⟩ => have hk : k.val < 1 := k.isLt; show k.val = 0; omega
  have s0 : ∀ j, (flatScatter N E wf).start j idx 0 = (idx (ix2 (j 0) 0)).toInt := by
    intro j; unfold ScatterDims.start
    rw [dif_pos (show (0 : Fin 1) ∈ (flatScatter N E wf).scatterDimsToOperandDims from List.mem_singleton.mpr rfl), hsi]
    rfl
  have w0 : ∀ j, (flatScatter N E wf).window j 0 = 0 := by
    intro j; unfold ScatterDims.window
    rw [dif_neg (fun h => by simp [ScatterDims.sKept, Shape.kept] at h)]
  have key : ∀ (e : Fin E), (flatScatter N E wf).resultIdx? (ix1 e) idx = some (ix1 n)
      ↔ ((idx (ix2 e 0)).toInt = (n.val : ℤ)) := by
    intro e
    unfold ScatterDims.resultIdx?
    constructor
    · intro H
      split at H
      · rename_i hb
        have H := Option.some.inj H
        have h0 := congrArg Fin.val (congrFun H 0)
        have b0 := (hb 0).1
        simp only [s0, w0] at h0 b0
        have : ((idx (ix2 e 0)).toInt + ((0 : ℕ) : ℤ)).toNat = n.val := h0
        have b0' : 0 ≤ (idx (ix2 e 0)).toInt + ((0 : ℕ) : ℤ) := b0
        omega
      · exact absurd H (by simp)
    · intro H
      have hb : ∀ a, 0 ≤ (flatScatter N E wf).start (ix1 e) idx a + (flatScatter N E wf).window (ix1 e) a
          ∧ (flatScatter N E wf).start (ix1 e) idx a + (flatScatter N E wf).window (ix1 e) a < (⟨1, ![N]⟩ : Shape).size a := by
        intro a
        obtain rfl : a = 0 := Subsingleton.elim _ _
        have e0 := s0 (ix1 e); have e1 := w0 (ix1 e)
        show 0 ≤ (flatScatter N E wf).start (ix1 e) idx 0 + (flatScatter N E wf).window (ix1 e) 0
          ∧ (flatScatter N E wf).start (ix1 e) idx 0 + (flatScatter N E wf).window (ix1 e) 0 < (N : ℤ)
        rw [e0, e1, show (idx (ix2 ((ix1 e) 0) 0)).toInt = (n.val : ℤ) from H]
        have := n.isLt; omega
      rw [dif_pos hb]
      congr 1
      funext a
      obtain rfl : a = 0 := Subsingleton.elim _ _
      refine Fin.ext ?_
      show ((flatScatter N E wf).start (ix1 e) idx 0 + (flatScatter N E wf).window (ix1 e) 0).toNat = n.val
      rw [s0, w0, show (idx (ix2 ((ix1 e) 0) 0)).toInt = (n.val : ℤ) from H]; omega
  rw [Finset.sum_filter, ← Equiv.sum_comp (⟨fun e => ix1 e, fun j => j 0, fun _ => rfl, fun j => (eq_ix1 j).symm⟩ : Fin E ≃ (⟨1, ![E]⟩ : Shape).Idx)]
  refine Finset.sum_congr rfl fun e _ => ?_
  show (if (flatScatter N E wf).resultIdx? (ix1 e) idx = some (ix1 n) then u (ix1 e) else 0) = _
  simp only [key]

/-! ## The stable sort of positions -/

/-- Sorting a list of words and carrying the positions along gives a permutation of the positions. -/
theorem argsort_perm {E : ℕ} (cmp : BitVec 32 × BitVec 32 → BitVec 32 × BitVec 32 → BitVec 1) (x : IVec ⟨1, ![E]⟩ 32) :
    ∃ π : Equiv.Perm (Fin E), ∀ e : Fin E,
      (Host.sort2 ⟨1, ![E]⟩ 0 cmp x (iotaInDim ⟨1, ![E]⟩ 32 0)).2 (ix1 e) = BitVec.ofNat 32 (π e).val := by
  refine ⟨Equiv.ofBijective (sortedFrom (n := E) (fun k k' => cmp (x ((ix1 k)), BitVec.ofNat 32 k.val) (x (ix1 k'), BitVec.ofNat 32 k'.val) == 1#1))
    ⟨sortedFrom_injective _, sortedFrom_surjective _⟩, fun e => ?_⟩
  have hal : ∀ (j : (⟨1, ![E]⟩ : Shape).Idx) (k : Fin E), j.along (0 : Fin 1) k = ix1 k := by
    intro j k; funext d
    match d with
    | ⟨0, _⟩ => rfl
  unfold Host.sort2
  rw [dif_pos (show 0 < (⟨1, ![E]⟩ : Shape).rank from Nat.one_pos)]
  show iotaInDim ⟨1, ![E]⟩ 32 0 (Shape.Idx.along (s := ⟨1, ![E]⟩) (ix1 e) (0 : Fin 1) _) = _
  refine (congrArg _ (hal _ _)).trans ?_
  show BitVec.ofNat 32 _ = BitVec.ofNat 32 _
  congr 2
  show sortedFrom _ e = sortedFrom _ e
  congr 1
  funext k k'
  have h1 : ∀ k : Fin E, (ix1 e : (⟨1, ![E]⟩ : Shape).Idx).along (⟨0, Nat.one_pos⟩ : Fin 1) k = ix1 k := fun k => hal _ k
  show (cmp (x _, iotaInDim _ 32 0 (Shape.Idx.along (s := ⟨1, ![E]⟩) (ix1 e) (⟨0, Nat.one_pos⟩ : Fin 1) k)) (x _, iotaInDim _ 32 0 (Shape.Idx.along (s := ⟨1, ![E]⟩) (ix1 e) (⟨0, Nat.one_pos⟩ : Fin 1) k')) == 1#1) = _
  rw [h1 k, h1 k']
  rfl

end Cert.Value
-- ==== Proof.Value.Lay.lean ====
/-
  Layout operations, plain products and the filled row lookup read at an index.
-/
module

public import proofs.«01_k».proof.Proof.Value.Host
public import Idealize.ShloMosaic.Lib.MatmulPlain
public import Idealize.ShloMosaic.Lib.StackMember
public import Idealize.ShloMosaic.Lib.Pipeline.Value
public import Mathlib.Tactic.FinCases

@[expose] public section

noncomputable section

open scoped BigOperators

namespace Cert.Value

open Idealize.ShloMosaic Idealize.ShloMosaic.ValueIdx

variable {α : Type}

/-! ## Slices -/

theorem slice2_row {R C : ℕ} (t : ℕ) (ht : t < R) (x : (⟨2, ![R, C]⟩ : Shape).Idx → α)
    (h : (⟨2, ![R, C]⟩ : Shape).Slices ![t, 0] ⟨2, ![1, C]⟩) (r : Fin 1) (c : Fin C) :
    extractStridedSlice ⟨2, ![1, C]⟩ ![t, 0] x h (ix2 r c) = x (ix2 ⟨t, ht⟩ c) :=
  extractStridedSlice_apply _ x h _ _ fun a => match a with
    | ⟨0, _⟩ => by have := r.isLt; show t = t + r.val; omega
    | ⟨1, _⟩ => by show c.val = 0 + c.val; omega

theorem slice2_col {R C : ℕ} (t : ℕ) (ht : t < C) (x : (⟨2, ![R, C]⟩ : Shape).Idx → α)
    (h : (⟨2, ![R, C]⟩ : Shape).Slices ![0, t] ⟨2, ![R, 1]⟩) (r : Fin R) (c : Fin 1) :
    extractStridedSlice ⟨2, ![R, 1]⟩ ![0, t] x h (ix2 r c) = x (ix2 r ⟨t, ht⟩) :=
  extractStridedSlice_apply _ x h _ _ fun a => match a with
    | ⟨0, _⟩ => by show r.val = 0 + r.val; omega
    | ⟨1, _⟩ => by have := c.isLt; show t = t + c.val; omega

theorem slice3_row {R A C : ℕ} (t : ℕ) (ht : t < R) (x : (⟨3, ![R, A, C]⟩ : Shape).Idx → α)
    (h : (⟨3, ![R, A, C]⟩ : Shape).Slices ![t, 0, 0] ⟨3, ![1, A, C]⟩) (r : Fin 1) (a : Fin A) (c : Fin C) :
    extractStridedSlice ⟨3, ![1, A, C]⟩ ![t, 0, 0] x h (ix3 r a c) = x (ix3 ⟨t, ht⟩ a c) :=
  extractStridedSlice_apply _ x h _ _ fun b => match b with
    | ⟨0, _⟩ => by have := r.isLt; show t = t + r.val; omega
    | ⟨1, _⟩ => by show a.val = 0 + a.val; omega
    | ⟨2, _⟩ => by show c.val = 0 + c.val; omega

/-! ## Reshapes -/

theorem cast_drop2 {C : ℕ} (x : (⟨2, ![1, C]⟩ : Shape).Idx → α) (h : (⟨2, ![1, C]⟩ : Shape).ShapeCasts ⟨1, ![C]⟩) (c : Fin C) :
    shapeCast ⟨1, ![C]⟩ x h (ix1 c) = x (ix2 0 c) :=
  shapeCast_apply x h _ _ (by
    rewrite [Shape.rowMajor_val_two, Shape.rowMajor_val_one]; show 0 * C + c.val = c.val; omega)

theorem cast_add2 {C : ℕ} (x : (⟨1, ![C]⟩ : Shape).Idx → α) (h : (⟨1, ![C]⟩ : Shape).ShapeCasts ⟨2, ![1, C]⟩) (r : Fin 1) (c : Fin C) :
    shapeCast ⟨2, ![1, C]⟩ x h (ix2 r c) = x (ix1 c) :=
  shapeCast_apply x h _ _ (by
    rewrite [Shape.rowMajor_val_two, Shape.rowMajor_val_one]; have := r.isLt; show c.val = r.val * C + c.val
    rw [show r.val = 0 by omega]; omega)

theorem cast_drop3 {A C : ℕ} (x : (⟨3, ![1, A, C]⟩ : Shape).Idx → α) (h : (⟨3, ![1, A, C]⟩ : Shape).ShapeCasts ⟨2, ![A, C]⟩) (a : Fin A) (c : Fin C) :
    shapeCast ⟨2, ![A, C]⟩ x h (ix2 a c) = x (ix3 0 a c) :=
  shapeCast_apply x h _ _ (by
    rewrite [Shape.rowMajor_val_two, Shape.rowMajor_val_three]; show (0 * A + a.val) * C + c.val = a.val * C + c.val
    rw [Nat.zero_mul, Nat.zero_add])

theorem cast_add3 {A C : ℕ} (x : (⟨2, ![A, C]⟩ : Shape).Idx → α) (h : (⟨2, ![A, C]⟩ : Shape).ShapeCasts ⟨3, ![1, A, C]⟩) (r : Fin 1) (a : Fin A) (c : Fin C) :
    shapeCast ⟨3, ![1, A, C]⟩ x h (ix3 r a c) = x (ix2 a c) :=
  shapeCast_apply x h _ _ (by
    rewrite [Shape.rowMajor_val_two, Shape.rowMajor_val_three]; have := r.isLt; show a.val * C + c.val = (r.val * A + a.val) * C + c.val
    rw [show r.val = 0 by omega, Nat.zero_mul, Nat.zero_add])

theorem cast_mid3 {A C : ℕ} (x : (⟨2, ![A, C]⟩ : Shape).Idx → α) (h : (⟨2, ![A, C]⟩ : Shape).ShapeCasts ⟨3, ![A, 1, C]⟩) (a : Fin A) (r : Fin 1) (c : Fin C) :
    shapeCast ⟨3, ![A, 1, C]⟩ x h (ix3 a r c) = x (ix2 a c) :=
  shapeCast_apply x h _ _ (by
    rewrite [Shape.rowMajor_val_two, Shape.rowMajor_val_three]; have := r.isLt; show a.val * C + c.val = (a.val * 1 + r.val) * C + c.val
    rw [show r.val = 0 by omega, Nat.mul_one, Nat.add_zero])

/-! ## Broadcasts -/

theorem bto_row {R C : ℕ} (x : (⟨2, ![1, C]⟩ : Shape).Idx → α) (h : (⟨2, ![1, C]⟩ : Shape).Broadcasts ⟨2, ![R, C]⟩) (r : Fin R) (c : Fin C) :
    broadcastTo ⟨2, ![R, C]⟩ x h (ix2 r c) = x (ix2 0 c) :=
  broadcastTo_apply x h _ _ fun a => match a with
    | ⟨0, _⟩ => by show 0 = if (1 : ℕ) = 1 then 0 else r.val; rw [if_pos rfl]
    | ⟨1, _⟩ => by have := c.isLt; show c.val = if C = 1 then 0 else c.val; split <;> omega

theorem bto_col {R C : ℕ} (x : (⟨2, ![R, 1]⟩ : Shape).Idx → α) (h : (⟨2, ![R, 1]⟩ : Shape).Broadcasts ⟨2, ![R, C]⟩) (r : Fin R) (c : Fin C) :
    broadcastTo ⟨2, ![R, C]⟩ x h (ix2 r c) = x (ix2 r 0) :=
  broadcastTo_apply x h _ _ fun a => match a with
    | ⟨0, _⟩ => by have := r.isLt; show r.val = if R = 1 then 0 else r.val; split <;> omega
    | ⟨1, _⟩ => by show 0 = if (1 : ℕ) = 1 then 0 else c.val; rw [if_pos rfl]

theorem bid_scalar {t : Shape} (x : (⟨0, ![]⟩ : Shape).Idx → α) (h : (⟨0, ![]⟩ : Shape).BroadcastsInDim t ![]) (j : t.Idx) :
    broadcastInDim t ![] h x j = x ix0 :=
  broadcastInDim_apply _ h x j ix0 fun a => a.elim0

theorem bid_add {C : ℕ} (x : (⟨1, ![C]⟩ : Shape).Idx → α) (h : (⟨1, ![C]⟩ : Shape).BroadcastsInDim ⟨2, ![1, C]⟩ ![1]) (r : Fin 1) (c : Fin C) :
    broadcastInDim ⟨2, ![1, C]⟩ ![1] h x (ix2 r c) = x (ix1 c) :=
  broadcastInDim_apply _ h x _ _ fun a => match a with
    | ⟨0, _⟩ => by have := c.isLt; show c.val = if C = 1 then 0 else c.val; split <;> omega

theorem bid_row {R C : ℕ} (x : (⟨2, ![1, C]⟩ : Shape).Idx → α) (h : (⟨2, ![1, C]⟩ : Shape).BroadcastsInDim ⟨2, ![R, C]⟩ ![0, 1]) (r : Fin R) (c : Fin C) :
    broadcastInDim ⟨2, ![R, C]⟩ ![0, 1] h x (ix2 r c) = x (ix2 0 c) :=
  broadcastInDim_apply _ h x _ _ fun a => match a with
    | ⟨0, _⟩ => by show 0 = if (1 : ℕ) = 1 then 0 else r.val; rw [if_pos rfl]
    | ⟨1, _⟩ => by have := c.isLt; show c.val = if C = 1 then 0 else c.val; split <;> omega

theorem bid_col {R C : ℕ} (x : (⟨2, ![R, 1]⟩ : Shape).Idx → α) (h : (⟨2, ![R, 1]⟩ : Shape).BroadcastsInDim ⟨2, ![R, C]⟩ ![0, 1]) (r : Fin R) (c : Fin C) :
    broadcastInDim ⟨2, ![R, C]⟩ ![0, 1] h x (ix2 r c) = x (ix2 r 0) :=
  broadcastInDim_apply _ h x _ _ fun a => match a with
    | ⟨0, _⟩ => by have := r.isLt; show r.val = if R = 1 then 0 else r.val; split <;> omega
    | ⟨1, _⟩ => by show 0 = if (1 : ℕ) = 1 then 0 else c.val; rw [if_pos rfl]

theorem bid_unitcol {R C : ℕ} (x : (⟨1, ![R]⟩ : Shape).Idx → α) (h : (⟨1, ![R]⟩ : Shape).BroadcastsInDim ⟨2, ![R, C]⟩ ![0]) (r : Fin R) (c : Fin C) :
    broadcastInDim ⟨2, ![R, C]⟩ ![0] h x (ix2 r c) = x (ix1 r) :=
  broadcastInDim_apply _ h x _ _ fun a => match a with
    | ⟨0, _⟩ => by have := r.isLt; show r.val = if R = 1 then 0 else r.val; split <;> omega

theorem bid_mid {A C T : ℕ} (x : (⟨1, ![A]⟩ : Shape).Idx → α) (h : (⟨1, ![A]⟩ : Shape).BroadcastsInDim ⟨3, ![1, A, 1]⟩ ![1])
    (h' : (⟨3, ![1, A, 1]⟩ : Shape).BroadcastsInDim ⟨3, ![T, A, C]⟩ ![0, 1, 2]) (t : Fin T) (a : Fin A) (c : Fin C) :
    broadcastInDim ⟨3, ![T, A, C]⟩ ![0, 1, 2] h' (broadcastInDim ⟨3, ![1, A, 1]⟩ ![1] h x) (ix3 t a c) = x (ix1 a) :=
  (broadcastInDim_apply _ h' _ _ (ix3 0 a 0) fun b => match b with
    | ⟨0, _⟩ => by show 0 = if (1 : ℕ) = 1 then 0 else t.val; rw [if_pos rfl]
    | ⟨1, _⟩ => by have := a.isLt; show a.val = if A = 1 then 0 else a.val; split <;> omega
    | ⟨2, _⟩ => by show 0 = if (1 : ℕ) = 1 then 0 else c.val; rw [if_pos rfl]).trans
  (broadcastInDim_apply _ h x _ _ fun b => match b with
    | ⟨0, _⟩ => by have := a.isLt; show a.val = if A = 1 then 0 else a.val; split <;> omega)

/-! ## Products -/

theorem mm_zero {M K N : ℕ} (d : DotDims ⟨2, ![M, K]⟩ ⟨2, ![K, N]⟩ ⟨2, ![M, N]⟩) (hd : d = DotDims.plain M K N)
    (l : FVec Ideal ⟨2, ![M, K]⟩ .f32) (r : FVec Ideal ⟨2, ![K, N]⟩ .f32) (i : Fin M) (j : Fin N) :
    matmul d none l r (constant ⟨2, ![M, N]⟩ .f32 0x00000000#32) (ix2 i j) = ∑ k : Fin K, l (ix2 i k) * r (ix2 k j) := by
  subst hd
  refine (Ideal.matmul_plain_apply none l r _ i j).trans ?_
  show Ideal.ofBits .f32 0x00000000#32 + _ = _
  rw [Ideal.ofBits_zero_f32, zero_add]

theorem dg_plain {M K N : ℕ} (d : DotDims ⟨2, ![M, K]⟩ ⟨2, ![K, N]⟩ ⟨2, ![M, N]⟩) (hd : d = DotDims.plain M K N)
    (l : FVec Ideal ⟨2, ![M, K]⟩ .f32) (r : FVec Ideal ⟨2, ![K, N]⟩ .f32) (i : Fin M) (j : Fin N) :
    Host.dotGeneral d none l r (ix2 i j) = ∑ k : Fin K, l (ix2 i k) * r (ix2 k j) := by
  subst hd
  exact StackMember.dotGeneral_plain_apply none l r i j

/-! ## Column sums -/

theorem mr_col {R C : ℕ} (x : FVec Ideal ⟨2, ![R, C]⟩ .f32) (acc : BitVec FTy.f32.bits) (h : (⟨2, ![R, C]⟩ : Shape).Reduces [0] ⟨1, ![C]⟩)
    (hφ : FKind.Formats .f32) (hacc : acc = FKind.add.neutral .f32 hφ) (c : Fin C) :
    multiReduction .add [0] ⟨1, ![C]⟩ x acc h hφ hacc (ix1 c) = ∑ r : Fin R, x (ix2 r c) := by
  refine (Ideal.multiReduction_add_single x acc h hφ hacc (ix1 c)).trans ?_
  refine Finset.sum_congr rfl fun k _ => congrArg x ?_
  funext b; apply Fin.ext
  fin_cases b <;> rfl

theorem hr_col {R C : ℕ} (x : FVec Ideal ⟨2, ![R, C]⟩ .f32) (init : EReal) (h' : (⟨2, ![R, C]⟩ : Shape).ReducesTo [0] ⟨1, ![C]⟩)
    (h : (⟨2, ![R, C]⟩ : Shape).Reduces [0] ⟨1, ![C]⟩) (c : Fin C) :
    Ideal.hostReduceAdd h' x init (ix1 c) = init + ∑ r : Fin R, x (ix2 r c) := by
  refine (Ideal.hostReduceAdd_single h' h x init (ix1 c)).trans (congrArg (init + ·) ?_)
  refine Finset.sum_congr rfl fun k _ => congrArg x ?_
  funext b; apply Fin.ext
  fin_cases b <;> rfl

end Cert.Value
-- ==== Proof.Value.Take.lean ====
/-
  The filled row lookup read at an index: an index outside the table reads the filler.
-/
module

public import proofs.«01_k».proof.Proof.Value.Lay

@[expose] public section

noncomputable section

open scoped BigOperators

namespace Cert.Value

open Idealize.ShloMosaic Idealize.ShloMosaic.ValueIdx

/-- A negative index counts from the end. -/
def wrap (n b : BitVec 32) : BitVec 32 := Scalar.select (IntOp.cmpi .slt b 0#32) (IntOp.addi b n) b

/-- Entry `b` of a table of 50000, the filler outside it. -/
def tk (b : BitVec 32) (f : Fin 50000 → EReal) : EReal :=
  Scalar.select (IntOp.andi (IntOp.cmpi .sge (wrap 50000#32 b) 0#32) (IntOp.cmpi .sle (wrap 50000#32 b) 49999#32))
    (f ⟨min (wrap 50000#32 b).toInt.toNat (50000 - 1), by omega⟩) (Ideal.ofBits .f32 0x7FC00000#32)

theorem andi_one (b : BitVec 1) : IntOp.andi b 1#1 = b := by revert b; decide

theorem reduce_andi_col {E : ℕ} (x : IVec ⟨2, ![E, 1]⟩ 1) (h : (⟨2, ![E, 1]⟩ : Shape).Reduces [1] ⟨1, ![E]⟩)
    (h' : (⟨2, ![E, 1]⟩ : Shape).ReducesTo [1] ⟨1, ![E]⟩) (hu : 0 < (⟨0, ![]⟩ : Shape).numel) (e : Fin E) :
    Host.reduce IntOp.andi x (constantI ⟨0, ![]⟩ 1 1#1) h' hu (ix1 e) = x (ix2 e 0) := by
  haveI : Std.Commutative (IntOp.andi (w := 1)) := ⟨fun a b => BitVec.and_comm a b⟩
  haveI : Std.Associative (IntOp.andi (w := 1)) := ⟨fun a b c => BitVec.and_assoc a b c⟩
  rw [Host.reduce_eq_fold_single IntOp.andi x _ h' h hu]
  have hl : (x ∘ h.lift (ix1 e)) = fun _ : Fin 1 => x (ix2 e 0) := funext fun k => congrArg x (by
    funext c; apply Fin.ext
    have hk : k.val < 1 := k.isLt
    have hk0 : k = ⟨0, Nat.one_pos⟩ := Fin.ext (by show k.val = 0; omega)
    subst hk0
    fin_cases c <;> rfl)
  refine (congrArg (fun f => Finset.fold IntOp.andi 1#1 f (Finset.univ : Finset (Fin 1))) hl).trans ?_
  show Finset.fold IntOp.andi 1#1 (fun _ : Fin 1 => x (ix2 e 0)) ({0} : Finset (Fin 1)) = _
  rw [Finset.fold_singleton]
  exact andi_one _

section Lookup

variable (b0 : (⟨0, ![]⟩ : Shape).BroadcastsInDim ⟨1, ![800000]⟩ ![])
  (b1 : (⟨1, ![800000]⟩ : Shape).BroadcastsInDim ⟨2, ![800000, 1]⟩ ![0])
  (b2 : (⟨0, ![]⟩ : Shape).BroadcastsInDim ⟨2, ![800000, 1]⟩ ![])
  (b3 : (⟨1, ![1]⟩ : Shape).BroadcastsInDim ⟨2, ![1, 1]⟩ ![1])
  (b4 : (⟨2, ![1, 1]⟩ : Shape).BroadcastsInDim ⟨2, ![800000, 1]⟩ ![0, 1])
  (b5 : (⟨1, ![800000]⟩ : Shape).BroadcastsInDim ⟨2, ![800000, 64]⟩ ![0])
  (b6 : (⟨0, ![]⟩ : Shape).BroadcastsInDim ⟨2, ![800000, 64]⟩ ![])
  (rt : (⟨2, ![800000, 1]⟩ : Shape).ReducesTo [1] ⟨1, ![800000]⟩) (hu : 0 < (⟨0, ![]⟩ : Shape).numel)
  (wf : GatherDims.WF ⟨2, ![50000, 64]⟩ ⟨2, ![800000, 1]⟩ ⟨2, ![800000, 64]⟩ [1] [0] [] [0] [] 1 ![1, 64])

/-- The column of wrapped indices. -/
def lookIdx (s : IVec ⟨1, ![800000]⟩ 32) : IVec ⟨2, ![800000, 1]⟩ 32 :=
  broadcastInDim ⟨2, ![800000, 1]⟩ ![0] b1
    (select (cmpi .slt s (broadcastInDim ⟨1, ![800000]⟩ ![] b0 (constantI ⟨0, ![]⟩ 32 0#32)))
      (addi s (broadcastInDim ⟨1, ![800000]⟩ ![] b0 (constantI ⟨0, ![]⟩ 32 50000#32))) s)

theorem lookIdx_apply (s : IVec ⟨1, ![800000]⟩ 32) (e : Fin 800000) :
    lookIdx b0 b1 s (ix2 e 0) = wrap 50000#32 (s (ix1 e)) := by
  rw [lookIdx, bid_unitcol, select_apply]
  show Scalar.select (IntOp.cmpi .slt (s (ix1 e)) (broadcastInDim _ _ _ _ (ix1 e)))
    (IntOp.addi (s (ix1 e)) (broadcastInDim _ _ _ _ (ix1 e))) _ = _
  rw [bid_scalar, bid_scalar]
  rfl

/-- The lookup as the programs print it. -/
def look (v : FVec Ideal ⟨2, ![50000, 64]⟩ .f32) (s : IVec ⟨1, ![800000]⟩ 32) : FVec Ideal ⟨2, ![800000, 64]⟩ .f32 :=
  select
    (broadcastInDim ⟨2, ![800000, 64]⟩ ![0] b5
      (Host.reduce IntOp.andi
        (andi (cmpi .sge (lookIdx b0 b1 s) (broadcastInDim ⟨2, ![800000, 1]⟩ ![] b2 (constantI ⟨0, ![]⟩ 32 0#32)))
          (cmpi .sle (lookIdx b0 b1 s) (broadcastInDim ⟨2, ![800000, 1]⟩ ![0, 1] b4
            (broadcastInDim ⟨2, ![1, 1]⟩ ![1] b3 (constantI ⟨1, ![1]⟩ 32 49999#32)))))
        (constantI ⟨0, ![]⟩ 1 1#1) rt hu))
    (Host.gather (rowDims 50000 64 800000 wf) v (lookIdx b0 b1 s))
    (broadcastInDim ⟨2, ![800000, 64]⟩ ![] b6 (constant ⟨0, ![]⟩ .f32 0x7FC00000#32))

theorem look_apply (v : FVec Ideal ⟨2, ![50000, 64]⟩ .f32) (s : IVec ⟨1, ![800000]⟩ 32) (e : Fin 800000) (h : Fin 64) :
    look b0 b1 b2 b3 b4 b5 b6 rt hu wf v s (ix2 e h) = tk (s (ix1 e)) (fun n => v (ix2 n h)) := by
  have hr : (⟨2, ![800000, 1]⟩ : Shape).Reduces [1] ⟨1, ![800000]⟩ := by decide
  rw [look, select_apply, bid_unitcol, reduce_andi_col _ hr, gather_row_apply (by omega), bid_scalar]
  show Scalar.select (IntOp.andi (IntOp.cmpi .sge (lookIdx b0 b1 s (ix2 e 0)) (broadcastInDim _ _ _ _ (ix2 e 0)))
    (IntOp.cmpi .sle (lookIdx b0 b1 s (ix2 e 0)) (broadcastInDim _ _ _ _ (ix2 e 0)))) _ _ = _
  rw [bid_scalar, bid_row, bid_add, tk]
  simp only [lookIdx_apply]
  rfl

end Lookup

end Cert.Value
-- ==== Proof.Value.Model.lean ====
/-
  The mathematics both programs compute, entry by entry, over the extended reals.
-/
module

public import proofs.«01_k».proof.Proof.Value.Take

@[expose] public section

noncomputable section

open scoped BigOperators

namespace Cert.Value

open Idealize.ShloMosaic

/-- One affine layer at output `j`. -/
def lin {K N : ℕ} (x : Fin K → EReal) (w : Fin K → Fin N → EReal) (b : Fin N → EReal) (j : Fin N) : EReal :=
  (∑ k, x k * w k j) + b j

/-- Two layers, the first clipped at 0. -/
def mlp2 {K M N : ℕ} (x : Fin K → EReal) (w1 : Fin K → Fin M → EReal) (b1 : Fin M → EReal)
    (w2 : Fin M → Fin N → EReal) (b2 : Fin N → EReal) (j : Fin N) : EReal :=
  lin (fun k => max (lin x w1 b1 k) 0) w2 b2 j

/-- The two last layers of the edge network from the first one's outputs. -/
def tail3 {M L N : ℕ} (z : Fin M → EReal) (w2 : Fin M → Fin L → EReal) (b2 : Fin L → EReal)
    (w3 : Fin L → Fin N → EReal) (b3 : Fin N → EReal) (j : Fin N) : EReal :=
  lin (fun l => max (lin (fun k => max (z k) 0) w2 b2 l) 0) w3 b3 j

/-- The node update: own weights, mean message, gated start value, clipped at 0. -/
def nodeAt (v : Fin 64 → EReal) (v0 agg cnt x4 : EReal) (sw : Fin 64 → Fin 64 → EReal) (sb gw gb : Fin 64 → EReal) (h : Fin 64) : EReal :=
  max (((∑ k, v k * sw k h) + sb h) + Ideal.div agg (max (Ideal.ofBits .f32 0x3F800000#32) cnt)
    + Ideal.logistic (x4 * gw h + gb h) * v0) 0

/-- How many edges end in node `n`. -/
def cntAt (dst : Fin 800000 → BitVec 32) (n : Fin 50000) : EReal :=
  0 + ∑ e : Fin 800000, if (dst e).toInt = (n.val : ℤ) then Ideal.ofBits .f32 0x3F800000#32 else 0

/-- The messages arriving in node `n`, summed. -/
def aggAt (km : Fin 800000 → Fin 64 → EReal) (src dst : Fin 800000 → BitVec 32) (v : Fin 50000 → Fin 64 → EReal)
    (n : Fin 50000) (h : Fin 64) : EReal :=
  0 + ∑ e : Fin 800000, if (dst e).toInt = (n.val : ℤ) then km e h * tk (src e) (fun m => v m h) else 0

/-- Products of two columns summed over the edges ending in node `n`. -/
def sumAt (dst : Fin 800000 → BitVec 32) (a b : Fin 800000 → EReal) (n : Fin 50000) : EReal :=
  0 + ∑ e : Fin 800000, if (dst e).toInt = (n.val : ℤ) then a e * b e else 0

theorem aggAt_eq_sumAt (km : Fin 800000 → Fin 64 → EReal) (src dst : Fin 800000 → BitVec 32) (v : Fin 50000 → Fin 64 → EReal)
    (n : Fin 50000) (h : Fin 64) : aggAt km src dst v n h = sumAt dst (fun e => km e h) (fun e => tk (src e) fun m => v m h) n := rfl

/-- One step of the network. -/
def stepAt (km : Fin 800000 → Fin 64 → EReal) (src dst : Fin 800000 → BitVec 32) (v v0 : Fin 50000 → Fin 64 → EReal)
    (x4 : Fin 50000 → EReal) (sw : Fin 64 → Fin 64 → EReal) (sb gw gb : Fin 64 → EReal) (n : Fin 50000) (h : Fin 64) : EReal :=
  nodeAt (v n) (v0 n h) (aggAt km src dst v n h) (cntAt dst n) (x4 n) sw sb gw gb h

theorem cntAt_perm (dst : Fin 800000 → BitVec 32) (π : Equiv.Perm (Fin 800000)) (n : Fin 50000) :
    cntAt (fun e => dst (π e)) n = cntAt dst n := by
  unfold cntAt
  exact congrArg (0 + ·) (Equiv.sum_comp π fun e => if (dst e).toInt = (n.val : ℤ) then Ideal.ofBits .f32 0x3F800000#32 else (0 : EReal))

theorem aggAt_perm (km : Fin 800000 → Fin 64 → EReal) (src dst : Fin 800000 → BitVec 32) (v : Fin 50000 → Fin 64 → EReal)
    (π : Equiv.Perm (Fin 800000)) (n : Fin 50000) (h : Fin 64) :
    aggAt (fun e => km (π e)) (fun e => src (π e)) (fun e => dst (π e)) v n h = aggAt km src dst v n h := by
  unfold aggAt
  exact congrArg (0 + ·) (Equiv.sum_comp π fun e => if (dst e).toInt = (n.val : ℤ) then km e h * tk (src e) (fun m => v m h) else (0 : EReal))

theorem stepAt_perm (km : Fin 800000 → Fin 64 → EReal) (src dst : Fin 800000 → BitVec 32) (v v0 : Fin 50000 → Fin 64 → EReal)
    (x4 : Fin 50000 → EReal) (sw : Fin 64 → Fin 64 → EReal) (sb gw gb : Fin 64 → EReal) (π : Equiv.Perm (Fin 800000)) :
    stepAt (fun e => km (π e)) (fun e => src (π e)) (fun e => dst (π e)) v v0 x4 sw sb gw gb = stepAt km src dst v v0 x4 sw sb gw gb := by
  funext n h
  unfold stepAt
  rw [aggAt_perm, cntAt_perm]

end Cert.Value
-- ==== Proof.Value.HostN.lean ====
/-
  The host lines between the moments call and the edge network, entry by entry.
-/
module

public import proofs.«01_k».proof.Proof.Value.Model
public import proofs.«01_k».proof.Proof.KernelIdeal.Run

@[expose] public section

set_option maxRecDepth 100000

noncomputable section

open scoped BigOperators

namespace Cert.KernelIdeal.Hand

open Cert.KernelIdeal Cert.KernelIdeal.Gen Cert.Common Cert.Value
open Idealize.ShloMosaic Idealize.ShloMosaic.ValueIdx Idealize.ShloMosaic.TcCoe
open Idealize.ShloMosaic.Pipeline (Dat Cfg Window)

/-- A vector against a stack of matrices, contracted over the middle axis. -/
theorem dot_mid {A T C : ℕ} (w : DotDims.WF ⟨1, ![A]⟩ ⟨3, ![T, A, C]⟩ ⟨2, ![T, C]⟩ [0] [1] [] [0, 2] [] [])
    (x : FVec Ideal ⟨1, ![A]⟩ .f32) (y : FVec Ideal ⟨3, ![T, A, C]⟩ .f32) (t : Fin T) (c : Fin C) :
    Host.dotGeneral (⟨[0], [1], [], [0, 2], [], [], w⟩ : DotDims _ _ _) none x y (ix2 t c) = ∑ d : Fin A, x (ix1 d) * y (ix3 t d c) := by
  show FloatOps.dotGeneral _ none _ x y (ix2 t c) = _
  rw [Ideal.dotGeneral_apply, ← Equiv.sum_comp (contrEquiv1 (⟨[0], [1], [], [0, 2], [], [], w⟩ : DotDims ⟨1, ![A]⟩ ⟨3, ![T, A, C]⟩ ⟨2, ![T, C]⟩) A rfl rfl).symm]
  refine Finset.sum_congr rfl fun d _ => ?_
  have c2 := contrEquiv1_symm_val (⟨[0], [1], [], [0, 2], [], [], w⟩ : DotDims ⟨1, ![A]⟩ ⟨3, ![T, A, C]⟩ ⟨2, ![T, C]⟩) A rfl rfl d
  congr 1
  · refine congrArg x (funext fun ax => Fin.ext ?_)
    match ax with
    | ⟨0, _⟩ => simp [DotDims.lhsIdx]; exact c2
  · refine congrArg y (funext fun ax => Fin.ext ?_)
    match ax with
    | ⟨0, _⟩ => simp [DotDims.rhsIdx]; rfl
    | ⟨1, _⟩ => simp [DotDims.rhsIdx]; exact c2
    | ⟨2, _⟩ => simp [DotDims.rhsIdx]; rfl

/-- The mean of a column from its sum. -/
def muOf (s : EReal) : EReal := Ideal.div s (Ideal.ofBits .f32 0x49435000#32)

/-- The reciprocal of the deviation, from a column's two sums. -/
def invOf (s q : EReal) : EReal :=
  Ideal.div (Ideal.ofBits .f32 0x3F800000#32)
    (Ideal.sqrt (max (muOf q - muOf s * muOf s) (Ideal.ofBits .f32 0x00000000#32)) + Ideal.ofBits .f32 0x358637BD#32)

/-- The means as the lines print them. -/
def muV (v : FVec Ideal S2x9 .f32) : FVec Ideal S9 .f32 :=
  Host.divf (shapeCast S9 (extractStridedSlice S1x9 ![0, 0] v slices_S2x9_S1x9_0_0) shapeCasts_S1x9_S9)
    (broadcastInDim S9 ![] bcast_S_S9 (constant S_ .f32 0x49435000#32))

theorem muV_apply (v : FVec Ideal S2x9 .f32) (d : Fin 9) : muV v (ix1 d) = muOf (v (ix2 (0 : Fin 2) d)) := by
  show Ideal.div (shapeCast S9 (extractStridedSlice S1x9 ![0, 0] v slices_S2x9_S1x9_0_0) shapeCasts_S1x9_S9 (ix1 d))
    (broadcastInDim S9 ![] bcast_S_S9 (constant (F := Ideal) S_ .f32 0x49435000#32) (ix1 d)) = _
  rw [bid_scalar]
  refine congrArg (fun z => Ideal.div z (Ideal.ofBits .f32 0x49435000#32)) ?_
  exact (cast_drop2 (C := 9) _ _ d).trans (slice2_row 0 (by decide) _ _ 0 d)

/-- The reciprocals as the lines print them. -/
def invV (v : FVec Ideal S2x9 .f32) : FVec Ideal S9 .f32 :=
  Host.divf (broadcastInDim S9 ![] bcast_S_S9 (constant S_ .f32 0x3F800000#32))
    (addf (Host.sqrt (maximumf (subf (Host.divf (shapeCast S9 (extractStridedSlice S1x9 ![1, 0] v slices_S2x9_S1x9_1_0) shapeCasts_S1x9_S9)
      (broadcastInDim S9 ![] bcast_S_S9 (constant S_ .f32 0x49435000#32))) (mulf (muV v) (muV v)))
      (broadcastInDim S9 ![] bcast_S_S9 (constant S_ .f32 0x00000000#32))))
      (broadcastInDim S9 ![] bcast_S_S9 (constant S_ .f32 0x358637BD#32)))

theorem invV_apply (v : FVec Ideal S2x9 .f32) (d : Fin 9) : invV v (ix1 d) = invOf (v (ix2 (0 : Fin 2) d)) (v (ix2 (1 : Fin 2) d)) := by
  have hs : shapeCast S9 (extractStridedSlice S1x9 ![1, 0] v slices_S2x9_S1x9_1_0) shapeCasts_S1x9_S9 (ix1 d) = v (ix2 (1 : Fin 2) d) :=
    (cast_drop2 (C := 9) _ _ d).trans (slice2_row 1 (by decide) _ _ 0 d)
  show Ideal.div (broadcastInDim S9 ![] bcast_S_S9 (constant (F := Ideal) S_ .f32 0x3F800000#32) (ix1 d))
    (Ideal.sqrt (max (Ideal.div (shapeCast S9 (extractStridedSlice S1x9 ![1, 0] v slices_S2x9_S1x9_1_0) shapeCasts_S1x9_S9 (ix1 d))
      (broadcastInDim S9 ![] bcast_S_S9 (constant (F := Ideal) S_ .f32 0x49435000#32) (ix1 d)) - muV v (ix1 d) * muV v (ix1 d))
      (broadcastInDim S9 ![] bcast_S_S9 (constant (F := Ideal) S_ .f32 0x00000000#32) (ix1 d)))
      + broadcastInDim S9 ![] bcast_S_S9 (constant (F := Ideal) S_ .f32 0x358637BD#32) (ix1 d)) = _
  rw [hs, muV_apply, bid_scalar, bid_scalar, bid_scalar, bid_scalar]
  rfl

variable (W : Valuation τ sig (Elt Ideal))

/-- The folded first layer's weights. -/
def w1Of (s q : Fin 9 → EReal) (w : Fin 9 → Fin 64 → EReal) (d : Fin 9) (j : Fin 64) : EReal := w d j * invOf (s d) (q d)

/-- The folded first layer's offsets. -/
def b1Of (s q : Fin 9 → EReal) (w : Fin 9 → Fin 64 → EReal) (b : Fin 64 → EReal) (j : Fin 64) : EReal :=
  b j - ∑ d, (muOf (s d) * invOf (s d) (q d)) * w d j

theorem w1e (t : Fin 5) (d : Fin 9) (j : Fin 64) : StableHlo.after (hostOps1 (F := Ideal)) W (Proc.devRef .tc main_v48) (ix3 t d j)
    = w1Of (fun d => W (Proc.devRef .tc main_v28) (ix2 (0 : Fin 2) d)) (fun d => W (Proc.devRef .tc main_v28) (ix2 (1 : Fin 2) d)) (fun d j => W (Proc.devRef .tc main_arg7) (ix3 t d j)) d j := by
  have r : StableHlo.after (hostOps1 (F := Ideal)) W (Proc.devRef .tc main_v48)
      = mulf (F := Ideal) (s := S5x9x64) (φ := .f32) (W (Proc.devRef .tc main_arg7)) (broadcastInDim S5x9x64 ![0, 1, 2] bcast_S1x9x1_S5x9x64_0_1_2 (broadcastInDim S1x9x1 ![1] bcast_S9_S1x9x1_1 (invV (W (Proc.devRef .tc main_v28))))) := by
    dsimp only [hostOps1]
    after_results_simp
    all_goals rfl
  refine (congrFun r _).trans ?_
  rw [mulf_apply]
  refine congrArg (fun z : EReal => (show EReal from W (Proc.devRef .tc main_arg7) (ix3 t d j)) * z) ?_
  exact (bid_mid (A := 9) (C := 64) (T := 5) _ _ _ t d j).trans (invV_apply _ d)

theorem b1e (t : Fin 5) (j : Fin 64) : StableHlo.after (hostOps1 (F := Ideal)) W (Proc.devRef .tc main_v51) (ix2 t j)
    = b1Of (fun d => W (Proc.devRef .tc main_v28) (ix2 (0 : Fin 2) d)) (fun d => W (Proc.devRef .tc main_v28) (ix2 (1 : Fin 2) d)) (fun d j => W (Proc.devRef .tc main_arg7) (ix3 t d j))
        (fun j => W (Proc.devRef .tc main_arg8) (ix2 t j)) j := by
  have r : StableHlo.after (hostOps1 (F := Ideal)) W (Proc.devRef .tc main_v51)
      = subf (F := Ideal) (s := S5x64) (φ := .f32) (W (Proc.devRef .tc main_arg8)) (Host.dotGeneral (F := Ideal) (φ₁ := .f32) (φ₂ := .f32) dot_S9_S5x9x64_S5x64_0_1_n_02_n_n none (mulf (muV (W (Proc.devRef .tc main_v28))) (invV (W (Proc.devRef .tc main_v28)))) (W (Proc.devRef .tc main_arg7))) := by
    dsimp only [hostOps1]
    after_results_simp
    all_goals rfl
  refine (congrFun r _).trans ?_
  rw [subf_apply]
  refine congrArg (fun z : EReal => (show EReal from W (Proc.devRef .tc main_arg8) (ix2 t j)) - z) ?_
  refine (dot_mid (A := 9) (T := 5) (C := 64) dot_S9_S5x9x64_S5x64_0_1_n_02_n_n.wf _ _ t j).trans ?_
  refine Finset.sum_congr rfl fun d _ => ?_
  rw [mulf_apply, muV_apply, invV_apply]

theorem v52e (j : Fin 64) : StableHlo.after (hostOps1 (F := Ideal)) W (Proc.devRef .tc main_v52) (ix2 (0 : Fin 1) j) = W (Proc.devRef .tc main_arg4) (ix1 j) := by
  have r : StableHlo.after (hostOps1 (F := Ideal)) W (Proc.devRef .tc main_v52)
      = shapeCast S1x64 (W (Proc.devRef .tc main_arg4)) shapeCasts_S64_S1x64 := by
    dsimp only [hostOps1]
    after_results_simp
    all_goals rfl
  exact (congrFun r _).trans (cast_add2 (C := 64) _ _ 0 j)

theorem v53e (j : Fin 64) : StableHlo.after (hostOps1 (F := Ideal)) W (Proc.devRef .tc main_v53) (ix2 (0 : Fin 1) j) = W (Proc.devRef .tc main_arg6) (ix1 j) := by
  have r : StableHlo.after (hostOps1 (F := Ideal)) W (Proc.devRef .tc main_v53)
      = shapeCast S1x64 (W (Proc.devRef .tc main_arg6)) shapeCasts_S64_S1x64 := by
    dsimp only [hostOps1]
    after_results_simp
    all_goals rfl
  exact (congrFun r _).trans (cast_add2 (C := 64) _ _ 0 j)

theorem v55e (t : Fin 5) (j : Fin 64) : StableHlo.after (hostOps2 (F := Ideal)) W (Proc.devRef .tc main_v55) (ix3 t (0 : Fin 1) j) = W (Proc.devRef .tc main_v51) (ix2 t j) := by
  have r : StableHlo.after (hostOps2 (F := Ideal)) W (Proc.devRef .tc main_v55)
      = shapeCast S5x1x64 (W (Proc.devRef .tc main_v51)) shapeCasts_S5x64_S5x1x64 := by
    dsimp only [hostOps2]
    after_results_simp
    all_goals rfl
  exact (congrFun r _).trans (cast_mid3 (A := 5) (C := 64) _ _ t 0 j)

theorem v56e (t : Fin 5) (j : Fin 64) : StableHlo.after (hostOps2 (F := Ideal)) W (Proc.devRef .tc main_v56) (ix3 t (0 : Fin 1) j) = W (Proc.devRef .tc main_arg10) (ix2 t j) := by
  have r : StableHlo.after (hostOps2 (F := Ideal)) W (Proc.devRef .tc main_v56)
      = shapeCast S5x1x64 (W (Proc.devRef .tc main_arg10)) shapeCasts_S5x64_S5x1x64 := by
    dsimp only [hostOps2]
    after_results_simp
    all_goals rfl
  exact (congrFun r _).trans (cast_mid3 (A := 5) (C := 64) _ _ t 0 j)

theorem v57e (t : Fin 5) (j : Fin 64) : StableHlo.after (hostOps2 (F := Ideal)) W (Proc.devRef .tc main_v57) (ix3 t (0 : Fin 1) j) = W (Proc.devRef .tc main_arg12) (ix2 t j) := by
  have r : StableHlo.after (hostOps2 (F := Ideal)) W (Proc.devRef .tc main_v57)
      = shapeCast S5x1x64 (W (Proc.devRef .tc main_arg12)) shapeCasts_S5x64_S5x1x64 := by
    dsimp only [hostOps2]
    after_results_simp
    all_goals rfl
  exact (congrFun r _).trans (cast_mid3 (A := 5) (C := 64) _ _ t 0 j)

end Cert.KernelIdeal.Hand
-- ==== Proof.Value.Scat.lean ====
/-
  Adding rows and single entries at indexed places, from a zero table, at any sizes.
-/
module

public import proofs.«01_k».proof.Proof.Value.Model

@[expose] public section

noncomputable section

open scoped BigOperators

namespace Cert.Value

open Idealize.ShloMosaic Idealize.ShloMosaic.ValueIdx

theorem scat_flat {N E w : ℕ} (wf : ScatterDims.WF ⟨1, ![N]⟩ ⟨2, ![E, 1]⟩ ⟨1, ![E]⟩ [] [0] [0] 1)
    (d : ScatterDims ⟨1, ![N]⟩ ⟨2, ![E, 1]⟩ ⟨1, ![E]⟩) (hd : d = flatScatter N E wf)
    (x : FVec Ideal ⟨1, ![N]⟩ .f32) (hx : ∀ i, x (ix1 i) = 0) (idx : IVec ⟨2, ![E, 1]⟩ w) (dst : Fin E → BitVec w)
    (hidx : ∀ e, idx (ix2 e 0) = dst e) (u : FVec Ideal ⟨1, ![E]⟩ .f32) (a : Fin E → EReal) (hu : ∀ e, u (ix1 e) = a e) (n : Fin N) :
    Host.scatterAdd (F := Ideal) d x idx u (ix1 n) = 0 + ∑ e : Fin E, if (dst e).toInt = (n.val : ℤ) then a e else 0 := by
  subst hd
  refine (scatter_flat_apply wf x idx u n).trans ?_
  simp only [hx, hidx, hu]

theorem scat_row {N C E w : ℕ} (wf : ScatterDims.WF ⟨2, ![N, C]⟩ ⟨2, ![E, 1]⟩ ⟨2, ![E, C]⟩ [1] [0] [0] 1)
    (d : ScatterDims ⟨2, ![N, C]⟩ ⟨2, ![E, 1]⟩ ⟨2, ![E, C]⟩) (hd : d = rowScatter N C E wf)
    (x : FVec Ideal ⟨2, ![N, C]⟩ .f32) (hx : ∀ i j, x (ix2 i j) = 0) (idx : IVec ⟨2, ![E, 1]⟩ w) (dst : Fin E → BitVec w)
    (hidx : ∀ e, idx (ix2 e 0) = dst e) (u : FVec Ideal ⟨2, ![E, C]⟩ .f32) (h : Fin C) (a : Fin E → EReal) (hu : ∀ e, u (ix2 e h) = a e) (n : Fin N) :
    Host.scatterAdd (F := Ideal) d x idx u (ix2 n h) = 0 + ∑ e : Fin E, if (dst e).toInt = (n.val : ℤ) then a e else 0 := by
  subst hd
  refine (scatter_row_apply wf x idx u n h).trans ?_
  simp only [hx, hidx, hu]

end Cert.Value
-- ==== Proof.Value.RefA.lean ====
/-
  The reference's lift, counts and edge ends, entry by entry.
-/
module

public import proofs.«01_k».proof.Proof.Value.Scat
public import Idealize.ShloMosaic.Lib.IdealHost
public import proofs.«01_k».proof.Proof.Gen.ReferenceIdeal.Read

@[expose] public section

set_option maxRecDepth 100000

noncomputable section

open scoped BigOperators

namespace Cert.ReferenceIdeal.Hand

open Cert.ReferenceIdeal Cert.ReferenceIdeal.Gen Cert.ReferenceIdeal.Read Cert.Value
open Idealize.ShloMosaic Idealize.ShloMosaic.ValueIdx Idealize.ShloMosaic.TcCoe

variable (x0 : (⟨S50000x10, .f32⟩ : BufTy).Contents (Elt Ideal))
  (x1 : (⟨S2x800000, .i32⟩ : BufTy).Contents (Elt Ideal))
  (x2 : (⟨S800000x9, .f32⟩ : BufTy).Contents (Elt Ideal))
  (x3 : (⟨S10x64, .f32⟩ : BufTy).Contents (Elt Ideal))
  (x4 : (⟨S64, .f32⟩ : BufTy).Contents (Elt Ideal))
  (x5 : (⟨S64x64, .f32⟩ : BufTy).Contents (Elt Ideal))
  (x6 : (⟨S64, .f32⟩ : BufTy).Contents (Elt Ideal))
  (x7 : (⟨S5x9x64, .f32⟩ : BufTy).Contents (Elt Ideal))
  (x8 : (⟨S5x64, .f32⟩ : BufTy).Contents (Elt Ideal))
  (x9 : (⟨S5x64x64, .f32⟩ : BufTy).Contents (Elt Ideal))
  (x10 : (⟨S5x64, .f32⟩ : BufTy).Contents (Elt Ideal))
  (x11 : (⟨S5x64x64, .f32⟩ : BufTy).Contents (Elt Ideal))
  (x12 : (⟨S5x64, .f32⟩ : BufTy).Contents (Elt Ideal))
  (x13 : (⟨S5x64x64, .f32⟩ : BufTy).Contents (Elt Ideal))
  (x14 : (⟨S5x64, .f32⟩ : BufTy).Contents (Elt Ideal))
  (x15 : (⟨S5x1x64, .f32⟩ : BufTy).Contents (Elt Ideal))
  (x16 : (⟨S5x64, .f32⟩ : BufTy).Contents (Elt Ideal))
  (x17 : (⟨S64x64, .f32⟩ : BufTy).Contents (Elt Ideal))
  (x18 : (⟨S64, .f32⟩ : BufTy).Contents (Elt Ideal))
  (x19 : (⟨S64x3, .f32⟩ : BufTy).Contents (Elt Ideal))
  (x20 : (⟨S3, .f32⟩ : BufTy).Contents (Elt Ideal))

theorem b18 (e : Fin 50000) (h : Fin 64) : (val_main_v18 (F := Ideal) x4) (ix2 e h) = x4 (ix1 h) :=
  (bid_row (R := 50000) (C := 64) _ _ e h).trans (bid_add (C := 64) _ _ 0 h)

theorem b24 (e : Fin 50000) (h : Fin 64) : (val_main_v24 (F := Ideal) x6) (ix2 e h) = x6 (ix1 h) :=
  (bid_row (R := 50000) (C := 64) _ _ e h).trans (bid_add (C := 64) _ _ 0 h)

theorem z20 (e : Fin 50000) (h : Fin 64) : (val_main_v20 (F := Ideal)) (ix2 e h) = 0 :=
  (bid_scalar _ _ _).trans Ideal.ofBits_zero_f32

theorem l19 (e : Fin 50000) (h : Fin 64) : (val_main_v19 (F := Ideal) x0 x3 x4) (ix2 e h) = lin (fun k => x0 (ix2 e k)) (fun k j => x3 (ix2 k j)) (fun j => x4 (ix1 j)) h := by
  refine (addf_apply (val_main_v16 (F := Ideal) x0 x3) (val_main_v18 (F := Ideal) x4) (ix2 e h)).trans ?_
  unfold lin
  refine congrArg₂ (fun a b : EReal => a + b) ((dg_plain (M := 50000) (K := 10) (N := 64) dot_S50000x10_S10x64_S50000x64_1_0_0_1_n_n rfl _ _ e h).trans ?_) (b18 x4 e h)
  rfl

theorem m21 (e : Fin 50000) (h : Fin 64) : (val_main_v21 (F := Ideal) x0 x3 x4) (ix2 e h) = max (lin (fun k => x0 (ix2 e k)) (fun k j => x3 (ix2 k j)) (fun j => x4 (ix1 j)) h) 0 :=
  (maximumf_apply (val_main_v19 (F := Ideal) x0 x3 x4) (val_main_v20 (F := Ideal)) (ix2 e h)).trans (congrArg₂ max (l19 x0 x3 x4 e h) (z20 e h))

theorem l25 (e : Fin 50000) (h : Fin 64) : (val_main_v25 (F := Ideal) x0 x3 x4 x5 x6) (ix2 e h) = lin (fun k => max (lin (fun k => x0 (ix2 e k)) (fun k j => x3 (ix2 k j)) (fun j => x4 (ix1 j)) k) 0) (fun k j => x5 (ix2 k j)) (fun j => x6 (ix1 j)) h := by
  refine (addf_apply (val_main_v22 (F := Ideal) x0 x3 x4 x5) (val_main_v24 (F := Ideal) x6) (ix2 e h)).trans ?_
  unfold lin
  refine congrArg₂ (fun a b : EReal => a + b) ((dg_plain (M := 50000) (K := 64) (N := 64) dot_S50000x64_S64x64_S50000x64_1_0_0_1_n_n rfl _ _ e h).trans ?_) (b24 x6 e h)
  refine Finset.sum_congr rfl fun k _ => congrArg₂ (fun a b : EReal => a * b) (m21 x0 x3 x4 e k) rfl

theorem lift_apply (e : Fin 50000) (h : Fin 64) : (val_main_v25 (F := Ideal) x0 x3 x4 x5 x6) (ix2 e h)
    = mlp2 (fun k => x0 (ix2 e k)) (fun k j => x3 (ix2 k j)) (fun j => x4 (ix1 j)) (fun k j => x5 (ix2 k j)) (fun j => x6 (ix1 j)) h :=
  l25 x0 x3 x4 x5 x6 e h

theorem src_apply (e : Fin 800000) : (val_main_v13 (F := Ideal) x1) (ix1 e) = x1 (ix2 (0 : Fin 2) e) :=
  (cast_drop2 (C := 800000) _ _ e).trans (slice2_row 0 (by decide) _ _ 0 e)

theorem dst_apply (e : Fin 800000) : (val_main_v15 (F := Ideal) x1) (ix1 e) = x1 (ix2 (1 : Fin 2) e) :=
  (cast_drop2 (C := 800000) _ _ e).trans (slice2_row 1 (by decide) _ _ 0 e)

theorem x4_apply (n : Fin 50000) (k : Fin 1) : (val_main_v11 (F := Ideal) x0) (ix2 n k) = x0 (ix2 n (4 : Fin 10)) :=
  slice2_col 4 (by decide) _ _ n k

theorem cnt_apply (n : Fin 50000) : (val_main_v29 (F := Ideal) x1) (ix1 n) = cntAt (fun e => x1 (ix2 (1 : Fin 2) e)) n := by
  exact scat_flat (N := 50000) (E := 800000) scatter_S50000_S800000x1_S800000_n_0_0_1.wf _ rfl (val_main_v27 (F := Ideal))
    (fun _ => (bid_scalar _ _ _).trans Ideal.ofBits_zero_f32) (val_main_v28 (F := Ideal) x1) (fun e => x1 (ix2 (1 : Fin 2) e))
    (fun e => (bid_unitcol (R := 800000) (C := 1) _ _ e 0).trans (dst_apply x1 e)) (val_main_v26 (F := Ideal)) (fun _ => Ideal.ofBits .f32 0x3F800000#32) (fun _ => bid_scalar _ _ _) n

theorem den_apply (n : Fin 50000) (k : Fin 1) : (val_main_v31 (F := Ideal) x1) (ix2 n k) = max (Ideal.ofBits .f32 0x3F800000#32) (cntAt (fun e => x1 (ix2 (1 : Fin 2) e)) n) :=
  (bid_unitcol (R := 50000) (C := 1) _ _ n k).trans ((maximumf_apply (val_main_call1_v1 (F := Ideal)) (val_main_v29 (F := Ideal) x1) (ix1 n)).trans
    (congrArg₂ max (bid_scalar _ _ _) (cnt_apply x1 n)))

end Cert.ReferenceIdeal.Hand
-- ==== Proof.Value.RefN.lean ====
/-
  The reference's normalised edge features, entry by entry.
-/
module

public import proofs.«01_k».proof.Proof.Value.RefA

@[expose] public section

set_option maxRecDepth 100000

noncomputable section

open scoped BigOperators

namespace Cert.ReferenceIdeal.Hand

open Cert.ReferenceIdeal Cert.ReferenceIdeal.Gen Cert.ReferenceIdeal.Read Cert.Value
open Idealize.ShloMosaic Idealize.ShloMosaic.ValueIdx Idealize.ShloMosaic.TcCoe

/-- A column's mean. -/
def colMean (x : Fin 800000 → EReal) : EReal := Ideal.div (0 + ∑ r, x r) (Ideal.ofBits .f32 0x49435000#32)

/-- A column's variance. -/
def colVar (x : Fin 800000 → EReal) : EReal :=
  Ideal.div (0 + ∑ r, (x r - colMean x) * (x r - colMean x)) (Ideal.ofBits .f32 0x49435000#32)

theorem ofBits_rows : Ideal.ofBits .f32 0x49435000#32 = ((800000 : ℝ) : EReal) := by
  simp [Ideal.ofBits, Ideal.ieee, -EReal.coe_mul]; norm_num

theorem ofBits_eps : ∃ ε : ℝ, 0 < ε ∧ Ideal.ofBits .f32 0x358637BD#32 = (ε : EReal) := by
  refine ⟨_, ?_, by simp only [Ideal.ofBits, Ideal.ieee]; simp [-EReal.coe_mul]; rfl⟩
  norm_num

variable (x2 : (⟨S800000x9, .f32⟩ : BufTy).Contents (Elt Ideal))

theorem n3 (d : Fin 9) : val_main_v3 (F := Ideal) x2 (ix2 (0 : Fin 1) d) = colMean fun r => x2 (ix2 r d) := by
  have a : val_main_v1 (F := Ideal) x2 (ix2 (0 : Fin 1) d) = 0 + ∑ r : Fin 800000, x2 (ix2 r d) :=
    (bid_add (C := 9) _ _ 0 d).trans ((hr_col (R := 800000) (C := 9) x2 _ reducesTo_S800000x9_S9_d0 (by decide) d).trans
      (congrArg (fun z : EReal => z + ∑ r : Fin 800000, x2 (ix2 r d)) Ideal.ofBits_zero_f32))
  refine (val_main_v3_apply x2 _).trans ?_
  rw [a, val_main_v2_apply]
  rfl

theorem nc3 (d : Fin 9) : val_main_call0_call0_v3 (F := Ideal) x2 (ix2 (0 : Fin 1) d) = colMean fun r => x2 (ix2 r d) := by
  have a : val_main_call0_call0_v1 (F := Ideal) x2 (ix2 (0 : Fin 1) d) = 0 + ∑ r : Fin 800000, x2 (ix2 r d) :=
    (bid_add (C := 9) _ _ 0 d).trans ((hr_col (R := 800000) (C := 9) x2 _ reducesTo_S800000x9_S9_d0 (by decide) d).trans
      (congrArg (fun z : EReal => z + ∑ r : Fin 800000, x2 (ix2 r d)) Ideal.ofBits_zero_f32))
  refine (val_main_call0_call0_v3_apply x2 _).trans ?_
  rw [a, val_main_call0_call0_v2_apply]
  rfl

theorem nc5 (e : Fin 800000) (d : Fin 9) : val_main_call0_call0_v5 (F := Ideal) x2 (ix2 e d)
    = (show EReal from x2 (ix2 e d)) - colMean fun r => x2 (ix2 r d) := by
  refine (val_main_call0_call0_v5_apply x2 _).trans ?_
  have a : val_main_call0_call0_v4 (F := Ideal) x2 (ix2 e d) = colMean fun r => x2 (ix2 r d) :=
    (bid_row (R := 800000) (C := 9) _ _ e d).trans (nc3 x2 d)
  rw [a]
  rfl

theorem nc8 : val_main_call0_call0_v8 (F := Ideal) ix0 = Ideal.ofBits .f32 0x49435000#32 := by
  rw [val_main_call0_call0_v8_apply]
  show Ideal.ofBits .f32 0x49435000#32 - (((0#32 : BitVec 32).toInt : ℝ) : EReal) = _
  simp

theorem nc12 (d : Fin 9) : val_main_call0_call0_v12 (F := Ideal) x2 (ix2 (0 : Fin 1) d) = colVar fun r => x2 (ix2 r d) := by
  have a : val_main_call0_call0_v10 (F := Ideal) x2 (ix2 (0 : Fin 1) d)
      = 0 + ∑ r : Fin 800000, ((show EReal from x2 (ix2 r d)) - colMean fun r => x2 (ix2 r d)) * ((show EReal from x2 (ix2 r d)) - colMean fun r => x2 (ix2 r d)) := by
    refine (bid_add (C := 9) _ _ 0 d).trans ((hr_col (R := 800000) (C := 9) (val_main_call0_call0_v6 (F := Ideal) x2) _ reducesTo_S800000x9_S9_d0 (by decide) d).trans ?_)
    refine congrArg₂ (fun a b : EReal => a + b) Ideal.ofBits_zero_f32 (Finset.sum_congr rfl fun r _ => ?_)
    refine (val_main_call0_call0_v6_apply x2 _).trans ?_
    rw [nc5]
    rfl
  have b : val_main_call0_call0_v11 (F := Ideal) (ix2 (0 : Fin 1) d) = Ideal.ofBits .f32 0x49435000#32 :=
    (bid_scalar _ _ _).trans nc8
  refine (val_main_call0_call0_v12_apply x2 _).trans ?_
  rw [a, b]
  rfl

theorem nc0 (d : Fin 9) : val_main_call0_v0 (F := Ideal) x2 (ix2 (0 : Fin 1) d) = colVar fun r => x2 (ix2 r d) := by
  have c : val_main_call0_call0_v13 (F := Ideal) ix0 = 1#1 := by
    rw [val_main_call0_call0_v13_apply, nc8]
    show Ideal.cmp .ogt (Ideal.ofBits .f32 0x49435000#32) (Ideal.ofBits .f32 0x00000000#32) = _
    rw [Ideal.ofBits_zero_f32, ofBits_rows]
    simp [Ideal.cmp]
  unfold val_main_call0_v0
  rw [select_apply, bid_scalar, c]
  exact nc12 x2 d

theorem v10_apply (e : Fin 800000) (d : Fin 9) : val_main_v10 (F := Ideal) x2 (ix2 e d)
    = Ideal.div ((show EReal from x2 (ix2 e d)) - colMean fun r => x2 (ix2 r d))
        (Ideal.sqrt (colVar fun r => x2 (ix2 r d)) + Ideal.ofBits .f32 0x358637BD#32) := by
  have a : val_main_v6 (F := Ideal) x2 (ix2 e d) = (show EReal from x2 (ix2 e d)) - colMean fun r => x2 (ix2 r d) := by
    have h : val_main_v5 (F := Ideal) x2 (ix2 e d) = colMean fun r => x2 (ix2 r d) :=
      (bid_row (R := 800000) (C := 9) _ _ e d).trans (n3 x2 d)
    refine (val_main_v6_apply x2 _).trans ?_
    rw [h]
    rfl
  have b : val_main_v9 (F := Ideal) x2 (ix2 e d) = Ideal.sqrt (colVar fun r => x2 (ix2 r d)) + Ideal.ofBits .f32 0x358637BD#32 := by
    refine (bid_row (R := 800000) (C := 9) _ _ e d).trans ?_
    refine (val_main_v8_apply x2 _).trans ?_
    rw [val_main_v4_apply, nc0, val_main_v7_apply]
    rfl
  refine (val_main_v10_apply x2 _).trans ?_
  rw [a, b]
  rfl

end Cert.ReferenceIdeal.Hand
-- ==== Proof.Value.Norm.lean ====
/-
  Folding the normalisation into the first layer: the same layer, for finite features and finite weights.
-/
module

public import proofs.«01_k».proof.Proof.Value.HostN
public import proofs.«01_k».proof.Proof.Value.RefN

@[expose] public section

set_option maxRecDepth 100000

noncomputable section

open scoped BigOperators

namespace Cert.Value

open Idealize.ShloMosaic
open Cert.KernelIdeal.Hand (muOf invOf w1Of b1Of)
open Cert.ReferenceIdeal.Hand (colMean colVar ofBits_rows ofBits_eps)

theorem coe_sum_real {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem muOf_coe (s : ℝ) : muOf (s : EReal) = ((s / 800000 : ℝ) : EReal) := by
  unfold muOf
  rw [ofBits_rows, Ideal.div_coe (by norm_num), ← EReal.coe_mul]
  congr 1
  ring

/-- Both forms of the variance. -/
theorem var_real (X : Fin 800000 → ℝ) (μ : ℝ) (hμ : μ = (∑ e, X e) / 800000) :
    (∑ e, (X e - μ) * (X e - μ)) / 800000 = (∑ e, X e * X e) / 800000 - μ * μ := by
  have h : ∑ e, (X e - μ) * (X e - μ) = (∑ e, X e * X e) - 2 * μ * (∑ e, X e) + 800000 * (μ * μ) := by
    have : ∀ e, (X e - μ) * (X e - μ) = X e * X e - 2 * μ * X e + μ * μ := fun e => by ring
    simp only [this, Finset.sum_add_distrib, Finset.sum_sub_distrib, ← Finset.mul_sum, Finset.sum_const, Finset.card_univ,
      Fintype.card_fin, nsmul_eq_mul]
    norm_num
    ring
  have h2 : (∑ e, X e) = 800000 * μ := by rw [hμ]; ring
  rw [h, h2]
  ring

/-- The deviation plus its small constant, as a real number. -/
def dev (ε : ℝ) (X : Fin 800000 → ℝ) : ℝ :=
  Real.sqrt ((∑ e, (X e - (∑ e, X e) / 800000) * (X e - (∑ e, X e) / 800000)) / 800000) + ε

theorem dev_pos {ε : ℝ} (h : 0 < ε) (X : Fin 800000 → ℝ) : 0 < dev ε X := by
  unfold dev
  have := Real.sqrt_nonneg ((∑ e, (X e - (∑ e, X e) / 800000) * (X e - (∑ e, X e) / 800000)) / 800000)
  linarith

theorem var_nonneg (X : Fin 800000 → ℝ) (μ : ℝ) : 0 ≤ (∑ e, (X e - μ) * (X e - μ)) / 800000 :=
  div_nonneg (Finset.sum_nonneg fun e _ => mul_self_nonneg _) (by norm_num)

theorem colMean_coe (X : Fin 800000 → ℝ) : colMean (fun e => (X e : EReal)) = (((∑ e, X e) / 800000 : ℝ) : EReal) := by
  unfold colMean
  rw [zero_add, coe_sum_real]
  exact muOf_coe _

theorem colVar_coe (X : Fin 800000 → ℝ) : colVar (fun e => (X e : EReal))
    = (((∑ e, (X e - (∑ e, X e) / 800000) * (X e - (∑ e, X e) / 800000)) / 800000 : ℝ) : EReal) := by
  unfold colVar
  rw [colMean_coe, zero_add]
  simp only [← EReal.coe_sub, ← EReal.coe_mul]
  rw [coe_sum_real]
  exact muOf_coe _

theorem sqrt_coe_nonneg {r : ℝ} (h : 0 ≤ r) : Ideal.sqrt (r : EReal) = (Real.sqrt r : EReal) := by
  show (if r < 0 then (⊥ : EReal) else (Real.sqrt r : EReal)) = _
  rw [if_neg (not_lt.mpr h)]

theorem refDen_coe {ε : ℝ} (hε : Ideal.ofBits .f32 0x358637BD#32 = (ε : EReal)) (X : Fin 800000 → ℝ) :
    Ideal.sqrt (colVar fun e => (X e : EReal)) + Ideal.ofBits .f32 0x358637BD#32 = (dev ε X : EReal) := by
  rw [colVar_coe, sqrt_coe_nonneg (var_nonneg X _), hε, ← EReal.coe_add]
  rfl

theorem invOf_coe {ε : ℝ} (hp : 0 < ε) (hε : Ideal.ofBits .f32 0x358637BD#32 = (ε : EReal)) (X : Fin 800000 → ℝ) :
    invOf ((∑ e, X e : ℝ) : EReal) ((∑ e, X e * X e : ℝ) : EReal) = ((1 / dev ε X : ℝ) : EReal) := by
  unfold invOf
  rw [muOf_coe, muOf_coe, ← EReal.coe_mul, ← EReal.coe_sub, ← var_real X _ rfl, Ideal.ofBits_zero_f32,
    max_eq_left (EReal.coe_nonneg.mpr (var_nonneg X _)), sqrt_coe_nonneg (var_nonneg X _), hε, ← EReal.coe_add, Ideal.ofBits_one_f32]
  show Ideal.div 1 ((dev ε X : ℝ) : EReal) = _
  rw [Ideal.div_coe (dev_pos hp X).ne', one_mul]

/-- The first layer on raw features with folded weights is the first layer on normalised features. -/
theorem fold_lin (x : Fin 800000 → Fin 9 → EReal) (w : Fin 9 → Fin 64 → EReal) (b : Fin 64 → EReal)
    (hx : ∀ e d, ∃ r : ℝ, x e d = (r : EReal)) (hw : ∀ d j, ∃ r : ℝ, w d j = (r : EReal)) (e : Fin 800000) (j : Fin 64) :
    lin (fun d => x e d) (w1Of (fun d => ∑ e, x e d) (fun d => ∑ e, x e d * x e d) w) (b1Of (fun d => ∑ e, x e d) (fun d => ∑ e, x e d * x e d) w b) j
      = lin (fun d => Ideal.div (x e d - colMean fun r => x r d) (Ideal.sqrt (colVar fun r => x r d) + Ideal.ofBits .f32 0x358637BD#32)) w b j := by
  obtain ⟨ε, hp, hε⟩ := ofBits_eps
  choose X hX using hx
  choose Wt hW using hw
  obtain rfl : x = fun e d => (X e d : EReal) := funext fun e => funext fun d => hX e d
  obtain rfl : w = fun d j => (Wt d j : EReal) := funext fun d => funext fun j => hW d j
  unfold lin w1Of b1Of
  simp only [← EReal.coe_mul, coe_sum_real]
  have i : ∀ d, invOf ((∑ e, X e d : ℝ) : EReal) ((∑ e, X e d * X e d : ℝ) : EReal) = ((1 / dev ε (fun e => X e d) : ℝ) : EReal) :=
    fun d => invOf_coe hp hε fun e => X e d
  have r : ∀ d, Ideal.div ((X e d : EReal) - colMean fun r => (X r d : EReal)) (Ideal.sqrt (colVar fun r => (X r d : EReal)) + Ideal.ofBits .f32 0x358637BD#32)
      = (((X e d - (∑ r, X r d) / 800000) * (1 / dev ε (fun e => X e d)) : ℝ) : EReal) := fun d => by
    rw [refDen_coe hε fun e => X e d, colMean_coe fun r => X r d, Ideal.div_coe (dev_pos hp _).ne', ← EReal.coe_sub, ← EReal.coe_mul]
  simp only [i, r, muOf_coe, ← EReal.coe_mul, coe_sum_real]
  rw [sub_eq_add_neg, add_comm (b j), ← add_assoc, ← EReal.coe_neg, ← EReal.coe_add]
  refine congrArg (fun z : EReal => z + b j) (congrArg Real.toEReal ?_)
  rw [← sub_eq_add_neg, ← Finset.sum_sub_distrib]
  exact Finset.sum_congr rfl fun d _ => by ring

end Cert.Value
-- ==== Proof.Value.HostB3.lean ====
/-
  The host lines before the node update of call 3, entry by entry.
-/
module

public import proofs.«01_k».proof.Proof.Value.Scat
public import proofs.«01_k».proof.Proof.KernelIdeal.Run

@[expose] public section

set_option maxRecDepth 100000

noncomputable section

open scoped BigOperators

namespace Cert.KernelIdeal.Hand

open Cert.KernelIdeal Cert.KernelIdeal.Gen Cert.Common Cert.Value
open Idealize.ShloMosaic Idealize.ShloMosaic.ValueIdx Idealize.ShloMosaic.TcCoe
open Idealize.ShloMosaic.Pipeline (Dat Cfg Window)

variable (W : Valuation τ sig (Elt Ideal))

theorem km3 (e : Fin 800000) (h : Fin 64) : StableHlo.after (hostOps3 (F := Ideal)) W (Proc.devRef .tc main_v65) (ix2 e h) = W (Proc.devRef .tc main_v58) (ix3 (0 : Fin 5) e h) := by
  have r : StableHlo.after (hostOps3 (F := Ideal)) W (Proc.devRef .tc main_v65)
      = shapeCast S800000x64 (extractStridedSlice S1x800000x64 ![0, 0, 0] (W (Proc.devRef .tc main_v58)) slices_S5x800000x64_S1x800000x64_0_0_0) shapeCasts_S1x800000x64_S800000x64 := by
    dsimp only [hostOps3]
    after_results_simp
    all_goals rfl
  refine (congrFun r _).trans ?_
  refine (cast_drop3 (A := 800000) (C := 64) _ _ e h).trans ?_
  exact slice3_row 0 (by decide) _ _ 0 e h

theorem cnt3 (n : Fin 50000) : StableHlo.after (hostOps3 (F := Ideal)) W (Proc.devRef .tc main_v63) (ix2 n (0 : Fin 1)) = cntAt (fun e => W (Proc.devRef .tc main_v20) (ix1 e)) n := by
  have r : StableHlo.after (hostOps3 (F := Ideal)) W (Proc.devRef .tc main_v63)
      = broadcastInDim S50000x1 ![0] bcast_S50000_S50000x1_0 (Host.scatterAdd (F := Ideal) scatter_S50000_S800000x1_S800000_n_0_0_1
          (broadcastInDim S50000 ![] bcast_S_S50000 (constant S_ .f32 0x00000000#32))
          (broadcastInDim S800000x1 ![0] bcast_S800000_S800000x1_0 (W (Proc.devRef .tc main_v20)))
          (broadcastInDim S800000 ![] bcast_S_S800000 (constant S_ .f32 0x3F800000#32))) := by
    dsimp only [hostOps3]
    after_results_simp
    all_goals rfl
  refine (congrFun r _).trans ?_
  refine (bid_unitcol (R := 50000) (C := 1) _ _ n 0).trans ?_
  exact scat_flat (N := 50000) (E := 800000) scatter_S50000_S800000x1_S800000_n_0_0_1.wf _ rfl _
    (fun _ => (bid_scalar _ _ _).trans Ideal.ofBits_zero_f32) _ (fun e => W (Proc.devRef .tc main_v20) (ix1 e))
    (fun e => bid_unitcol (R := 800000) (C := 1) _ _ e 0) _ (fun _ => Ideal.ofBits .f32 0x3F800000#32) (fun _ => bid_scalar _ _ _) n

theorem tk3 (e : Fin 800000) (h : Fin 64) : StableHlo.after (hostOps3_1 (F := Ideal)) W (Proc.devRef .tc main_v66) (ix2 e h)
    = tk (W (Proc.devRef .tc main_v11) (ix1 e)) (fun n => W (Proc.devRef .tc main_v54) (ix2 n h)) := by
  have r : StableHlo.after (hostOps3_1 (F := Ideal)) W (Proc.devRef .tc main_v66)
      = look bcast_S_S800000 bcast_S800000_S800000x1_0 bcast_S_S800000x1 bcast_S1_S1x1_1 bcast_S1x1_S800000x1_0_1
          bcast_S800000_S800000x64_0 bcast_S_S800000x64 reducesTo_S800000x1_S800000_d1 h_S_ gather_S50000x64_S800000x1_S800000x64_1_0_n_n_0_1_164.wf (W (Proc.devRef .tc main_v54)) (W (Proc.devRef .tc main_v11)) := by
    simp only [hostOps3_1, StableHlo.TRef.binary, StableHlo.TRef.nullary, StableHlo.TRef.ternary, StableHlo.TRef.unary, StableHlo.TRef.toBuf, StableHlo.TRef.ofBuf, cast_eq]
    after_results_simp
    rfl
  exact (congrFun r _).trans (look_apply _ _ _ _ _ _ _ _ _ _ _ _ e h)

theorem sc3 (n : Fin 50000) (h : Fin 64) : StableHlo.after (hostOps3_2 (F := Ideal)) W (Proc.devRef .tc main_v70) (ix2 n h)
    = sumAt (fun e => W (Proc.devRef .tc main_v20) (ix1 e)) (fun e => W (Proc.devRef .tc main_v65) (ix2 e h)) (fun e => W (Proc.devRef .tc main_v66) (ix2 e h)) n := by
  have r : StableHlo.after (hostOps3_2 (F := Ideal)) W (Proc.devRef .tc main_v70)
      = Host.scatterAdd (F := Ideal) scatter_S50000x64_S800000x1_S800000x64_1_0_0_1
          (broadcastInDim S50000x64 ![] bcast_S_S50000x64 (constant S_ .f32 0x00000000#32))
          (broadcastInDim S800000x1 ![0] bcast_S800000_S800000x1_0 (W (Proc.devRef .tc main_v20)))
          (mulf (F := Ideal) (s := S800000x64) (φ := .f32) (W (Proc.devRef .tc main_v65)) (W (Proc.devRef .tc main_v66))) := by
    dsimp only [hostOps3_2]
    after_results_simp
    all_goals rfl
  refine (congrFun r _).trans ?_
  exact scat_row (N := 50000) (C := 64) (E := 800000) scatter_S50000x64_S800000x1_S800000x64_1_0_0_1.wf _ rfl _
    (fun _ _ => (bid_scalar _ _ _).trans Ideal.ofBits_zero_f32) _ (fun e => W (Proc.devRef .tc main_v20) (ix1 e))
    (fun e => bid_unitcol (R := 800000) (C := 1) _ _ e 0) _ h _ (fun e => rfl) n

theorem sw3 (i j : Fin 64) : StableHlo.after (hostOps3_2 (F := Ideal)) W (Proc.devRef .tc main_v72) (ix2 i j) = W (Proc.devRef .tc main_arg13) (ix3 (0 : Fin 5) i j) := by
  have r : StableHlo.after (hostOps3_2 (F := Ideal)) W (Proc.devRef .tc main_v72)
      = shapeCast S64x64 (extractStridedSlice S1x64x64 ![0, 0, 0] (W (Proc.devRef .tc main_arg13)) slices_S5x64x64_S1x64x64_0_0_0) shapeCasts_S1x64x64_S64x64 := by
    dsimp only [hostOps3_2]
    after_results_simp
    all_goals rfl
  refine (congrFun r _).trans ?_
  refine (cast_drop3 (A := 64) (C := 64) _ _ i j).trans ?_
  exact slice3_row 0 (by decide) _ _ 0 i j

theorem gw3 (j : Fin 64) : StableHlo.after (hostOps3_2 (F := Ideal)) W (Proc.devRef .tc main_v76) (ix2 (0 : Fin 1) j) = W (Proc.devRef .tc main_arg15) (ix3 (0 : Fin 5) (0 : Fin 1) j) := by
  have r : StableHlo.after (hostOps3_2 (F := Ideal)) W (Proc.devRef .tc main_v76)
      = shapeCast S1x64 (extractStridedSlice S1x1x64 ![0, 0, 0] (W (Proc.devRef .tc main_arg15)) slices_S5x1x64_S1x1x64_0_0_0) shapeCasts_S1x1x64_S1x64 := by
    dsimp only [hostOps3_2]
    after_results_simp
    all_goals rfl
  refine (congrFun r _).trans ?_
  refine (cast_drop3 (A := 1) (C := 64) _ _ 0 j).trans ?_
  exact slice3_row 0 (by decide) _ _ 0 0 j

theorem sb3 (j : Fin 64) : StableHlo.after (hostOps3_2 (F := Ideal)) W (Proc.devRef .tc main_v79) (ix2 (0 : Fin 1) j) = W (Proc.devRef .tc main_arg14) (ix2 (0 : Fin 5) j) := by
  have r : StableHlo.after (hostOps3_2 (F := Ideal)) W (Proc.devRef .tc main_v79)
      = shapeCast S1x64 (shapeCast S64 (extractStridedSlice S1x64 ![0, 0] (W (Proc.devRef .tc main_arg14)) slices_S5x64_S1x64_0_0) shapeCasts_S1x64_S64) shapeCasts_S64_S1x64 := by
    dsimp only [hostOps3_2]
    after_results_simp
    all_goals rfl
  refine (congrFun r _).trans ?_
  refine (cast_add2 (C := 64) _ _ 0 j).trans ?_
  refine (cast_drop2 (C := 64) _ _ j).trans ?_
  exact slice2_row 0 (by decide) _ _ 0 j

theorem gb3 (j : Fin 64) : StableHlo.after (hostOps3_2 (F := Ideal)) W (Proc.devRef .tc main_v80) (ix2 (0 : Fin 1) j) = W (Proc.devRef .tc main_arg16) (ix2 (0 : Fin 5) j) := by
  have r : StableHlo.after (hostOps3_2 (F := Ideal)) W (Proc.devRef .tc main_v80)
      = shapeCast S1x64 (shapeCast S64 (extractStridedSlice S1x64 ![0, 0] (W (Proc.devRef .tc main_arg16)) slices_S5x64_S1x64_0_0) shapeCasts_S1x64_S64) shapeCasts_S64_S1x64 := by
    dsimp only [hostOps3_2]
    after_results_simp
    all_goals rfl
  refine (congrFun r _).trans ?_
  refine (cast_add2 (C := 64) _ _ 0 j).trans ?_
  refine (cast_drop2 (C := 64) _ _ j).trans ?_
  exact slice2_row 0 (by decide) _ _ 0 j

/-- The three stretches in order. -/
abbrev line3 : Valuation τ sig (Elt Ideal) := StableHlo.after (hostOps3_2 (F := Ideal)) (StableHlo.after (hostOps3_1 (F := Ideal)) (StableHlo.after (hostOps3 (F := Ideal)) W))

theorem keep3 (r : Ref sig .tc) (h : r ∉ hostOps3_W) (h1 : r ∉ hostOps3_1_W) (h2 : r ∉ hostOps3_2_W) : line3 W (Proc.devRef .tc r) = W (Proc.devRef .tc r) :=
  (StableHlo.after_of_writes_sub hostOps3_2 _ hostOps3_2_writes h2).trans <|
    (StableHlo.after_of_writes_sub hostOps3_1 _ hostOps3_1_writes h1).trans (StableHlo.after_of_writes_sub hostOps3 _ hostOps3_writes h)

theorem pre3 (r : Ref sig .tc) (h : r ∉ hostOps3_W) (h1 : r ∉ hostOps3_1_W) :
    StableHlo.after (hostOps3_1 (F := Ideal)) (StableHlo.after (hostOps3 (F := Ideal)) W) (Proc.devRef .tc r) = W (Proc.devRef .tc r) :=
  (StableHlo.after_of_writes_sub hostOps3_1 _ hostOps3_1_writes h1).trans (StableHlo.after_of_writes_sub hostOps3 _ hostOps3_writes h)

theorem agg3 (n : Fin 50000) (h : Fin 64) : line3 W (Proc.devRef .tc main_v70) (ix2 n h)
    = aggAt (fun e h => W (Proc.devRef .tc main_v58) (ix3 (0 : Fin 5) e h)) (fun e => W (Proc.devRef .tc main_v11) (ix1 e)) (fun e => W (Proc.devRef .tc main_v20) (ix1 e))
        (fun n h => W (Proc.devRef .tc main_v54) (ix2 n h)) n h := by
  refine (sc3 _ n h).trans ?_
  rw [aggAt_eq_sumAt]
  have h0 : ∀ e : Fin 800000, StableHlo.after (hostOps3_1 (F := Ideal)) (StableHlo.after (hostOps3 (F := Ideal)) W) (Proc.devRef .tc main_v20) (ix1 e) = W (Proc.devRef .tc main_v20) (ix1 e) :=
    fun e => congrFun (pre3 W main_v20 (by decide) (by decide)) _
  have h1 : ∀ e : Fin 800000, StableHlo.after (hostOps3_1 (F := Ideal)) (StableHlo.after (hostOps3 (F := Ideal)) W) (Proc.devRef .tc main_v65) (ix2 e h) = W (Proc.devRef .tc main_v58) (ix3 (0 : Fin 5) e h) :=
    fun e => (congrFun (StableHlo.after_of_writes_sub hostOps3_1 _ hostOps3_1_writes (by decide : main_v65 ∉ hostOps3_1_W)) _).trans (km3 W e h)
  have h2 : ∀ e : Fin 800000, StableHlo.after (hostOps3_1 (F := Ideal)) (StableHlo.after (hostOps3 (F := Ideal)) W) (Proc.devRef .tc main_v66) (ix2 e h)
      = tk (W (Proc.devRef .tc main_v11) (ix1 e)) (fun n => W (Proc.devRef .tc main_v54) (ix2 n h)) := fun e => by
    refine (tk3 _ e h).trans ?_
    rw [StableHlo.after_of_writes_sub hostOps3 W hostOps3_writes (by decide : main_v11 ∉ hostOps3_W),
      StableHlo.after_of_writes_sub hostOps3 W hostOps3_writes (by decide : main_v54 ∉ hostOps3_W)]
  simp only [h0, h1, h2]

theorem sw3' (i j : Fin 64) : line3 W (Proc.devRef .tc main_v72) (ix2 i j) = W (Proc.devRef .tc main_arg13) (ix3 (0 : Fin 5) i j) :=
  (sw3 _ i j).trans (congrFun (pre3 W main_arg13 (by decide) (by decide)) _)
theorem gw3' (j : Fin 64) : line3 W (Proc.devRef .tc main_v76) (ix2 (0 : Fin 1) j) = W (Proc.devRef .tc main_arg15) (ix3 (0 : Fin 5) (0 : Fin 1) j) :=
  (gw3 _ j).trans (congrFun (pre3 W main_arg15 (by decide) (by decide)) _)
theorem sb3' (j : Fin 64) : line3 W (Proc.devRef .tc main_v79) (ix2 (0 : Fin 1) j) = W (Proc.devRef .tc main_arg14) (ix2 (0 : Fin 5) j) :=
  (sb3 _ j).trans (congrFun (pre3 W main_arg14 (by decide) (by decide)) _)
theorem gb3' (j : Fin 64) : line3 W (Proc.devRef .tc main_v80) (ix2 (0 : Fin 1) j) = W (Proc.devRef .tc main_arg16) (ix2 (0 : Fin 5) j) :=
  (gb3 _ j).trans (congrFun (pre3 W main_arg16 (by decide) (by decide)) _)

theorem cnt3' (n : Fin 50000) : line3 W (Proc.devRef .tc main_v63) (ix2 n (0 : Fin 1)) = cntAt (fun e => W (Proc.devRef .tc main_v20) (ix1 e)) n :=
  (congrFun ((StableHlo.after_of_writes_sub hostOps3_2 _ hostOps3_2_writes (by decide : main_v63 ∉ hostOps3_2_W)).trans
    (StableHlo.after_of_writes_sub hostOps3_1 _ hostOps3_1_writes (by decide : main_v63 ∉ hostOps3_1_W))) _).trans (cnt3 W n)

end Cert.KernelIdeal.Hand
-- ==== Proof.Value.HostB4.lean ====
/-
  The host lines before the node update of call 4, entry by entry.
-/
module

public import proofs.«01_k».proof.Proof.Value.HostB3

@[expose] public section

set_option maxRecDepth 100000

noncomputable section

open scoped BigOperators

namespace Cert.KernelIdeal.Hand

open Cert.KernelIdeal Cert.KernelIdeal.Gen Cert.Common Cert.Value
open Idealize.ShloMosaic Idealize.ShloMosaic.ValueIdx Idealize.ShloMosaic.TcCoe
open Idealize.ShloMosaic.Pipeline (Dat Cfg Window)

variable (W : Valuation τ sig (Elt Ideal))

theorem km4 (e : Fin 800000) (h : Fin 64) : StableHlo.after (hostOps4 (F := Ideal)) W (Proc.devRef .tc main_v85) (ix2 e h) = W (Proc.devRef .tc main_v58) (ix3 (1 : Fin 5) e h) := by
  have r : StableHlo.after (hostOps4 (F := Ideal)) W (Proc.devRef .tc main_v85)
      = shapeCast S800000x64 (extractStridedSlice S1x800000x64 ![1, 0, 0] (W (Proc.devRef .tc main_v58)) slices_S5x800000x64_S1x800000x64_1_0_0) shapeCasts_S1x800000x64_S800000x64 := by
    dsimp only [hostOps4]
    after_results_simp
    all_goals rfl
  refine (congrFun r _).trans ?_
  refine (cast_drop3 (A := 800000) (C := 64) _ _ e h).trans ?_
  exact slice3_row 1 (by decide) _ _ 0 e h

theorem tk4 (e : Fin 800000) (h : Fin 64) : StableHlo.after (hostOps4_1 (F := Ideal)) W (Proc.devRef .tc main_v86) (ix2 e h)
    = tk (W (Proc.devRef .tc main_v11) (ix1 e)) (fun n => W (Proc.devRef .tc main_v83) (ix2 n h)) := by
  have r : StableHlo.after (hostOps4_1 (F := Ideal)) W (Proc.devRef .tc main_v86)
      = look bcast_S_S800000 bcast_S800000_S800000x1_0 bcast_S_S800000x1 bcast_S1_S1x1_1 bcast_S1x1_S800000x1_0_1
          bcast_S800000_S800000x64_0 bcast_S_S800000x64 reducesTo_S800000x1_S800000_d1 h_S_ gather_S50000x64_S800000x1_S800000x64_1_0_n_n_0_1_164.wf (W (Proc.devRef .tc main_v83)) (W (Proc.devRef .tc main_v11)) := by
    simp only [hostOps4_1, StableHlo.TRef.binary, StableHlo.TRef.nullary, StableHlo.TRef.ternary, StableHlo.TRef.unary, StableHlo.TRef.toBuf, StableHlo.TRef.ofBuf, cast_eq]
    after_results_simp
    rfl
  exact (congrFun r _).trans (look_apply _ _ _ _ _ _ _ _ _ _ _ _ e h)

theorem sc4 (n : Fin 50000) (h : Fin 64) : StableHlo.after (hostOps4_2 (F := Ideal)) W (Proc.devRef .tc main_v90) (ix2 n h)
    = sumAt (fun e => W (Proc.devRef .tc main_v20) (ix1 e)) (fun e => W (Proc.devRef .tc main_v85) (ix2 e h)) (fun e => W (Proc.devRef .tc main_v86) (ix2 e h)) n := by
  have r : StableHlo.after (hostOps4_2 (F := Ideal)) W (Proc.devRef .tc main_v90)
      = Host.scatterAdd (F := Ideal) scatter_S50000x64_S800000x1_S800000x64_1_0_0_1
          (broadcastInDim S50000x64 ![] bcast_S_S50000x64 (constant S_ .f32 0x00000000#32))
          (broadcastInDim S800000x1 ![0] bcast_S800000_S800000x1_0 (W (Proc.devRef .tc main_v20)))
          (mulf (F := Ideal) (s := S800000x64) (φ := .f32) (W (Proc.devRef .tc main_v85)) (W (Proc.devRef .tc main_v86))) := by
    dsimp only [hostOps4_2]
    after_results_simp
    all_goals rfl
  refine (congrFun r _).trans ?_
  exact scat_row (N := 50000) (C := 64) (E := 800000) scatter_S50000x64_S800000x1_S800000x64_1_0_0_1.wf _ rfl _
    (fun _ _ => (bid_scalar _ _ _).trans Ideal.ofBits_zero_f32) _ (fun e => W (Proc.devRef .tc main_v20) (ix1 e))
    (fun e => bid_unitcol (R := 800000) (C := 1) _ _ e 0) _ h _ (fun e => rfl) n

theorem sw4 (i j : Fin 64) : StableHlo.after (hostOps4_2 (F := Ideal)) W (Proc.devRef .tc main_v92) (ix2 i j) = W (Proc.devRef .tc main_arg13) (ix3 (1 : Fin 5) i j) := by
  have r : StableHlo.after (hostOps4_2 (F := Ideal)) W (Proc.devRef .tc main_v92)
      = shapeCast S64x64 (extractStridedSlice S1x64x64 ![1, 0, 0] (W (Proc.devRef .tc main_arg13)) slices_S5x64x64_S1x64x64_1_0_0) shapeCasts_S1x64x64_S64x64 := by
    dsimp only [hostOps4_2]
    after_results_simp
    all_goals rfl
  refine (congrFun r _).trans ?_
  refine (cast_drop3 (A := 64) (C := 64) _ _ i j).trans ?_
  exact slice3_row 1 (by decide) _ _ 0 i j

theorem gw4 (j : Fin 64) : StableHlo.after (hostOps4_2 (F := Ideal)) W (Proc.devRef .tc main_v96) (ix2 (0 : Fin 1) j) = W (Proc.devRef .tc main_arg15) (ix3 (1 : Fin 5) (0 : Fin 1) j) := by
  have r : StableHlo.after (hostOps4_2 (F := Ideal)) W (Proc.devRef .tc main_v96)
      = shapeCast S1x64 (extractStridedSlice S1x1x64 ![1, 0, 0] (W (Proc.devRef .tc main_arg15)) slices_S5x1x64_S1x1x64_1_0_0) shapeCasts_S1x1x64_S1x64 := by
    dsimp only [hostOps4_2]
    after_results_simp
    all_goals rfl
  refine (congrFun r _).trans ?_
  refine (cast_drop3 (A := 1) (C := 64) _ _ 0 j).trans ?_
  exact slice3_row 1 (by decide) _ _ 0 0 j

theorem sb4 (j : Fin 64) : StableHlo.after (hostOps4_2 (F := Ideal)) W (Proc.devRef .tc main_v99) (ix2 (0 : Fin 1) j) = W (Proc.devRef .tc main_arg14) (ix2 (1 : Fin 5) j) := by
  have r : StableHlo.after (hostOps4_2 (F := Ideal)) W (Proc.devRef .tc main_v99)
      = shapeCast S1x64 (shapeCast S64 (extractStridedSlice S1x64 ![1, 0] (W (Proc.devRef .tc main_arg14)) slices_S5x64_S1x64_1_0) shapeCasts_S1x64_S64) shapeCasts_S64_S1x64 := by
    dsimp only [hostOps4_2]
    after_results_simp
    all_goals rfl
  refine (congrFun r _).trans ?_
  refine (cast_add2 (C := 64) _ _ 0 j).trans ?_
  refine (cast_drop2 (C := 64) _ _ j).trans ?_
  exact slice2_row 1 (by decide) _ _ 0 j

theorem gb4 (j : Fin 64) : StableHlo.after (hostOps4_2 (F := Ideal)) W (Proc.devRef .tc main_v100) (ix2 (0 : Fin 1) j) = W (Proc.devRef .tc main_arg16) (ix2 (1 : Fin 5) j) := by
  have r : StableHlo.after (hostOps4_2 (F := Ideal)) W (Proc.devRef .tc main_v100)
      = shapeCast S1x64 (shapeCast S64 (extractStridedSlice S1x64 ![1, 0] (W (Proc.devRef .tc main_arg16)) slices_S5x64_S1x64_1_0) shapeCasts_S1x64_S64) shapeCasts_S64_S1x64 := by
    dsimp only [hostOps4_2]
    after_results_simp
    all_goals rfl
  refine (congrFun r _).trans ?_
  refine (cast_add2 (C := 64) _ _ 0 j).trans ?_
  refine (cast_drop2 (C := 64) _ _ j).trans ?_
  exact slice2_row 1 (by decide) _ _ 0 j

/-- The three stretches in order. -/
abbrev line4 : Valuation τ sig (Elt Ideal) := StableHlo.after (hostOps4_2 (F := Ideal)) (StableHlo.after (hostOps4_1 (F := Ideal)) (StableHlo.after (hostOps4 (F := Ideal)) W))

theorem keep4 (r : Ref sig .tc) (h : r ∉ hostOps4_W) (h1 : r ∉ hostOps4_1_W) (h2 : r ∉ hostOps4_2_W) : line4 W (Proc.devRef .tc r) = W (Proc.devRef .tc r) :=
  (StableHlo.after_of_writes_sub hostOps4_2 _ hostOps4_2_writes h2).trans <|
    (StableHlo.after_of_writes_sub hostOps4_1 _ hostOps4_1_writes h1).trans (StableHlo.after_of_writes_sub hostOps4 _ hostOps4_writes h)

theorem pre4 (r : Ref sig .tc) (h : r ∉ hostOps4_W) (h1 : r ∉ hostOps4_1_W) :
    StableHlo.after (hostOps4_1 (F := Ideal)) (StableHlo.after (hostOps4 (F := Ideal)) W) (Proc.devRef .tc r) = W (Proc.devRef .tc r) :=
  (StableHlo.after_of_writes_sub hostOps4_1 _ hostOps4_1_writes h1).trans (StableHlo.after_of_writes_sub hostOps4 _ hostOps4_writes h)

theorem agg4 (n : Fin 50000) (h : Fin 64) : line4 W (Proc.devRef .tc main_v90) (ix2 n h)
    = aggAt (fun e h => W (Proc.devRef .tc main_v58) (ix3 (1 : Fin 5) e h)) (fun e => W (Proc.devRef .tc main_v11) (ix1 e)) (fun e => W (Proc.devRef .tc main_v20) (ix1 e))
        (fun n h => W (Proc.devRef .tc main_v83) (ix2 n h)) n h := by
  refine (sc4 _ n h).trans ?_
  rw [aggAt_eq_sumAt]
  have h0 : ∀ e : Fin 800000, StableHlo.after (hostOps4_1 (F := Ideal)) (StableHlo.after (hostOps4 (F := Ideal)) W) (Proc.devRef .tc main_v20) (ix1 e) = W (Proc.devRef .tc main_v20) (ix1 e) :=
    fun e => congrFun (pre4 W main_v20 (by decide) (by decide)) _
  have h1 : ∀ e : Fin 800000, StableHlo.after (hostOps4_1 (F := Ideal)) (StableHlo.after (hostOps4 (F := Ideal)) W) (Proc.devRef .tc main_v85) (ix2 e h) = W (Proc.devRef .tc main_v58) (ix3 (1 : Fin 5) e h) :=
    fun e => (congrFun (StableHlo.after_of_writes_sub hostOps4_1 _ hostOps4_1_writes (by decide : main_v85 ∉ hostOps4_1_W)) _).trans (km4 W e h)
  have h2 : ∀ e : Fin 800000, StableHlo.after (hostOps4_1 (F := Ideal)) (StableHlo.after (hostOps4 (F := Ideal)) W) (Proc.devRef .tc main_v86) (ix2 e h)
      = tk (W (Proc.devRef .tc main_v11) (ix1 e)) (fun n => W (Proc.devRef .tc main_v83) (ix2 n h)) := fun e => by
    refine (tk4 _ e h).trans ?_
    rw [StableHlo.after_of_writes_sub hostOps4 W hostOps4_writes (by decide : main_v11 ∉ hostOps4_W),
      StableHlo.after_of_writes_sub hostOps4 W hostOps4_writes (by decide : main_v83 ∉ hostOps4_W)]
  simp only [h0, h1, h2]

theorem sw4' (i j : Fin 64) : line4 W (Proc.devRef .tc main_v92) (ix2 i j) = W (Proc.devRef .tc main_arg13) (ix3 (1 : Fin 5) i j) :=
  (sw4 _ i j).trans (congrFun (pre4 W main_arg13 (by decide) (by decide)) _)
theorem gw4' (j : Fin 64) : line4 W (Proc.devRef .tc main_v96) (ix2 (0 : Fin 1) j) = W (Proc.devRef .tc main_arg15) (ix3 (1 : Fin 5) (0 : Fin 1) j) :=
  (gw4 _ j).trans (congrFun (pre4 W main_arg15 (by decide) (by decide)) _)
theorem sb4' (j : Fin 64) : line4 W (Proc.devRef .tc main_v99) (ix2 (0 : Fin 1) j) = W (Proc.devRef .tc main_arg14) (ix2 (1 : Fin 5) j) :=
  (sb4 _ j).trans (congrFun (pre4 W main_arg14 (by decide) (by decide)) _)
theorem gb4' (j : Fin 64) : line4 W (Proc.devRef .tc main_v100) (ix2 (0 : Fin 1) j) = W (Proc.devRef .tc main_arg16) (ix2 (1 : Fin 5) j) :=
  (gb4 _ j).trans (congrFun (pre4 W main_arg16 (by decide) (by decide)) _)

end Cert.KernelIdeal.Hand
-- ==== Proof.Value.HostB5.lean ====
/-
  The host lines before the node update of call 5, entry by entry.
-/
module

public import proofs.«01_k».proof.Proof.Value.HostB3

@[expose] public section

set_option maxRecDepth 100000

noncomputable section

open scoped BigOperators

namespace Cert.KernelIdeal.Hand

open Cert.KernelIdeal Cert.KernelIdeal.Gen Cert.Common Cert.Value
open Idealize.ShloMosaic Idealize.ShloMosaic.ValueIdx Idealize.ShloMosaic.TcCoe
open Idealize.ShloMosaic.Pipeline (Dat Cfg Window)

variable (W : Valuation τ sig (Elt Ideal))

theorem km5 (e : Fin 800000) (h : Fin 64) : StableHlo.after (hostOps5 (F := Ideal)) W (Proc.devRef .tc main_v105) (ix2 e h) = W (Proc.devRef .tc main_v58) (ix3 (2 : Fin 5) e h) := by
  have r : StableHlo.after (hostOps5 (F := Ideal)) W (Proc.devRef .tc main_v105)
      = shapeCast S800000x64 (extractStridedSlice S1x800000x64 ![2, 0, 0] (W (Proc.devRef .tc main_v58)) slices_S5x800000x64_S1x800000x64_2_0_0) shapeCasts_S1x800000x64_S800000x64 := by
    dsimp only [hostOps5]
    after_results_simp
    all_goals rfl
  refine (congrFun r _).trans ?_
  refine (cast_drop3 (A := 800000) (C := 64) _ _ e h).trans ?_
  exact slice3_row 2 (by decide) _ _ 0 e h

theorem tk5 (e : Fin 800000) (h : Fin 64) : StableHlo.after (hostOps5_1 (F := Ideal)) W (Proc.devRef .tc main_v106) (ix2 e h)
    = tk (W (Proc.devRef .tc main_v11) (ix1 e)) (fun n => W (Proc.devRef .tc main_v103) (ix2 n h)) := by
  have r : StableHlo.after (hostOps5_1 (F := Ideal)) W (Proc.devRef .tc main_v106)
      = look bcast_S_S800000 bcast_S800000_S800000x1_0 bcast_S_S800000x1 bcast_S1_S1x1_1 bcast_S1x1_S800000x1_0_1
          bcast_S800000_S800000x64_0 bcast_S_S800000x64 reducesTo_S800000x1_S800000_d1 h_S_ gather_S50000x64_S800000x1_S800000x64_1_0_n_n_0_1_164.wf (W (Proc.devRef .tc main_v103)) (W (Proc.devRef .tc main_v11)) := by
    simp only [hostOps5_1, StableHlo.TRef.binary, StableHlo.TRef.nullary, StableHlo.TRef.ternary, StableHlo.TRef.unary, StableHlo.TRef.toBuf, StableHlo.TRef.ofBuf, cast_eq]
    after_results_simp
    rfl
  exact (congrFun r _).trans (look_apply _ _ _ _ _ _ _ _ _ _ _ _ e h)

theorem sc5 (n : Fin 50000) (h : Fin 64) : StableHlo.after (hostOps5_2 (F := Ideal)) W (Proc.devRef .tc main_v110) (ix2 n h)
    = sumAt (fun e => W (Proc.devRef .tc main_v20) (ix1 e)) (fun e => W (Proc.devRef .tc main_v105) (ix2 e h)) (fun e => W (Proc.devRef .tc main_v106) (ix2 e h)) n := by
  have r : StableHlo.after (hostOps5_2 (F := Ideal)) W (Proc.devRef .tc main_v110)
      = Host.scatterAdd (F := Ideal) scatter_S50000x64_S800000x1_S800000x64_1_0_0_1
          (broadcastInDim S50000x64 ![] bcast_S_S50000x64 (constant S_ .f32 0x00000000#32))
          (broadcastInDim S800000x1 ![0] bcast_S800000_S800000x1_0 (W (Proc.devRef .tc main_v20)))
          (mulf (F := Ideal) (s := S800000x64) (φ := .f32) (W (Proc.devRef .tc main_v105)) (W (Proc.devRef .tc main_v106))) := by
    dsimp only [hostOps5_2]
    after_results_simp
    all_goals rfl
  refine (congrFun r _).trans ?_
  exact scat_row (N := 50000) (C := 64) (E := 800000) scatter_S50000x64_S800000x1_S800000x64_1_0_0_1.wf _ rfl _
    (fun _ _ => (bid_scalar _ _ _).trans Ideal.ofBits_zero_f32) _ (fun e => W (Proc.devRef .tc main_v20) (ix1 e))
    (fun e => bid_unitcol (R := 800000) (C := 1) _ _ e 0) _ h _ (fun e => rfl) n

theorem sw5 (i j : Fin 64) : StableHlo.after (hostOps5_2 (F := Ideal)) W (Proc.devRef .tc main_v112) (ix2 i j) = W (Proc.devRef .tc main_arg13) (ix3 (2 : Fin 5) i j) := by
  have r : StableHlo.after (hostOps5_2 (F := Ideal)) W (Proc.devRef .tc main_v112)
      = shapeCast S64x64 (extractStridedSlice S1x64x64 ![2, 0, 0] (W (Proc.devRef .tc main_arg13)) slices_S5x64x64_S1x64x64_2_0_0) shapeCasts_S1x64x64_S64x64 := by
    dsimp only [hostOps5_2]
    after_results_simp
    all_goals rfl
  refine (congrFun r _).trans ?_
  refine (cast_drop3 (A := 64) (C := 64) _ _ i j).trans ?_
  exact slice3_row 2 (by decide) _ _ 0 i j

theorem gw5 (j : Fin 64) : StableHlo.after (hostOps5_2 (F := Ideal)) W (Proc.devRef .tc main_v116) (ix2 (0 : Fin 1) j) = W (Proc.devRef .tc main_arg15) (ix3 (2 : Fin 5) (0 : Fin 1) j) := by
  have r : StableHlo.after (hostOps5_2 (F := Ideal)) W (Proc.devRef .tc main_v116)
      = shapeCast S1x64 (extractStridedSlice S1x1x64 ![2, 0, 0] (W (Proc.devRef .tc main_arg15)) slices_S5x1x64_S1x1x64_2_0_0) shapeCasts_S1x1x64_S1x64 := by
    dsimp only [hostOps5_2]
    after_results_simp
    all_goals rfl
  refine (congrFun r _).trans ?_
  refine (cast_drop3 (A := 1) (C := 64) _ _ 0 j).trans ?_
  exact slice3_row 2 (by decide) _ _ 0 0 j

theorem sb5 (j : Fin 64) : StableHlo.after (hostOps5_2 (F := Ideal)) W (Proc.devRef .tc main_v119) (ix2 (0 : Fin 1) j) = W (Proc.devRef .tc main_arg14) (ix2 (2 : Fin 5) j) := by
  have r : StableHlo.after (hostOps5_2 (F := Ideal)) W (Proc.devRef .tc main_v119)
      = shapeCast S1x64 (shapeCast S64 (extractStridedSlice S1x64 ![2, 0] (W (Proc.devRef .tc main_arg14)) slices_S5x64_S1x64_2_0) shapeCasts_S1x64_S64) shapeCasts_S64_S1x64 := by
    dsimp only [hostOps5_2]
    after_results_simp
    all_goals rfl
  refine (congrFun r _).trans ?_
  refine (cast_add2 (C := 64) _ _ 0 j).trans ?_
  refine (cast_drop2 (C := 64) _ _ j).trans ?_
  exact slice2_row 2 (by decide) _ _ 0 j

theorem gb5 (j : Fin 64) : StableHlo.after (hostOps5_2 (F := Ideal)) W (Proc.devRef .tc main_v120) (ix2 (0 : Fin 1) j) = W (Proc.devRef .tc main_arg16) (ix2 (2 : Fin 5) j) := by
  have r : StableHlo.after (hostOps5_2 (F := Ideal)) W (Proc.devRef .tc main_v120)
      = shapeCast S1x64 (shapeCast S64 (extractStridedSlice S1x64 ![2, 0] (W (Proc.devRef .tc main_arg16)) slices_S5x64_S1x64_2_0) shapeCasts_S1x64_S64) shapeCasts_S64_S1x64 := by
    dsimp only [hostOps5_2]
    after_results_simp
    all_goals rfl
  refine (congrFun r _).trans ?_
  refine (cast_add2 (C := 64) _ _ 0 j).trans ?_
  refine (cast_drop2 (C := 64) _ _ j).trans ?_
  exact slice2_row 2 (by decide) _ _ 0 j

/-- The three stretches in order. -/
abbrev line5 : Valuation τ sig (Elt Ideal) := StableHlo.after (hostOps5_2 (F := Ideal)) (StableHlo.after (hostOps5_1 (F := Ideal)) (StableHlo.after (hostOps5 (F := Ideal)) W))

theorem keep5 (r : Ref sig .tc) (h : r ∉ hostOps5_W) (h1 : r ∉ hostOps5_1_W) (h2 : r ∉ hostOps5_2_W) : line5 W (Proc.devRef .tc r) = W (Proc.devRef .tc r) :=
  (StableHlo.after_of_writes_sub hostOps5_2 _ hostOps5_2_writes h2).trans <|
    (StableHlo.after_of_writes_sub hostOps5_1 _ hostOps5_1_writes h1).trans (StableHlo.after_of_writes_sub hostOps5 _ hostOps5_writes h)

theorem pre5 (r : Ref sig .tc) (h : r ∉ hostOps5_W) (h1 : r ∉ hostOps5_1_W) :
    StableHlo.after (hostOps5_1 (F := Ideal)) (StableHlo.after (hostOps5 (F := Ideal)) W) (Proc.devRef .tc r) = W (Proc.devRef .tc r) :=
  (StableHlo.after_of_writes_sub hostOps5_1 _ hostOps5_1_writes h1).trans (StableHlo.after_of_writes_sub hostOps5 _ hostOps5_writes h)

theorem agg5 (n : Fin 50000) (h : Fin 64) : line5 W (Proc.devRef .tc main_v110) (ix2 n h)
    = aggAt (fun e h => W (Proc.devRef .tc main_v58) (ix3 (2 : Fin 5) e h)) (fun e => W (Proc.devRef .tc main_v11) (ix1 e)) (fun e => W (Proc.devRef .tc main_v20) (ix1 e))
        (fun n h => W (Proc.devRef .tc main_v103) (ix2 n h)) n h := by
  refine (sc5 _ n h).trans ?_
  rw [aggAt_eq_sumAt]
  have h0 : ∀ e : Fin 800000, StableHlo.after (hostOps5_1 (F := Ideal)) (StableHlo.after (hostOps5 (F := Ideal)) W) (Proc.devRef .tc main_v20) (ix1 e) = W (Proc.devRef .tc main_v20) (ix1 e) :=
    fun e => congrFun (pre5 W main_v20 (by decide) (by decide)) _
  have h1 : ∀ e : Fin 800000, StableHlo.after (hostOps5_1 (F := Ideal)) (StableHlo.after (hostOps5 (F := Ideal)) W) (Proc.devRef .tc main_v105) (ix2 e h) = W (Proc.devRef .tc main_v58) (ix3 (2 : Fin 5) e h) :=
    fun e => (congrFun (StableHlo.after_of_writes_sub hostOps5_1 _ hostOps5_1_writes (by decide : main_v105 ∉ hostOps5_1_W)) _).trans (km5 W e h)
  have h2 : ∀ e : Fin 800000, StableHlo.after (hostOps5_1 (F := Ideal)) (StableHlo.after (hostOps5 (F := Ideal)) W) (Proc.devRef .tc main_v106) (ix2 e h)
      = tk (W (Proc.devRef .tc main_v11) (ix1 e)) (fun n => W (Proc.devRef .tc main_v103) (ix2 n h)) := fun e => by
    refine (tk5 _ e h).trans ?_
    rw [StableHlo.after_of_writes_sub hostOps5 W hostOps5_writes (by decide : main_v11 ∉ hostOps5_W),
      StableHlo.after_of_writes_sub hostOps5 W hostOps5_writes (by decide : main_v103 ∉ hostOps5_W)]
  simp only [h0, h1, h2]

theorem sw5' (i j : Fin 64) : line5 W (Proc.devRef .tc main_v112) (ix2 i j) = W (Proc.devRef .tc main_arg13) (ix3 (2 : Fin 5) i j) :=
  (sw5 _ i j).trans (congrFun (pre5 W main_arg13 (by decide) (by decide)) _)
theorem gw5' (j : Fin 64) : line5 W (Proc.devRef .tc main_v116) (ix2 (0 : Fin 1) j) = W (Proc.devRef .tc main_arg15) (ix3 (2 : Fin 5) (0 : Fin 1) j) :=
  (gw5 _ j).trans (congrFun (pre5 W main_arg15 (by decide) (by decide)) _)
theorem sb5' (j : Fin 64) : line5 W (Proc.devRef .tc main_v119) (ix2 (0 : Fin 1) j) = W (Proc.devRef .tc main_arg14) (ix2 (2 : Fin 5) j) :=
  (sb5 _ j).trans (congrFun (pre5 W main_arg14 (by decide) (by decide)) _)
theorem gb5' (j : Fin 64) : line5 W (Proc.devRef .tc main_v120) (ix2 (0 : Fin 1) j) = W (Proc.devRef .tc main_arg16) (ix2 (2 : Fin 5) j) :=
  (gb5 _ j).trans (congrFun (pre5 W main_arg16 (by decide) (by decide)) _)

end Cert.KernelIdeal.Hand
-- ==== Proof.Value.HostB6.lean ====
/-
  The host lines before the node update of call 6, entry by entry.
-/
module

public import proofs.«01_k».proof.Proof.Value.HostB3

@[expose] public section

set_option maxRecDepth 100000

noncomputable section

open scoped BigOperators

namespace Cert.KernelIdeal.Hand

open Cert.KernelIdeal Cert.KernelIdeal.Gen Cert.Common Cert.Value
open Idealize.ShloMosaic Idealize.ShloMosaic.ValueIdx Idealize.ShloMosaic.TcCoe
open Idealize.ShloMosaic.Pipeline (Dat Cfg Window)

variable (W : Valuation τ sig (Elt Ideal))

theorem km6 (e : Fin 800000) (h : Fin 64) : StableHlo.after (hostOps6 (F := Ideal)) W (Proc.devRef .tc main_v125) (ix2 e h) = W (Proc.devRef .tc main_v58) (ix3 (3 : Fin 5) e h) := by
  have r : StableHlo.after (hostOps6 (F := Ideal)) W (Proc.devRef .tc main_v125)
      = shapeCast S800000x64 (extractStridedSlice S1x800000x64 ![3, 0, 0] (W (Proc.devRef .tc main_v58)) slices_S5x800000x64_S1x800000x64_3_0_0) shapeCasts_S1x800000x64_S800000x64 := by
    dsimp only [hostOps6]
    after_results_simp
    all_goals rfl
  refine (congrFun r _).trans ?_
  refine (cast_drop3 (A := 800000) (C := 64) _ _ e h).trans ?_
  exact slice3_row 3 (by decide) _ _ 0 e h

theorem tk6 (e : Fin 800000) (h : Fin 64) : StableHlo.after (hostOps6_1 (F := Ideal)) W (Proc.devRef .tc main_v126) (ix2 e h)
    = tk (W (Proc.devRef .tc main_v11) (ix1 e)) (fun n => W (Proc.devRef .tc main_v123) (ix2 n h)) := by
  have r : StableHlo.after (hostOps6_1 (F := Ideal)) W (Proc.devRef .tc main_v126)
      = look bcast_S_S800000 bcast_S800000_S800000x1_0 bcast_S_S800000x1 bcast_S1_S1x1_1 bcast_S1x1_S800000x1_0_1
          bcast_S800000_S800000x64_0 bcast_S_S800000x64 reducesTo_S800000x1_S800000_d1 h_S_ gather_S50000x64_S800000x1_S800000x64_1_0_n_n_0_1_164.wf (W (Proc.devRef .tc main_v123)) (W (Proc.devRef .tc main_v11)) := by
    simp only [hostOps6_1, StableHlo.TRef.binary, StableHlo.TRef.nullary, StableHlo.TRef.ternary, StableHlo.TRef.unary, StableHlo.TRef.toBuf, StableHlo.TRef.ofBuf, cast_eq]
    after_results_simp
    rfl
  exact (congrFun r _).trans (look_apply _ _ _ _ _ _ _ _ _ _ _ _ e h)

theorem sc6 (n : Fin 50000) (h : Fin 64) : StableHlo.after (hostOps6_2 (F := Ideal)) W (Proc.devRef .tc main_v130) (ix2 n h)
    = sumAt (fun e => W (Proc.devRef .tc main_v20) (ix1 e)) (fun e => W (Proc.devRef .tc main_v125) (ix2 e h)) (fun e => W (Proc.devRef .tc main_v126) (ix2 e h)) n := by
  have r : StableHlo.after (hostOps6_2 (F := Ideal)) W (Proc.devRef .tc main_v130)
      = Host.scatterAdd (F := Ideal) scatter_S50000x64_S800000x1_S800000x64_1_0_0_1
          (broadcastInDim S50000x64 ![] bcast_S_S50000x64 (constant S_ .f32 0x00000000#32))
          (broadcastInDim S800000x1 ![0] bcast_S800000_S800000x1_0 (W (Proc.devRef .tc main_v20)))
          (mulf (F := Ideal) (s := S800000x64) (φ := .f32) (W (Proc.devRef .tc main_v125)) (W (Proc.devRef .tc main_v126))) := by
    dsimp only [hostOps6_2]
    after_results_simp
    all_goals rfl
  refine (congrFun r _).trans ?_
  exact scat_row (N := 50000) (C := 64) (E := 800000) scatter_S50000x64_S800000x1_S800000x64_1_0_0_1.wf _ rfl _
    (fun _ _ => (bid_scalar _ _ _).trans Ideal.ofBits_zero_f32) _ (fun e => W (Proc.devRef .tc main_v20) (ix1 e))
    (fun e => bid_unitcol (R := 800000) (C := 1) _ _ e 0) _ h _ (fun e => rfl) n

theorem sw6 (i j : Fin 64) : StableHlo.after (hostOps6_2 (F := Ideal)) W (Proc.devRef .tc main_v132) (ix2 i j) = W (Proc.devRef .tc main_arg13) (ix3 (3 : Fin 5) i j) := by
  have r : StableHlo.after (hostOps6_2 (F := Ideal)) W (Proc.devRef .tc main_v132)
      = shapeCast S64x64 (extractStridedSlice S1x64x64 ![3, 0, 0] (W (Proc.devRef .tc main_arg13)) slices_S5x64x64_S1x64x64_3_0_0) shapeCasts_S1x64x64_S64x64 := by
    dsimp only [hostOps6_2]
    after_results_simp
    all_goals rfl
  refine (congrFun r _).trans ?_
  refine (cast_drop3 (A := 64) (C := 64) _ _ i j).trans ?_
  exact slice3_row 3 (by decide) _ _ 0 i j

theorem gw6 (j : Fin 64) : StableHlo.after (hostOps6_2 (F := Ideal)) W (Proc.devRef .tc main_v136) (ix2 (0 : Fin 1) j) = W (Proc.devRef .tc main_arg15) (ix3 (3 : Fin 5) (0 : Fin 1) j) := by
  have r : StableHlo.after (hostOps6_2 (F := Ideal)) W (Proc.devRef .tc main_v136)
      = shapeCast S1x64 (extractStridedSlice S1x1x64 ![3, 0, 0] (W (Proc.devRef .tc main_arg15)) slices_S5x1x64_S1x1x64_3_0_0) shapeCasts_S1x1x64_S1x64 := by
    dsimp only [hostOps6_2]
    after_results_simp
    all_goals rfl
  refine (congrFun r _).trans ?_
  refine (cast_drop3 (A := 1) (C := 64) _ _ 0 j).trans ?_
  exact slice3_row 3 (by decide) _ _ 0 0 j

theorem sb6 (j : Fin 64) : StableHlo.after (hostOps6_2 (F := Ideal)) W (Proc.devRef .tc main_v139) (ix2 (0 : Fin 1) j) = W (Proc.devRef .tc main_arg14) (ix2 (3 : Fin 5) j) := by
  have r : StableHlo.after (hostOps6_2 (F := Ideal)) W (Proc.devRef .tc main_v139)
      = shapeCast S1x64 (shapeCast S64 (extractStridedSlice S1x64 ![3, 0] (W (Proc.devRef .tc main_arg14)) slices_S5x64_S1x64_3_0) shapeCasts_S1x64_S64) shapeCasts_S64_S1x64 := by
    dsimp only [hostOps6_2]
    after_results_simp
    all_goals rfl
  refine (congrFun r _).trans ?_
  refine (cast_add2 (C := 64) _ _ 0 j).trans ?_
  refine (cast_drop2 (C := 64) _ _ j).trans ?_
  exact slice2_row 3 (by decide) _ _ 0 j

theorem gb6 (j : Fin 64) : StableHlo.after (hostOps6_2 (F := Ideal)) W (Proc.devRef .tc main_v140) (ix2 (0 : Fin 1) j) = W (Proc.devRef .tc main_arg16) (ix2 (3 : Fin 5) j) := by
  have r : StableHlo.after (hostOps6_2 (F := Ideal)) W (Proc.devRef .tc main_v140)
      = shapeCast S1x64 (shapeCast S64 (extractStridedSlice S1x64 ![3, 0] (W (Proc.devRef .tc main_arg16)) slices_S5x64_S1x64_3_0) shapeCasts_S1x64_S64) shapeCasts_S64_S1x64 := by
    dsimp only [hostOps6_2]
    after_results_simp
    all_goals rfl
  refine (congrFun r _).trans ?_
  refine (cast_add2 (C := 64) _ _ 0 j).trans ?_
  refine (cast_drop2 (C := 64) _ _ j).trans ?_
  exact slice2_row 3 (by decide) _ _ 0 j

/-- The three stretches in order. -/
abbrev line6 : Valuation τ sig (Elt Ideal) := StableHlo.after (hostOps6_2 (F := Ideal)) (StableHlo.after (hostOps6_1 (F := Ideal)) (StableHlo.after (hostOps6 (F := Ideal)) W))

theorem keep6 (r : Ref sig .tc) (h : r ∉ hostOps6_W) (h1 : r ∉ hostOps6_1_W) (h2 : r ∉ hostOps6_2_W) : line6 W (Proc.devRef .tc r) = W (Proc.devRef .tc r) :=
  (StableHlo.after_of_writes_sub hostOps6_2 _ hostOps6_2_writes h2).trans <|
    (StableHlo.after_of_writes_sub hostOps6_1 _ hostOps6_1_writes h1).trans (StableHlo.after_of_writes_sub hostOps6 _ hostOps6_writes h)

theorem pre6 (r : Ref sig .tc) (h : r ∉ hostOps6_W) (h1 : r ∉ hostOps6_1_W) :
    StableHlo.after (hostOps6_1 (F := Ideal)) (StableHlo.after (hostOps6 (F := Ideal)) W) (Proc.devRef .tc r) = W (Proc.devRef .tc r) :=
  (StableHlo.after_of_writes_sub hostOps6_1 _ hostOps6_1_writes h1).trans (StableHlo.after_of_writes_sub hostOps6 _ hostOps6_writes h)

theorem agg6 (n : Fin 50000) (h : Fin 64) : line6 W (Proc.devRef .tc main_v130) (ix2 n h)
    = aggAt (fun e h => W (Proc.devRef .tc main_v58) (ix3 (3 : Fin 5) e h)) (fun e => W (Proc.devRef .tc main_v11) (ix1 e)) (fun e => W (Proc.devRef .tc main_v20) (ix1 e))
        (fun n h => W (Proc.devRef .tc main_v123) (ix2 n h)) n h := by
  refine (sc6 _ n h).trans ?_
  rw [aggAt_eq_sumAt]
  have h0 : ∀ e : Fin 800000, StableHlo.after (hostOps6_1 (F := Ideal)) (StableHlo.after (hostOps6 (F := Ideal)) W) (Proc.devRef .tc main_v20) (ix1 e) = W (Proc.devRef .tc main_v20) (ix1 e) :=
    fun e => congrFun (pre6 W main_v20 (by decide) (by decide)) _
  have h1 : ∀ e : Fin 800000, StableHlo.after (hostOps6_1 (F := Ideal)) (StableHlo.after (hostOps6 (F := Ideal)) W) (Proc.devRef .tc main_v125) (ix2 e h) = W (Proc.devRef .tc main_v58) (ix3 (3 : Fin 5) e h) :=
    fun e => (congrFun (StableHlo.after_of_writes_sub hostOps6_1 _ hostOps6_1_writes (by decide : main_v125 ∉ hostOps6_1_W)) _).trans (km6 W e h)
  have h2 : ∀ e : Fin 800000, StableHlo.after (hostOps6_1 (F := Ideal)) (StableHlo.after (hostOps6 (F := Ideal)) W) (Proc.devRef .tc main_v126) (ix2 e h)
      = tk (W (Proc.devRef .tc main_v11) (ix1 e)) (fun n => W (Proc.devRef .tc main_v123) (ix2 n h)) := fun e => by
    refine (tk6 _ e h).trans ?_
    rw [StableHlo.after_of_writes_sub hostOps6 W hostOps6_writes (by decide : main_v11 ∉ hostOps6_W),
      StableHlo.after_of_writes_sub hostOps6 W hostOps6_writes (by decide : main_v123 ∉ hostOps6_W)]
  simp only [h0, h1, h2]

theorem sw6' (i j : Fin 64) : line6 W (Proc.devRef .tc main_v132) (ix2 i j) = W (Proc.devRef .tc main_arg13) (ix3 (3 : Fin 5) i j) :=
  (sw6 _ i j).trans (congrFun (pre6 W main_arg13 (by decide) (by decide)) _)
theorem gw6' (j : Fin 64) : line6 W (Proc.devRef .tc main_v136) (ix2 (0 : Fin 1) j) = W (Proc.devRef .tc main_arg15) (ix3 (3 : Fin 5) (0 : Fin 1) j) :=
  (gw6 _ j).trans (congrFun (pre6 W main_arg15 (by decide) (by decide)) _)
theorem sb6' (j : Fin 64) : line6 W (Proc.devRef .tc main_v139) (ix2 (0 : Fin 1) j) = W (Proc.devRef .tc main_arg14) (ix2 (3 : Fin 5) j) :=
  (sb6 _ j).trans (congrFun (pre6 W main_arg14 (by decide) (by decide)) _)
theorem gb6' (j : Fin 64) : line6 W (Proc.devRef .tc main_v140) (ix2 (0 : Fin 1) j) = W (Proc.devRef .tc main_arg16) (ix2 (3 : Fin 5) j) :=
  (gb6 _ j).trans (congrFun (pre6 W main_arg16 (by decide) (by decide)) _)

end Cert.KernelIdeal.Hand
-- ==== Proof.Value.HostB7.lean ====
/-
  The host lines before the node update of call 7, entry by entry.
-/
module

public import proofs.«01_k».proof.Proof.Value.HostB3

@[expose] public section

set_option maxRecDepth 100000

noncomputable section

open scoped BigOperators

namespace Cert.KernelIdeal.Hand

open Cert.KernelIdeal Cert.KernelIdeal.Gen Cert.Common Cert.Value
open Idealize.ShloMosaic Idealize.ShloMosaic.ValueIdx Idealize.ShloMosaic.TcCoe
open Idealize.ShloMosaic.Pipeline (Dat Cfg Window)

variable (W : Valuation τ sig (Elt Ideal))

theorem km7 (e : Fin 800000) (h : Fin 64) : StableHlo.after (hostOps7 (F := Ideal)) W (Proc.devRef .tc main_v145) (ix2 e h) = W (Proc.devRef .tc main_v58) (ix3 (4 : Fin 5) e h) := by
  have r : StableHlo.after (hostOps7 (F := Ideal)) W (Proc.devRef .tc main_v145)
      = shapeCast S800000x64 (extractStridedSlice S1x800000x64 ![4, 0, 0] (W (Proc.devRef .tc main_v58)) slices_S5x800000x64_S1x800000x64_4_0_0) shapeCasts_S1x800000x64_S800000x64 := by
    dsimp only [hostOps7]
    after_results_simp
    all_goals rfl
  refine (congrFun r _).trans ?_
  refine (cast_drop3 (A := 800000) (C := 64) _ _ e h).trans ?_
  exact slice3_row 4 (by decide) _ _ 0 e h

theorem tk7 (e : Fin 800000) (h : Fin 64) : StableHlo.after (hostOps7_1 (F := Ideal)) W (Proc.devRef .tc main_v146) (ix2 e h)
    = tk (W (Proc.devRef .tc main_v11) (ix1 e)) (fun n => W (Proc.devRef .tc main_v143) (ix2 n h)) := by
  have r : StableHlo.after (hostOps7_1 (F := Ideal)) W (Proc.devRef .tc main_v146)
      = look bcast_S_S800000 bcast_S800000_S800000x1_0 bcast_S_S800000x1 bcast_S1_S1x1_1 bcast_S1x1_S800000x1_0_1
          bcast_S800000_S800000x64_0 bcast_S_S800000x64 reducesTo_S800000x1_S800000_d1 h_S_ gather_S50000x64_S800000x1_S800000x64_1_0_n_n_0_1_164.wf (W (Proc.devRef .tc main_v143)) (W (Proc.devRef .tc main_v11)) := by
    simp only [hostOps7_1, StableHlo.TRef.binary, StableHlo.TRef.nullary, StableHlo.TRef.ternary, StableHlo.TRef.unary, StableHlo.TRef.toBuf, StableHlo.TRef.ofBuf, cast_eq]
    after_results_simp
    rfl
  exact (congrFun r _).trans (look_apply _ _ _ _ _ _ _ _ _ _ _ _ e h)

theorem sc7 (n : Fin 50000) (h : Fin 64) : StableHlo.after (hostOps7_2 (F := Ideal)) W (Proc.devRef .tc main_v150) (ix2 n h)
    = sumAt (fun e => W (Proc.devRef .tc main_v20) (ix1 e)) (fun e => W (Proc.devRef .tc main_v145) (ix2 e h)) (fun e => W (Proc.devRef .tc main_v146) (ix2 e h)) n := by
  have r : StableHlo.after (hostOps7_2 (F := Ideal)) W (Proc.devRef .tc main_v150)
      = Host.scatterAdd (F := Ideal) scatter_S50000x64_S800000x1_S800000x64_1_0_0_1
          (broadcastInDim S50000x64 ![] bcast_S_S50000x64 (constant S_ .f32 0x00000000#32))
          (broadcastInDim S800000x1 ![0] bcast_S800000_S800000x1_0 (W (Proc.devRef .tc main_v20)))
          (mulf (F := Ideal) (s := S800000x64) (φ := .f32) (W (Proc.devRef .tc main_v145)) (W (Proc.devRef .tc main_v146))) := by
    dsimp only [hostOps7_2]
    after_results_simp
    all_goals rfl
  refine (congrFun r _).trans ?_
  exact scat_row (N := 50000) (C := 64) (E := 800000) scatter_S50000x64_S800000x1_S800000x64_1_0_0_1.wf _ rfl _
    (fun _ _ => (bid_scalar _ _ _).trans Ideal.ofBits_zero_f32) _ (fun e => W (Proc.devRef .tc main_v20) (ix1 e))
    (fun e => bid_unitcol (R := 800000) (C := 1) _ _ e 0) _ h _ (fun e => rfl) n

theorem sw7 (i j : Fin 64) : StableHlo.after (hostOps7_2 (F := Ideal)) W (Proc.devRef .tc main_v152) (ix2 i j) = W (Proc.devRef .tc main_arg13) (ix3 (4 : Fin 5) i j) := by
  have r : StableHlo.after (hostOps7_2 (F := Ideal)) W (Proc.devRef .tc main_v152)
      = shapeCast S64x64 (extractStridedSlice S1x64x64 ![4, 0, 0] (W (Proc.devRef .tc main_arg13)) slices_S5x64x64_S1x64x64_4_0_0) shapeCasts_S1x64x64_S64x64 := by
    dsimp only [hostOps7_2]
    after_results_simp
    all_goals rfl
  refine (congrFun r _).trans ?_
  refine (cast_drop3 (A := 64) (C := 64) _ _ i j).trans ?_
  exact slice3_row 4 (by decide) _ _ 0 i j

theorem gw7 (j : Fin 64) : StableHlo.after (hostOps7_2 (F := Ideal)) W (Proc.devRef .tc main_v156) (ix2 (0 : Fin 1) j) = W (Proc.devRef .tc main_arg15) (ix3 (4 : Fin 5) (0 : Fin 1) j) := by
  have r : StableHlo.after (hostOps7_2 (F := Ideal)) W (Proc.devRef .tc main_v156)
      = shapeCast S1x64 (extractStridedSlice S1x1x64 ![4, 0, 0] (W (Proc.devRef .tc main_arg15)) slices_S5x1x64_S1x1x64_4_0_0) shapeCasts_S1x1x64_S1x64 := by
    dsimp only [hostOps7_2]
    after_results_simp
    all_goals rfl
  refine (congrFun r _).trans ?_
  refine (cast_drop3 (A := 1) (C := 64) _ _ 0 j).trans ?_
  exact slice3_row 4 (by decide) _ _ 0 0 j

theorem sb7 (j : Fin 64) : StableHlo.after (hostOps7_2 (F := Ideal)) W (Proc.devRef .tc main_v159) (ix2 (0 : Fin 1) j) = W (Proc.devRef .tc main_arg14) (ix2 (4 : Fin 5) j) := by
  have r : StableHlo.after (hostOps7_2 (F := Ideal)) W (Proc.devRef .tc main_v159)
      = shapeCast S1x64 (shapeCast S64 (extractStridedSlice S1x64 ![4, 0] (W (Proc.devRef .tc main_arg14)) slices_S5x64_S1x64_4_0) shapeCasts_S1x64_S64) shapeCasts_S64_S1x64 := by
    dsimp only [hostOps7_2]
    after_results_simp
    all_goals rfl
  refine (congrFun r _).trans ?_
  refine (cast_add2 (C := 64) _ _ 0 j).trans ?_
  refine (cast_drop2 (C := 64) _ _ j).trans ?_
  exact slice2_row 4 (by decide) _ _ 0 j

theorem gb7 (j : Fin 64) : StableHlo.after (hostOps7_2 (F := Ideal)) W (Proc.devRef .tc main_v160) (ix2 (0 : Fin 1) j) = W (Proc.devRef .tc main_arg16) (ix2 (4 : Fin 5) j) := by
  have r : StableHlo.after (hostOps7_2 (F := Ideal)) W (Proc.devRef .tc main_v160)
      = shapeCast S1x64 (shapeCast S64 (extractStridedSlice S1x64 ![4, 0] (W (Proc.devRef .tc main_arg16)) slices_S5x64_S1x64_4_0) shapeCasts_S1x64_S64) shapeCasts_S64_S1x64 := by
    dsimp only [hostOps7_2]
    after_results_simp
    all_goals rfl
  refine (congrFun r _).trans ?_
  refine (cast_add2 (C := 64) _ _ 0 j).trans ?_
  refine (cast_drop2 (C := 64) _ _ j).trans ?_
  exact slice2_row 4 (by decide) _ _ 0 j

theorem pb1_7 (j : Fin 64) : StableHlo.after (hostOps7_2 (F := Ideal)) W (Proc.devRef .tc main_v161) (ix2 (0 : Fin 1) j) = W (Proc.devRef .tc main_arg18) (ix1 j) := by
  have r : StableHlo.after (hostOps7_2 (F := Ideal)) W (Proc.devRef .tc main_v161) = shapeCast S1x64 (W (Proc.devRef .tc main_arg18)) shapeCasts_S64_S1x64 := by
    dsimp only [hostOps7_2]
    after_results_simp
    all_goals rfl
  exact (congrFun r _).trans (cast_add2 (C := 64) _ _ 0 j)

theorem pb2_7 (j : Fin 3) : StableHlo.after (hostOps7_2 (F := Ideal)) W (Proc.devRef .tc main_v162) (ix2 (0 : Fin 1) j) = W (Proc.devRef .tc main_arg20) (ix1 j) := by
  have r : StableHlo.after (hostOps7_2 (F := Ideal)) W (Proc.devRef .tc main_v162) = shapeCast S1x3 (W (Proc.devRef .tc main_arg20)) shapeCasts_S3_S1x3 := by
    dsimp only [hostOps7_2]
    after_results_simp
    all_goals rfl
  exact (congrFun r _).trans (cast_add2 (C := 3) _ _ 0 j)

/-- The three stretches in order. -/
abbrev line7 : Valuation τ sig (Elt Ideal) := StableHlo.after (hostOps7_2 (F := Ideal)) (StableHlo.after (hostOps7_1 (F := Ideal)) (StableHlo.after (hostOps7 (F := Ideal)) W))

theorem keep7 (r : Ref sig .tc) (h : r ∉ hostOps7_W) (h1 : r ∉ hostOps7_1_W) (h2 : r ∉ hostOps7_2_W) : line7 W (Proc.devRef .tc r) = W (Proc.devRef .tc r) :=
  (StableHlo.after_of_writes_sub hostOps7_2 _ hostOps7_2_writes h2).trans <|
    (StableHlo.after_of_writes_sub hostOps7_1 _ hostOps7_1_writes h1).trans (StableHlo.after_of_writes_sub hostOps7 _ hostOps7_writes h)

theorem pre7 (r : Ref sig .tc) (h : r ∉ hostOps7_W) (h1 : r ∉ hostOps7_1_W) :
    StableHlo.after (hostOps7_1 (F := Ideal)) (StableHlo.after (hostOps7 (F := Ideal)) W) (Proc.devRef .tc r) = W (Proc.devRef .tc r) :=
  (StableHlo.after_of_writes_sub hostOps7_1 _ hostOps7_1_writes h1).trans (StableHlo.after_of_writes_sub hostOps7 _ hostOps7_writes h)

theorem agg7 (n : Fin 50000) (h : Fin 64) : line7 W (Proc.devRef .tc main_v150) (ix2 n h)
    = aggAt (fun e h => W (Proc.devRef .tc main_v58) (ix3 (4 : Fin 5) e h)) (fun e => W (Proc.devRef .tc main_v11) (ix1 e)) (fun e => W (Proc.devRef .tc main_v20) (ix1 e))
        (fun n h => W (Proc.devRef .tc main_v143) (ix2 n h)) n h := by
  refine (sc7 _ n h).trans ?_
  rw [aggAt_eq_sumAt]
  have h0 : ∀ e : Fin 800000, StableHlo.after (hostOps7_1 (F := Ideal)) (StableHlo.after (hostOps7 (F := Ideal)) W) (Proc.devRef .tc main_v20) (ix1 e) = W (Proc.devRef .tc main_v20) (ix1 e) :=
    fun e => congrFun (pre7 W main_v20 (by decide) (by decide)) _
  have h1 : ∀ e : Fin 800000, StableHlo.after (hostOps7_1 (F := Ideal)) (StableHlo.after (hostOps7 (F := Ideal)) W) (Proc.devRef .tc main_v145) (ix2 e h) = W (Proc.devRef .tc main_v58) (ix3 (4 : Fin 5) e h) :=
    fun e => (congrFun (StableHlo.after_of_writes_sub hostOps7_1 _ hostOps7_1_writes (by decide : main_v145 ∉ hostOps7_1_W)) _).trans (km7 W e h)
  have h2 : ∀ e : Fin 800000, StableHlo.after (hostOps7_1 (F := Ideal)) (StableHlo.after (hostOps7 (F := Ideal)) W) (Proc.devRef .tc main_v146) (ix2 e h)
      = tk (W (Proc.devRef .tc main_v11) (ix1 e)) (fun n => W (Proc.devRef .tc main_v143) (ix2 n h)) := fun e => by
    refine (tk7 _ e h).trans ?_
    rw [StableHlo.after_of_writes_sub hostOps7 W hostOps7_writes (by decide : main_v11 ∉ hostOps7_W),
      StableHlo.after_of_writes_sub hostOps7 W hostOps7_writes (by decide : main_v143 ∉ hostOps7_W)]
  simp only [h0, h1, h2]

theorem sw7' (i j : Fin 64) : line7 W (Proc.devRef .tc main_v152) (ix2 i j) = W (Proc.devRef .tc main_arg13) (ix3 (4 : Fin 5) i j) :=
  (sw7 _ i j).trans (congrFun (pre7 W main_arg13 (by decide) (by decide)) _)
theorem gw7' (j : Fin 64) : line7 W (Proc.devRef .tc main_v156) (ix2 (0 : Fin 1) j) = W (Proc.devRef .tc main_arg15) (ix3 (4 : Fin 5) (0 : Fin 1) j) :=
  (gw7 _ j).trans (congrFun (pre7 W main_arg15 (by decide) (by decide)) _)
theorem sb7' (j : Fin 64) : line7 W (Proc.devRef .tc main_v159) (ix2 (0 : Fin 1) j) = W (Proc.devRef .tc main_arg14) (ix2 (4 : Fin 5) j) :=
  (sb7 _ j).trans (congrFun (pre7 W main_arg14 (by decide) (by decide)) _)
theorem gb7' (j : Fin 64) : line7 W (Proc.devRef .tc main_v160) (ix2 (0 : Fin 1) j) = W (Proc.devRef .tc main_arg16) (ix2 (4 : Fin 5) j) :=
  (gb7 _ j).trans (congrFun (pre7 W main_arg16 (by decide) (by decide)) _)

theorem pb1_7' (j : Fin 64) : line7 W (Proc.devRef .tc main_v161) (ix2 (0 : Fin 1) j) = W (Proc.devRef .tc main_arg18) (ix1 j) :=
  (pb1_7 _ j).trans (congrFun (pre7 W main_arg18 (by decide) (by decide)) _)
theorem pb2_7' (j : Fin 3) : line7 W (Proc.devRef .tc main_v162) (ix2 (0 : Fin 1) j) = W (Proc.devRef .tc main_arg20) (ix1 j) :=
  (pb2_7 _ j).trans (congrFun (pre7 W main_arg20 (by decide) (by decide)) _)

end Cert.KernelIdeal.Hand
-- ==== Proof.Value.KerA.lean ====
/-
  What the host lines and the calls leave alone, carried from where it was made to where it is read.
-/
module

public import proofs.«01_k».proof.Proof.KernelIdeal.Run
public import proofs.«01_k».proof.Proof.Value.HostB4
public import proofs.«01_k».proof.Proof.Value.HostB5
public import proofs.«01_k».proof.Proof.Value.HostB6
public import proofs.«01_k».proof.Proof.Value.HostB7

@[expose] public section

set_option maxRecDepth 100000

noncomputable section

open scoped BigOperators

namespace Cert.KernelIdeal.Hand

open Cert.KernelIdeal Cert.KernelIdeal.Gen Cert.Common Cert.Value
open Idealize.ShloMosaic Idealize.ShloMosaic.ValueIdx Idealize.ShloMosaic.TcCoe
open Idealize.ShloMosaic.Pipeline (Dat Cfg Window)

variable (m : (ℓ : Loc nD τ sig) → Buf (Elt Ideal) ℓ) (c : Dev nD)

/-- The buffers before and after every call, in order. -/
def stg : ℕ → Valuation τ sig (Elt Ideal)
  | 0 => B0 m c
  | 1 => A0 m c
  | 2 => B1 m c
  | 3 => A1 m c
  | 4 => B2 m c
  | 5 => A2 m c
  | 6 => B3 m c
  | 7 => A3 m c
  | 8 => B4 m c
  | 9 => A4 m c
  | 10 => B5 m c
  | 11 => A5 m c
  | 12 => B6 m c
  | 13 => A6 m c
  | 14 => B7 m c
  | _ => A7 m c

theorem at_B0 : B0 m c = stg m c 0 := rfl
theorem at_A0 : A0 m c = stg m c 1 := rfl
theorem at_B1 : B1 m c = stg m c 2 := rfl
theorem at_A1 : A1 m c = stg m c 3 := rfl
theorem at_B2 : B2 m c = stg m c 4 := rfl
theorem at_A2 : A2 m c = stg m c 5 := rfl
theorem at_B3 : B3 m c = stg m c 6 := rfl
theorem at_A3 : A3 m c = stg m c 7 := rfl
theorem at_B4 : B4 m c = stg m c 8 := rfl
theorem at_A4 : A4 m c = stg m c 9 := rfl
theorem at_B5 : B5 m c = stg m c 10 := rfl
theorem at_A5 : A5 m c = stg m c 11 := rfl
theorem at_B6 : B6 m c = stg m c 12 := rfl
theorem at_A6 : A6 m c = stg m c 13 := rfl
theorem at_B7 : B7 m c = stg m c 14 := rfl
theorem at_A7 : A7 m c = stg m c 15 := rfl

/-- What is written between one of them and the next. -/
def wr : ℕ → List (Ref sig .tc)
  | 0 => [main_v28]
  | 1 => hostOps1_W
  | 2 => [main_v54]
  | 3 => hostOps2_W
  | 4 => [main_v58]
  | 5 => hostOps3_W ++ (hostOps3_1_W ++ hostOps3_2_W)
  | 6 => [main_v83]
  | 7 => hostOps4_W ++ (hostOps4_1_W ++ hostOps4_2_W)
  | 8 => [main_v103]
  | 9 => hostOps5_W ++ (hostOps5_1_W ++ hostOps5_2_W)
  | 10 => [main_v123]
  | 11 => hostOps6_W ++ (hostOps6_1_W ++ hostOps6_2_W)
  | 12 => [main_v143]
  | 13 => hostOps7_W ++ (hostOps7_1_W ++ hostOps7_2_W)
  | _ => [main_v163]

/-- A call changes its result alone. -/
theorem leave_of_ne (cfg : Cfg sig Λ₀) (V : Valuation τ sig (Elt Ideal)) (wo : Fin cfg.W)
    (out : Fin cfg.N → (cfg.win wo).block.Idx → Elt Ideal (cfg.win wo).elt) (r : Ref sig .tc) (h : r ≠ Pipeline.arrRef cfg.spec wo) :
    leave (nD := nD) cfg c V wo out (Proc.devRef .tc r) = V (Proc.devRef .tc r) := by
  unfold leave
  exact Function.update_of_ne (StableHlo.devRef_ne_of_ne h) _ _

theorem not_left {r : Ref sig .tc} {l l' : List (Ref sig .tc)} (h : r ∉ l ++ l') : r ∉ l := fun x => h (List.mem_append_left _ x)
theorem not_right {r : Ref sig .tc} {l l' : List (Ref sig .tc)} (h : r ∉ l ++ l') : r ∉ l' := fun x => h (List.mem_append_right _ x)

/-- One step on leaves alone what it does not write. -/
theorem stg_step (r : Ref sig .tc) : ∀ i : ℕ, i < 15 → r ∉ wr i → stg m c (i + 1) (Proc.devRef .tc r) = stg m c i (Proc.devRef .tc r)
  | 0, _, h => leave_of_ne c cfg0 (B0 m c) 1 _ r (List.ne_of_not_mem_cons h)
  | 1, _, h => StableHlo.after_of_writes_sub hostOps1 _ hostOps1_writes h
  | 2, _, h => leave_of_ne c cfg1 (B1 m c) 5 _ r (List.ne_of_not_mem_cons h)
  | 3, _, h => StableHlo.after_of_writes_sub hostOps2 _ hostOps2_writes h
  | 4, _, h => leave_of_ne c cfg2 (B2 m c) 7 _ r (List.ne_of_not_mem_cons h)
  | 5, _, h => keep3 _ r (not_left h) (not_left (not_right h)) (not_right (not_right h))
  | 6, _, h => leave_of_ne c cfg3 (B3 m c) 13 _ r (List.ne_of_not_mem_cons h)
  | 7, _, h => keep4 _ r (not_left h) (not_left (not_right h)) (not_right (not_right h))
  | 8, _, h => leave_of_ne c cfg4 (B4 m c) 13 _ r (List.ne_of_not_mem_cons h)
  | 9, _, h => keep5 _ r (not_left h) (not_left (not_right h)) (not_right (not_right h))
  | 10, _, h => leave_of_ne c cfg5 (B5 m c) 13 _ r (List.ne_of_not_mem_cons h)
  | 11, _, h => keep6 _ r (not_left h) (not_left (not_right h)) (not_right (not_right h))
  | 12, _, h => leave_of_ne c cfg6 (B6 m c) 13 _ r (List.ne_of_not_mem_cons h)
  | 13, _, h => keep7 _ r (not_left h) (not_left (not_right h)) (not_right (not_right h))
  | 14, _, h => leave_of_ne c cfg7 (B7 m c) 13 _ r (List.ne_of_not_mem_cons h)
  | n + 15, hn, _ => absurd hn (by omega)

theorem stg_steps (r : Ref sig .tc) (lo : ℕ) : ∀ n : ℕ, lo + n ≤ 15 → (∀ i < lo + n, lo ≤ i → r ∉ wr i) →
    stg m c (lo + n) (Proc.devRef .tc r) = stg m c lo (Proc.devRef .tc r)
  | 0, _, _ => rfl
  | n + 1, hn, h => (stg_step m c r (lo + n) (by omega) (h (lo + n) (by omega) (by omega))).trans
      (stg_steps r lo n (by omega) fun i hi => h i (by omega))

/-- Several steps on leave alone what they do not write. -/
theorem kept (r : Ref sig .tc) {lo hi : ℕ} {V V' : Valuation τ sig (Elt Ideal)} (hV : V = stg m c lo) (hV' : V' = stg m c hi)
    (hle : lo ≤ hi ∧ hi ≤ 15) (h : ∀ i < hi, lo ≤ i → r ∉ wr i) : V' (Proc.devRef .tc r) = V (Proc.devRef .tc r) := by
  obtain ⟨n, rfl⟩ := Nat.exists_eq_add_of_le hle.1
  rw [hV, hV']
  exact stg_steps m c r lo n hle.2 h

/-- The lines before the first call leave an argument alone until its gathers … -/
theorem arg_pre (r : Ref sig .tc) (h : r ∉ hostOps0_W ++ hostOps0_1_W) : V2 m c (Proc.devRef .tc r) = m (c, Proc.devRef .tc r) :=
  (V2_of m c r (not_right h)).trans (V1_of m c r (not_left h))

/-- … and it is still as launched as long as nothing writes it. -/
theorem arg_kept (r : Ref sig .tc) {hi : ℕ} {V' : Valuation τ sig (Elt Ideal)} (hV' : V' = stg m c hi)
    (hle : 0 ≤ hi ∧ hi ≤ 15) (h : r ∉ hostOps0_W ++ hostOps0_1_W) (h2 : r ∉ hostOps0_2_W) (hw : ∀ i < hi, 0 ≤ i → r ∉ wr i) :
    V' (Proc.devRef .tc r) = m (c, Proc.devRef .tc r) :=
  (kept m c r (at_B0 m c) hV' hle hw).trans ((V3_of m c r h2).trans (arg_pre m c r h))

end Cert.KernelIdeal.Hand
-- ==== Proof.Value.HostP.lean ====
/-
  The host lines before the first call: the edges put in the sorted order.
-/
module

public import proofs.«01_k».proof.Proof.Value.Model
public import proofs.«01_k».proof.Proof.KernelIdeal.Run

@[expose] public section

set_option maxRecDepth 100000

noncomputable section

open scoped BigOperators

namespace Cert.KernelIdeal.Hand

open Cert.KernelIdeal Cert.KernelIdeal.Gen Cert.Common Cert.Value
open Idealize.ShloMosaic Idealize.ShloMosaic.ValueIdx Idealize.ShloMosaic.TcCoe
open Idealize.ShloMosaic.Pipeline (Dat Cfg Window)

/-- The sorted order, as the lines write it, is a permutation of the edges. -/
theorem order_ex (W : Valuation τ sig (Elt Ideal)) : ∃ π : Equiv.Perm (Fin 800000), ∀ e : Fin 800000,
    StableHlo.after (hostOps0_1 (F := Ideal)) W (Proc.devRef .tc main_v2) (ix1 e) = BitVec.ofNat 32 (π e).val := by
  have r : StableHlo.after (hostOps0_1 (F := Ideal)) W (Proc.devRef .tc main_v2)
      = (Host.sort2 S800000 0 comparator_i32_i32_d0 (W (Proc.devRef .tc main_v1)) (iotaInDim S800000 32 0)).2 := by
    simp only [hostOps0_1, StableHlo.TRef.binary, StableHlo.TRef.nullary, StableHlo.TRef.toBuf, StableHlo.TRef.ofBuf, cast_eq]
    after_results_simp
    all_goals rfl
  rw [r]
  exact argsort_perm (E := 800000) _ _

variable (W : Valuation τ sig (Elt Ideal)) (π : Equiv.Perm (Fin 800000)) (hπ : ∀ e : Fin 800000, W (Proc.devRef .tc main_v2) (ix1 e) = BitVec.ofNat 32 (π e).val)

/-- The column of positions as the lines print it. -/
def posCol (p : IVec S800000 32) : IVec S800000x1 32 :=
  broadcastInDim S800000x1 ![0] bcast_S800000_S800000x1_0
    (select (cmpi .slt p (broadcastInDim S800000 ![] bcast_S_S800000 (constantI S_ 32 0#32)))
      (addi p (broadcastInDim S800000 ![] bcast_S_S800000 (constantI S_ 32 800000#32))) p)

theorem toInt_pos (k : ℕ) (hk : k < 800000) : (BitVec.ofNat 32 k).toInt = (k : ℤ) := by
  rw [BitVec.toInt_eq_toNat_cond, BitVec.toNat_ofNat, Nat.mod_eq_of_lt (by omega), if_pos (by omega)]

theorem wrap_pos (k : ℕ) (hk : k < 800000) : wrap 800000#32 (BitVec.ofNat 32 k) = BitVec.ofNat 32 k := by
  have hs : IntOp.cmpi .slt (BitVec.ofNat 32 k) 0#32 = 0#1 := by
    have h : ((BitVec.ofNat 32 k).slt 0#32) = false := by
      rw [BitVec.slt_eq_decide, decide_eq_false_iff_not]
      rw [toInt_pos k hk]
      show ¬((k : ℤ) < 0)
      omega
    show BitVec.ofBool ((BitVec.ofNat 32 k).slt 0#32) = 0#1
    rw [h]; rfl
  rw [wrap, hs]
  rfl

theorem pos_toInt (k : ℕ) (hk : k < 800000) : (BitVec.ofNat 32 k).toInt.toNat = k := by
  rw [toInt_pos k hk]
  omega

include hπ in
theorem posCol_apply (e : Fin 800000) : posCol (W (Proc.devRef .tc main_v2)) (ix2 e (0 : Fin 1)) = BitVec.ofNat 32 (π e).val := by
  rw [posCol]
  refine (bid_unitcol (R := 800000) (C := 1) _ _ e 0).trans ?_
  rw [select_apply]
  show Scalar.select (IntOp.cmpi .slt (W (Proc.devRef .tc main_v2) (ix1 e)) (broadcastInDim S800000 ![] bcast_S_S800000 (constantI S_ 32 0#32) (ix1 e)))
    (IntOp.addi (W (Proc.devRef .tc main_v2) (ix1 e)) (broadcastInDim S800000 ![] bcast_S_S800000 (constantI S_ 32 800000#32) (ix1 e))) (W (Proc.devRef .tc main_v2) (ix1 e)) = _
  rw [bid_scalar, bid_scalar, hπ e]
  exact wrap_pos (π e).val (π e).isLt

theorem row_pos {α : Type} (f : Fin 800000 → α) (b : BitVec 32) (k : Fin 800000) (h : b = BitVec.ofNat 32 k.val) (hl) : f ⟨min b.toInt.toNat (800000 - 1), hl⟩ = f k := by
  subst h
  refine congrArg f (Fin.ext ?_)
  show min (BitVec.ofNat 32 k.val).toInt.toNat (800000 - 1) = k.val
  rw [pos_toInt k.val k.isLt]
  have := k.isLt
  omega

include hπ in
theorem srcP (e : Fin 800000) : StableHlo.after (hostOps0_2 (F := Ideal)) W (Proc.devRef .tc main_v11) (ix1 e) = W (Proc.devRef .tc main_arg1) (ix2 (0 : Fin 2) (π e)) := by
  have r : StableHlo.after (hostOps0_2 (F := Ideal)) W (Proc.devRef .tc main_v11)
      = Host.gather gather_S800000_S800000x1_S800000_n_0_n_n_0_1_1
          (shapeCast S800000 (extractStridedSlice S1x800000 ![0, 0] (W (Proc.devRef .tc main_arg1)) slices_S2x800000_S1x800000_0_0) shapeCasts_S1x800000_S800000)
          (posCol (W (Proc.devRef .tc main_v2))) := by
    dsimp only [hostOps0_2]
    after_results_simp
    all_goals rfl
  refine (congrFun r _).trans ?_
  refine (gather_flat_apply (N := 800000) (E := 800000) (by omega) gather_S800000_S800000x1_S800000_n_0_n_n_0_1_1.wf _ _ e).trans ?_
  refine (row_pos (fun k => shapeCast S800000 (extractStridedSlice S1x800000 ![0, 0] (W (Proc.devRef .tc main_arg1)) slices_S2x800000_S1x800000_0_0) shapeCasts_S1x800000_S800000 (ix1 k)) _ (π e) (posCol_apply W π hπ e) _).trans ?_
  exact (cast_drop2 (C := 800000) _ _ (π e)).trans (slice2_row 0 (by decide) _ _ 0 (π e))

include hπ in
theorem dstP (e : Fin 800000) : StableHlo.after (hostOps0_2 (F := Ideal)) W (Proc.devRef .tc main_v20) (ix1 e) = W (Proc.devRef .tc main_arg1) (ix2 (1 : Fin 2) (π e)) := by
  have r : StableHlo.after (hostOps0_2 (F := Ideal)) W (Proc.devRef .tc main_v20)
      = Host.gather gather_S800000_S800000x1_S800000_n_0_n_n_0_1_1
          (shapeCast S800000 (extractStridedSlice S1x800000 ![1, 0] (W (Proc.devRef .tc main_arg1)) slices_S2x800000_S1x800000_1_0) shapeCasts_S1x800000_S800000)
          (posCol (W (Proc.devRef .tc main_v2))) := by
    dsimp only [hostOps0_2]
    after_results_simp
    all_goals rfl
  refine (congrFun r _).trans ?_
  refine (gather_flat_apply (N := 800000) (E := 800000) (by omega) gather_S800000_S800000x1_S800000_n_0_n_n_0_1_1.wf _ _ e).trans ?_
  refine (row_pos (fun k => shapeCast S800000 (extractStridedSlice S1x800000 ![1, 0] (W (Proc.devRef .tc main_arg1)) slices_S2x800000_S1x800000_1_0) shapeCasts_S1x800000_S800000 (ix1 k)) _ (π e) (posCol_apply W π hπ e) _).trans ?_
  exact (cast_drop2 (C := 800000) _ _ (π e)).trans (slice2_row 1 (by decide) _ _ 0 (π e))

include hπ in
theorem edgeP (e : Fin 800000) (d : Fin 9) : StableHlo.after (hostOps0_2 (F := Ideal)) W (Proc.devRef .tc main_v27) (ix2 e d) = W (Proc.devRef .tc main_arg2) (ix2 (π e) d) := by
  have r : StableHlo.after (hostOps0_2 (F := Ideal)) W (Proc.devRef .tc main_v27)
      = Host.gather gather_S800000x9_S800000x1_S800000x9_1_0_n_n_0_1_19 (W (Proc.devRef .tc main_arg2)) (posCol (W (Proc.devRef .tc main_v2))) := by
    dsimp only [hostOps0_2]
    after_results_simp
    all_goals rfl
  refine (congrFun r _).trans ?_
  refine (gather_row_apply (N := 800000) (C := 9) (E := 800000) (by omega) gather_S800000x9_S800000x1_S800000x9_1_0_n_n_0_1_19.wf _ _ e d).trans ?_
  exact row_pos (fun k => W (Proc.devRef .tc main_arg2) (ix2 k d)) _ (π e) (posCol_apply W π hπ e) _

end Cert.KernelIdeal.Hand
-- ==== Proof.Value.Pay.lean ====
/-
  What the kernel bodies compute of their blocks, entry by entry.
-/
module

public import proofs.«01_k».proof.Proof.Value.Model
public import proofs.«01_k».proof.Proof.KernelIdeal.Dats
public import Idealize.ShloMosaic.Lib.LaneSum

@[expose] public section

set_option maxRecDepth 100000

noncomputable section

open scoped BigOperators

namespace Cert.KernelIdeal.Hand

open Cert.KernelIdeal Cert.KernelIdeal.Gen Cert.Common Cert.Value
open Idealize.ShloMosaic Idealize.ShloMosaic.ValueIdx

theorem k1_pay1_apply (x : FVec Ideal S1000x10 .f32) (w1 : FVec Ideal S10x64 .f32) (b1 : FVec Ideal S1x64 .f32) (w2 : FVec Ideal S64x64 .f32)
    (b2 : FVec Ideal S1x64 .f32) (r : Fin 1000) (h : Fin 64) :
    k1_pay1 (F := Ideal) x w1 b1 w2 b2 (ix2 r h)
      = mlp2 (fun k => x (ix2 r k)) (fun k j => w1 (ix2 k j)) (fun j => b1 (ix2 0 j)) (fun k j => w2 (ix2 k j)) (fun j => b2 (ix2 0 j)) h := by
  have e1 := mm_zero dot_S1000x10_S10x64_S1000x64_1_0_0_1_n_n rfl
  have e2 := mm_zero dot_S1000x64_S64x64_S1000x64_1_0_0_1_n_n rfl
  unfold k1_pay1
  simp only [addf_apply, e1, e2, maximumf_apply, bto_row, shapeCast_self, broadcast_apply]
  simp only [mlp2, lin]
  have hz : (Scalar.ofBits .f32 0x00000000#32 : Ideal .f32) = 0 := Ideal.ofBits_zero_f32
  rw [hz]

theorem k2_pay1_apply (x : FVec Ideal S8000x9 .f32) (w1 : FVec Ideal S1x9x64 .f32) (b1 : FVec Ideal S1x1x64 .f32) (w2 : FVec Ideal S1x64x64 .f32)
    (b2 : FVec Ideal S1x1x64 .f32) (w3 : FVec Ideal S1x64x64 .f32) (b3 : FVec Ideal S1x1x64 .f32) (q : Fin 1) (r : Fin 8000) (h : Fin 64) :
    k2_pay1 (F := Ideal) x w1 b1 w2 b2 w3 b3 (ix3 q r h)
      = tail3 (fun k => lin (fun d => x (ix2 r d)) (fun d j => w1 (ix3 0 d j)) (fun j => b1 (ix3 0 0 j)) k)
          (fun k j => w2 (ix3 0 k j)) (fun j => b2 (ix3 0 0 j)) (fun k j => w3 (ix3 0 k j)) (fun j => b3 (ix3 0 0 j)) h := by
  have e1 := mm_zero dot_S8000x9_S9x64_S8000x64_1_0_0_1_n_n rfl
  have e2 := mm_zero dot_S8000x64_S64x64_S8000x64_1_0_0_1_n_n rfl
  unfold k2_pay1
  simp only [addf_apply, e1, e2, maximumf_apply, bto_row, shapeCast_self, broadcast_apply, cast_add3, cast_drop3]
  simp only [tail3, lin]
  have hz : (Scalar.ofBits .f32 0x00000000#32 : Ideal .f32) = 0 := Ideal.ofBits_zero_f32
  rw [hz]

theorem nodeOut_apply (v v0 agg : FVec Ideal S1000x64 .f32) (cnt : FVec Ideal S1000x1 .f32) (x : FVec Ideal S1000x10 .f32)
    (sw : FVec Ideal S64x64 .f32) (sb gw gb : FVec Ideal S1x64 .f32) (r : Fin 1000) (h : Fin 64) :
    nodeOut (F := Ideal) v v0 agg cnt x sw sb gw gb (ix2 r h)
      = nodeAt (fun k => v (ix2 r k)) (v0 (ix2 r h)) (agg (ix2 r h)) (cnt (ix2 r 0)) (x (ix2 r 4)) (fun k j => sw (ix2 k j))
          (fun j => sb (ix2 0 j)) (fun j => gw (ix2 0 j)) (fun j => gb (ix2 0 j)) h := by
  have e2 := mm_zero dot_S1000x64_S64x64_S1000x64_1_0_0_1_n_n rfl
  have hc : col4 (F := Ideal) x (ix2 r 0) = x (ix2 r 4) := by
    unfold col4
    rw [View.ld_unit]
    exact slice2_col 4 (by omega) x _ r 0
  unfold nodeOut k3_pay1
  simp only [addf_apply, e2, maximumf_apply, bto_row, bto_col, shapeCast_self, broadcast_apply, divf_apply, mulf_apply]
  have hz : (Scalar.ofBits .f32 0x00000000#32 : Ideal .f32) = 0 := Ideal.ofBits_zero_f32
  rw [hz, nodeAt]
  congr 3
  show Ideal.logistic _ = _
  simp only [addf_apply, bto_row, bto_col, mulf_apply, hc]

theorem finalOut_apply (v v0 agg : FVec Ideal S1000x64 .f32) (cnt : FVec Ideal S1000x1 .f32) (x : FVec Ideal S1000x10 .f32)
    (sw : FVec Ideal S64x64 .f32) (sb gw gb : FVec Ideal S1x64 .f32) (pw1 : FVec Ideal S64x64 .f32) (pb1 : FVec Ideal S1x64 .f32)
    (pw2 : FVec Ideal S64x3 .f32) (pb2 : FVec Ideal S1x3 .f32) (r : Fin 1000) (o : Fin 3) :
    finalOut (F := Ideal) v v0 agg cnt x sw sb gw gb pw1 pb1 pw2 pb2 (ix2 r o)
      = mlp2 (fun h => nodeAt (fun k => v (ix2 r k)) (v0 (ix2 r h)) (agg (ix2 r h)) (cnt (ix2 r 0)) (x (ix2 r 4)) (fun k j => sw (ix2 k j))
          (fun j => sb (ix2 0 j)) (fun j => gw (ix2 0 j)) (fun j => gb (ix2 0 j)) h)
          (fun k j => pw1 (ix2 k j)) (fun j => pb1 (ix2 0 j)) (fun k j => pw2 (ix2 k j)) (fun j => pb2 (ix2 0 j)) o := by
  have e2 := mm_zero dot_S1000x64_S64x64_S1000x64_1_0_0_1_n_n rfl
  have e3 := mm_zero dot_S1000x64_S64x3_S1000x3_1_0_0_1_n_n rfl
  have hn : finalOut (F := Ideal) v v0 agg cnt x sw sb gw gb pw1 pb1 pw2 pb2
      = k7_pay1 (F := Ideal) (nodeOut (F := Ideal) v v0 agg cnt x sw sb gw gb) pw1 pb1 pw2 pb2 := by
    have h2 : k7_pay2 (F := Ideal) = k3_pay1 := by unfold k7_pay2 k3_pay1; rfl
    unfold finalOut nodeOut
    rw [h2]
  rw [hn]
  unfold k7_pay1
  simp only [addf_apply, e2, e3, maximumf_apply, bto_row, shapeCast_self, broadcast_apply, nodeOut_apply]
  simp only [mlp2, lin]
  have hz : (Scalar.ofBits .f32 0x00000000#32 : Ideal .f32) = 0 := Ideal.ofBits_zero_f32
  rw [hz]

theorem cat2_apply0 (A B : FVec Ideal S1x9 .f32) (h : Shape.Concatenates [S1x9, S1x9] S2x9 0) (d : Fin 9) :
    concatenate S2x9 0 [⟨S1x9, A⟩, ⟨S1x9, B⟩] h (ix2 (0 : Fin 2) d) = A (ix2 (0 : Fin 1) d) :=
  concatenate_pair_apply_left (t := S2x9) (s₁ := S1x9) (s₂ := S1x9) 0 A B h (ix2 (0 : Fin 2) d) rfl (ix2 (0 : Fin 1) d) fun b => match b with
    | ⟨0, _⟩ => rfl
    | ⟨1, _⟩ => rfl

theorem cat2_apply1 (A B : FVec Ideal S1x9 .f32) (h : Shape.Concatenates [S1x9, S1x9] S2x9 0) (d : Fin 9) :
    concatenate S2x9 0 [⟨S1x9, A⟩, ⟨S1x9, B⟩] h (ix2 (1 : Fin 2) d) = B (ix2 (0 : Fin 1) d) :=
  concatenate_pair_apply_right (t := S2x9) (s₁ := S1x9) (s₂ := S1x9) 0 A B h (ix2 (1 : Fin 2) d) rfl rfl (ix2 (0 : Fin 1) d) (fun b => match b with
    | ⟨0, _⟩ => fun hb => absurd rfl hb
    | ⟨1, _⟩ => fun _ => rfl) rfl

/-- The two rows of column sums of a block. -/
theorem k0_pay1_apply0 (x : FVec Ideal S8000x9 .f32) (d : Fin 9) :
    k0_pay1 (F := Ideal) x (ix2 (0 : Fin 2) d) = ∑ r : Fin 8000, x (ix2 r d) := by
  unfold k0_pay1
  refine (cat2_apply0 _ _ _ d).trans ?_
  rw [cast_add2]
  exact mr_col x _ reduces_S8000x9_S9 _ _ d

theorem k0_pay1_apply1 (x : FVec Ideal S8000x9 .f32) (d : Fin 9) :
    k0_pay1 (F := Ideal) x (ix2 (1 : Fin 2) d) = ∑ r : Fin 8000, x (ix2 r d) * x (ix2 r d) := by
  unfold k0_pay1
  refine (cat2_apply1 _ _ _ d).trans ?_
  rw [cast_add2]
  exact mr_col (mulf x x) _ reduces_S8000x9_S9 _ _ d

end Cert.KernelIdeal.Hand
-- ==== Proof.Value.Reg1.lean ====
/-
  The lift call's result, entry by entry.
-/
module

public import proofs.«01_k».proof.Proof.Value.Pay
public import Idealize.ShloMosaic.Lib.Pipeline.ValueKit.Geometry

@[expose] public section

set_option maxRecDepth 100000

noncomputable section

open scoped BigOperators

namespace Cert.KernelIdeal.Hand

open Cert.KernelIdeal Cert.KernelIdeal.Gen Cert.Common Cert.Value
open Idealize.ShloMosaic Idealize.ShloMosaic.ValueIdx Idealize.ShloMosaic.TcCoe
open Idealize.ShloMosaic.Pipeline (Dat Cfg Window)

/-- Row `r` of the `t`-th block of 1000 rows. -/
def row50 (t : Fin 50) (r : Fin 1000) : Fin 50000 := ⟨t.val * 1000 + r.val, by have := t.isLt; have := r.isLt; omega⟩

theorem ixw1_0 : ∀ t : Fin cfg1.N, win1_0.index t = ![t.val, 0] := (by decide +kernel : ∀ t : Fin grid1.N, _)

theorem emb1_0 (t : Fin cfg1.N) (r : Fin 1000) (k : Fin 10) : ((cfg1.win 0).blk t).view.emb (ix2 r k) = ix2 (row50 t r) k :=
  funext fun a => Fin.ext (match a with
    | ⟨0, _⟩ => (Window.rect_emb_val win1_0 t _ 0).trans (by rw [ixw1_0]; rfl)
    | ⟨1, _⟩ => (Window.rect_emb_val win1_0 t _ 1).trans (by rw [ixw1_0]; exact Nat.zero_add _))

theorem blk1_0 (V : Valuation τ sig (Elt Ideal)) (t : Fin cfg1.N) (r : Fin 1000) (k : Fin 10) :
    blk cfg1 V 0 t (ix2 r k) = V (Proc.devRef .tc main_arg0) (ix2 (row50 t r) k) :=
  congrArg (V (Proc.devRef .tc main_arg0)) (emb1_0 t r k)

theorem ixw1_1 : ∀ t : Fin cfg1.N, win1_1.index t = ![0, 0] := (by decide +kernel : ∀ t : Fin grid1.N, _)

theorem blk1_1 (V : Valuation τ sig (Elt Ideal)) (t : Fin cfg1.N) (r : Fin 10) (k : Fin 64) :
    blk cfg1 V 1 t (ix2 r k) = V (Proc.devRef .tc main_arg3) (ix2 r k) :=
  congrArg (V (Proc.devRef .tc main_arg3)) (funext fun a => Fin.ext (Window.rect_emb_val_of_index_zero win1_1 t a (by rw [ixw1_1]; fin_cases a <;> rfl) _))

theorem ixw1_2 : ∀ t : Fin cfg1.N, win1_2.index t = ![0, 0] := (by decide +kernel : ∀ t : Fin grid1.N, _)

theorem blk1_2 (V : Valuation τ sig (Elt Ideal)) (t : Fin cfg1.N) (r : Fin 1) (k : Fin 64) :
    blk cfg1 V 2 t (ix2 r k) = V (Proc.devRef .tc main_v52) (ix2 r k) :=
  congrArg (V (Proc.devRef .tc main_v52)) (funext fun a => Fin.ext (Window.rect_emb_val_of_index_zero win1_2 t a (by rw [ixw1_2]; fin_cases a <;> rfl) _))

theorem ixw1_3 : ∀ t : Fin cfg1.N, win1_3.index t = ![0, 0] := (by decide +kernel : ∀ t : Fin grid1.N, _)

theorem blk1_3 (V : Valuation τ sig (Elt Ideal)) (t : Fin cfg1.N) (r : Fin 64) (k : Fin 64) :
    blk cfg1 V 3 t (ix2 r k) = V (Proc.devRef .tc main_arg5) (ix2 r k) :=
  congrArg (V (Proc.devRef .tc main_arg5)) (funext fun a => Fin.ext (Window.rect_emb_val_of_index_zero win1_3 t a (by rw [ixw1_3]; fin_cases a <;> rfl) _))

theorem ixw1_4 : ∀ t : Fin cfg1.N, win1_4.index t = ![0, 0] := (by decide +kernel : ∀ t : Fin grid1.N, _)

theorem blk1_4 (V : Valuation τ sig (Elt Ideal)) (t : Fin cfg1.N) (r : Fin 1) (k : Fin 64) :
    blk cfg1 V 4 t (ix2 r k) = V (Proc.devRef .tc main_v53) (ix2 r k) :=
  congrArg (V (Proc.devRef .tc main_v53)) (funext fun a => Fin.ext (Window.rect_emb_val_of_index_zero win1_4 t a (by rw [ixw1_4]; fin_cases a <;> rfl) _))

theorem ixw1_5 : ∀ t : Fin cfg1.N, win1_5.index t = ![t.val, 0] := (by decide +kernel : ∀ t : Fin grid1.N, _)

theorem emb1_5 (t : Fin cfg1.N) (r : Fin 1000) (k : Fin 64) : ((cfg1.win 5).blk t).view.emb (ix2 r k) = ix2 (row50 t r) k :=
  funext fun a => Fin.ext (match a with
    | ⟨0, _⟩ => (Window.rect_emb_val win1_5 t _ 0).trans (by rw [ixw1_5]; rfl)
    | ⟨1, _⟩ => (Window.rect_emb_val win1_5 t _ 1).trans (by rw [ixw1_5]; exact Nat.zero_add _))

theorem blk1_5 (V : Valuation τ sig (Elt Ideal)) (t : Fin cfg1.N) (r : Fin 1000) (k : Fin 64) :
    blk cfg1 V 5 t (ix2 r k) = V (Proc.devRef .tc main_v54) (ix2 (row50 t r) k) :=
  congrArg (V (Proc.devRef .tc main_v54)) (emb1_5 t r k)

theorem cov1 : (cfg1.win 5).Covers := by decide +kernel

def out1 (V : Valuation τ sig (Elt Ideal)) (n : Fin 50000) (h : Fin 64) : EReal :=
  mlp2 (fun k => V (Proc.devRef .tc main_arg0) (ix2 n k)) (fun k j => V (Proc.devRef .tc main_arg3) (ix2 k j)) (fun j => V (Proc.devRef .tc main_v52) (ix2 0 j)) (fun k j => V (Proc.devRef .tc main_arg5) (ix2 k j)) (fun j => V (Proc.devRef .tc main_v53) (ix2 0 j)) h

theorem arr1 (c : Dev nD) (V : Valuation τ sig (Elt Ideal)) :
    (mkDat (nD := nD) cfg1 c V (aft cfg1 V 5 (res1 V))).arrAt 5 cfg1.N = fun i => out1 V (i 0) (i 1) := by
  refine Dat.arrAt_eq_of_covers _ 5 _ cov1 fun t hf y => ?_
  obtain ⟨r, h, rfl⟩ : ∃ (r : Fin 1000) (h : Fin 64), y = ix2 r h := ⟨y 0, y 1, eq_ix2 y⟩
  show aft cfg1 V 5 (res1 V) 5 t (ix2 r h) = out1 V ((((cfg1.win 5).blk t).view.emb (ix2 r h)) 0) ((((cfg1.win 5).blk t).view.emb (ix2 r h)) 1)
  rw [emb1_5, aft_self]
  show res1 V t (ix2 r h) = out1 V (row50 t r) h
  refine (k1_pay1_apply (blk cfg1 V 0 t) (blk cfg1 V 1 t) (blk cfg1 V 2 t) (blk cfg1 V 3 t) (blk cfg1 V 4 t) r h).trans ?_
  simp only [blk1_0, blk1_1, blk1_2, blk1_3, blk1_4]
  rfl

theorem regOut1 (c : Dev nD) (V : Valuation τ sig (Elt Ideal)) (n : Fin 50000) (h : Fin 64) :
    leave cfg1 c V 5 (res1 V) (Proc.devRef .tc main_v54) (ix2 n h) = out1 V n h := by
  have e : leave cfg1 c V 5 (res1 V) (Proc.devRef .tc main_v54)
      = (mkDat (nD := nD) cfg1 c V (aft cfg1 V 5 (res1 V))).arrAt 5 cfg1.N := Function.update_self _ _ _
  rw [e, arr1]
  rfl

end Cert.KernelIdeal.Hand
-- ==== Proof.Value.Reg0.lean ====
/-
  The moments call's result: the column sums of the edge features and of their squares.
-/
module

public import proofs.«01_k».proof.Proof.Value.Reg1

@[expose] public section

set_option maxRecDepth 100000

noncomputable section

open scoped BigOperators

namespace Cert.KernelIdeal.Hand

open Cert.KernelIdeal Cert.KernelIdeal.Gen Cert.Common Cert.Value
open Idealize.ShloMosaic Idealize.ShloMosaic.ValueIdx Idealize.ShloMosaic.TcCoe
open Idealize.ShloMosaic.Pipeline (Dat Cfg Window)

/-- Row `r` of the `t`-th block of 8000 edges. -/
def row0 (t : Fin 100) (r : Fin 8000) : Fin 800000 := ⟨t.val * 8000 + r.val, by have := t.isLt; have := r.isLt; omega⟩

theorem sum_rows (f : Fin 800000 → EReal) : ∑ t : Fin 100, ∑ r : Fin 8000, f (row0 t r) = ∑ e, f e := by
  rw [← Fintype.sum_prod_type', ← (finProdFinEquiv (m := 100) (n := 8000)).sum_comp]
  refine Finset.sum_congr rfl fun p _ => congrArg f (Fin.ext ?_)
  show p.1.val * 8000 + p.2.val = p.2.val + 8000 * p.1.val
  omega

theorem ixw0_0 : ∀ t : Fin cfg0.N, win0_0.index t = ![t.val, 0] := (by decide +kernel : ∀ t : Fin grid0.N, _)

theorem emb0_0 (t : Fin cfg0.N) (r : Fin 8000) (k : Fin 9) : ((cfg0.win 0).blk t).view.emb (ix2 r k) = ix2 (row0 t r) k :=
  funext fun a => Fin.ext (match a with
    | ⟨0, _⟩ => (Window.rect_emb_val win0_0 t _ 0).trans (by rw [ixw0_0]; rfl)
    | ⟨1, _⟩ => (Window.rect_emb_val win0_0 t _ 1).trans (by rw [ixw0_0]; exact Nat.zero_add _))

/-- Entry `d` of edge `e`. -/
def ent (V : Valuation τ sig (Elt Ideal)) (e : Fin 800000) (d : Fin 9) : EReal := V (Proc.devRef .tc main_arg2) (ix2 e d)

theorem blk0_0 (V : Valuation τ sig (Elt Ideal)) (t : Fin cfg0.N) (r : Fin 8000) (k : Fin 9) :
    blk cfg0 V 0 t (ix2 r k) = ent V (row0 t r) k :=
  congrArg (V (Proc.devRef .tc main_arg2)) (emb0_0 t r k)

theorem ixw0_1 : ∀ t : Fin cfg0.N, win0_1.index t = ![0, 0] := (by decide +kernel : ∀ t : Fin grid0.N, _)

theorem emb0_1 (t : Fin cfg0.N) (r : Fin 2) (k : Fin 9) : ((cfg0.win 1).blk t).view.emb (ix2 r k) = ix2 r k :=
  funext fun a => Fin.ext (Window.rect_emb_val_of_index_zero win0_1 t a (by rw [ixw0_1]; fin_cases a <;> rfl) _)

theorem acc0_row0 (V : Valuation τ sig (Elt Ideal)) (d : Fin 9) : ∀ (n : ℕ) (hn : n < cfg0.N),
    acc0 V n hn (ix2 (0 : Fin 2) d)
      = ∑ t : Fin (n + 1), ∑ r : Fin 8000, ent V (row0 ⟨t.val, by have := t.isLt; have : cfg0.N = 100 := rfl; omega⟩ r) d
  | 0, hn => by
    show k0_pay1 (F := Ideal) (blk cfg0 V 0 ⟨0, hn⟩) (ix2 (0 : Fin 2) d) = _
    rw [k0_pay1_apply0, Fin.sum_univ_one]
    exact Finset.sum_congr rfl fun r _ => blk0_0 V ⟨0, hn⟩ r d
  | n + 1, hn => by
    rw [Fin.sum_univ_castSucc]
    have ih := acc0_row0 V d n (Nat.lt_of_succ_lt hn)
    show k0_pay2 (F := Ideal) (blk cfg0 V 0 ⟨n + 1, hn⟩) (acc0 V n (Nat.lt_of_succ_lt hn)) (ix2 (0 : Fin 2) d) = _
    unfold k0_pay2
    rw [addf_apply, shapeCast_self, ih, k0_pay1_apply0]
    exact congrArg (_ + ·) (Finset.sum_congr rfl fun r _ => blk0_0 V ⟨n + 1, hn⟩ r d)

theorem acc0_row1 (V : Valuation τ sig (Elt Ideal)) (d : Fin 9) : ∀ (n : ℕ) (hn : n < cfg0.N),
    acc0 V n hn (ix2 (1 : Fin 2) d)
      = ∑ t : Fin (n + 1), ∑ r : Fin 8000, (fun e => ent V e d * ent V e d : Fin 800000 → EReal)
          (row0 ⟨t.val, by have := t.isLt; have : cfg0.N = 100 := rfl; omega⟩ r)
  | 0, hn => by
    show k0_pay1 (F := Ideal) (blk cfg0 V 0 ⟨0, hn⟩) (ix2 (1 : Fin 2) d) = _
    rw [k0_pay1_apply1, Fin.sum_univ_one]
    exact Finset.sum_congr rfl fun r _ => congrArg (fun z : EReal => z * z) (blk0_0 V ⟨0, hn⟩ r d)
  | n + 1, hn => by
    rw [Fin.sum_univ_castSucc]
    have ih := acc0_row1 V d n (Nat.lt_of_succ_lt hn)
    show k0_pay2 (F := Ideal) (blk cfg0 V 0 ⟨n + 1, hn⟩) (acc0 V n (Nat.lt_of_succ_lt hn)) (ix2 (1 : Fin 2) d) = _
    unfold k0_pay2
    rw [addf_apply, shapeCast_self, ih, k0_pay1_apply1]
    exact congrArg (_ + ·) (Finset.sum_congr rfl fun r _ => congrArg (fun z : EReal => z * z) (blk0_0 V ⟨n + 1, hn⟩ r d))

theorem cov0 : (cfg0.win 1).Covers := by decide +kernel

theorem arr0 (c : Dev nD) (V : Valuation τ sig (Elt Ideal)) :
    (mkDat (nD := nD) cfg0 c V (aft cfg0 V 1 (res0 V))).arrAt 1 cfg0.N = fun i => acc0 V 99 (by decide) (ix2 (i 0) (i 1)) := by
  refine Dat.arrAt_eq_of_covers _ 1 _ cov0 fun t hf y => ?_
  obtain ⟨r, h, rfl⟩ : ∃ (r : Fin 2) (h : Fin 9), y = ix2 r h := ⟨y 0, y 1, eq_ix2 y⟩
  have ht : t = ⟨99, by decide⟩ := by
    have := (flush0_1 t).mp hf
    have hN : t.val < 100 := t.isLt
    exact Fin.ext (by show t.val = 99; omega)
  show aft cfg0 V 1 (res0 V) 1 t (ix2 r h) = acc0 V 99 _ (ix2 ((((cfg0.win 1).blk t).view.emb (ix2 r h)) 0) ((((cfg0.win 1).blk t).view.emb (ix2 r h)) 1))
  rw [emb0_1, aft_self]
  subst ht
  rfl

theorem leave0 (c : Dev nD) (V : Valuation τ sig (Elt Ideal)) (r : Fin 2) (d : Fin 9) :
    leave cfg0 c V 1 (res0 V) (Proc.devRef .tc main_v28) (ix2 r d) = acc0 V 99 (by decide) (ix2 r d) := by
  have e : leave cfg0 c V 1 (res0 V) (Proc.devRef .tc main_v28)
      = (mkDat (nD := nD) cfg0 c V (aft cfg0 V 1 (res0 V))).arrAt 1 cfg0.N := Function.update_self _ _ _
  rw [e, arr0]
  rfl

theorem reg0_row0 (c : Dev nD) (V : Valuation τ sig (Elt Ideal)) (d : Fin 9) :
    leave cfg0 c V 1 (res0 V) (Proc.devRef .tc main_v28) (ix2 (0 : Fin 2) d) = ∑ e : Fin 800000, ent V e d := by
  rw [leave0, acc0_row0]
  exact sum_rows fun e => ent V e d

theorem reg0_row1 (c : Dev nD) (V : Valuation τ sig (Elt Ideal)) (d : Fin 9) :
    leave cfg0 c V 1 (res0 V) (Proc.devRef .tc main_v28) (ix2 (1 : Fin 2) d)
      = ∑ e : Fin 800000, ent V e d * ent V e d := by
  rw [leave0, acc0_row1]
  exact sum_rows fun e => ent V e d * ent V e d

end Cert.KernelIdeal.Hand
-- ==== Proof.Value.Reg2.lean ====
/-
  The edge network's result, entry by entry.
-/
module

public import proofs.«01_k».proof.Proof.Value.Reg1

@[expose] public section

set_option maxRecDepth 100000

noncomputable section

open scoped BigOperators

namespace Cert.KernelIdeal.Hand

open Cert.KernelIdeal Cert.KernelIdeal.Gen Cert.Common Cert.Value
open Idealize.ShloMosaic Idealize.ShloMosaic.ValueIdx Idealize.ShloMosaic.TcCoe
open Idealize.ShloMosaic.Pipeline (Dat Cfg Window)

/-- Step and block of edges of the `t`-th point. -/
def stp (t : Fin 500) : Fin 5 := ⟨t.val / 100, by have := t.isLt; omega⟩
def row100 (t : Fin 500) (r : Fin 8000) : Fin 800000 := ⟨t.val % 100 * 8000 + r.val, by have := Nat.mod_lt t.val (by omega : 0 < 100); have := r.isLt; omega⟩

theorem ixw2_0 : ∀ t : Fin cfg2.N, win2_0.index t = ![t.val % 100, 0] := (by decide +kernel : ∀ t : Fin grid2.N, _)

theorem emb2_0 (t : Fin cfg2.N) (r : Fin 8000) (k : Fin 9) : ((cfg2.win 0).blk t).view.emb (ix2 r k) = ix2 (row100 t r) k :=
  funext fun a => Fin.ext (match a with
    | ⟨0, _⟩ => (Window.rect_emb_val win2_0 t _ 0).trans (by rw [ixw2_0]; rfl)
    | ⟨1, _⟩ => (Window.rect_emb_val win2_0 t _ 1).trans (by rw [ixw2_0]; exact Nat.zero_add _))

theorem blk2_0 (V : Valuation τ sig (Elt Ideal)) (t : Fin cfg2.N) (r : Fin 8000) (k : Fin 9) :
    blk cfg2 V 0 t (ix2 r k) = V (Proc.devRef .tc main_v27) (ix2 (row100 t r) k) :=
  congrArg (V (Proc.devRef .tc main_v27)) (emb2_0 t r k)

theorem ixw2_1 : ∀ t : Fin cfg2.N, win2_1.index t = ![t.val / 100, 0, 0] := (by decide +kernel : ∀ t : Fin grid2.N, _)

theorem blk2_1 (V : Valuation τ sig (Elt Ideal)) (t : Fin cfg2.N) (q : Fin 1) (r : Fin 9) (k : Fin 64) :
    blk cfg2 V 1 t (ix3 q r k) = V (Proc.devRef .tc main_v48) (ix3 (stp t) r k) :=
  congrArg (V (Proc.devRef .tc main_v48)) (funext fun a => Fin.ext (match a with
    | ⟨0, _⟩ => (Window.rect_emb_val win2_1 t _ 0).trans (by rw [ixw2_1]; have := q.isLt; show t.val / 100 * 1 + q.val = t.val / 100; omega)
    | ⟨1, _⟩ => Window.rect_emb_val_of_index_zero win2_1 t 1 (by rw [ixw2_1]; rfl) _
    | ⟨2, _⟩ => Window.rect_emb_val_of_index_zero win2_1 t 2 (by rw [ixw2_1]; rfl) _))

theorem ixw2_2 : ∀ t : Fin cfg2.N, win2_2.index t = ![t.val / 100, 0, 0] := (by decide +kernel : ∀ t : Fin grid2.N, _)

theorem blk2_2 (V : Valuation τ sig (Elt Ideal)) (t : Fin cfg2.N) (q : Fin 1) (r : Fin 1) (k : Fin 64) :
    blk cfg2 V 2 t (ix3 q r k) = V (Proc.devRef .tc main_v55) (ix3 (stp t) r k) :=
  congrArg (V (Proc.devRef .tc main_v55)) (funext fun a => Fin.ext (match a with
    | ⟨0, _⟩ => (Window.rect_emb_val win2_2 t _ 0).trans (by rw [ixw2_2]; have := q.isLt; show t.val / 100 * 1 + q.val = t.val / 100; omega)
    | ⟨1, _⟩ => Window.rect_emb_val_of_index_zero win2_2 t 1 (by rw [ixw2_2]; rfl) _
    | ⟨2, _⟩ => Window.rect_emb_val_of_index_zero win2_2 t 2 (by rw [ixw2_2]; rfl) _))

theorem ixw2_3 : ∀ t : Fin cfg2.N, win2_3.index t = ![t.val / 100, 0, 0] := (by decide +kernel : ∀ t : Fin grid2.N, _)

theorem blk2_3 (V : Valuation τ sig (Elt Ideal)) (t : Fin cfg2.N) (q : Fin 1) (r : Fin 64) (k : Fin 64) :
    blk cfg2 V 3 t (ix3 q r k) = V (Proc.devRef .tc main_arg9) (ix3 (stp t) r k) :=
  congrArg (V (Proc.devRef .tc main_arg9)) (funext fun a => Fin.ext (match a with
    | ⟨0, _⟩ => (Window.rect_emb_val win2_3 t _ 0).trans (by rw [ixw2_3]; have := q.isLt; show t.val / 100 * 1 + q.val = t.val / 100; omega)
    | ⟨1, _⟩ => Window.rect_emb_val_of_index_zero win2_3 t 1 (by rw [ixw2_3]; rfl) _
    | ⟨2, _⟩ => Window.rect_emb_val_of_index_zero win2_3 t 2 (by rw [ixw2_3]; rfl) _))

theorem ixw2_4 : ∀ t : Fin cfg2.N, win2_4.index t = ![t.val / 100, 0, 0] := (by decide +kernel : ∀ t : Fin grid2.N, _)

theorem blk2_4 (V : Valuation τ sig (Elt Ideal)) (t : Fin cfg2.N) (q : Fin 1) (r : Fin 1) (k : Fin 64) :
    blk cfg2 V 4 t (ix3 q r k) = V (Proc.devRef .tc main_v56) (ix3 (stp t) r k) :=
  congrArg (V (Proc.devRef .tc main_v56)) (funext fun a => Fin.ext (match a with
    | ⟨0, _⟩ => (Window.rect_emb_val win2_4 t _ 0).trans (by rw [ixw2_4]; have := q.isLt; show t.val / 100 * 1 + q.val = t.val / 100; omega)
    | ⟨1, _⟩ => Window.rect_emb_val_of_index_zero win2_4 t 1 (by rw [ixw2_4]; rfl) _
    | ⟨2, _⟩ => Window.rect_emb_val_of_index_zero win2_4 t 2 (by rw [ixw2_4]; rfl) _))

theorem ixw2_5 : ∀ t : Fin cfg2.N, win2_5.index t = ![t.val / 100, 0, 0] := (by decide +kernel : ∀ t : Fin grid2.N, _)

theorem blk2_5 (V : Valuation τ sig (Elt Ideal)) (t : Fin cfg2.N) (q : Fin 1) (r : Fin 64) (k : Fin 64) :
    blk cfg2 V 5 t (ix3 q r k) = V (Proc.devRef .tc main_arg11) (ix3 (stp t) r k) :=
  congrArg (V (Proc.devRef .tc main_arg11)) (funext fun a => Fin.ext (match a with
    | ⟨0, _⟩ => (Window.rect_emb_val win2_5 t _ 0).trans (by rw [ixw2_5]; have := q.isLt; show t.val / 100 * 1 + q.val = t.val / 100; omega)
    | ⟨1, _⟩ => Window.rect_emb_val_of_index_zero win2_5 t 1 (by rw [ixw2_5]; rfl) _
    | ⟨2, _⟩ => Window.rect_emb_val_of_index_zero win2_5 t 2 (by rw [ixw2_5]; rfl) _))

theorem ixw2_6 : ∀ t : Fin cfg2.N, win2_6.index t = ![t.val / 100, 0, 0] := (by decide +kernel : ∀ t : Fin grid2.N, _)

theorem blk2_6 (V : Valuation τ sig (Elt Ideal)) (t : Fin cfg2.N) (q : Fin 1) (r : Fin 1) (k : Fin 64) :
    blk cfg2 V 6 t (ix3 q r k) = V (Proc.devRef .tc main_v57) (ix3 (stp t) r k) :=
  congrArg (V (Proc.devRef .tc main_v57)) (funext fun a => Fin.ext (match a with
    | ⟨0, _⟩ => (Window.rect_emb_val win2_6 t _ 0).trans (by rw [ixw2_6]; have := q.isLt; show t.val / 100 * 1 + q.val = t.val / 100; omega)
    | ⟨1, _⟩ => Window.rect_emb_val_of_index_zero win2_6 t 1 (by rw [ixw2_6]; rfl) _
    | ⟨2, _⟩ => Window.rect_emb_val_of_index_zero win2_6 t 2 (by rw [ixw2_6]; rfl) _))

theorem ixw2_7 : ∀ t : Fin cfg2.N, win2_7.index t = ![t.val / 100, t.val % 100, 0] := (by decide +kernel : ∀ t : Fin grid2.N, _)

theorem emb2_7 (t : Fin cfg2.N) (q : Fin 1) (r : Fin 8000) (k : Fin 64) : ((cfg2.win 7).blk t).view.emb (ix3 q r k) = ix3 (stp t) (row100 t r) k :=
  funext fun a => Fin.ext (match a with
    | ⟨0, _⟩ => (Window.rect_emb_val win2_7 t _ 0).trans (by rw [ixw2_7]; have := q.isLt; show t.val / 100 * 1 + q.val = t.val / 100; omega)
    | ⟨1, _⟩ => (Window.rect_emb_val win2_7 t _ 1).trans (by rw [ixw2_7]; rfl)
    | ⟨2, _⟩ => Window.rect_emb_val_of_index_zero win2_7 t 2 (by rw [ixw2_7]; rfl) _)

theorem cov2 : (cfg2.win 7).Covers := by decide +kernel

def out2 (V : Valuation τ sig (Elt Ideal)) (s : Fin 5) (e : Fin 800000) (h : Fin 64) : EReal :=
  tail3 (fun k => lin (fun d => V (Proc.devRef .tc main_v27) (ix2 e d)) (fun d j => V (Proc.devRef .tc main_v48) (ix3 s d j)) (fun j => V (Proc.devRef .tc main_v55) (ix3 s 0 j)) k) (fun k j => V (Proc.devRef .tc main_arg9) (ix3 s k j)) (fun j => V (Proc.devRef .tc main_v56) (ix3 s 0 j)) (fun k j => V (Proc.devRef .tc main_arg11) (ix3 s k j)) (fun j => V (Proc.devRef .tc main_v57) (ix3 s 0 j)) h

theorem arr2 (c : Dev nD) (V : Valuation τ sig (Elt Ideal)) :
    (mkDat (nD := nD) cfg2 c V (aft cfg2 V 7 (res2 V))).arrAt 7 cfg2.N = fun i => out2 V (i 0) (i 1) (i 2) := by
  refine Dat.arrAt_eq_of_covers _ 7 _ cov2 fun t hf y => ?_
  obtain ⟨q, r, h, rfl⟩ : ∃ (q : Fin 1) (r : Fin 8000) (h : Fin 64), y = ix3 q r h := ⟨y 0, y 1, y 2, eq_ix3 y⟩
  show aft cfg2 V 7 (res2 V) 7 t (ix3 q r h) = out2 V ((((cfg2.win 7).blk t).view.emb (ix3 q r h)) 0) ((((cfg2.win 7).blk t).view.emb (ix3 q r h)) 1) ((((cfg2.win 7).blk t).view.emb (ix3 q r h)) 2)
  rw [emb2_7, aft_self]
  show res2 V t (ix3 q r h) = out2 V (stp t) (row100 t r) h
  refine (k2_pay1_apply (blk cfg2 V 0 t) (blk cfg2 V 1 t) (blk cfg2 V 2 t) (blk cfg2 V 3 t) (blk cfg2 V 4 t) (blk cfg2 V 5 t) (blk cfg2 V 6 t) q r h).trans ?_
  simp only [blk2_0, blk2_1, blk2_2, blk2_3, blk2_4, blk2_5, blk2_6]
  rfl

theorem regOut2 (c : Dev nD) (V : Valuation τ sig (Elt Ideal)) (s : Fin 5) (e : Fin 800000) (h : Fin 64) :
    leave cfg2 c V 7 (res2 V) (Proc.devRef .tc main_v58) (ix3 s e h) = out2 V s e h := by
  have e : leave cfg2 c V 7 (res2 V) (Proc.devRef .tc main_v58)
      = (mkDat (nD := nD) cfg2 c V (aft cfg2 V 7 (res2 V))).arrAt 7 cfg2.N := Function.update_self _ _ _
  rw [e, arr2]
  rfl

end Cert.KernelIdeal.Hand
-- ==== Proof.Value.Reg3.lean ====
/-
  A node update's result, entry by entry (call 3).
-/
module

public import proofs.«01_k».proof.Proof.Value.Reg1

@[expose] public section

set_option maxRecDepth 100000

noncomputable section

open scoped BigOperators

namespace Cert.KernelIdeal.Hand

open Cert.KernelIdeal Cert.KernelIdeal.Gen Cert.Common Cert.Value
open Idealize.ShloMosaic Idealize.ShloMosaic.ValueIdx Idealize.ShloMosaic.TcCoe
open Idealize.ShloMosaic.Pipeline (Dat Cfg Window)

theorem ixw3_0 : ∀ t : Fin cfg3.N, win3_0.index t = ![t.val, 0] := (by decide +kernel : ∀ t : Fin grid3.N, _)

theorem emb3_0 (t : Fin cfg3.N) (r : Fin 1000) (k : Fin 64) : ((cfg3.win 0).blk t).view.emb (ix2 r k) = ix2 (row50 t r) k :=
  funext fun a => Fin.ext (match a with
    | ⟨0, _⟩ => (Window.rect_emb_val win3_0 t _ 0).trans (by rw [ixw3_0]; rfl)
    | ⟨1, _⟩ => (Window.rect_emb_val win3_0 t _ 1).trans (by rw [ixw3_0]; exact Nat.zero_add _))

theorem blk3_0 (V : Valuation τ sig (Elt Ideal)) (t : Fin cfg3.N) (r : Fin 1000) (k : Fin 64) :
    blk cfg3 V 0 t (ix2 r k) = V (Proc.devRef .tc main_v54) (ix2 (row50 t r) k) :=
  congrArg (V (Proc.devRef .tc main_v54)) (emb3_0 t r k)

theorem ixw3_1 : ∀ t : Fin cfg3.N, win3_1.index t = ![t.val, 0] := (by decide +kernel : ∀ t : Fin grid3.N, _)

theorem emb3_1 (t : Fin cfg3.N) (r : Fin 1000) (k : Fin 64) : ((cfg3.win 1).blk t).view.emb (ix2 r k) = ix2 (row50 t r) k :=
  funext fun a => Fin.ext (match a with
    | ⟨0, _⟩ => (Window.rect_emb_val win3_1 t _ 0).trans (by rw [ixw3_1]; rfl)
    | ⟨1, _⟩ => (Window.rect_emb_val win3_1 t _ 1).trans (by rw [ixw3_1]; exact Nat.zero_add _))

theorem blk3_1 (V : Valuation τ sig (Elt Ideal)) (t : Fin cfg3.N) (r : Fin 1000) (k : Fin 64) :
    blk cfg3 V 1 t (ix2 r k) = V (Proc.devRef .tc main_v54) (ix2 (row50 t r) k) :=
  congrArg (V (Proc.devRef .tc main_v54)) (emb3_1 t r k)

theorem ixw3_2 : ∀ t : Fin cfg3.N, win3_2.index t = ![t.val, 0] := (by decide +kernel : ∀ t : Fin grid3.N, _)

theorem emb3_2 (t : Fin cfg3.N) (r : Fin 1000) (k : Fin 64) : ((cfg3.win 2).blk t).view.emb (ix2 r k) = ix2 (row50 t r) k :=
  funext fun a => Fin.ext (match a with
    | ⟨0, _⟩ => (Window.rect_emb_val win3_2 t _ 0).trans (by rw [ixw3_2]; rfl)
    | ⟨1, _⟩ => (Window.rect_emb_val win3_2 t _ 1).trans (by rw [ixw3_2]; exact Nat.zero_add _))

theorem blk3_2 (V : Valuation τ sig (Elt Ideal)) (t : Fin cfg3.N) (r : Fin 1000) (k : Fin 64) :
    blk cfg3 V 2 t (ix2 r k) = V (Proc.devRef .tc main_v70) (ix2 (row50 t r) k) :=
  congrArg (V (Proc.devRef .tc main_v70)) (emb3_2 t r k)

theorem ixw3_3 : ∀ t : Fin cfg3.N, win3_3.index t = ![t.val, 0] := (by decide +kernel : ∀ t : Fin grid3.N, _)

theorem emb3_3 (t : Fin cfg3.N) (r : Fin 1000) (k : Fin 1) : ((cfg3.win 3).blk t).view.emb (ix2 r k) = ix2 (row50 t r) k :=
  funext fun a => Fin.ext (match a with
    | ⟨0, _⟩ => (Window.rect_emb_val win3_3 t _ 0).trans (by rw [ixw3_3]; rfl)
    | ⟨1, _⟩ => (Window.rect_emb_val win3_3 t _ 1).trans (by rw [ixw3_3]; exact Nat.zero_add _))

theorem blk3_3 (V : Valuation τ sig (Elt Ideal)) (t : Fin cfg3.N) (r : Fin 1000) (k : Fin 1) :
    blk cfg3 V 3 t (ix2 r k) = V (Proc.devRef .tc main_v63) (ix2 (row50 t r) k) :=
  congrArg (V (Proc.devRef .tc main_v63)) (emb3_3 t r k)

theorem ixw3_4 : ∀ t : Fin cfg3.N, win3_4.index t = ![t.val, 0] := (by decide +kernel : ∀ t : Fin grid3.N, _)

theorem emb3_4 (t : Fin cfg3.N) (r : Fin 1000) (k : Fin 10) : ((cfg3.win 4).blk t).view.emb (ix2 r k) = ix2 (row50 t r) k :=
  funext fun a => Fin.ext (match a with
    | ⟨0, _⟩ => (Window.rect_emb_val win3_4 t _ 0).trans (by rw [ixw3_4]; rfl)
    | ⟨1, _⟩ => (Window.rect_emb_val win3_4 t _ 1).trans (by rw [ixw3_4]; exact Nat.zero_add _))

theorem blk3_4 (V : Valuation τ sig (Elt Ideal)) (t : Fin cfg3.N) (r : Fin 1000) (k : Fin 10) :
    blk cfg3 V 4 t (ix2 r k) = V (Proc.devRef .tc main_arg0) (ix2 (row50 t r) k) :=
  congrArg (V (Proc.devRef .tc main_arg0)) (emb3_4 t r k)

theorem ixw3_5 : ∀ t : Fin cfg3.N, win3_5.index t = ![0, 0] := (by decide +kernel : ∀ t : Fin grid3.N, _)

theorem blk3_5 (V : Valuation τ sig (Elt Ideal)) (t : Fin cfg3.N) (r : Fin 64) (k : Fin 64) :
    blk cfg3 V 5 t (ix2 r k) = V (Proc.devRef .tc main_v72) (ix2 r k) :=
  congrArg (V (Proc.devRef .tc main_v72)) (funext fun a => Fin.ext (Window.rect_emb_val_of_index_zero win3_5 t a (by rw [ixw3_5]; fin_cases a <;> rfl) _))

theorem ixw3_6 : ∀ t : Fin cfg3.N, win3_6.index t = ![0, 0] := (by decide +kernel : ∀ t : Fin grid3.N, _)

theorem blk3_6 (V : Valuation τ sig (Elt Ideal)) (t : Fin cfg3.N) (r : Fin 1) (k : Fin 64) :
    blk cfg3 V 6 t (ix2 r k) = V (Proc.devRef .tc main_v79) (ix2 r k) :=
  congrArg (V (Proc.devRef .tc main_v79)) (funext fun a => Fin.ext (Window.rect_emb_val_of_index_zero win3_6 t a (by rw [ixw3_6]; fin_cases a <;> rfl) _))

theorem ixw3_7 : ∀ t : Fin cfg3.N, win3_7.index t = ![0, 0] := (by decide +kernel : ∀ t : Fin grid3.N, _)

theorem blk3_7 (V : Valuation τ sig (Elt Ideal)) (t : Fin cfg3.N) (r : Fin 1) (k : Fin 64) :
    blk cfg3 V 7 t (ix2 r k) = V (Proc.devRef .tc main_v76) (ix2 r k) :=
  congrArg (V (Proc.devRef .tc main_v76)) (funext fun a => Fin.ext (Window.rect_emb_val_of_index_zero win3_7 t a (by rw [ixw3_7]; fin_cases a <;> rfl) _))

theorem ixw3_8 : ∀ t : Fin cfg3.N, win3_8.index t = ![0, 0] := (by decide +kernel : ∀ t : Fin grid3.N, _)

theorem blk3_8 (V : Valuation τ sig (Elt Ideal)) (t : Fin cfg3.N) (r : Fin 1) (k : Fin 64) :
    blk cfg3 V 8 t (ix2 r k) = V (Proc.devRef .tc main_v80) (ix2 r k) :=
  congrArg (V (Proc.devRef .tc main_v80)) (funext fun a => Fin.ext (Window.rect_emb_val_of_index_zero win3_8 t a (by rw [ixw3_8]; fin_cases a <;> rfl) _))

theorem ixw3_13 : ∀ t : Fin cfg3.N, win3_13.index t = ![t.val, 0] := (by decide +kernel : ∀ t : Fin grid3.N, _)

theorem emb3_13 (t : Fin cfg3.N) (r : Fin 1000) (k : Fin 64) : ((cfg3.win 13).blk t).view.emb (ix2 r k) = ix2 (row50 t r) k :=
  funext fun a => Fin.ext (match a with
    | ⟨0, _⟩ => (Window.rect_emb_val win3_13 t _ 0).trans (by rw [ixw3_13]; rfl)
    | ⟨1, _⟩ => (Window.rect_emb_val win3_13 t _ 1).trans (by rw [ixw3_13]; exact Nat.zero_add _))

theorem blk3_13 (V : Valuation τ sig (Elt Ideal)) (t : Fin cfg3.N) (r : Fin 1000) (k : Fin 64) :
    blk cfg3 V 13 t (ix2 r k) = V (Proc.devRef .tc main_v83) (ix2 (row50 t r) k) :=
  congrArg (V (Proc.devRef .tc main_v83)) (emb3_13 t r k)

theorem cov3 : (cfg3.win 13).Covers := by decide +kernel

def out3 (V : Valuation τ sig (Elt Ideal)) (n : Fin 50000) (h : Fin 64) : EReal :=
  nodeAt (fun k => V (Proc.devRef .tc main_v54) (ix2 n k)) (V (Proc.devRef .tc main_v54) (ix2 n h)) (V (Proc.devRef .tc main_v70) (ix2 n h)) (V (Proc.devRef .tc main_v63) (ix2 n 0)) (V (Proc.devRef .tc main_arg0) (ix2 n 4)) (fun k j => V (Proc.devRef .tc main_v72) (ix2 k j)) (fun j => V (Proc.devRef .tc main_v79) (ix2 0 j)) (fun j => V (Proc.devRef .tc main_v76) (ix2 0 j)) (fun j => V (Proc.devRef .tc main_v80) (ix2 0 j)) h

theorem arr3 (c : Dev nD) (V : Valuation τ sig (Elt Ideal)) :
    (mkDat (nD := nD) cfg3 c V (aft cfg3 V 13 (res3 V))).arrAt 13 cfg3.N = fun i => out3 V (i 0) (i 1) := by
  refine Dat.arrAt_eq_of_covers _ 13 _ cov3 fun t hf y => ?_
  obtain ⟨r, h, rfl⟩ : ∃ (r : Fin 1000) (h : Fin 64), y = ix2 r h := ⟨y 0, y 1, eq_ix2 y⟩
  show aft cfg3 V 13 (res3 V) 13 t (ix2 r h) = out3 V ((((cfg3.win 13).blk t).view.emb (ix2 r h)) 0) ((((cfg3.win 13).blk t).view.emb (ix2 r h)) 1)
  rw [emb3_13, aft_self]
  show res3 V t (ix2 r h) = out3 V (row50 t r) h
  refine (nodeOut_apply (blk cfg3 V 0 t) (blk cfg3 V 1 t) (blk cfg3 V 2 t) (blk cfg3 V 3 t) (blk cfg3 V 4 t) (blk cfg3 V 5 t) (blk cfg3 V 6 t) (blk cfg3 V 7 t) (blk cfg3 V 8 t) r h).trans ?_
  simp only [blk3_0, blk3_1, blk3_2, blk3_3, blk3_4, blk3_5, blk3_6, blk3_7, blk3_8]
  rfl

theorem regOut3 (c : Dev nD) (V : Valuation τ sig (Elt Ideal)) (n : Fin 50000) (h : Fin 64) :
    leave cfg3 c V 13 (res3 V) (Proc.devRef .tc main_v83) (ix2 n h) = out3 V n h := by
  have e : leave cfg3 c V 13 (res3 V) (Proc.devRef .tc main_v83)
      = (mkDat (nD := nD) cfg3 c V (aft cfg3 V 13 (res3 V))).arrAt 13 cfg3.N := Function.update_self _ _ _
  rw [e, arr3]
  rfl

end Cert.KernelIdeal.Hand
-- ==== Proof.Value.Reg4.lean ====
/-
  A node update's result, entry by entry (call 4).
-/
module

public import proofs.«01_k».proof.Proof.Value.Reg1

@[expose] public section

set_option maxRecDepth 100000

noncomputable section

open scoped BigOperators

namespace Cert.KernelIdeal.Hand

open Cert.KernelIdeal Cert.KernelIdeal.Gen Cert.Common Cert.Value
open Idealize.ShloMosaic Idealize.ShloMosaic.ValueIdx Idealize.ShloMosaic.TcCoe
open Idealize.ShloMosaic.Pipeline (Dat Cfg Window)

theorem ixw4_0 : ∀ t : Fin cfg4.N, win4_0.index t = ![t.val, 0] := (by decide +kernel : ∀ t : Fin grid4.N, _)

theorem emb4_0 (t : Fin cfg4.N) (r : Fin 1000) (k : Fin 64) : ((cfg4.win 0).blk t).view.emb (ix2 r k) = ix2 (row50 t r) k :=
  funext fun a => Fin.ext (match a with
    | ⟨0, _⟩ => (Window.rect_emb_val win4_0 t _ 0).trans (by rw [ixw4_0]; rfl)
    | ⟨1, _⟩ => (Window.rect_emb_val win4_0 t _ 1).trans (by rw [ixw4_0]; exact Nat.zero_add _))

theorem blk4_0 (V : Valuation τ sig (Elt Ideal)) (t : Fin cfg4.N) (r : Fin 1000) (k : Fin 64) :
    blk cfg4 V 0 t (ix2 r k) = V (Proc.devRef .tc main_v83) (ix2 (row50 t r) k) :=
  congrArg (V (Proc.devRef .tc main_v83)) (emb4_0 t r k)

theorem ixw4_1 : ∀ t : Fin cfg4.N, win4_1.index t = ![t.val, 0] := (by decide +kernel : ∀ t : Fin grid4.N, _)

theorem emb4_1 (t : Fin cfg4.N) (r : Fin 1000) (k : Fin 64) : ((cfg4.win 1).blk t).view.emb (ix2 r k) = ix2 (row50 t r) k :=
  funext fun a => Fin.ext (match a with
    | ⟨0, _⟩ => (Window.rect_emb_val win4_1 t _ 0).trans (by rw [ixw4_1]; rfl)
    | ⟨1, _⟩ => (Window.rect_emb_val win4_1 t _ 1).trans (by rw [ixw4_1]; exact Nat.zero_add _))

theorem blk4_1 (V : Valuation τ sig (Elt Ideal)) (t : Fin cfg4.N) (r : Fin 1000) (k : Fin 64) :
    blk cfg4 V 1 t (ix2 r k) = V (Proc.devRef .tc main_v54) (ix2 (row50 t r) k) :=
  congrArg (V (Proc.devRef .tc main_v54)) (emb4_1 t r k)

theorem ixw4_2 : ∀ t : Fin cfg4.N, win4_2.index t = ![t.val, 0] := (by decide +kernel : ∀ t : Fin grid4.N, _)

theorem emb4_2 (t : Fin cfg4.N) (r : Fin 1000) (k : Fin 64) : ((cfg4.win 2).blk t).view.emb (ix2 r k) = ix2 (row50 t r) k :=
  funext fun a => Fin.ext (match a with
    | ⟨0, _⟩ => (Window.rect_emb_val win4_2 t _ 0).trans (by rw [ixw4_2]; rfl)
    | ⟨1, _⟩ => (Window.rect_emb_val win4_2 t _ 1).trans (by rw [ixw4_2]; exact Nat.zero_add _))

theorem blk4_2 (V : Valuation τ sig (Elt Ideal)) (t : Fin cfg4.N) (r : Fin 1000) (k : Fin 64) :
    blk cfg4 V 2 t (ix2 r k) = V (Proc.devRef .tc main_v90) (ix2 (row50 t r) k) :=
  congrArg (V (Proc.devRef .tc main_v90)) (emb4_2 t r k)

theorem ixw4_3 : ∀ t : Fin cfg4.N, win4_3.index t = ![t.val, 0] := (by decide +kernel : ∀ t : Fin grid4.N, _)

theorem emb4_3 (t : Fin cfg4.N) (r : Fin 1000) (k : Fin 1) : ((cfg4.win 3).blk t).view.emb (ix2 r k) = ix2 (row50 t r) k :=
  funext fun a => Fin.ext (match a with
    | ⟨0, _⟩ => (Window.rect_emb_val win4_3 t _ 0).trans (by rw [ixw4_3]; rfl)
    | ⟨1, _⟩ => (Window.rect_emb_val win4_3 t _ 1).trans (by rw [ixw4_3]; exact Nat.zero_add _))

theorem blk4_3 (V : Valuation τ sig (Elt Ideal)) (t : Fin cfg4.N) (r : Fin 1000) (k : Fin 1) :
    blk cfg4 V 3 t (ix2 r k) = V (Proc.devRef .tc main_v63) (ix2 (row50 t r) k) :=
  congrArg (V (Proc.devRef .tc main_v63)) (emb4_3 t r k)

theorem ixw4_4 : ∀ t : Fin cfg4.N, win4_4.index t = ![t.val, 0] := (by decide +kernel : ∀ t : Fin grid4.N, _)

theorem emb4_4 (t : Fin cfg4.N) (r : Fin 1000) (k : Fin 10) : ((cfg4.win 4).blk t).view.emb (ix2 r k) = ix2 (row50 t r) k :=
  funext fun a => Fin.ext (match a with
    | ⟨0, _⟩ => (Window.rect_emb_val win4_4 t _ 0).trans (by rw [ixw4_4]; rfl)
    | ⟨1, _⟩ => (Window.rect_emb_val win4_4 t _ 1).trans (by rw [ixw4_4]; exact Nat.zero_add _))

theorem blk4_4 (V : Valuation τ sig (Elt Ideal)) (t : Fin cfg4.N) (r : Fin 1000) (k : Fin 10) :
    blk cfg4 V 4 t (ix2 r k) = V (Proc.devRef .tc main_arg0) (ix2 (row50 t r) k) :=
  congrArg (V (Proc.devRef .tc main_arg0)) (emb4_4 t r k)

theorem ixw4_5 : ∀ t : Fin cfg4.N, win4_5.index t = ![0, 0] := (by decide +kernel : ∀ t : Fin grid4.N, _)

theorem blk4_5 (V : Valuation τ sig (Elt Ideal)) (t : Fin cfg4.N) (r : Fin 64) (k : Fin 64) :
    blk cfg4 V 5 t (ix2 r k) = V (Proc.devRef .tc main_v92) (ix2 r k) :=
  congrArg (V (Proc.devRef .tc main_v92)) (funext fun a => Fin.ext (Window.rect_emb_val_of_index_zero win4_5 t a (by rw [ixw4_5]; fin_cases a <;> rfl) _))

theorem ixw4_6 : ∀ t : Fin cfg4.N, win4_6.index t = ![0, 0] := (by decide +kernel : ∀ t : Fin grid4.N, _)

theorem blk4_6 (V : Valuation τ sig (Elt Ideal)) (t : Fin cfg4.N) (r : Fin 1) (k : Fin 64) :
    blk cfg4 V 6 t (ix2 r k) = V (Proc.devRef .tc main_v99) (ix2 r k) :=
  congrArg (V (Proc.devRef .tc main_v99)) (funext fun a => Fin.ext (Window.rect_emb_val_of_index_zero win4_6 t a (by rw [ixw4_6]; fin_cases a <;> rfl) _))

theorem ixw4_7 : ∀ t : Fin cfg4.N, win4_7.index t = ![0, 0] := (by decide +kernel : ∀ t : Fin grid4.N, _)

theorem blk4_7 (V : Valuation τ sig (Elt Ideal)) (t : Fin cfg4.N) (r : Fin 1) (k : Fin 64) :
    blk cfg4 V 7 t (ix2 r k) = V (Proc.devRef .tc main_v96) (ix2 r k) :=
  congrArg (V (Proc.devRef .tc main_v96)) (funext fun a => Fin.ext (Window.rect_emb_val_of_index_zero win4_7 t a (by rw [ixw4_7]; fin_cases a <;> rfl) _))

theorem ixw4_8 : ∀ t : Fin cfg4.N, win4_8.index t = ![0, 0] := (by decide +kernel : ∀ t : Fin grid4.N, _)

theorem blk4_8 (V : Valuation τ sig (Elt Ideal)) (t : Fin cfg4.N) (r : Fin 1) (k : Fin 64) :
    blk cfg4 V 8 t (ix2 r k) = V (Proc.devRef .tc main_v100) (ix2 r k) :=
  congrArg (V (Proc.devRef .tc main_v100)) (funext fun a => Fin.ext (Window.rect_emb_val_of_index_zero win4_8 t a (by rw [ixw4_8]; fin_cases a <;> rfl) _))

theorem ixw4_13 : ∀ t : Fin cfg4.N, win4_13.index t = ![t.val, 0] := (by decide +kernel : ∀ t : Fin grid4.N, _)

theorem emb4_13 (t : Fin cfg4.N) (r : Fin 1000) (k : Fin 64) : ((cfg4.win 13).blk t).view.emb (ix2 r k) = ix2 (row50 t r) k :=
  funext fun a => Fin.ext (match a with
    | ⟨0, _⟩ => (Window.rect_emb_val win4_13 t _ 0).trans (by rw [ixw4_13]; rfl)
    | ⟨1, _⟩ => (Window.rect_emb_val win4_13 t _ 1).trans (by rw [ixw4_13]; exact Nat.zero_add _))

theorem blk4_13 (V : Valuation τ sig (Elt Ideal)) (t : Fin cfg4.N) (r : Fin 1000) (k : Fin 64) :
    blk cfg4 V 13 t (ix2 r k) = V (Proc.devRef .tc main_v103) (ix2 (row50 t r) k) :=
  congrArg (V (Proc.devRef .tc main_v103)) (emb4_13 t r k)

theorem cov4 : (cfg4.win 13).Covers := by decide +kernel

def out4 (V : Valuation τ sig (Elt Ideal)) (n : Fin 50000) (h : Fin 64) : EReal :=
  nodeAt (fun k => V (Proc.devRef .tc main_v83) (ix2 n k)) (V (Proc.devRef .tc main_v54) (ix2 n h)) (V (Proc.devRef .tc main_v90) (ix2 n h)) (V (Proc.devRef .tc main_v63) (ix2 n 0)) (V (Proc.devRef .tc main_arg0) (ix2 n 4)) (fun k j => V (Proc.devRef .tc main_v92) (ix2 k j)) (fun j => V (Proc.devRef .tc main_v99) (ix2 0 j)) (fun j => V (Proc.devRef .tc main_v96) (ix2 0 j)) (fun j => V (Proc.devRef .tc main_v100) (ix2 0 j)) h

theorem arr4 (c : Dev nD) (V : Valuation τ sig (Elt Ideal)) :
    (mkDat (nD := nD) cfg4 c V (aft cfg4 V 13 (res4 V))).arrAt 13 cfg4.N = fun i => out4 V (i 0) (i 1) := by
  refine Dat.arrAt_eq_of_covers _ 13 _ cov4 fun t hf y => ?_
  obtain ⟨r, h, rfl⟩ : ∃ (r : Fin 1000) (h : Fin 64), y = ix2 r h := ⟨y 0, y 1, eq_ix2 y⟩
  show aft cfg4 V 13 (res4 V) 13 t (ix2 r h) = out4 V ((((cfg4.win 13).blk t).view.emb (ix2 r h)) 0) ((((cfg4.win 13).blk t).view.emb (ix2 r h)) 1)
  rw [emb4_13, aft_self]
  show res4 V t (ix2 r h) = out4 V (row50 t r) h
  refine (nodeOut_apply (blk cfg4 V 0 t) (blk cfg4 V 1 t) (blk cfg4 V 2 t) (blk cfg4 V 3 t) (blk cfg4 V 4 t) (blk cfg4 V 5 t) (blk cfg4 V 6 t) (blk cfg4 V 7 t) (blk cfg4 V 8 t) r h).trans ?_
  simp only [blk4_0, blk4_1, blk4_2, blk4_3, blk4_4, blk4_5, blk4_6, blk4_7, blk4_8]
  rfl

theorem regOut4 (c : Dev nD) (V : Valuation τ sig (Elt Ideal)) (n : Fin 50000) (h : Fin 64) :
    leave cfg4 c V 13 (res4 V) (Proc.devRef .tc main_v103) (ix2 n h) = out4 V n h := by
  have e : leave cfg4 c V 13 (res4 V) (Proc.devRef .tc main_v103)
      = (mkDat (nD := nD) cfg4 c V (aft cfg4 V 13 (res4 V))).arrAt 13 cfg4.N := Function.update_self _ _ _
  rw [e, arr4]
  rfl

end Cert.KernelIdeal.Hand
-- ==== Proof.Value.Reg5.lean ====
/-
  A node update's result, entry by entry (call 5).
-/
module

public import proofs.«01_k».proof.Proof.Value.Reg1

@[expose] public section

set_option maxRecDepth 100000

noncomputable section

open scoped BigOperators

namespace Cert.KernelIdeal.Hand

open Cert.KernelIdeal Cert.KernelIdeal.Gen Cert.Common Cert.Value
open Idealize.ShloMosaic Idealize.ShloMosaic.ValueIdx Idealize.ShloMosaic.TcCoe
open Idealize.ShloMosaic.Pipeline (Dat Cfg Window)

theorem ixw5_0 : ∀ t : Fin cfg5.N, win5_0.index t = ![t.val, 0] := (by decide +kernel : ∀ t : Fin grid5.N, _)

theorem emb5_0 (t : Fin cfg5.N) (r : Fin 1000) (k : Fin 64) : ((cfg5.win 0).blk t).view.emb (ix2 r k) = ix2 (row50 t r) k :=
  funext fun a => Fin.ext (match a with
    | ⟨0, _⟩ => (Window.rect_emb_val win5_0 t _ 0).trans (by rw [ixw5_0]; rfl)
    | ⟨1, _⟩ => (Window.rect_emb_val win5_0 t _ 1).trans (by rw [ixw5_0]; exact Nat.zero_add _))

theorem blk5_0 (V : Valuation τ sig (Elt Ideal)) (t : Fin cfg5.N) (r : Fin 1000) (k : Fin 64) :
    blk cfg5 V 0 t (ix2 r k) = V (Proc.devRef .tc main_v103) (ix2 (row50 t r) k) :=
  congrArg (V (Proc.devRef .tc main_v103)) (emb5_0 t r k)

theorem ixw5_1 : ∀ t : Fin cfg5.N, win5_1.index t = ![t.val, 0] := (by decide +kernel : ∀ t : Fin grid5.N, _)

theorem emb5_1 (t : Fin cfg5.N) (r : Fin 1000) (k : Fin 64) : ((cfg5.win 1).blk t).view.emb (ix2 r k) = ix2 (row50 t r) k :=
  funext fun a => Fin.ext (match a with
    | ⟨0, _⟩ => (Window.rect_emb_val win5_1 t _ 0).trans (by rw [ixw5_1]; rfl)
    | ⟨1, _⟩ => (Window.rect_emb_val win5_1 t _ 1).trans (by rw [ixw5_1]; exact Nat.zero_add _))

theorem blk5_1 (V : Valuation τ sig (Elt Ideal)) (t : Fin cfg5.N) (r : Fin 1000) (k : Fin 64) :
    blk cfg5 V 1 t (ix2 r k) = V (Proc.devRef .tc main_v54) (ix2 (row50 t r) k) :=
  congrArg (V (Proc.devRef .tc main_v54)) (emb5_1 t r k)

theorem ixw5_2 : ∀ t : Fin cfg5.N, win5_2.index t = ![t.val, 0] := (by decide +kernel : ∀ t : Fin grid5.N, _)

theorem emb5_2 (t : Fin cfg5.N) (r : Fin 1000) (k : Fin 64) : ((cfg5.win 2).blk t).view.emb (ix2 r k) = ix2 (row50 t r) k :=
  funext fun a => Fin.ext (match a with
    | ⟨0, _⟩ => (Window.rect_emb_val win5_2 t _ 0).trans (by rw [ixw5_2]; rfl)
    | ⟨1, _⟩ => (Window.rect_emb_val win5_2 t _ 1).trans (by rw [ixw5_2]; exact Nat.zero_add _))

theorem blk5_2 (V : Valuation τ sig (Elt Ideal)) (t : Fin cfg5.N) (r : Fin 1000) (k : Fin 64) :
    blk cfg5 V 2 t (ix2 r k) = V (Proc.devRef .tc main_v110) (ix2 (row50 t r) k) :=
  congrArg (V (Proc.devRef .tc main_v110)) (emb5_2 t r k)

theorem ixw5_3 : ∀ t : Fin cfg5.N, win5_3.index t = ![t.val, 0] := (by decide +kernel : ∀ t : Fin grid5.N, _)

theorem emb5_3 (t : Fin cfg5.N) (r : Fin 1000) (k : Fin 1) : ((cfg5.win 3).blk t).view.emb (ix2 r k) = ix2 (row50 t r) k :=
  funext fun a => Fin.ext (match a with
    | ⟨0, _⟩ => (Window.rect_emb_val win5_3 t _ 0).trans (by rw [ixw5_3]; rfl)
    | ⟨1, _⟩ => (Window.rect_emb_val win5_3 t _ 1).trans (by rw [ixw5_3]; exact Nat.zero_add _))

theorem blk5_3 (V : Valuation τ sig (Elt Ideal)) (t : Fin cfg5.N) (r : Fin 1000) (k : Fin 1) :
    blk cfg5 V 3 t (ix2 r k) = V (Proc.devRef .tc main_v63) (ix2 (row50 t r) k) :=
  congrArg (V (Proc.devRef .tc main_v63)) (emb5_3 t r k)

theorem ixw5_4 : ∀ t : Fin cfg5.N, win5_4.index t = ![t.val, 0] := (by decide +kernel : ∀ t : Fin grid5.N, _)

theorem emb5_4 (t : Fin cfg5.N) (r : Fin 1000) (k : Fin 10) : ((cfg5.win 4).blk t).view.emb (ix2 r k) = ix2 (row50 t r) k :=
  funext fun a => Fin.ext (match a with
    | ⟨0, _⟩ => (Window.rect_emb_val win5_4 t _ 0).trans (by rw [ixw5_4]; rfl)
    | ⟨1, _⟩ => (Window.rect_emb_val win5_4 t _ 1).trans (by rw [ixw5_4]; exact Nat.zero_add _))

theorem blk5_4 (V : Valuation τ sig (Elt Ideal)) (t : Fin cfg5.N) (r : Fin 1000) (k : Fin 10) :
    blk cfg5 V 4 t (ix2 r k) = V (Proc.devRef .tc main_arg0) (ix2 (row50 t r) k) :=
  congrArg (V (Proc.devRef .tc main_arg0)) (emb5_4 t r k)

theorem ixw5_5 : ∀ t : Fin cfg5.N, win5_5.index t = ![0, 0] := (by decide +kernel : ∀ t : Fin grid5.N, _)

theorem blk5_5 (V : Valuation τ sig (Elt Ideal)) (t : Fin cfg5.N) (r : Fin 64) (k : Fin 64) :
    blk cfg5 V 5 t (ix2 r k) = V (Proc.devRef .tc main_v112) (ix2 r k) :=
  congrArg (V (Proc.devRef .tc main_v112)) (funext fun a => Fin.ext (Window.rect_emb_val_of_index_zero win5_5 t a (by rw [ixw5_5]; fin_cases a <;> rfl) _))

theorem ixw5_6 : ∀ t : Fin cfg5.N, win5_6.index t = ![0, 0] := (by decide +kernel : ∀ t : Fin grid5.N, _)

theorem blk5_6 (V : Valuation τ sig (Elt Ideal)) (t : Fin cfg5.N) (r : Fin 1) (k : Fin 64) :
    blk cfg5 V 6 t (ix2 r k) = V (Proc.devRef .tc main_v119) (ix2 r k) :=
  congrArg (V (Proc.devRef .tc main_v119)) (funext fun a => Fin.ext (Window.rect_emb_val_of_index_zero win5_6 t a (by rw [ixw5_6]; fin_cases a <;> rfl) _))

theorem ixw5_7 : ∀ t : Fin cfg5.N, win5_7.index t = ![0, 0] := (by decide +kernel : ∀ t : Fin grid5.N, _)

theorem blk5_7 (V : Valuation τ sig (Elt Ideal)) (t : Fin cfg5.N) (r : Fin 1) (k : Fin 64) :
    blk cfg5 V 7 t (ix2 r k) = V (Proc.devRef .tc main_v116) (ix2 r k) :=
  congrArg (V (Proc.devRef .tc main_v116)) (funext fun a => Fin.ext (Window.rect_emb_val_of_index_zero win5_7 t a (by rw [ixw5_7]; fin_cases a <;> rfl) _))

theorem ixw5_8 : ∀ t : Fin cfg5.N, win5_8.index t = ![0, 0] := (by decide +kernel : ∀ t : Fin grid5.N, _)

theorem blk5_8 (V : Valuation τ sig (Elt Ideal)) (t : Fin cfg5.N) (r : Fin 1) (k : Fin 64) :
    blk cfg5 V 8 t (ix2 r k) = V (Proc.devRef .tc main_v120) (ix2 r k) :=
  congrArg (V (Proc.devRef .tc main_v120)) (funext fun a => Fin.ext (Window.rect_emb_val_of_index_zero win5_8 t a (by rw [ixw5_8]; fin_cases a <;> rfl) _))

theorem ixw5_13 : ∀ t : Fin cfg5.N, win5_13.index t = ![t.val, 0] := (by decide +kernel : ∀ t : Fin grid5.N, _)

theorem emb5_13 (t : Fin cfg5.N) (r : Fin 1000) (k : Fin 64) : ((cfg5.win 13).blk t).view.emb (ix2 r k) = ix2 (row50 t r) k :=
  funext fun a => Fin.ext (match a with
    | ⟨0, _⟩ => (Window.rect_emb_val win5_13 t _ 0).trans (by rw [ixw5_13]; rfl)
    | ⟨1, _⟩ => (Window.rect_emb_val win5_13 t _ 1).trans (by rw [ixw5_13]; exact Nat.zero_add _))

theorem blk5_13 (V : Valuation τ sig (Elt Ideal)) (t : Fin cfg5.N) (r : Fin 1000) (k : Fin 64) :
    blk cfg5 V 13 t (ix2 r k) = V (Proc.devRef .tc main_v123) (ix2 (row50 t r) k) :=
  congrArg (V (Proc.devRef .tc main_v123)) (emb5_13 t r k)

theorem cov5 : (cfg5.win 13).Covers := by decide +kernel

def out5 (V : Valuation τ sig (Elt Ideal)) (n : Fin 50000) (h : Fin 64) : EReal :=
  nodeAt (fun k => V (Proc.devRef .tc main_v103) (ix2 n k)) (V (Proc.devRef .tc main_v54) (ix2 n h)) (V (Proc.devRef .tc main_v110) (ix2 n h)) (V (Proc.devRef .tc main_v63) (ix2 n 0)) (V (Proc.devRef .tc main_arg0) (ix2 n 4)) (fun k j => V (Proc.devRef .tc main_v112) (ix2 k j)) (fun j => V (Proc.devRef .tc main_v119) (ix2 0 j)) (fun j => V (Proc.devRef .tc main_v116) (ix2 0 j)) (fun j => V (Proc.devRef .tc main_v120) (ix2 0 j)) h

theorem arr5 (c : Dev nD) (V : Valuation τ sig (Elt Ideal)) :
    (mkDat (nD := nD) cfg5 c V (aft cfg5 V 13 (res5 V))).arrAt 13 cfg5.N = fun i => out5 V (i 0) (i 1) := by
  refine Dat.arrAt_eq_of_covers _ 13 _ cov5 fun t hf y => ?_
  obtain ⟨r, h, rfl⟩ : ∃ (r : Fin 1000) (h : Fin 64), y = ix2 r h := ⟨y 0, y 1, eq_ix2 y⟩
  show aft cfg5 V 13 (res5 V) 13 t (ix2 r h) = out5 V ((((cfg5.win 13).blk t).view.emb (ix2 r h)) 0) ((((cfg5.win 13).blk t).view.emb (ix2 r h)) 1)
  rw [emb5_13, aft_self]
  show res5 V t (ix2 r h) = out5 V (row50 t r) h
  refine (nodeOut_apply (blk cfg5 V 0 t) (blk cfg5 V 1 t) (blk cfg5 V 2 t) (blk cfg5 V 3 t) (blk cfg5 V 4 t) (blk cfg5 V 5 t) (blk cfg5 V 6 t) (blk cfg5 V 7 t) (blk cfg5 V 8 t) r h).trans ?_
  simp only [blk5_0, blk5_1, blk5_2, blk5_3, blk5_4, blk5_5, blk5_6, blk5_7, blk5_8]
  rfl

theorem regOut5 (c : Dev nD) (V : Valuation τ sig (Elt Ideal)) (n : Fin 50000) (h : Fin 64) :
    leave cfg5 c V 13 (res5 V) (Proc.devRef .tc main_v123) (ix2 n h) = out5 V n h := by
  have e : leave cfg5 c V 13 (res5 V) (Proc.devRef .tc main_v123)
      = (mkDat (nD := nD) cfg5 c V (aft cfg5 V 13 (res5 V))).arrAt 13 cfg5.N := Function.update_self _ _ _
  rw [e, arr5]
  rfl

end Cert.KernelIdeal.Hand
-- ==== Proof.Value.Reg6.lean ====
/-
  A node update's result, entry by entry (call 6).
-/
module

public import proofs.«01_k».proof.Proof.Value.Reg1

@[expose] public section

set_option maxRecDepth 100000

noncomputable section

open scoped BigOperators

namespace Cert.KernelIdeal.Hand

open Cert.KernelIdeal Cert.KernelIdeal.Gen Cert.Common Cert.Value
open Idealize.ShloMosaic Idealize.ShloMosaic.ValueIdx Idealize.ShloMosaic.TcCoe
open Idealize.ShloMosaic.Pipeline (Dat Cfg Window)

theorem ixw6_0 : ∀ t : Fin cfg6.N, win6_0.index t = ![t.val, 0] := (by decide +kernel : ∀ t : Fin grid6.N, _)

theorem emb6_0 (t : Fin cfg6.N) (r : Fin 1000) (k : Fin 64) : ((cfg6.win 0).blk t).view.emb (ix2 r k) = ix2 (row50 t r) k :=
  funext fun a => Fin.ext (match a with
    | ⟨0, _⟩ => (Window.rect_emb_val win6_0 t _ 0).trans (by rw [ixw6_0]; rfl)
    | ⟨1, _⟩ => (Window.rect_emb_val win6_0 t _ 1).trans (by rw [ixw6_0]; exact Nat.zero_add _))

theorem blk6_0 (V : Valuation τ sig (Elt Ideal)) (t : Fin cfg6.N) (r : Fin 1000) (k : Fin 64) :
    blk cfg6 V 0 t (ix2 r k) = V (Proc.devRef .tc main_v123) (ix2 (row50 t r) k) :=
  congrArg (V (Proc.devRef .tc main_v123)) (emb6_0 t r k)

theorem ixw6_1 : ∀ t : Fin cfg6.N, win6_1.index t = ![t.val, 0] := (by decide +kernel : ∀ t : Fin grid6.N, _)

theorem emb6_1 (t : Fin cfg6.N) (r : Fin 1000) (k : Fin 64) : ((cfg6.win 1).blk t).view.emb (ix2 r k) = ix2 (row50 t r) k :=
  funext fun a => Fin.ext (match a with
    | ⟨0, _⟩ => (Window.rect_emb_val win6_1 t _ 0).trans (by rw [ixw6_1]; rfl)
    | ⟨1, _⟩ => (Window.rect_emb_val win6_1 t _ 1).trans (by rw [ixw6_1]; exact Nat.zero_add _))

theorem blk6_1 (V : Valuation τ sig (Elt Ideal)) (t : Fin cfg6.N) (r : Fin 1000) (k : Fin 64) :
    blk cfg6 V 1 t (ix2 r k) = V (Proc.devRef .tc main_v54) (ix2 (row50 t r) k) :=
  congrArg (V (Proc.devRef .tc main_v54)) (emb6_1 t r k)

theorem ixw6_2 : ∀ t : Fin cfg6.N, win6_2.index t = ![t.val, 0] := (by decide +kernel : ∀ t : Fin grid6.N, _)

theorem emb6_2 (t : Fin cfg6.N) (r : Fin 1000) (k : Fin 64) : ((cfg6.win 2).blk t).view.emb (ix2 r k) = ix2 (row50 t r) k :=
  funext fun a => Fin.ext (match a with
    | ⟨0, _⟩ => (Window.rect_emb_val win6_2 t _ 0).trans (by rw [ixw6_2]; rfl)
    | ⟨1, _⟩ => (Window.rect_emb_val win6_2 t _ 1).trans (by rw [ixw6_2]; exact Nat.zero_add _))

theorem blk6_2 (V : Valuation τ sig (Elt Ideal)) (t : Fin cfg6.N) (r : Fin 1000) (k : Fin 64) :
    blk cfg6 V 2 t (ix2 r k) = V (Proc.devRef .tc main_v130) (ix2 (row50 t r) k) :=
  congrArg (V (Proc.devRef .tc main_v130)) (emb6_2 t r k)

theorem ixw6_3 : ∀ t : Fin cfg6.N, win6_3.index t = ![t.val, 0] := (by decide +kernel : ∀ t : Fin grid6.N, _)

theorem emb6_3 (t : Fin cfg6.N) (r : Fin 1000) (k : Fin 1) : ((cfg6.win 3).blk t).view.emb (ix2 r k) = ix2 (row50 t r) k :=
  funext fun a => Fin.ext (match a with
    | ⟨0, _⟩ => (Window.rect_emb_val win6_3 t _ 0).trans (by rw [ixw6_3]; rfl)
    | ⟨1, _⟩ => (Window.rect_emb_val win6_3 t _ 1).trans (by rw [ixw6_3]; exact Nat.zero_add _))

theorem blk6_3 (V : Valuation τ sig (Elt Ideal)) (t : Fin cfg6.N) (r : Fin 1000) (k : Fin 1) :
    blk cfg6 V 3 t (ix2 r k) = V (Proc.devRef .tc main_v63) (ix2 (row50 t r) k) :=
  congrArg (V (Proc.devRef .tc main_v63)) (emb6_3 t r k)

theorem ixw6_4 : ∀ t : Fin cfg6.N, win6_4.index t = ![t.val, 0] := (by decide +kernel : ∀ t : Fin grid6.N, _)

theorem emb6_4 (t : Fin cfg6.N) (r : Fin 1000) (k : Fin 10) : ((cfg6.win 4).blk t).view.emb (ix2 r k) = ix2 (row50 t r) k :=
  funext fun a => Fin.ext (match a with
    | ⟨0, _⟩ => (Window.rect_emb_val win6_4 t _ 0).trans (by rw [ixw6_4]; rfl)
    | ⟨1, _⟩ => (Window.rect_emb_val win6_4 t _ 1).trans (by rw [ixw6_4]; exact Nat.zero_add _))

theorem blk6_4 (V : Valuation τ sig (Elt Ideal)) (t : Fin cfg6.N) (r : Fin 1000) (k : Fin 10) :
    blk cfg6 V 4 t (ix2 r k) = V (Proc.devRef .tc main_arg0) (ix2 (row50 t r) k) :=
  congrArg (V (Proc.devRef .tc main_arg0)) (emb6_4 t r k)

theorem ixw6_5 : ∀ t : Fin cfg6.N, win6_5.index t = ![0, 0] := (by decide +kernel : ∀ t : Fin grid6.N, _)

theorem blk6_5 (V : Valuation τ sig (Elt Ideal)) (t : Fin cfg6.N) (r : Fin 64) (k : Fin 64) :
    blk cfg6 V 5 t (ix2 r k) = V (Proc.devRef .tc main_v132) (ix2 r k) :=
  congrArg (V (Proc.devRef .tc main_v132)) (funext fun a => Fin.ext (Window.rect_emb_val_of_index_zero win6_5 t a (by rw [ixw6_5]; fin_cases a <;> rfl) _))

theorem ixw6_6 : ∀ t : Fin cfg6.N, win6_6.index t = ![0, 0] := (by decide +kernel : ∀ t : Fin grid6.N, _)

theorem blk6_6 (V : Valuation τ sig (Elt Ideal)) (t : Fin cfg6.N) (r : Fin 1) (k : Fin 64) :
    blk cfg6 V 6 t (ix2 r k) = V (Proc.devRef .tc main_v139) (ix2 r k) :=
  congrArg (V (Proc.devRef .tc main_v139)) (funext fun a => Fin.ext (Window.rect_emb_val_of_index_zero win6_6 t a (by rw [ixw6_6]; fin_cases a <;> rfl) _))

theorem ixw6_7 : ∀ t : Fin cfg6.N, win6_7.index t = ![0, 0] := (by decide +kernel : ∀ t : Fin grid6.N, _)

theorem blk6_7 (V : Valuation τ sig (Elt Ideal)) (t : Fin cfg6.N) (r : Fin 1) (k : Fin 64) :
    blk cfg6 V 7 t (ix2 r k) = V (Proc.devRef .tc main_v136) (ix2 r k) :=
  congrArg (V (Proc.devRef .tc main_v136)) (funext fun a => Fin.ext (Window.rect_emb_val_of_index_zero win6_7 t a (by rw [ixw6_7]; fin_cases a <;> rfl) _))

theorem ixw6_8 : ∀ t : Fin cfg6.N, win6_8.index t = ![0, 0] := (by decide +kernel : ∀ t : Fin grid6.N, _)

theorem blk6_8 (V : Valuation τ sig (Elt Ideal)) (t : Fin cfg6.N) (r : Fin 1) (k : Fin 64) :
    blk cfg6 V 8 t (ix2 r k) = V (Proc.devRef .tc main_v140) (ix2 r k) :=
  congrArg (V (Proc.devRef .tc main_v140)) (funext fun a => Fin.ext (Window.rect_emb_val_of_index_zero win6_8 t a (by rw [ixw6_8]; fin_cases a <;> rfl) _))

theorem ixw6_13 : ∀ t : Fin cfg6.N, win6_13.index t = ![t.val, 0] := (by decide +kernel : ∀ t : Fin grid6.N, _)

theorem emb6_13 (t : Fin cfg6.N) (r : Fin 1000) (k : Fin 64) : ((cfg6.win 13).blk t).view.emb (ix2 r k) = ix2 (row50 t r) k :=
  funext fun a => Fin.ext (match a with
    | ⟨0, _⟩ => (Window.rect_emb_val win6_13 t _ 0).trans (by rw [ixw6_13]; rfl)
    | ⟨1, _⟩ => (Window.rect_emb_val win6_13 t _ 1).trans (by rw [ixw6_13]; exact Nat.zero_add _))

theorem blk6_13 (V : Valuation τ sig (Elt Ideal)) (t : Fin cfg6.N) (r : Fin 1000) (k : Fin 64) :
    blk cfg6 V 13 t (ix2 r k) = V (Proc.devRef .tc main_v143) (ix2 (row50 t r) k) :=
  congrArg (V (Proc.devRef .tc main_v143)) (emb6_13 t r k)

theorem cov6 : (cfg6.win 13).Covers := by decide +kernel

def out6 (V : Valuation τ sig (Elt Ideal)) (n : Fin 50000) (h : Fin 64) : EReal :=
  nodeAt (fun k => V (Proc.devRef .tc main_v123) (ix2 n k)) (V (Proc.devRef .tc main_v54) (ix2 n h)) (V (Proc.devRef .tc main_v130) (ix2 n h)) (V (Proc.devRef .tc main_v63) (ix2 n 0)) (V (Proc.devRef .tc main_arg0) (ix2 n 4)) (fun k j => V (Proc.devRef .tc main_v132) (ix2 k j)) (fun j => V (Proc.devRef .tc main_v139) (ix2 0 j)) (fun j => V (Proc.devRef .tc main_v136) (ix2 0 j)) (fun j => V (Proc.devRef .tc main_v140) (ix2 0 j)) h

theorem arr6 (c : Dev nD) (V : Valuation τ sig (Elt Ideal)) :
    (mkDat (nD := nD) cfg6 c V (aft cfg6 V 13 (res6 V))).arrAt 13 cfg6.N = fun i => out6 V (i 0) (i 1) := by
  refine Dat.arrAt_eq_of_covers _ 13 _ cov6 fun t hf y => ?_
  obtain ⟨r, h, rfl⟩ : ∃ (r : Fin 1000) (h : Fin 64), y = ix2 r h := ⟨y 0, y 1, eq_ix2 y⟩
  show aft cfg6 V 13 (res6 V) 13 t (ix2 r h) = out6 V ((((cfg6.win 13).blk t).view.emb (ix2 r h)) 0) ((((cfg6.win 13).blk t).view.emb (ix2 r h)) 1)
  rw [emb6_13, aft_self]
  show res6 V t (ix2 r h) = out6 V (row50 t r) h
  refine (nodeOut_apply (blk cfg6 V 0 t) (blk cfg6 V 1 t) (blk cfg6 V 2 t) (blk cfg6 V 3 t) (blk cfg6 V 4 t) (blk cfg6 V 5 t) (blk cfg6 V 6 t) (blk cfg6 V 7 t) (blk cfg6 V 8 t) r h).trans ?_
  simp only [blk6_0, blk6_1, blk6_2, blk6_3, blk6_4, blk6_5, blk6_6, blk6_7, blk6_8]
  rfl

theorem regOut6 (c : Dev nD) (V : Valuation τ sig (Elt Ideal)) (n : Fin 50000) (h : Fin 64) :
    leave cfg6 c V 13 (res6 V) (Proc.devRef .tc main_v143) (ix2 n h) = out6 V n h := by
  have e : leave cfg6 c V 13 (res6 V) (Proc.devRef .tc main_v143)
      = (mkDat (nD := nD) cfg6 c V (aft cfg6 V 13 (res6 V))).arrAt 13 cfg6.N := Function.update_self _ _ _
  rw [e, arr6]
  rfl

end Cert.KernelIdeal.Hand
-- ==== Proof.Value.Reg7.lean ====
/-
  A node update's result, entry by entry (call 7).
-/
module

public import proofs.«01_k».proof.Proof.Value.Reg1

@[expose] public section

set_option maxRecDepth 100000

noncomputable section

open scoped BigOperators

namespace Cert.KernelIdeal.Hand

open Cert.KernelIdeal Cert.KernelIdeal.Gen Cert.Common Cert.Value
open Idealize.ShloMosaic Idealize.ShloMosaic.ValueIdx Idealize.ShloMosaic.TcCoe
open Idealize.ShloMosaic.Pipeline (Dat Cfg Window)

theorem ixw7_0 : ∀ t : Fin cfg7.N, win7_0.index t = ![t.val, 0] := (by decide +kernel : ∀ t : Fin grid7.N, _)

theorem emb7_0 (t : Fin cfg7.N) (r : Fin 1000) (k : Fin 64) : ((cfg7.win 0).blk t).view.emb (ix2 r k) = ix2 (row50 t r) k :=
  funext fun a => Fin.ext (match a with
    | ⟨0, _⟩ => (Window.rect_emb_val win7_0 t _ 0).trans (by rw [ixw7_0]; rfl)
    | ⟨1, _⟩ => (Window.rect_emb_val win7_0 t _ 1).trans (by rw [ixw7_0]; exact Nat.zero_add _))

theorem blk7_0 (V : Valuation τ sig (Elt Ideal)) (t : Fin cfg7.N) (r : Fin 1000) (k : Fin 64) :
    blk cfg7 V 0 t (ix2 r k) = V (Proc.devRef .tc main_v143) (ix2 (row50 t r) k) :=
  congrArg (V (Proc.devRef .tc main_v143)) (emb7_0 t r k)

theorem ixw7_1 : ∀ t : Fin cfg7.N, win7_1.index t = ![t.val, 0] := (by decide +kernel : ∀ t : Fin grid7.N, _)

theorem emb7_1 (t : Fin cfg7.N) (r : Fin 1000) (k : Fin 64) : ((cfg7.win 1).blk t).view.emb (ix2 r k) = ix2 (row50 t r) k :=
  funext fun a => Fin.ext (match a with
    | ⟨0, _⟩ => (Window.rect_emb_val win7_1 t _ 0).trans (by rw [ixw7_1]; rfl)
    | ⟨1, _⟩ => (Window.rect_emb_val win7_1 t _ 1).trans (by rw [ixw7_1]; exact Nat.zero_add _))

theorem blk7_1 (V : Valuation τ sig (Elt Ideal)) (t : Fin cfg7.N) (r : Fin 1000) (k : Fin 64) :
    blk cfg7 V 1 t (ix2 r k) = V (Proc.devRef .tc main_v54) (ix2 (row50 t r) k) :=
  congrArg (V (Proc.devRef .tc main_v54)) (emb7_1 t r k)

theorem ixw7_2 : ∀ t : Fin cfg7.N, win7_2.index t = ![t.val, 0] := (by decide +kernel : ∀ t : Fin grid7.N, _)

theorem emb7_2 (t : Fin cfg7.N) (r : Fin 1000) (k : Fin 64) : ((cfg7.win 2).blk t).view.emb (ix2 r k) = ix2 (row50 t r) k :=
  funext fun a => Fin.ext (match a with
    | ⟨0, _⟩ => (Window.rect_emb_val win7_2 t _ 0).trans (by rw [ixw7_2]; rfl)
    | ⟨1, _⟩ => (Window.rect_emb_val win7_2 t _ 1).trans (by rw [ixw7_2]; exact Nat.zero_add _))

theorem blk7_2 (V : Valuation τ sig (Elt Ideal)) (t : Fin cfg7.N) (r : Fin 1000) (k : Fin 64) :
    blk cfg7 V 2 t (ix2 r k) = V (Proc.devRef .tc main_v150) (ix2 (row50 t r) k) :=
  congrArg (V (Proc.devRef .tc main_v150)) (emb7_2 t r k)

theorem ixw7_3 : ∀ t : Fin cfg7.N, win7_3.index t = ![t.val, 0] := (by decide +kernel : ∀ t : Fin grid7.N, _)

theorem emb7_3 (t : Fin cfg7.N) (r : Fin 1000) (k : Fin 1) : ((cfg7.win 3).blk t).view.emb (ix2 r k) = ix2 (row50 t r) k :=
  funext fun a => Fin.ext (match a with
    | ⟨0, _⟩ => (Window.rect_emb_val win7_3 t _ 0).trans (by rw [ixw7_3]; rfl)
    | ⟨1, _⟩ => (Window.rect_emb_val win7_3 t _ 1).trans (by rw [ixw7_3]; exact Nat.zero_add _))

theorem blk7_3 (V : Valuation τ sig (Elt Ideal)) (t : Fin cfg7.N) (r : Fin 1000) (k : Fin 1) :
    blk cfg7 V 3 t (ix2 r k) = V (Proc.devRef .tc main_v63) (ix2 (row50 t r) k) :=
  congrArg (V (Proc.devRef .tc main_v63)) (emb7_3 t r k)

theorem ixw7_4 : ∀ t : Fin cfg7.N, win7_4.index t = ![t.val, 0] := (by decide +kernel : ∀ t : Fin grid7.N, _)

theorem emb7_4 (t : Fin cfg7.N) (r : Fin 1000) (k : Fin 10) : ((cfg7.win 4).blk t).view.emb (ix2 r k) = ix2 (row50 t r) k :=
  funext fun a => Fin.ext (match a with
    | ⟨0, _⟩ => (Window.rect_emb_val win7_4 t _ 0).trans (by rw [ixw7_4]; rfl)
    | ⟨1, _⟩ => (Window.rect_emb_val win7_4 t _ 1).trans (by rw [ixw7_4]; exact Nat.zero_add _))

theorem blk7_4 (V : Valuation τ sig (Elt Ideal)) (t : Fin cfg7.N) (r : Fin 1000) (k : Fin 10) :
    blk cfg7 V 4 t (ix2 r k) = V (Proc.devRef .tc main_arg0) (ix2 (row50 t r) k) :=
  congrArg (V (Proc.devRef .tc main_arg0)) (emb7_4 t r k)

theorem ixw7_5 : ∀ t : Fin cfg7.N, win7_5.index t = ![0, 0] := (by decide +kernel : ∀ t : Fin grid7.N, _)

theorem blk7_5 (V : Valuation τ sig (Elt Ideal)) (t : Fin cfg7.N) (r : Fin 64) (k : Fin 64) :
    blk cfg7 V 5 t (ix2 r k) = V (Proc.devRef .tc main_v152) (ix2 r k) :=
  congrArg (V (Proc.devRef .tc main_v152)) (funext fun a => Fin.ext (Window.rect_emb_val_of_index_zero win7_5 t a (by rw [ixw7_5]; fin_cases a <;> rfl) _))

theorem ixw7_6 : ∀ t : Fin cfg7.N, win7_6.index t = ![0, 0] := (by decide +kernel : ∀ t : Fin grid7.N, _)

theorem blk7_6 (V : Valuation τ sig (Elt Ideal)) (t : Fin cfg7.N) (r : Fin 1) (k : Fin 64) :
    blk cfg7 V 6 t (ix2 r k) = V (Proc.devRef .tc main_v159) (ix2 r k) :=
  congrArg (V (Proc.devRef .tc main_v159)) (funext fun a => Fin.ext (Window.rect_emb_val_of_index_zero win7_6 t a (by rw [ixw7_6]; fin_cases a <;> rfl) _))

theorem ixw7_7 : ∀ t : Fin cfg7.N, win7_7.index t = ![0, 0] := (by decide +kernel : ∀ t : Fin grid7.N, _)

theorem blk7_7 (V : Valuation τ sig (Elt Ideal)) (t : Fin cfg7.N) (r : Fin 1) (k : Fin 64) :
    blk cfg7 V 7 t (ix2 r k) = V (Proc.devRef .tc main_v156) (ix2 r k) :=
  congrArg (V (Proc.devRef .tc main_v156)) (funext fun a => Fin.ext (Window.rect_emb_val_of_index_zero win7_7 t a (by rw [ixw7_7]; fin_cases a <;> rfl) _))

theorem ixw7_8 : ∀ t : Fin cfg7.N, win7_8.index t = ![0, 0] := (by decide +kernel : ∀ t : Fin grid7.N, _)

theorem blk7_8 (V : Valuation τ sig (Elt Ideal)) (t : Fin cfg7.N) (r : Fin 1) (k : Fin 64) :
    blk cfg7 V 8 t (ix2 r k) = V (Proc.devRef .tc main_v160) (ix2 r k) :=
  congrArg (V (Proc.devRef .tc main_v160)) (funext fun a => Fin.ext (Window.rect_emb_val_of_index_zero win7_8 t a (by rw [ixw7_8]; fin_cases a <;> rfl) _))

theorem ixw7_9 : ∀ t : Fin cfg7.N, win7_9.index t = ![0, 0] := (by decide +kernel : ∀ t : Fin grid7.N, _)

theorem blk7_9 (V : Valuation τ sig (Elt Ideal)) (t : Fin cfg7.N) (r : Fin 64) (k : Fin 64) :
    blk cfg7 V 9 t (ix2 r k) = V (Proc.devRef .tc main_arg17) (ix2 r k) :=
  congrArg (V (Proc.devRef .tc main_arg17)) (funext fun a => Fin.ext (Window.rect_emb_val_of_index_zero win7_9 t a (by rw [ixw7_9]; fin_cases a <;> rfl) _))

theorem ixw7_10 : ∀ t : Fin cfg7.N, win7_10.index t = ![0, 0] := (by decide +kernel : ∀ t : Fin grid7.N, _)

theorem blk7_10 (V : Valuation τ sig (Elt Ideal)) (t : Fin cfg7.N) (r : Fin 1) (k : Fin 64) :
    blk cfg7 V 10 t (ix2 r k) = V (Proc.devRef .tc main_v161) (ix2 r k) :=
  congrArg (V (Proc.devRef .tc main_v161)) (funext fun a => Fin.ext (Window.rect_emb_val_of_index_zero win7_10 t a (by rw [ixw7_10]; fin_cases a <;> rfl) _))

theorem ixw7_11 : ∀ t : Fin cfg7.N, win7_11.index t = ![0, 0] := (by decide +kernel : ∀ t : Fin grid7.N, _)

theorem blk7_11 (V : Valuation τ sig (Elt Ideal)) (t : Fin cfg7.N) (r : Fin 64) (k : Fin 3) :
    blk cfg7 V 11 t (ix2 r k) = V (Proc.devRef .tc main_arg19) (ix2 r k) :=
  congrArg (V (Proc.devRef .tc main_arg19)) (funext fun a => Fin.ext (Window.rect_emb_val_of_index_zero win7_11 t a (by rw [ixw7_11]; fin_cases a <;> rfl) _))

theorem ixw7_12 : ∀ t : Fin cfg7.N, win7_12.index t = ![0, 0] := (by decide +kernel : ∀ t : Fin grid7.N, _)

theorem blk7_12 (V : Valuation τ sig (Elt Ideal)) (t : Fin cfg7.N) (r : Fin 1) (k : Fin 3) :
    blk cfg7 V 12 t (ix2 r k) = V (Proc.devRef .tc main_v162) (ix2 r k) :=
  congrArg (V (Proc.devRef .tc main_v162)) (funext fun a => Fin.ext (Window.rect_emb_val_of_index_zero win7_12 t a (by rw [ixw7_12]; fin_cases a <;> rfl) _))

theorem ixw7_13 : ∀ t : Fin cfg7.N, win7_13.index t = ![t.val, 0] := (by decide +kernel : ∀ t : Fin grid7.N, _)

theorem emb7_13 (t : Fin cfg7.N) (r : Fin 1000) (k : Fin 3) : ((cfg7.win 13).blk t).view.emb (ix2 r k) = ix2 (row50 t r) k :=
  funext fun a => Fin.ext (match a with
    | ⟨0, _⟩ => (Window.rect_emb_val win7_13 t _ 0).trans (by rw [ixw7_13]; rfl)
    | ⟨1, _⟩ => (Window.rect_emb_val win7_13 t _ 1).trans (by rw [ixw7_13]; exact Nat.zero_add _))

theorem blk7_13 (V : Valuation τ sig (Elt Ideal)) (t : Fin cfg7.N) (r : Fin 1000) (k : Fin 3) :
    blk cfg7 V 13 t (ix2 r k) = V (Proc.devRef .tc main_v163) (ix2 (row50 t r) k) :=
  congrArg (V (Proc.devRef .tc main_v163)) (emb7_13 t r k)

theorem cov7 : (cfg7.win 13).Covers := by decide +kernel

def out7 (V : Valuation τ sig (Elt Ideal)) (n : Fin 50000) (h : Fin 3) : EReal :=
  mlp2 (fun g => nodeAt (fun k => V (Proc.devRef .tc main_v143) (ix2 n k)) (V (Proc.devRef .tc main_v54) (ix2 n g)) (V (Proc.devRef .tc main_v150) (ix2 n g)) (V (Proc.devRef .tc main_v63) (ix2 n 0)) (V (Proc.devRef .tc main_arg0) (ix2 n 4)) (fun k j => V (Proc.devRef .tc main_v152) (ix2 k j)) (fun j => V (Proc.devRef .tc main_v159) (ix2 0 j)) (fun j => V (Proc.devRef .tc main_v156) (ix2 0 j)) (fun j => V (Proc.devRef .tc main_v160) (ix2 0 j)) g) (fun k j => V (Proc.devRef .tc main_arg17) (ix2 k j)) (fun j => V (Proc.devRef .tc main_v161) (ix2 0 j)) (fun k j => V (Proc.devRef .tc main_arg19) (ix2 k j)) (fun j => V (Proc.devRef .tc main_v162) (ix2 0 j)) h

theorem arr7 (c : Dev nD) (V : Valuation τ sig (Elt Ideal)) :
    (mkDat (nD := nD) cfg7 c V (aft cfg7 V 13 (res7 V))).arrAt 13 cfg7.N = fun i => out7 V (i 0) (i 1) := by
  refine Dat.arrAt_eq_of_covers _ 13 _ cov7 fun t hf y => ?_
  obtain ⟨r, h, rfl⟩ : ∃ (r : Fin 1000) (h : Fin 3), y = ix2 r h := ⟨y 0, y 1, eq_ix2 y⟩
  show aft cfg7 V 13 (res7 V) 13 t (ix2 r h) = out7 V ((((cfg7.win 13).blk t).view.emb (ix2 r h)) 0) ((((cfg7.win 13).blk t).view.emb (ix2 r h)) 1)
  rw [emb7_13, aft_self]
  show res7 V t (ix2 r h) = out7 V (row50 t r) h
  refine (finalOut_apply (blk cfg7 V 0 t) (blk cfg7 V 1 t) (blk cfg7 V 2 t) (blk cfg7 V 3 t) (blk cfg7 V 4 t) (blk cfg7 V 5 t) (blk cfg7 V 6 t) (blk cfg7 V 7 t) (blk cfg7 V 8 t) (blk cfg7 V 9 t) (blk cfg7 V 10 t) (blk cfg7 V 11 t) (blk cfg7 V 12 t) r h).trans ?_
  simp only [blk7_0, blk7_1, blk7_2, blk7_3, blk7_4, blk7_5, blk7_6, blk7_7, blk7_8, blk7_9, blk7_10, blk7_11, blk7_12]
  rfl

theorem regOut7 (c : Dev nD) (V : Valuation τ sig (Elt Ideal)) (n : Fin 50000) (h : Fin 3) :
    leave cfg7 c V 13 (res7 V) (Proc.devRef .tc main_v163) (ix2 n h) = out7 V n h := by
  have e : leave cfg7 c V 13 (res7 V) (Proc.devRef .tc main_v163)
      = (mkDat (nD := nD) cfg7 c V (aft cfg7 V 13 (res7 V))).arrAt 13 cfg7.N := Function.update_self _ _ _
  rw [e, arr7]
  rfl

end Cert.KernelIdeal.Hand
-- ==== Proof.Value.KerB.lean ====
/-
  The kernel program's result, entry by entry.
-/
module

public import proofs.«01_k».proof.Proof.Value.KerA
public import proofs.«01_k».proof.Proof.Value.HostP
public import proofs.«01_k».proof.Proof.Value.HostN
public import proofs.«01_k».proof.Proof.Value.Reg0
public import proofs.«01_k».proof.Proof.Value.Reg1
public import proofs.«01_k».proof.Proof.Value.Reg2
public import proofs.«01_k».proof.Proof.Value.Reg3
public import proofs.«01_k».proof.Proof.Value.Reg4
public import proofs.«01_k».proof.Proof.Value.Reg5
public import proofs.«01_k».proof.Proof.Value.Reg6
public import proofs.«01_k».proof.Proof.Value.Reg7

@[expose] public section

set_option maxRecDepth 100000

noncomputable section

open scoped BigOperators

namespace Cert.KernelIdeal.Hand

open Cert.KernelIdeal Cert.KernelIdeal.Gen Cert.Common Cert.Value
open Idealize.ShloMosaic Idealize.ShloMosaic.ValueIdx Idealize.ShloMosaic.TcCoe
open Idealize.ShloMosaic.Pipeline (Dat Cfg Window)

variable (m : (ℓ : Loc nD τ sig) → Buf (Elt Ideal) ℓ) (c : Dev nD)

/-! ## The arguments as functions of their indices -/

def e0 (n : Fin 50000) (k : Fin 10) : EReal := m (c, Proc.devRef .tc main_arg0) (ix2 n k)
def e1 (r : Fin 2) (e : Fin 800000) : BitVec 32 := m (c, Proc.devRef .tc main_arg1) (ix2 r e)
def e2 (e : Fin 800000) (d : Fin 9) : EReal := m (c, Proc.devRef .tc main_arg2) (ix2 e d)
def e3 (k : Fin 10) (j : Fin 64) : EReal := m (c, Proc.devRef .tc main_arg3) (ix2 k j)
def e4 (j : Fin 64) : EReal := m (c, Proc.devRef .tc main_arg4) (ix1 j)
def e5 (k : Fin 64) (j : Fin 64) : EReal := m (c, Proc.devRef .tc main_arg5) (ix2 k j)
def e6 (j : Fin 64) : EReal := m (c, Proc.devRef .tc main_arg6) (ix1 j)
def e7 (t : Fin 5) (d : Fin 9) (j : Fin 64) : EReal := m (c, Proc.devRef .tc main_arg7) (ix3 t d j)
def e8 (t : Fin 5) (j : Fin 64) : EReal := m (c, Proc.devRef .tc main_arg8) (ix2 t j)
def e9 (t : Fin 5) (k : Fin 64) (j : Fin 64) : EReal := m (c, Proc.devRef .tc main_arg9) (ix3 t k j)
def e10 (t : Fin 5) (j : Fin 64) : EReal := m (c, Proc.devRef .tc main_arg10) (ix2 t j)
def e11 (t : Fin 5) (k : Fin 64) (j : Fin 64) : EReal := m (c, Proc.devRef .tc main_arg11) (ix3 t k j)
def e12 (t : Fin 5) (j : Fin 64) : EReal := m (c, Proc.devRef .tc main_arg12) (ix2 t j)
def e13 (t : Fin 5) (k : Fin 64) (j : Fin 64) : EReal := m (c, Proc.devRef .tc main_arg13) (ix3 t k j)
def e14 (t : Fin 5) (j : Fin 64) : EReal := m (c, Proc.devRef .tc main_arg14) (ix2 t j)
def e15 (t : Fin 5) (j : Fin 64) : EReal := m (c, Proc.devRef .tc main_arg15) (ix3 t (0 : Fin 1) j)
def e16 (t : Fin 5) (j : Fin 64) : EReal := m (c, Proc.devRef .tc main_arg16) (ix2 t j)
def e17 (k : Fin 64) (j : Fin 64) : EReal := m (c, Proc.devRef .tc main_arg17) (ix2 k j)
def e18 (j : Fin 64) : EReal := m (c, Proc.devRef .tc main_arg18) (ix1 j)
def e19 (k : Fin 64) (j : Fin 3) : EReal := m (c, Proc.devRef .tc main_arg19) (ix2 k j)
def e20 (j : Fin 3) : EReal := m (c, Proc.devRef .tc main_arg20) (ix1 j)

/-- The columns' sums. -/
def sm (d : Fin 9) : EReal := ∑ e, e2 m c e d

/-- The columns' sums of squares. -/
def sq (d : Fin 9) : EReal := ∑ e, e2 m c e d * e2 m c e d

/-- The lifted node features. -/
def vin (n : Fin 50000) (h : Fin 64) : EReal := mlp2 (e0 m c n) (e3 m c) (e4 m c) (e5 m c) (e6 m c) h

/-- The edge network's weights of step `t` on edge `e`. -/
def ker (t : Fin 5) (e : Fin 800000) (h : Fin 64) : EReal :=
  tail3 (fun k => lin (e2 m c e) (w1Of (sm m c) (sq m c) (e7 m c t)) (b1Of (sm m c) (sq m c) (e7 m c t) (e8 m c t)) k)
    (e9 m c t) (e10 m c t) (e11 m c t) (e12 m c t) h

/-- One step from the node features `v`. -/
def nxt (t : Fin 5) (v : Fin 50000 → Fin 64 → EReal) : Fin 50000 → Fin 64 → EReal :=
  stepAt (ker m c t) (e1 m c 0) (e1 m c 1) v (vin m c) (fun n => e0 m c n 4) (e13 m c t) (e14 m c t) (e15 m c t) (e16 m c t)

def v1 := nxt m c 0 (vin m c)
def v2 := nxt m c 1 (v1 m c)
def v3 := nxt m c 2 (v2 m c)
def v4 := nxt m c 3 (v3 m c)
def v5 := nxt m c 4 (v4 m c)

/-! ## Equal parts give equal wholes -/

theorem lin_congr {K N : ℕ} {x x' : Fin K → EReal} {w w' : Fin K → Fin N → EReal} {b b' : Fin N → EReal}
    (hx : ∀ k, x k = x' k) (hw : ∀ k j, w k j = w' k j) (hb : ∀ j, b j = b' j) (j : Fin N) : lin x w b j = lin x' w' b' j := by
  obtain rfl : x = x' := funext hx
  obtain rfl : w = w' := funext fun k => funext fun j => hw k j
  obtain rfl : b = b' := funext hb
  rfl

theorem mlp2_congr {K M N : ℕ} {x x' : Fin K → EReal} {w1 w1' : Fin K → Fin M → EReal} {b1 b1' : Fin M → EReal}
    {w2 w2' : Fin M → Fin N → EReal} {b2 b2' : Fin N → EReal} (hx : ∀ k, x k = x' k) (hw : ∀ k j, w1 k j = w1' k j) (hb : ∀ j, b1 j = b1' j)
    (hw2 : ∀ k j, w2 k j = w2' k j) (hb2 : ∀ j, b2 j = b2' j) (j : Fin N) : mlp2 x w1 b1 w2 b2 j = mlp2 x' w1' b1' w2' b2' j := by
  unfold mlp2
  exact lin_congr (fun k => congrArg (fun z : EReal => max z 0) (lin_congr hx hw hb k)) hw2 hb2 j

theorem tail3_congr {M L N : ℕ} {z z' : Fin M → EReal} {w2 w2' : Fin M → Fin L → EReal} {b2 b2' : Fin L → EReal}
    {w3 w3' : Fin L → Fin N → EReal} {b3 b3' : Fin N → EReal} (hz : ∀ k, z k = z' k) (hw2 : ∀ k j, w2 k j = w2' k j) (hb2 : ∀ j, b2 j = b2' j)
    (hw3 : ∀ k j, w3 k j = w3' k j) (hb3 : ∀ j, b3 j = b3' j) (j : Fin N) : tail3 z w2 b2 w3 b3 j = tail3 z' w2' b2' w3' b3' j := by
  unfold tail3
  exact lin_congr (fun l => congrArg (fun z : EReal => max z 0) (lin_congr (fun k => congrArg (fun z : EReal => max z 0) (hz k)) hw2 hb2 l)) hw3 hb3 j

theorem aggAt_congr {km km' : Fin 800000 → Fin 64 → EReal} {src src' dst dst' : Fin 800000 → BitVec 32} {v v' : Fin 50000 → Fin 64 → EReal}
    (hk : ∀ e h, km e h = km' e h) (hs : ∀ e, src e = src' e) (hd : ∀ e, dst e = dst' e) (hv : ∀ n h, v n h = v' n h)
    (n : Fin 50000) (h : Fin 64) : aggAt km src dst v n h = aggAt km' src' dst' v' n h := by
  obtain rfl : km = km' := funext fun k => funext fun j => hk k j
  obtain rfl : src = src' := funext hs
  obtain rfl : dst = dst' := funext hd
  obtain rfl : v = v' := funext fun k => funext fun j => hv k j
  rfl

theorem cntAt_congr {dst dst' : Fin 800000 → BitVec 32} (hd : ∀ e, dst e = dst' e) (n : Fin 50000) : cntAt dst n = cntAt dst' n := by
  obtain rfl : dst = dst' := funext hd
  rfl

theorem nodeAt_congr {v v' : Fin 64 → EReal} {v0 v0' agg agg' cnt cnt' x4 x4' : EReal} {sw sw' : Fin 64 → Fin 64 → EReal}
    {sb sb' gw gw' gb gb' : Fin 64 → EReal} (hv : ∀ k, v k = v' k) (h0 : v0 = v0') (ha : agg = agg') (hc : cnt = cnt') (hx : x4 = x4')
    (hsw : ∀ k j, sw k j = sw' k j) (hsb : ∀ j, sb j = sb' j) (hgw : ∀ j, gw j = gw' j) (hgb : ∀ j, gb j = gb' j) (h : Fin 64) :
    nodeAt v v0 agg cnt x4 sw sb gw gb h = nodeAt v' v0' agg' cnt' x4' sw' sb' gw' gb' h := by
  obtain rfl : v = v' := funext hv
  obtain rfl : sw = sw' := funext fun k => funext fun j => hsw k j
  obtain rfl : sb = sb' := funext hsb
  obtain rfl : gw = gw' := funext hgw
  obtain rfl : gb = gb' := funext hgb
  rw [h0, ha, hc, hx]

/-! ## Buffer by buffer -/

theorem ent_eq (e : Fin 800000) (d : Fin 9) : ent (B0 m c) e d = e2 m c e d := congrFun (arg_kept m c main_arg2 (at_B0 m c) (by decide) (by decide) (by decide) (by decide)) (ix2 e d)

theorem sm_eq (d : Fin 9) : A0 m c (Proc.devRef .tc main_v28) (ix2 (0 : Fin 2) d) = sm m c d := by
  have h : (∑ e, ent (B0 m c) e d) = sm m c d := Finset.sum_congr rfl fun e _ => ent_eq m c e d
  exact (reg0_row0 c (B0 m c) d).trans h

theorem sq_eq (d : Fin 9) : A0 m c (Proc.devRef .tc main_v28) (ix2 (1 : Fin 2) d) = sq m c d := by
  have h : (∑ e, ent (B0 m c) e d * ent (B0 m c) e d) = sq m c d := Finset.sum_congr rfl fun e _ => by rw [ent_eq]
  exact (reg0_row1 c (B0 m c) d).trans h

theorem vin_eq (n : Fin 50000) (h : Fin 64) : A1 m c (Proc.devRef .tc main_v54) (ix2 n h) = vin m c n h := by
  refine (regOut1 c (B1 m c) n h).trans ?_
  exact mlp2_congr (fun k => congrFun (arg_kept m c main_arg0 (at_B1 m c) (by decide) (by decide) (by decide) (by decide)) (ix2 n k)) (fun k j => congrFun (arg_kept m c main_arg3 (at_B1 m c) (by decide) (by decide) (by decide) (by decide)) (ix2 k j))
    (fun j => (v52e (A0 m c) j).trans (congrFun (arg_kept m c main_arg4 (at_A0 m c) (by decide) (by decide) (by decide) (by decide)) (ix1 j))) (fun k j => congrFun (arg_kept m c main_arg5 (at_B1 m c) (by decide) (by decide) (by decide) (by decide)) (ix2 k j))
    (fun j => (v53e (A0 m c) j).trans (congrFun (arg_kept m c main_arg6 (at_A0 m c) (by decide) (by decide) (by decide) (by decide)) (ix1 j))) h

theorem w1_eq (t : Fin 5) (d : Fin 9) (j : Fin 64) : B1 m c (Proc.devRef .tc main_v48) (ix3 t d j) = w1Of (sm m c) (sq m c) (e7 m c t) d j := by
  refine (w1e (A0 m c) t d j).trans ?_
  rw [show (fun d => A0 m c (Proc.devRef .tc main_v28) (ix2 (0 : Fin 2) d)) = sm m c from funext (sm_eq m c),
    show (fun d => A0 m c (Proc.devRef .tc main_v28) (ix2 (1 : Fin 2) d)) = sq m c from funext (sq_eq m c), arg_kept m c main_arg7 (at_A0 m c) (by decide) (by decide) (by decide) (by decide)]
  rfl

theorem b1_eq (t : Fin 5) (j : Fin 64) : B1 m c (Proc.devRef .tc main_v51) (ix2 t j) = b1Of (sm m c) (sq m c) (e7 m c t) (e8 m c t) j := by
  refine (b1e (A0 m c) t j).trans ?_
  rw [show (fun d => A0 m c (Proc.devRef .tc main_v28) (ix2 (0 : Fin 2) d)) = sm m c from funext (sm_eq m c),
    show (fun d => A0 m c (Proc.devRef .tc main_v28) (ix2 (1 : Fin 2) d)) = sq m c from funext (sq_eq m c), arg_kept m c main_arg7 (at_A0 m c) (by decide) (by decide) (by decide) (by decide),
    arg_kept m c main_arg8 (at_A0 m c) (by decide) (by decide) (by decide) (by decide)]
  rfl

variable (π : Equiv.Perm (Fin 800000)) (hπ : ∀ e : Fin 800000, V2 m c (Proc.devRef .tc main_v2) (ix1 e) = BitVec.ofNat 32 (π e).val)

include hπ

theorem src_eq (e : Fin 800000) : B0 m c (Proc.devRef .tc main_v11) (ix1 e) = e1 m c 0 (π e) :=
  (srcP (V2 m c) π hπ e).trans (congrFun (arg_pre m c main_arg1 (by decide)) _)

theorem dst_eq (e : Fin 800000) : B0 m c (Proc.devRef .tc main_v20) (ix1 e) = e1 m c 1 (π e) :=
  (dstP (V2 m c) π hπ e).trans (congrFun (arg_pre m c main_arg1 (by decide)) _)

theorem edge_eq (e : Fin 800000) (d : Fin 9) : B0 m c (Proc.devRef .tc main_v27) (ix2 e d) = e2 m c (π e) d :=
  (edgeP (V2 m c) π hπ e d).trans (congrFun (arg_pre m c main_arg2 (by decide)) _)

theorem ker_eq (s : Fin 5) (e : Fin 800000) (h : Fin 64) : A2 m c (Proc.devRef .tc main_v58) (ix3 s e h) = ker m c s (π e) h := by
  refine (regOut2 c (B2 m c) s e h).trans ?_
  exact tail3_congr (fun k => lin_congr (fun d => (congrFun (kept m c main_v27 (at_B0 m c) (at_B2 m c) (by decide) (by decide)) (ix2 e d)).trans (edge_eq m c π hπ e d))
      (fun d j => (congrFun (kept m c main_v48 (at_B1 m c) (at_B2 m c) (by decide) (by decide)) (ix3 s d j)).trans (w1_eq m c s d j))
      (fun j => (v55e (A1 m c) s j).trans ((congrFun (kept m c main_v51 (at_B1 m c) (at_A1 m c) (by decide) (by decide)) (ix2 s j)).trans (b1_eq m c s j))) k)
    (fun k j => congrFun (arg_kept m c main_arg9 (at_B2 m c) (by decide) (by decide) (by decide) (by decide)) (ix3 s k j)) (fun j => (v56e (A1 m c) s j).trans (congrFun (arg_kept m c main_arg10 (at_A1 m c) (by decide) (by decide) (by decide) (by decide)) (ix2 s j)))
    (fun k j => congrFun (arg_kept m c main_arg11 (at_B2 m c) (by decide) (by decide) (by decide) (by decide)) (ix3 s k j)) (fun j => (v57e (A1 m c) s j).trans (congrFun (arg_kept m c main_arg12 (at_A1 m c) (by decide) (by decide) (by decide) (by decide)) (ix2 s j))) h

theorem node3_eq (n : Fin 50000) (g : Fin 64) : nodeAt (fun k => B3 m c (Proc.devRef .tc main_v54) (ix2 n k)) (B3 m c (Proc.devRef .tc main_v54) (ix2 n g)) (B3 m c (Proc.devRef .tc main_v70) (ix2 n g)) (B3 m c (Proc.devRef .tc main_v63) (ix2 n (0 : Fin 1))) (B3 m c (Proc.devRef .tc main_arg0) (ix2 n (4 : Fin 10))) (fun k j => B3 m c (Proc.devRef .tc main_v72) (ix2 k j)) (fun j => B3 m c (Proc.devRef .tc main_v79) (ix2 (0 : Fin 1) j)) (fun j => B3 m c (Proc.devRef .tc main_v76) (ix2 (0 : Fin 1) j)) (fun j => B3 m c (Proc.devRef .tc main_v80) (ix2 (0 : Fin 1) j)) g = v1 m c n g := by
  refine Eq.trans ?_ (congrFun (congrFun (stepAt_perm (ker m c 0) (e1 m c 0) (e1 m c 1) (vin m c) (vin m c) (fun n => e0 m c n 4)
    (e13 m c 0) (e14 m c 0) (e15 m c 0) (e16 m c 0) π) n) g)
  exact nodeAt_congr (fun k => (congrFun (kept m c main_v54 (at_A1 m c) (at_B3 m c) (by decide) (by decide)) (ix2 n k)).trans (vin_eq m c n k))
      ((congrFun (kept m c main_v54 (at_A1 m c) (at_B3 m c) (by decide) (by decide)) (ix2 n g)).trans (vin_eq m c n g))
      ((agg3 (A2 m c) n g).trans (aggAt_congr (fun e h => ker_eq m c π hπ 0 e h)
        (fun e => (congrFun (kept m c main_v11 (at_B0 m c) (at_A2 m c) (by decide) (by decide)) (ix1 e)).trans (src_eq m c π hπ e)) (fun e => (congrFun (kept m c main_v20 (at_B0 m c) (at_A2 m c) (by decide) (by decide)) (ix1 e)).trans (dst_eq m c π hπ e))
        (fun n h => (congrFun (kept m c main_v54 (at_A1 m c) (at_A2 m c) (by decide) (by decide)) (ix2 n h)).trans (vin_eq m c n h)) n g))
      ((cnt3' (A2 m c) n).trans (cntAt_congr (fun e => (congrFun (kept m c main_v20 (at_B0 m c) (at_A2 m c) (by decide) (by decide)) (ix1 e)).trans (dst_eq m c π hπ e)) n))
      (congrFun (arg_kept m c main_arg0 (at_B3 m c) (by decide) (by decide) (by decide) (by decide)) (ix2 n (4 : Fin 10)))
      (fun i j => (sw3' (A2 m c) i j).trans (congrFun (arg_kept m c main_arg13 (at_A2 m c) (by decide) (by decide) (by decide) (by decide)) (ix3 (0 : Fin 5) i j)))
      (fun j => (sb3' (A2 m c) j).trans (congrFun (arg_kept m c main_arg14 (at_A2 m c) (by decide) (by decide) (by decide) (by decide)) (ix2 (0 : Fin 5) j)))
      (fun j => (gw3' (A2 m c) j).trans (congrFun (arg_kept m c main_arg15 (at_A2 m c) (by decide) (by decide) (by decide) (by decide)) (ix3 (0 : Fin 5) (0 : Fin 1) j)))
      (fun j => (gb3' (A2 m c) j).trans (congrFun (arg_kept m c main_arg16 (at_A2 m c) (by decide) (by decide) (by decide) (by decide)) (ix2 (0 : Fin 5) j))) g

theorem st3_eq (n : Fin 50000) (h : Fin 64) : A3 m c (Proc.devRef .tc main_v83) (ix2 n h) = v1 m c n h :=
  (regOut3 c (B3 m c) n h).trans (node3_eq m c π hπ n h)

theorem node4_eq (n : Fin 50000) (g : Fin 64) : nodeAt (fun k => B4 m c (Proc.devRef .tc main_v83) (ix2 n k)) (B4 m c (Proc.devRef .tc main_v54) (ix2 n g)) (B4 m c (Proc.devRef .tc main_v90) (ix2 n g)) (B4 m c (Proc.devRef .tc main_v63) (ix2 n (0 : Fin 1))) (B4 m c (Proc.devRef .tc main_arg0) (ix2 n (4 : Fin 10))) (fun k j => B4 m c (Proc.devRef .tc main_v92) (ix2 k j)) (fun j => B4 m c (Proc.devRef .tc main_v99) (ix2 (0 : Fin 1) j)) (fun j => B4 m c (Proc.devRef .tc main_v96) (ix2 (0 : Fin 1) j)) (fun j => B4 m c (Proc.devRef .tc main_v100) (ix2 (0 : Fin 1) j)) g = v2 m c n g := by
  refine Eq.trans ?_ (congrFun (congrFun (stepAt_perm (ker m c 1) (e1 m c 0) (e1 m c 1) (v1 m c) (vin m c) (fun n => e0 m c n 4)
    (e13 m c 1) (e14 m c 1) (e15 m c 1) (e16 m c 1) π) n) g)
  exact nodeAt_congr (fun k => (congrFun (kept m c main_v83 (at_A3 m c) (at_B4 m c) (by decide) (by decide)) (ix2 n k)).trans (st3_eq m c π hπ n k))
      ((congrFun (kept m c main_v54 (at_A1 m c) (at_B4 m c) (by decide) (by decide)) (ix2 n g)).trans (vin_eq m c n g))
      ((agg4 (A3 m c) n g).trans (aggAt_congr (fun e h => (congrFun (kept m c main_v58 (at_A2 m c) (at_A3 m c) (by decide) (by decide)) (ix3 (1 : Fin 5) e h)).trans (ker_eq m c π hπ 1 e h))
        (fun e => (congrFun (kept m c main_v11 (at_B0 m c) (at_A3 m c) (by decide) (by decide)) (ix1 e)).trans (src_eq m c π hπ e)) (fun e => (congrFun (kept m c main_v20 (at_B0 m c) (at_A3 m c) (by decide) (by decide)) (ix1 e)).trans (dst_eq m c π hπ e))
        (fun n h => st3_eq m c π hπ n h) n g))
      (((congrFun (kept m c main_v63 (at_B3 m c) (at_B4 m c) (by decide) (by decide)) (ix2 n (0 : Fin 1))).trans (cnt3' (A2 m c) n)).trans (cntAt_congr (fun e => (congrFun (kept m c main_v20 (at_B0 m c) (at_A2 m c) (by decide) (by decide)) (ix1 e)).trans (dst_eq m c π hπ e)) n))
      (congrFun (arg_kept m c main_arg0 (at_B4 m c) (by decide) (by decide) (by decide) (by decide)) (ix2 n (4 : Fin 10)))
      (fun i j => (sw4' (A3 m c) i j).trans (congrFun (arg_kept m c main_arg13 (at_A3 m c) (by decide) (by decide) (by decide) (by decide)) (ix3 (1 : Fin 5) i j)))
      (fun j => (sb4' (A3 m c) j).trans (congrFun (arg_kept m c main_arg14 (at_A3 m c) (by decide) (by decide) (by decide) (by decide)) (ix2 (1 : Fin 5) j)))
      (fun j => (gw4' (A3 m c) j).trans (congrFun (arg_kept m c main_arg15 (at_A3 m c) (by decide) (by decide) (by decide) (by decide)) (ix3 (1 : Fin 5) (0 : Fin 1) j)))
      (fun j => (gb4' (A3 m c) j).trans (congrFun (arg_kept m c main_arg16 (at_A3 m c) (by decide) (by decide) (by decide) (by decide)) (ix2 (1 : Fin 5) j))) g

theorem st4_eq (n : Fin 50000) (h : Fin 64) : A4 m c (Proc.devRef .tc main_v103) (ix2 n h) = v2 m c n h :=
  (regOut4 c (B4 m c) n h).trans (node4_eq m c π hπ n h)

theorem node5_eq (n : Fin 50000) (g : Fin 64) : nodeAt (fun k => B5 m c (Proc.devRef .tc main_v103) (ix2 n k)) (B5 m c (Proc.devRef .tc main_v54) (ix2 n g)) (B5 m c (Proc.devRef .tc main_v110) (ix2 n g)) (B5 m c (Proc.devRef .tc main_v63) (ix2 n (0 : Fin 1))) (B5 m c (Proc.devRef .tc main_arg0) (ix2 n (4 : Fin 10))) (fun k j => B5 m c (Proc.devRef .tc main_v112) (ix2 k j)) (fun j => B5 m c (Proc.devRef .tc main_v119) (ix2 (0 : Fin 1) j)) (fun j => B5 m c (Proc.devRef .tc main_v116) (ix2 (0 : Fin 1) j)) (fun j => B5 m c (Proc.devRef .tc main_v120) (ix2 (0 : Fin 1) j)) g = v3 m c n g := by
  refine Eq.trans ?_ (congrFun (congrFun (stepAt_perm (ker m c 2) (e1 m c 0) (e1 m c 1) (v2 m c) (vin m c) (fun n => e0 m c n 4)
    (e13 m c 2) (e14 m c 2) (e15 m c 2) (e16 m c 2) π) n) g)
  exact nodeAt_congr (fun k => (congrFun (kept m c main_v103 (at_A4 m c) (at_B5 m c) (by decide) (by decide)) (ix2 n k)).trans (st4_eq m c π hπ n k))
      ((congrFun (kept m c main_v54 (at_A1 m c) (at_B5 m c) (by decide) (by decide)) (ix2 n g)).trans (vin_eq m c n g))
      ((agg5 (A4 m c) n g).trans (aggAt_congr (fun e h => (congrFun (kept m c main_v58 (at_A2 m c) (at_A4 m c) (by decide) (by decide)) (ix3 (2 : Fin 5) e h)).trans (ker_eq m c π hπ 2 e h))
        (fun e => (congrFun (kept m c main_v11 (at_B0 m c) (at_A4 m c) (by decide) (by decide)) (ix1 e)).trans (src_eq m c π hπ e)) (fun e => (congrFun (kept m c main_v20 (at_B0 m c) (at_A4 m c) (by decide) (by decide)) (ix1 e)).trans (dst_eq m c π hπ e))
        (fun n h => st4_eq m c π hπ n h) n g))
      (((congrFun (kept m c main_v63 (at_B3 m c) (at_B5 m c) (by decide) (by decide)) (ix2 n (0 : Fin 1))).trans (cnt3' (A2 m c) n)).trans (cntAt_congr (fun e => (congrFun (kept m c main_v20 (at_B0 m c) (at_A2 m c) (by decide) (by decide)) (ix1 e)).trans (dst_eq m c π hπ e)) n))
      (congrFun (arg_kept m c main_arg0 (at_B5 m c) (by decide) (by decide) (by decide) (by decide)) (ix2 n (4 : Fin 10)))
      (fun i j => (sw5' (A4 m c) i j).trans (congrFun (arg_kept m c main_arg13 (at_A4 m c) (by decide) (by decide) (by decide) (by decide)) (ix3 (2 : Fin 5) i j)))
      (fun j => (sb5' (A4 m c) j).trans (congrFun (arg_kept m c main_arg14 (at_A4 m c) (by decide) (by decide) (by decide) (by decide)) (ix2 (2 : Fin 5) j)))
      (fun j => (gw5' (A4 m c) j).trans (congrFun (arg_kept m c main_arg15 (at_A4 m c) (by decide) (by decide) (by decide) (by decide)) (ix3 (2 : Fin 5) (0 : Fin 1) j)))
      (fun j => (gb5' (A4 m c) j).trans (congrFun (arg_kept m c main_arg16 (at_A4 m c) (by decide) (by decide) (by decide) (by decide)) (ix2 (2 : Fin 5) j))) g

theorem st5_eq (n : Fin 50000) (h : Fin 64) : A5 m c (Proc.devRef .tc main_v123) (ix2 n h) = v3 m c n h :=
  (regOut5 c (B5 m c) n h).trans (node5_eq m c π hπ n h)

theorem node6_eq (n : Fin 50000) (g : Fin 64) : nodeAt (fun k => B6 m c (Proc.devRef .tc main_v123) (ix2 n k)) (B6 m c (Proc.devRef .tc main_v54) (ix2 n g)) (B6 m c (Proc.devRef .tc main_v130) (ix2 n g)) (B6 m c (Proc.devRef .tc main_v63) (ix2 n (0 : Fin 1))) (B6 m c (Proc.devRef .tc main_arg0) (ix2 n (4 : Fin 10))) (fun k j => B6 m c (Proc.devRef .tc main_v132) (ix2 k j)) (fun j => B6 m c (Proc.devRef .tc main_v139) (ix2 (0 : Fin 1) j)) (fun j => B6 m c (Proc.devRef .tc main_v136) (ix2 (0 : Fin 1) j)) (fun j => B6 m c (Proc.devRef .tc main_v140) (ix2 (0 : Fin 1) j)) g = v4 m c n g := by
  refine Eq.trans ?_ (congrFun (congrFun (stepAt_perm (ker m c 3) (e1 m c 0) (e1 m c 1) (v3 m c) (vin m c) (fun n => e0 m c n 4)
    (e13 m c 3) (e14 m c 3) (e15 m c 3) (e16 m c 3) π) n) g)
  exact nodeAt_congr (fun k => (congrFun (kept m c main_v123 (at_A5 m c) (at_B6 m c) (by decide) (by decide)) (ix2 n k)).trans (st5_eq m c π hπ n k))
      ((congrFun (kept m c main_v54 (at_A1 m c) (at_B6 m c) (by decide) (by decide)) (ix2 n g)).trans (vin_eq m c n g))
      ((agg6 (A5 m c) n g).trans (aggAt_congr (fun e h => (congrFun (kept m c main_v58 (at_A2 m c) (at_A5 m c) (by decide) (by decide)) (ix3 (3 : Fin 5) e h)).trans (ker_eq m c π hπ 3 e h))
        (fun e => (congrFun (kept m c main_v11 (at_B0 m c) (at_A5 m c) (by decide) (by decide)) (ix1 e)).trans (src_eq m c π hπ e)) (fun e => (congrFun (kept m c main_v20 (at_B0 m c) (at_A5 m c) (by decide) (by decide)) (ix1 e)).trans (dst_eq m c π hπ e))
        (fun n h => st5_eq m c π hπ n h) n g))
      (((congrFun (kept m c main_v63 (at_B3 m c) (at_B6 m c) (by decide) (by decide)) (ix2 n (0 : Fin 1))).trans (cnt3' (A2 m c) n)).trans (cntAt_congr (fun e => (congrFun (kept m c main_v20 (at_B0 m c) (at_A2 m c) (by decide) (by decide)) (ix1 e)).trans (dst_eq m c π hπ e)) n))
      (congrFun (arg_kept m c main_arg0 (at_B6 m c) (by decide) (by decide) (by decide) (by decide)) (ix2 n (4 : Fin 10)))
      (fun i j => (sw6' (A5 m c) i j).trans (congrFun (arg_kept m c main_arg13 (at_A5 m c) (by decide) (by decide) (by decide) (by decide)) (ix3 (3 : Fin 5) i j)))
      (fun j => (sb6' (A5 m c) j).trans (congrFun (arg_kept m c main_arg14 (at_A5 m c) (by decide) (by decide) (by decide) (by decide)) (ix2 (3 : Fin 5) j)))
      (fun j => (gw6' (A5 m c) j).trans (congrFun (arg_kept m c main_arg15 (at_A5 m c) (by decide) (by decide) (by decide) (by decide)) (ix3 (3 : Fin 5) (0 : Fin 1) j)))
      (fun j => (gb6' (A5 m c) j).trans (congrFun (arg_kept m c main_arg16 (at_A5 m c) (by decide) (by decide) (by decide) (by decide)) (ix2 (3 : Fin 5) j))) g

theorem st6_eq (n : Fin 50000) (h : Fin 64) : A6 m c (Proc.devRef .tc main_v143) (ix2 n h) = v4 m c n h :=
  (regOut6 c (B6 m c) n h).trans (node6_eq m c π hπ n h)

theorem node7_eq (n : Fin 50000) (g : Fin 64) : nodeAt (fun k => B7 m c (Proc.devRef .tc main_v143) (ix2 n k)) (B7 m c (Proc.devRef .tc main_v54) (ix2 n g)) (B7 m c (Proc.devRef .tc main_v150) (ix2 n g)) (B7 m c (Proc.devRef .tc main_v63) (ix2 n (0 : Fin 1))) (B7 m c (Proc.devRef .tc main_arg0) (ix2 n (4 : Fin 10))) (fun k j => B7 m c (Proc.devRef .tc main_v152) (ix2 k j)) (fun j => B7 m c (Proc.devRef .tc main_v159) (ix2 (0 : Fin 1) j)) (fun j => B7 m c (Proc.devRef .tc main_v156) (ix2 (0 : Fin 1) j)) (fun j => B7 m c (Proc.devRef .tc main_v160) (ix2 (0 : Fin 1) j)) g = v5 m c n g := by
  refine Eq.trans ?_ (congrFun (congrFun (stepAt_perm (ker m c 4) (e1 m c 0) (e1 m c 1) (v4 m c) (vin m c) (fun n => e0 m c n 4)
    (e13 m c 4) (e14 m c 4) (e15 m c 4) (e16 m c 4) π) n) g)
  exact nodeAt_congr (fun k => (congrFun (kept m c main_v143 (at_A6 m c) (at_B7 m c) (by decide) (by decide)) (ix2 n k)).trans (st6_eq m c π hπ n k))
      ((congrFun (kept m c main_v54 (at_A1 m c) (at_B7 m c) (by decide) (by decide)) (ix2 n g)).trans (vin_eq m c n g))
      ((agg7 (A6 m c) n g).trans (aggAt_congr (fun e h => (congrFun (kept m c main_v58 (at_A2 m c) (at_A6 m c) (by decide) (by decide)) (ix3 (4 : Fin 5) e h)).trans (ker_eq m c π hπ 4 e h))
        (fun e => (congrFun (kept m c main_v11 (at_B0 m c) (at_A6 m c) (by decide) (by decide)) (ix1 e)).trans (src_eq m c π hπ e)) (fun e => (congrFun (kept m c main_v20 (at_B0 m c) (at_A6 m c) (by decide) (by decide)) (ix1 e)).trans (dst_eq m c π hπ e))
        (fun n h => st6_eq m c π hπ n h) n g))
      (((congrFun (kept m c main_v63 (at_B3 m c) (at_B7 m c) (by decide) (by decide)) (ix2 n (0 : Fin 1))).trans (cnt3' (A2 m c) n)).trans (cntAt_congr (fun e => (congrFun (kept m c main_v20 (at_B0 m c) (at_A2 m c) (by decide) (by decide)) (ix1 e)).trans (dst_eq m c π hπ e)) n))
      (congrFun (arg_kept m c main_arg0 (at_B7 m c) (by decide) (by decide) (by decide) (by decide)) (ix2 n (4 : Fin 10)))
      (fun i j => (sw7' (A6 m c) i j).trans (congrFun (arg_kept m c main_arg13 (at_A6 m c) (by decide) (by decide) (by decide) (by decide)) (ix3 (4 : Fin 5) i j)))
      (fun j => (sb7' (A6 m c) j).trans (congrFun (arg_kept m c main_arg14 (at_A6 m c) (by decide) (by decide) (by decide) (by decide)) (ix2 (4 : Fin 5) j)))
      (fun j => (gw7' (A6 m c) j).trans (congrFun (arg_kept m c main_arg15 (at_A6 m c) (by decide) (by decide) (by decide) (by decide)) (ix3 (4 : Fin 5) (0 : Fin 1) j)))
      (fun j => (gb7' (A6 m c) j).trans (congrFun (arg_kept m c main_arg16 (at_A6 m c) (by decide) (by decide) (by decide) (by decide)) (ix2 (4 : Fin 5) j))) g

theorem st7_eq (n : Fin 50000) (h : Fin 3) : A7 m c (Proc.devRef .tc main_v163) (ix2 n h)
    = mlp2 (v5 m c n) (e17 m c) (e18 m c) (e19 m c) (e20 m c) h := by
  refine (regOut7 c (B7 m c) n h).trans ?_
  exact mlp2_congr (fun g => node7_eq m c π hπ n g) (fun k j => congrFun (arg_kept m c main_arg17 (at_B7 m c) (by decide) (by decide) (by decide) (by decide)) (ix2 k j))
    (fun j => (pb1_7' (A6 m c) j).trans (congrFun (arg_kept m c main_arg18 (at_A6 m c) (by decide) (by decide) (by decide) (by decide)) (ix1 j))) (fun k j => congrFun (arg_kept m c main_arg19 (at_B7 m c) (by decide) (by decide) (by decide) (by decide)) (ix2 k j))
    (fun j => (pb2_7' (A6 m c) j).trans (congrFun (arg_kept m c main_arg20 (at_A6 m c) (by decide) (by decide) (by decide) (by decide)) (ix1 j))) h

omit hπ

/-- The kernel program's result. -/
theorem result_eq (n : Fin 50000) (h : Fin 3) : V28 m (outs m) c (Proc.devRef .tc main_v163) (ix2 n h)
    = mlp2 (v5 m c n) (e17 m c) (e18 m c) (e19 m c) (e20 m c) h := by
  obtain ⟨π, hπ⟩ := order_ex (V1 m c)
  rw [V28_eq]
  exact st7_eq m c π hπ n h

end Cert.KernelIdeal.Hand
-- ==== Proof.Value.RefStep.lean ====
/-
  One step of the reference for any layer number, entry by entry.
-/
module

public import proofs.«01_k».proof.Proof.Value.RefA

@[expose] public section

set_option maxRecDepth 100000

noncomputable section

open scoped BigOperators

namespace Cert.ReferenceIdeal.Hand

open Cert.ReferenceIdeal Cert.ReferenceIdeal.Gen Cert.ReferenceIdeal.Read Cert.Value
open Idealize.ShloMosaic Idealize.ShloMosaic.ValueIdx Idealize.ShloMosaic.TcCoe

/-- An array of a given shape, at the reference's numbers. -/
abbrev Arr (s : Shape) := FVec Ideal s .f32

/-- Layer `t` of a stack of weights. -/
def wgt {K C : ℕ} (t : ℕ) (x : Arr ⟨3, ![5, K, C]⟩) (hs : (⟨3, ![5, K, C]⟩ : Shape).Slices ![t, 0, 0] ⟨3, ![1, K, C]⟩)
    (hc : (⟨3, ![1, K, C]⟩ : Shape).ShapeCasts ⟨2, ![K, C]⟩) : Arr ⟨2, ![K, C]⟩ :=
  shapeCast ⟨2, ![K, C]⟩ (extractStridedSlice ⟨3, ![1, K, C]⟩ ![t, 0, 0] x hs) hc

theorem wgt_apply {K C : ℕ} (t : Fin 5) (x : Arr ⟨3, ![5, K, C]⟩) (hs : (⟨3, ![5, K, C]⟩ : Shape).Slices ![t.val, 0, 0] ⟨3, ![1, K, C]⟩)
    (hc : (⟨3, ![1, K, C]⟩ : Shape).ShapeCasts ⟨2, ![K, C]⟩) (k : Fin K) (j : Fin C) : wgt t.val x hs hc (ix2 k j) = x (ix3 t k j) :=
  (cast_drop3 (A := K) (C := C) _ _ k j).trans (slice3_row t.val t.isLt _ _ 0 k j)

/-- Layer `t` of a stack of offsets, repeated in `R` rows. -/
def ofs (R t : ℕ) (x : Arr S5x64) (hs : S5x64.Slices ![t, 0] S1x64) (hb : S1x64.BroadcastsInDim ⟨2, ![R, 64]⟩ ![0, 1]) : Arr ⟨2, ![R, 64]⟩ :=
  broadcastInDim ⟨2, ![R, 64]⟩ ![0, 1] hb
    (broadcastInDim S1x64 ![1] bcast_S64_S1x64_1 (shapeCast S64 (extractStridedSlice S1x64 ![t, 0] x hs) shapeCasts_S1x64_S64))

theorem ofs_apply (R : ℕ) (t : Fin 5) (x : Arr S5x64) (hs : S5x64.Slices ![t.val, 0] S1x64) (hb : S1x64.BroadcastsInDim ⟨2, ![R, 64]⟩ ![0, 1])
    (r : Fin R) (j : Fin 64) : ofs R t.val x hs hb (ix2 r j) = x (ix2 t j) :=
  (bid_row (R := R) (C := 64) _ _ r j).trans ((bid_add (C := 64) _ _ 0 j).trans ((cast_drop2 (C := 64) _ _ j).trans (slice2_row t.val t.isLt _ _ 0 j)))

/-- A product with layer `t`'s weights plus its offset. -/
theorem dense_apply {R K : ℕ} (t : Fin 5) (d : DotDims ⟨2, ![R, K]⟩ ⟨2, ![K, 64]⟩ ⟨2, ![R, 64]⟩) (hd : d = DotDims.plain R K 64)
    (a : Arr ⟨2, ![R, K]⟩) (x : Arr ⟨3, ![5, K, 64]⟩) (hs : (⟨3, ![5, K, 64]⟩ : Shape).Slices ![t.val, 0, 0] ⟨3, ![1, K, 64]⟩)
    (hc : (⟨3, ![1, K, 64]⟩ : Shape).ShapeCasts ⟨2, ![K, 64]⟩) (b : Arr S5x64) (hs' : S5x64.Slices ![t.val, 0] S1x64)
    (hb : S1x64.BroadcastsInDim ⟨2, ![R, 64]⟩ ![0, 1]) (r : Fin R) (j : Fin 64) :
    addf (Host.dotGeneral d none a (wgt t.val x hs hc)) (ofs R t.val b hs' hb) (ix2 r j)
      = lin (fun k => a (ix2 r k)) (fun k j => x (ix3 t k j)) (fun j => b (ix2 t j)) j := by
  refine (addf_apply _ _ _).trans ?_
  unfold lin
  refine congrArg₂ (fun a b : EReal => a + b) ((dg_plain d hd _ _ r j).trans ?_) (ofs_apply R t b hs' hb r j)
  exact Finset.sum_congr rfl fun k _ => congrArg (fun z : EReal => (show EReal from a (ix2 r k)) * z) (wgt_apply t x hs hc k j)

/-- Clipping at 0. -/
def clip {s : Shape} (hb : S_.BroadcastsInDim s ![]) (a : Arr s) : Arr s := maximumf a (broadcastInDim s ![] hb (constant S_ .f32 0x00000000#32))

theorem clip_apply {s : Shape} (hb : S_.BroadcastsInDim s ![]) (a : Arr s) (i : s.Idx) : clip hb a i = max (show EReal from a i) 0 :=
  (maximumf_apply _ _ _).trans (congrArg (max (show EReal from a i)) ((bid_scalar _ _ _).trans Ideal.ofBits_zero_f32))

/-- What layer `t`'s slices need. -/
structure Cut (t : ℕ) : Prop where
  w1 : S5x9x64.Slices ![t, 0, 0] S1x9x64
  w : S5x64x64.Slices ![t, 0, 0] S1x64x64
  g : S5x1x64.Slices ![t, 0, 0] S1x1x64
  b : S5x64.Slices ![t, 0] S1x64

/-- Step `t`'s edge network on the normalised features. -/
def edgeR (t : ℕ) (c : Cut t) (xn : Arr S800000x9) (x7 : Arr S5x9x64) (x8 : Arr S5x64) (x9 : Arr S5x64x64) (x10 : Arr S5x64) (x11 : Arr S5x64x64)
    (x12 : Arr S5x64) : Arr S800000x64 :=
  addf (Host.dotGeneral dot_S800000x64_S64x64_S800000x64_1_0_0_1_n_n none
    (clip bcast_S_S800000x64 (addf (Host.dotGeneral dot_S800000x64_S64x64_S800000x64_1_0_0_1_n_n none
      (clip bcast_S_S800000x64 (addf (Host.dotGeneral dot_S800000x9_S9x64_S800000x64_1_0_0_1_n_n none xn (wgt t x7 c.w1 shapeCasts_S1x9x64_S9x64))
        (ofs 800000 t x8 c.b bcast_S1x64_S800000x64_0_1)))
      (wgt t x9 c.w shapeCasts_S1x64x64_S64x64)) (ofs 800000 t x10 c.b bcast_S1x64_S800000x64_0_1)))
    (wgt t x11 c.w shapeCasts_S1x64x64_S64x64)) (ofs 800000 t x12 c.b bcast_S1x64_S800000x64_0_1)

theorem edgeR_apply (t : Fin 5) (c : Cut t.val) (xn : Arr S800000x9) (x7 : Arr S5x9x64) (x8 : Arr S5x64) (x9 : Arr S5x64x64) (x10 : Arr S5x64)
    (x11 : Arr S5x64x64) (x12 : Arr S5x64) (e : Fin 800000) (h : Fin 64) : edgeR t.val c xn x7 x8 x9 x10 x11 x12 (ix2 e h)
      = tail3 (lin (fun d => xn (ix2 e d)) (fun k j => x7 (ix3 t k j)) (fun j => x8 (ix2 t j))) (fun k j => x9 (ix3 t k j)) (fun j => x10 (ix2 t j))
          (fun k j => x11 (ix3 t k j)) (fun j => x12 (ix2 t j)) h := by
  unfold tail3
  refine (dense_apply t dot_S800000x64_S64x64_S800000x64_1_0_0_1_n_n rfl _ x11 c.w _ x12 c.b _ e h).trans (congrArg (fun f => lin f _ _ h) (funext fun l => ?_))
  refine (clip_apply _ _ _).trans (congrArg (fun z : EReal => max z 0) ?_)
  refine (dense_apply t dot_S800000x64_S64x64_S800000x64_1_0_0_1_n_n rfl _ x9 c.w _ x10 c.b _ e l).trans (congrArg (fun f => lin f _ _ l) (funext fun k => ?_))
  refine (clip_apply _ _ _).trans (congrArg (fun z : EReal => max z 0) ?_)
  exact dense_apply t dot_S800000x9_S9x64_S800000x64_1_0_0_1_n_n rfl _ x7 c.w1 _ x8 c.b _ e k

theorem quot_apply {s : Shape} (a b : Arr s) (i : s.Idx) : Host.divf a b i = Ideal.div (show EReal from a i) (show EReal from b i) := rfl

/-- Step `t`'s mean of the arriving messages, from the edges' kernels and the nodes. -/
def meanR (km : Arr S800000x64) (v : Arr S50000x64) (x1 : (⟨S2x800000, .i32⟩ : BufTy).Contents (Elt Ideal)) : Arr S50000x64 :=
  Host.divf (Host.scatterAdd scatter_S50000x64_S800000x1_S800000x64_1_0_0_1 (broadcastInDim S50000x64 ![] bcast_S_S50000x64 (constant S_ .f32 0x00000000#32))
      (broadcastInDim S800000x1 ![0] bcast_S800000_S800000x1_0 (val_main_v15 (F := Ideal) x1))
      (mulf km (look bcast_S_S800000 bcast_S800000_S800000x1_0 bcast_S_S800000x1 bcast_S1_S1x1_1 bcast_S1x1_S800000x1_0_1
        bcast_S800000_S800000x64_0 bcast_S_S800000x64 reducesTo_S800000x1_S800000_d1 h_S_ gather_S50000x64_S800000x1_S800000x64_1_0_n_n_0_1_164.wf v (val_main_v13 (F := Ideal) x1))))
    (broadcastInDim S50000x64 ![0, 1] bcast_S50000x1_S50000x64_0_1 (val_main_v31 (F := Ideal) x1))

theorem meanR_apply (km : Arr S800000x64) (v : Arr S50000x64) (x1 : (⟨S2x800000, .i32⟩ : BufTy).Contents (Elt Ideal)) (n : Fin 50000) (h : Fin 64) :
    meanR km v x1 (ix2 n h) = Ideal.div (aggAt (fun e h => km (ix2 e h)) (fun e => x1 (ix2 (0 : Fin 2) e)) (fun e => x1 (ix2 (1 : Fin 2) e)) (fun n h => v (ix2 n h)) n h)
        (max (Ideal.ofBits .f32 0x3F800000#32) (cntAt (fun e => x1 (ix2 (1 : Fin 2) e)) n)) := by
  refine (quot_apply _ _ _).trans (congrArg₂ Ideal.div ?_ ((bid_col (R := 50000) (C := 64) _ _ n h).trans (den_apply x1 n 0)))
  refine scat_row (N := 50000) (C := 64) (E := 800000) scatter_S50000x64_S800000x1_S800000x64_1_0_0_1.wf _ rfl _
    (fun _ _ => (bid_scalar _ _ _).trans Ideal.ofBits_zero_f32) _ (fun e => x1 (ix2 (1 : Fin 2) e))
    (fun e => (bid_unitcol (R := 800000) (C := 1) _ _ e 0).trans (dst_apply x1 e)) _ h _
    (fun e => (mulf_apply _ _ _).trans (congrArg (fun z : EReal => (show EReal from km (ix2 e h)) * z) ((look_apply _ _ _ _ _ _ _ _ _ _ _ _ e h).trans ?_))) n
  rw [src_apply]

/-- Step `t`'s gate, as the reference spells the logistic function. -/
def gateR (t : ℕ) (c : Cut t) (x0 : (⟨S50000x10, .f32⟩ : BufTy).Contents (Elt Ideal)) (x15 : Arr S5x1x64) (x16 : Arr S5x64) : Arr S50000x64 :=
  Host.divf (broadcastInDim S50000x64 ![] bcast_S_S50000x64 (constant S_ .f32 0x3F800000#32))
    (addf (broadcastInDim S50000x64 ![] bcast_S_S50000x64 (constant S_ .f32 0x3F800000#32))
      (Host.exp (Host.negf (addf (Host.dotGeneral (φ₁ := .f32) (φ₂ := .f32) dot_S50000x1_S1x64_S50000x64_1_0_0_1_n_n none (val_main_v11 (F := Ideal) x0) (wgt t x15 c.g shapeCasts_S1x1x64_S1x64))
        (ofs 50000 t x16 c.b bcast_S1x64_S50000x64_0_1)))))

theorem gateR_apply (t : Fin 5) (c : Cut t.val) (x0 : (⟨S50000x10, .f32⟩ : BufTy).Contents (Elt Ideal)) (x15 : Arr S5x1x64) (x16 : Arr S5x64)
    (n : Fin 50000) (h : Fin 64) : gateR t.val c x0 x15 x16 (ix2 n h)
      = Ideal.logistic ((show EReal from x0 (ix2 n (4 : Fin 10))) * (show EReal from x15 (ix3 t (0 : Fin 1) h)) + (show EReal from x16 (ix2 t h))) := by
  have hd := dense_apply t dot_S50000x1_S1x64_S50000x64_1_0_0_1_n_n rfl (val_main_v11 (F := Ideal) x0) x15 c.g shapeCasts_S1x1x64_S1x64 x16 c.b
    bcast_S1x64_S50000x64_0_1 n h
  rw [lin, Fin.sum_univ_one, x4_apply] at hd
  have h1 : broadcastInDim S50000x64 ![] bcast_S_S50000x64 (constant (F := Ideal) S_ .f32 0x3F800000#32) (ix2 n h) = (1 : EReal) :=
    (bid_scalar _ _ _).trans Ideal.ofBits_one_f32
  show Ideal.div (broadcastInDim S50000x64 ![] bcast_S_S50000x64 (constant (F := Ideal) S_ .f32 0x3F800000#32) (ix2 n h))
    ((show EReal from broadcastInDim S50000x64 ![] bcast_S_S50000x64 (constant (F := Ideal) S_ .f32 0x3F800000#32) (ix2 n h)) + Ideal.exp (-(show EReal from _))) = _
  rw [h1, hd]
  rfl

/-- Step `t` from the edges' kernels `km`, the nodes `v` and the lifted nodes `v0`. -/
def stepR (t : ℕ) (c : Cut t) (km : Arr S800000x64) (v v0 : Arr S50000x64) (x0 : (⟨S50000x10, .f32⟩ : BufTy).Contents (Elt Ideal))
    (x1 : (⟨S2x800000, .i32⟩ : BufTy).Contents (Elt Ideal)) (x13 : Arr S5x64x64) (x14 : Arr S5x64) (x15 : Arr S5x1x64) (x16 : Arr S5x64) : Arr S50000x64 :=
  clip bcast_S_S50000x64 (addf (addf (addf (Host.dotGeneral dot_S50000x64_S64x64_S50000x64_1_0_0_1_n_n none v (wgt t x13 c.w shapeCasts_S1x64x64_S64x64))
    (ofs 50000 t x14 c.b bcast_S1x64_S50000x64_0_1)) (meanR km v x1)) (mulf (gateR t c x0 x15 x16) v0))

theorem stepR_apply (t : Fin 5) (c : Cut t.val) (km : Arr S800000x64) (v v0 : Arr S50000x64) (x0 : (⟨S50000x10, .f32⟩ : BufTy).Contents (Elt Ideal))
    (x1 : (⟨S2x800000, .i32⟩ : BufTy).Contents (Elt Ideal)) (x13 : Arr S5x64x64) (x14 : Arr S5x64) (x15 : Arr S5x1x64) (x16 : Arr S5x64)
    (n : Fin 50000) (h : Fin 64) : stepR t.val c km v v0 x0 x1 x13 x14 x15 x16 (ix2 n h)
      = stepAt (fun e h => km (ix2 e h)) (fun e => x1 (ix2 (0 : Fin 2) e)) (fun e => x1 (ix2 (1 : Fin 2) e))
        (fun n h => v (ix2 n h)) (fun n h => v0 (ix2 n h)) (fun n => x0 (ix2 n (4 : Fin 10)))
        (fun k j => x13 (ix3 t k j)) (fun j => x14 (ix2 t j)) (fun j => x15 (ix3 t (0 : Fin 1) j)) (fun j => x16 (ix2 t j)) n h := by
  unfold stepAt nodeAt
  refine (clip_apply _ _ _).trans (congrArg (fun z : EReal => max z 0) ?_)
  refine (addf_apply _ _ _).trans (congrArg₂ (fun a b : EReal => a + b) ?_ ?_)
  · exact (addf_apply _ _ _).trans (congrArg₂ (fun a b : EReal => a + b)
      (dense_apply t dot_S50000x64_S64x64_S50000x64_1_0_0_1_n_n rfl v x13 c.w _ x14 c.b _ n h) (meanR_apply km v x1 n h))
  · exact (mulf_apply _ _ _).trans (congrArg (fun z : EReal => z * (show EReal from v0 (ix2 n h))) (gateR_apply t c x0 x15 x16 n h))

end Cert.ReferenceIdeal.Hand
-- ==== Proof.Value.RefS.lean ====
/-
  The reference's five steps and its projection, entry by entry.
-/
module

public import proofs.«01_k».proof.Proof.Value.RefStep

@[expose] public section

set_option maxRecDepth 100000

noncomputable section

open scoped BigOperators

namespace Cert.ReferenceIdeal.Hand

open Cert.ReferenceIdeal Cert.ReferenceIdeal.Gen Cert.ReferenceIdeal.Read Cert.Value
open Idealize.ShloMosaic Idealize.ShloMosaic.ValueIdx Idealize.ShloMosaic.TcCoe

variable (x0 : (⟨S50000x10, .f32⟩ : BufTy).Contents (Elt Ideal))
  (x1 : (⟨S2x800000, .i32⟩ : BufTy).Contents (Elt Ideal))
  (x2 : (⟨S800000x9, .f32⟩ : BufTy).Contents (Elt Ideal))
  (x3 : (⟨S10x64, .f32⟩ : BufTy).Contents (Elt Ideal))
  (x4 : (⟨S64, .f32⟩ : BufTy).Contents (Elt Ideal))
  (x5 : (⟨S64x64, .f32⟩ : BufTy).Contents (Elt Ideal))
  (x6 : (⟨S64, .f32⟩ : BufTy).Contents (Elt Ideal))
  (x7 : (⟨S5x9x64, .f32⟩ : BufTy).Contents (Elt Ideal))
  (x8 : (⟨S5x64, .f32⟩ : BufTy).Contents (Elt Ideal))
  (x9 : (⟨S5x64x64, .f32⟩ : BufTy).Contents (Elt Ideal))
  (x10 : (⟨S5x64, .f32⟩ : BufTy).Contents (Elt Ideal))
  (x11 : (⟨S5x64x64, .f32⟩ : BufTy).Contents (Elt Ideal))
  (x12 : (⟨S5x64, .f32⟩ : BufTy).Contents (Elt Ideal))
  (x13 : (⟨S5x64x64, .f32⟩ : BufTy).Contents (Elt Ideal))
  (x14 : (⟨S5x64, .f32⟩ : BufTy).Contents (Elt Ideal))
  (x15 : (⟨S5x1x64, .f32⟩ : BufTy).Contents (Elt Ideal))
  (x16 : (⟨S5x64, .f32⟩ : BufTy).Contents (Elt Ideal))
  (x17 : (⟨S64x64, .f32⟩ : BufTy).Contents (Elt Ideal))
  (x18 : (⟨S64, .f32⟩ : BufTy).Contents (Elt Ideal))
  (x19 : (⟨S64x3, .f32⟩ : BufTy).Contents (Elt Ideal))
  (x20 : (⟨S3, .f32⟩ : BufTy).Contents (Elt Ideal))

theorem cut_0 : Cut 0 := ⟨slices_S5x9x64_S1x9x64_0_0_0, slices_S5x64x64_S1x64x64_0_0_0, slices_S5x1x64_S1x1x64_0_0_0, slices_S5x64_S1x64_0_0⟩
theorem cut_1 : Cut 1 := ⟨slices_S5x9x64_S1x9x64_1_0_0, slices_S5x64x64_S1x64x64_1_0_0, slices_S5x1x64_S1x1x64_1_0_0, slices_S5x64_S1x64_1_0⟩
theorem cut_2 : Cut 2 := ⟨slices_S5x9x64_S1x9x64_2_0_0, slices_S5x64x64_S1x64x64_2_0_0, slices_S5x1x64_S1x1x64_2_0_0, slices_S5x64_S1x64_2_0⟩
theorem cut_3 : Cut 3 := ⟨slices_S5x9x64_S1x9x64_3_0_0, slices_S5x64x64_S1x64x64_3_0_0, slices_S5x1x64_S1x1x64_3_0_0, slices_S5x64_S1x64_3_0⟩
theorem cut_4 : Cut 4 := ⟨slices_S5x9x64_S1x9x64_4_0_0, slices_S5x64x64_S1x64x64_4_0_0, slices_S5x1x64_S1x1x64_4_0_0, slices_S5x64_S1x64_4_0⟩

theorem edge_0 (e : Fin 800000) (h : Fin 64) : (val_main_v59 (F := Ideal) x2 x7 x8 x9 x10 x11 x12) (ix2 e h)
    = tail3 (lin (fun d => (val_main_v10 (F := Ideal) x2) (ix2 e d)) (fun k j => x7 (ix3 (0 : Fin 5) k j)) (fun j => x8 (ix2 (0 : Fin 5) j))) (fun k j => x9 (ix3 (0 : Fin 5) k j)) (fun j => x10 (ix2 (0 : Fin 5) j)) (fun k j => x11 (ix3 (0 : Fin 5) k j)) (fun j => x12 (ix2 (0 : Fin 5) j)) h :=
  (congrFun (show (val_main_v59 (F := Ideal) x2 x7 x8 x9 x10 x11 x12) = edgeR 0 cut_0 (val_main_v10 (F := Ideal) x2) x7 x8 x9 x10 x11 x12 from rfl) _).trans
    (edgeR_apply (0 : Fin 5) cut_0 _ x7 x8 x9 x10 x11 x12 e h)

theorem step_0 (n : Fin 50000) (h : Fin 64) : (val_main_v93 (F := Ideal) x0 x1 x2 x3 x4 x5 x6 x7 x8 x9 x10 x11 x12 x13 x14 x15 x16) (ix2 n h)
    = stepAt (fun e h => (val_main_v59 (F := Ideal) x2 x7 x8 x9 x10 x11 x12) (ix2 e h)) (fun e => x1 (ix2 (0 : Fin 2) e)) (fun e => x1 (ix2 (1 : Fin 2) e))
        (fun n h => (val_main_v25 (F := Ideal) x0 x3 x4 x5 x6) (ix2 n h)) (fun n h => (val_main_v25 (F := Ideal) x0 x3 x4 x5 x6) (ix2 n h)) (fun n => x0 (ix2 n (4 : Fin 10)))
        (fun k j => x13 (ix3 (0 : Fin 5) k j)) (fun j => x14 (ix2 (0 : Fin 5) j)) (fun j => x15 (ix3 (0 : Fin 5) (0 : Fin 1) j)) (fun j => x16 (ix2 (0 : Fin 5) j)) n h :=
  (congrFun (show (val_main_v93 (F := Ideal) x0 x1 x2 x3 x4 x5 x6 x7 x8 x9 x10 x11 x12 x13 x14 x15 x16) = stepR 0 cut_0 (val_main_v59 (F := Ideal) x2 x7 x8 x9 x10 x11 x12) (val_main_v25 (F := Ideal) x0 x3 x4 x5 x6) (val_main_v25 (F := Ideal) x0 x3 x4 x5 x6) x0 x1 x13 x14 x15 x16 from rfl) _).trans
    (stepR_apply (0 : Fin 5) cut_0 _ _ _ x0 x1 x13 x14 x15 x16 n h)

theorem edge_1 (e : Fin 800000) (h : Fin 64) : (val_main_v121 (F := Ideal) x2 x7 x8 x9 x10 x11 x12) (ix2 e h)
    = tail3 (lin (fun d => (val_main_v10 (F := Ideal) x2) (ix2 e d)) (fun k j => x7 (ix3 (1 : Fin 5) k j)) (fun j => x8 (ix2 (1 : Fin 5) j))) (fun k j => x9 (ix3 (1 : Fin 5) k j)) (fun j => x10 (ix2 (1 : Fin 5) j)) (fun k j => x11 (ix3 (1 : Fin 5) k j)) (fun j => x12 (ix2 (1 : Fin 5) j)) h :=
  (congrFun (show (val_main_v121 (F := Ideal) x2 x7 x8 x9 x10 x11 x12) = edgeR 1 cut_1 (val_main_v10 (F := Ideal) x2) x7 x8 x9 x10 x11 x12 from rfl) _).trans
    (edgeR_apply (1 : Fin 5) cut_1 _ x7 x8 x9 x10 x11 x12 e h)

theorem step_1 (n : Fin 50000) (h : Fin 64) : (val_main_v155 (F := Ideal) x0 x1 x2 x3 x4 x5 x6 x7 x8 x9 x10 x11 x12 x13 x14 x15 x16) (ix2 n h)
    = stepAt (fun e h => (val_main_v121 (F := Ideal) x2 x7 x8 x9 x10 x11 x12) (ix2 e h)) (fun e => x1 (ix2 (0 : Fin 2) e)) (fun e => x1 (ix2 (1 : Fin 2) e))
        (fun n h => (val_main_v93 (F := Ideal) x0 x1 x2 x3 x4 x5 x6 x7 x8 x9 x10 x11 x12 x13 x14 x15 x16) (ix2 n h)) (fun n h => (val_main_v25 (F := Ideal) x0 x3 x4 x5 x6) (ix2 n h)) (fun n => x0 (ix2 n (4 : Fin 10)))
        (fun k j => x13 (ix3 (1 : Fin 5) k j)) (fun j => x14 (ix2 (1 : Fin 5) j)) (fun j => x15 (ix3 (1 : Fin 5) (0 : Fin 1) j)) (fun j => x16 (ix2 (1 : Fin 5) j)) n h :=
  (congrFun (show (val_main_v155 (F := Ideal) x0 x1 x2 x3 x4 x5 x6 x7 x8 x9 x10 x11 x12 x13 x14 x15 x16) = stepR 1 cut_1 (val_main_v121 (F := Ideal) x2 x7 x8 x9 x10 x11 x12) (val_main_v93 (F := Ideal) x0 x1 x2 x3 x4 x5 x6 x7 x8 x9 x10 x11 x12 x13 x14 x15 x16) (val_main_v25 (F := Ideal) x0 x3 x4 x5 x6) x0 x1 x13 x14 x15 x16 from rfl) _).trans
    (stepR_apply (1 : Fin 5) cut_1 _ _ _ x0 x1 x13 x14 x15 x16 n h)

theorem edge_2 (e : Fin 800000) (h : Fin 64) : (val_main_v183 (F := Ideal) x2 x7 x8 x9 x10 x11 x12) (ix2 e h)
    = tail3 (lin (fun d => (val_main_v10 (F := Ideal) x2) (ix2 e d)) (fun k j => x7 (ix3 (2 : Fin 5) k j)) (fun j => x8 (ix2 (2 : Fin 5) j))) (fun k j => x9 (ix3 (2 : Fin 5) k j)) (fun j => x10 (ix2 (2 : Fin 5) j)) (fun k j => x11 (ix3 (2 : Fin 5) k j)) (fun j => x12 (ix2 (2 : Fin 5) j)) h :=
  (congrFun (show (val_main_v183 (F := Ideal) x2 x7 x8 x9 x10 x11 x12) = edgeR 2 cut_2 (val_main_v10 (F := Ideal) x2) x7 x8 x9 x10 x11 x12 from rfl) _).trans
    (edgeR_apply (2 : Fin 5) cut_2 _ x7 x8 x9 x10 x11 x12 e h)

theorem step_2 (n : Fin 50000) (h : Fin 64) : (val_main_v217 (F := Ideal) x0 x1 x2 x3 x4 x5 x6 x7 x8 x9 x10 x11 x12 x13 x14 x15 x16) (ix2 n h)
    = stepAt (fun e h => (val_main_v183 (F := Ideal) x2 x7 x8 x9 x10 x11 x12) (ix2 e h)) (fun e => x1 (ix2 (0 : Fin 2) e)) (fun e => x1 (ix2 (1 : Fin 2) e))
        (fun n h => (val_main_v155 (F := Ideal) x0 x1 x2 x3 x4 x5 x6 x7 x8 x9 x10 x11 x12 x13 x14 x15 x16) (ix2 n h)) (fun n h => (val_main_v25 (F := Ideal) x0 x3 x4 x5 x6) (ix2 n h)) (fun n => x0 (ix2 n (4 : Fin 10)))
        (fun k j => x13 (ix3 (2 : Fin 5) k j)) (fun j => x14 (ix2 (2 : Fin 5) j)) (fun j => x15 (ix3 (2 : Fin 5) (0 : Fin 1) j)) (fun j => x16 (ix2 (2 : Fin 5) j)) n h :=
  (congrFun (show (val_main_v217 (F := Ideal) x0 x1 x2 x3 x4 x5 x6 x7 x8 x9 x10 x11 x12 x13 x14 x15 x16) = stepR 2 cut_2 (val_main_v183 (F := Ideal) x2 x7 x8 x9 x10 x11 x12) (val_main_v155 (F := Ideal) x0 x1 x2 x3 x4 x5 x6 x7 x8 x9 x10 x11 x12 x13 x14 x15 x16) (val_main_v25 (F := Ideal) x0 x3 x4 x5 x6) x0 x1 x13 x14 x15 x16 from rfl) _).trans
    (stepR_apply (2 : Fin 5) cut_2 _ _ _ x0 x1 x13 x14 x15 x16 n h)

theorem edge_3 (e : Fin 800000) (h : Fin 64) : (val_main_v245 (F := Ideal) x2 x7 x8 x9 x10 x11 x12) (ix2 e h)
    = tail3 (lin (fun d => (val_main_v10 (F := Ideal) x2) (ix2 e d)) (fun k j => x7 (ix3 (3 : Fin 5) k j)) (fun j => x8 (ix2 (3 : Fin 5) j))) (fun k j => x9 (ix3 (3 : Fin 5) k j)) (fun j => x10 (ix2 (3 : Fin 5) j)) (fun k j => x11 (ix3 (3 : Fin 5) k j)) (fun j => x12 (ix2 (3 : Fin 5) j)) h :=
  (congrFun (show (val_main_v245 (F := Ideal) x2 x7 x8 x9 x10 x11 x12) = edgeR 3 cut_3 (val_main_v10 (F := Ideal) x2) x7 x8 x9 x10 x11 x12 from rfl) _).trans
    (edgeR_apply (3 : Fin 5) cut_3 _ x7 x8 x9 x10 x11 x12 e h)

theorem step_3 (n : Fin 50000) (h : Fin 64) : (val_main_v279 (F := Ideal) x0 x1 x2 x3 x4 x5 x6 x7 x8 x9 x10 x11 x12 x13 x14 x15 x16) (ix2 n h)
    = stepAt (fun e h => (val_main_v245 (F := Ideal) x2 x7 x8 x9 x10 x11 x12) (ix2 e h)) (fun e => x1 (ix2 (0 : Fin 2) e)) (fun e => x1 (ix2 (1 : Fin 2) e))
        (fun n h => (val_main_v217 (F := Ideal) x0 x1 x2 x3 x4 x5 x6 x7 x8 x9 x10 x11 x12 x13 x14 x15 x16) (ix2 n h)) (fun n h => (val_main_v25 (F := Ideal) x0 x3 x4 x5 x6) (ix2 n h)) (fun n => x0 (ix2 n (4 : Fin 10)))
        (fun k j => x13 (ix3 (3 : Fin 5) k j)) (fun j => x14 (ix2 (3 : Fin 5) j)) (fun j => x15 (ix3 (3 : Fin 5) (0 : Fin 1) j)) (fun j => x16 (ix2 (3 : Fin 5) j)) n h :=
  (congrFun (show (val_main_v279 (F := Ideal) x0 x1 x2 x3 x4 x5 x6 x7 x8 x9 x10 x11 x12 x13 x14 x15 x16) = stepR 3 cut_3 (val_main_v245 (F := Ideal) x2 x7 x8 x9 x10 x11 x12) (val_main_v217 (F := Ideal) x0 x1 x2 x3 x4 x5 x6 x7 x8 x9 x10 x11 x12 x13 x14 x15 x16) (val_main_v25 (F := Ideal) x0 x3 x4 x5 x6) x0 x1 x13 x14 x15 x16 from rfl) _).trans
    (stepR_apply (3 : Fin 5) cut_3 _ _ _ x0 x1 x13 x14 x15 x16 n h)

theorem edge_4 (e : Fin 800000) (h : Fin 64) : (val_main_v307 (F := Ideal) x2 x7 x8 x9 x10 x11 x12) (ix2 e h)
    = tail3 (lin (fun d => (val_main_v10 (F := Ideal) x2) (ix2 e d)) (fun k j => x7 (ix3 (4 : Fin 5) k j)) (fun j => x8 (ix2 (4 : Fin 5) j))) (fun k j => x9 (ix3 (4 : Fin 5) k j)) (fun j => x10 (ix2 (4 : Fin 5) j)) (fun k j => x11 (ix3 (4 : Fin 5) k j)) (fun j => x12 (ix2 (4 : Fin 5) j)) h :=
  (congrFun (show (val_main_v307 (F := Ideal) x2 x7 x8 x9 x10 x11 x12) = edgeR 4 cut_4 (val_main_v10 (F := Ideal) x2) x7 x8 x9 x10 x11 x12 from rfl) _).trans
    (edgeR_apply (4 : Fin 5) cut_4 _ x7 x8 x9 x10 x11 x12 e h)

theorem step_4 (n : Fin 50000) (h : Fin 64) : (val_main_v341 (F := Ideal) x0 x1 x2 x3 x4 x5 x6 x7 x8 x9 x10 x11 x12 x13 x14 x15 x16) (ix2 n h)
    = stepAt (fun e h => (val_main_v307 (F := Ideal) x2 x7 x8 x9 x10 x11 x12) (ix2 e h)) (fun e => x1 (ix2 (0 : Fin 2) e)) (fun e => x1 (ix2 (1 : Fin 2) e))
        (fun n h => (val_main_v279 (F := Ideal) x0 x1 x2 x3 x4 x5 x6 x7 x8 x9 x10 x11 x12 x13 x14 x15 x16) (ix2 n h)) (fun n h => (val_main_v25 (F := Ideal) x0 x3 x4 x5 x6) (ix2 n h)) (fun n => x0 (ix2 n (4 : Fin 10)))
        (fun k j => x13 (ix3 (4 : Fin 5) k j)) (fun j => x14 (ix2 (4 : Fin 5) j)) (fun j => x15 (ix3 (4 : Fin 5) (0 : Fin 1) j)) (fun j => x16 (ix2 (4 : Fin 5) j)) n h :=
  (congrFun (show (val_main_v341 (F := Ideal) x0 x1 x2 x3 x4 x5 x6 x7 x8 x9 x10 x11 x12 x13 x14 x15 x16) = stepR 4 cut_4 (val_main_v307 (F := Ideal) x2 x7 x8 x9 x10 x11 x12) (val_main_v279 (F := Ideal) x0 x1 x2 x3 x4 x5 x6 x7 x8 x9 x10 x11 x12 x13 x14 x15 x16) (val_main_v25 (F := Ideal) x0 x3 x4 x5 x6) x0 x1 x13 x14 x15 x16 from rfl) _).trans
    (stepR_apply (4 : Fin 5) cut_4 _ _ _ x0 x1 x13 x14 x15 x16 n h)

theorem b344 (e : Fin 50000) (h : Fin 64) : (val_main_v344 (F := Ideal) x18) (ix2 e h) = x18 (ix1 h) :=
  (bid_row (R := 50000) (C := 64) _ _ e h).trans (bid_add (C := 64) _ _ 0 h)

theorem b350 (e : Fin 50000) (h : Fin 3) : (val_main_v350 (F := Ideal) x20) (ix2 e h) = x20 (ix1 h) :=
  (bid_row (R := 50000) (C := 3) _ _ e h).trans (bid_add (C := 3) _ _ 0 h)

theorem z346 (e : Fin 50000) (h : Fin 64) : (val_main_v346 (F := Ideal)) (ix2 e h) = 0 :=
  (bid_scalar _ _ _).trans Ideal.ofBits_zero_f32

theorem l345 (e : Fin 50000) (h : Fin 64) : (val_main_v345 (F := Ideal) x0 x1 x2 x3 x4 x5 x6 x7 x8 x9 x10 x11 x12 x13 x14 x15 x16 x17 x18) (ix2 e h) = lin (fun g => (val_main_v341 (F := Ideal) x0 x1 x2 x3 x4 x5 x6 x7 x8 x9 x10 x11 x12 x13 x14 x15 x16) (ix2 e g)) (fun k j => x17 (ix2 k j)) (fun j => x18 (ix1 j)) h := by
  refine (addf_apply (val_main_v342 (F := Ideal) x0 x1 x2 x3 x4 x5 x6 x7 x8 x9 x10 x11 x12 x13 x14 x15 x16 x17) (val_main_v344 (F := Ideal) x18) (ix2 e h)).trans ?_
  unfold lin
  refine congrArg₂ (fun a b : EReal => a + b) ((dg_plain (M := 50000) (K := 64) (N := 64) dot_S50000x64_S64x64_S50000x64_1_0_0_1_n_n rfl _ _ e h).trans ?_) (b344 x18 e h)
  rfl

theorem m347 (e : Fin 50000) (h : Fin 64) : (val_main_v347 (F := Ideal) x0 x1 x2 x3 x4 x5 x6 x7 x8 x9 x10 x11 x12 x13 x14 x15 x16 x17 x18) (ix2 e h) = max (lin (fun g => (val_main_v341 (F := Ideal) x0 x1 x2 x3 x4 x5 x6 x7 x8 x9 x10 x11 x12 x13 x14 x15 x16) (ix2 e g)) (fun k j => x17 (ix2 k j)) (fun j => x18 (ix1 j)) h) 0 :=
  (maximumf_apply (val_main_v345 (F := Ideal) x0 x1 x2 x3 x4 x5 x6 x7 x8 x9 x10 x11 x12 x13 x14 x15 x16 x17 x18) (val_main_v346 (F := Ideal)) (ix2 e h)).trans (congrArg₂ max (l345 x0 x1 x2 x3 x4 x5 x6 x7 x8 x9 x10 x11 x12 x13 x14 x15 x16 x17 x18 e h) (z346 e h))

theorem l351 (e : Fin 50000) (h : Fin 3) : (val_main_v351 (F := Ideal) x0 x1 x2 x3 x4 x5 x6 x7 x8 x9 x10 x11 x12 x13 x14 x15 x16 x17 x18 x19 x20) (ix2 e h) = lin (fun k => max (lin (fun g => (val_main_v341 (F := Ideal) x0 x1 x2 x3 x4 x5 x6 x7 x8 x9 x10 x11 x12 x13 x14 x15 x16) (ix2 e g)) (fun k j => x17 (ix2 k j)) (fun j => x18 (ix1 j)) k) 0) (fun k j => x19 (ix2 k j)) (fun j => x20 (ix1 j)) h := by
  refine (addf_apply (val_main_v348 (F := Ideal) x0 x1 x2 x3 x4 x5 x6 x7 x8 x9 x10 x11 x12 x13 x14 x15 x16 x17 x18 x19) (val_main_v350 (F := Ideal) x20) (ix2 e h)).trans ?_
  unfold lin
  refine congrArg₂ (fun a b : EReal => a + b) ((dg_plain (M := 50000) (K := 64) (N := 3) dot_S50000x64_S64x3_S50000x3_1_0_0_1_n_n rfl _ _ e h).trans ?_) (b350 x20 e h)
  refine Finset.sum_congr rfl fun k _ => congrArg₂ (fun a b : EReal => a * b) (m347 x0 x1 x2 x3 x4 x5 x6 x7 x8 x9 x10 x11 x12 x13 x14 x15 x16 x17 x18 e k) rfl

theorem last_apply (e : Fin 50000) (h : Fin 3) : (val_main_v351 (F := Ideal) x0 x1 x2 x3 x4 x5 x6 x7 x8 x9 x10 x11 x12 x13 x14 x15 x16 x17 x18 x19 x20) (ix2 e h)
    = mlp2 (fun g => (val_main_v341 (F := Ideal) x0 x1 x2 x3 x4 x5 x6 x7 x8 x9 x10 x11 x12 x13 x14 x15 x16) (ix2 e g)) (fun k j => x17 (ix2 k j)) (fun j => x18 (ix1 j)) (fun k j => x19 (ix2 k j)) (fun j => x20 (ix1 j)) h :=
  l351 x0 x1 x2 x3 x4 x5 x6 x7 x8 x9 x10 x11 x12 x13 x14 x15 x16 x17 x18 x19 x20 e h

end Cert.ReferenceIdeal.Hand
-- ==== Proof.Value.Match.lean ====
/-
  The reference's value is the kernel program's, for finite edge features and finite first-layer weights.
-/
module

public import proofs.«01_k».proof.Proof.Value.Norm
public import proofs.«01_k».proof.Proof.Value.KerB
public import proofs.«01_k».proof.Proof.Value.RefS

@[expose] public section

set_option maxRecDepth 100000

noncomputable section

open scoped BigOperators

namespace Cert.Value

open Idealize.ShloMosaic Idealize.ShloMosaic.ValueIdx Idealize.ShloMosaic.TcCoe
open Cert.KernelIdeal.Hand (e0 e1 e2 e3 e4 e5 e6 e7 e8 e9 e10 e11 e12 e13 e14 e15 e16 e17 e18 e19 e20 vin ker nxt v1 v2 v3 v4 v5
  lin_congr mlp2_congr tail3_congr)
open Cert.ReferenceIdeal.Read Cert.ReferenceIdeal.Hand

theorem stepAt_congr {km km' : Fin 800000 → Fin 64 → EReal} {v v' v0 v0' : Fin 50000 → Fin 64 → EReal} (src dst : Fin 800000 → BitVec 32)
    (x4 : Fin 50000 → EReal) (sw : Fin 64 → Fin 64 → EReal) (sb gw gb : Fin 64 → EReal)
    (hk : ∀ e h, km e h = km' e h) (hv : ∀ n h, v n h = v' n h) (h0 : ∀ n h, v0 n h = v0' n h) (n : Fin 50000) (h : Fin 64) :
    stepAt km src dst v v0 x4 sw sb gw gb n h = stepAt km' src dst v' v0' x4 sw sb gw gb n h := by
  obtain rfl : km = km' := funext fun k => funext fun j => hk k j
  obtain rfl : v = v' := funext fun k => funext fun j => hv k j
  obtain rfl : v0 = v0' := funext fun k => funext fun j => h0 k j
  rfl

variable (m : (ℓ : Loc Cert.KernelIdeal.nD Cert.KernelIdeal.τ Cert.KernelIdeal.sig) → Buf (Elt Ideal) ℓ) (c : Dev Cert.KernelIdeal.nD)

/-- An argument's contents. -/
abbrev argOf (r : Ref Cert.KernelIdeal.sig .tc) := m (c, Proc.devRef .tc r)

theorem lift_eq (n : Fin 50000) (h : Fin 64) : val_main_v25 (F := Ideal) (argOf m c Cert.KernelIdeal.main_arg0) (argOf m c Cert.KernelIdeal.main_arg3) (argOf m c Cert.KernelIdeal.main_arg4) (argOf m c Cert.KernelIdeal.main_arg5) (argOf m c Cert.KernelIdeal.main_arg6) (ix2 n h) = vin m c n h :=
  lift_apply (argOf m c Cert.KernelIdeal.main_arg0) (argOf m c Cert.KernelIdeal.main_arg3) (argOf m c Cert.KernelIdeal.main_arg4) (argOf m c Cert.KernelIdeal.main_arg5) (argOf m c Cert.KernelIdeal.main_arg6) n h

variable (hx : ∀ e d, ∃ r : ℝ, e2 m c e d = (r : EReal)) (hw : ∀ t d j, ∃ r : ℝ, e7 m c t d j = (r : EReal))

include hx hw

theorem first_eq (t : Fin 5) (e : Fin 800000) (k : Fin 64) :
    lin (fun d => (val_main_v10 (F := Ideal) (argOf m c Cert.KernelIdeal.main_arg2)) (ix2 e d)) (e7 m c t) (e8 m c t) k
      = lin (e2 m c e) (Cert.KernelIdeal.Hand.w1Of (Cert.KernelIdeal.Hand.sm m c) (Cert.KernelIdeal.Hand.sq m c) (e7 m c t))
          (Cert.KernelIdeal.Hand.b1Of (Cert.KernelIdeal.Hand.sm m c) (Cert.KernelIdeal.Hand.sq m c) (e7 m c t) (e8 m c t)) k := by
  refine Eq.trans ?_ (fold_lin (e2 m c) (e7 m c t) (e8 m c t) hx (hw t) e k).symm
  exact lin_congr (fun d => v10_apply (argOf m c Cert.KernelIdeal.main_arg2) e d) (fun _ _ => rfl) (fun _ => rfl) k

theorem ker_0 (e : Fin 800000) (h : Fin 64) : val_main_v59 (F := Ideal) (argOf m c Cert.KernelIdeal.main_arg2) (argOf m c Cert.KernelIdeal.main_arg7) (argOf m c Cert.KernelIdeal.main_arg8) (argOf m c Cert.KernelIdeal.main_arg9) (argOf m c Cert.KernelIdeal.main_arg10) (argOf m c Cert.KernelIdeal.main_arg11) (argOf m c Cert.KernelIdeal.main_arg12) (ix2 e h) = ker m c 0 e h :=
  (edge_0 (argOf m c Cert.KernelIdeal.main_arg2) (argOf m c Cert.KernelIdeal.main_arg7) (argOf m c Cert.KernelIdeal.main_arg8) (argOf m c Cert.KernelIdeal.main_arg9) (argOf m c Cert.KernelIdeal.main_arg10) (argOf m c Cert.KernelIdeal.main_arg11) (argOf m c Cert.KernelIdeal.main_arg12) e h).trans (tail3_congr (fun k => first_eq m c hx hw 0 e k) (fun _ _ => rfl) (fun _ => rfl) (fun _ _ => rfl) (fun _ => rfl) h)

theorem ker_1 (e : Fin 800000) (h : Fin 64) : val_main_v121 (F := Ideal) (argOf m c Cert.KernelIdeal.main_arg2) (argOf m c Cert.KernelIdeal.main_arg7) (argOf m c Cert.KernelIdeal.main_arg8) (argOf m c Cert.KernelIdeal.main_arg9) (argOf m c Cert.KernelIdeal.main_arg10) (argOf m c Cert.KernelIdeal.main_arg11) (argOf m c Cert.KernelIdeal.main_arg12) (ix2 e h) = ker m c 1 e h :=
  (edge_1 (argOf m c Cert.KernelIdeal.main_arg2) (argOf m c Cert.KernelIdeal.main_arg7) (argOf m c Cert.KernelIdeal.main_arg8) (argOf m c Cert.KernelIdeal.main_arg9) (argOf m c Cert.KernelIdeal.main_arg10) (argOf m c Cert.KernelIdeal.main_arg11) (argOf m c Cert.KernelIdeal.main_arg12) e h).trans (tail3_congr (fun k => first_eq m c hx hw 1 e k) (fun _ _ => rfl) (fun _ => rfl) (fun _ _ => rfl) (fun _ => rfl) h)

theorem ker_2 (e : Fin 800000) (h : Fin 64) : val_main_v183 (F := Ideal) (argOf m c Cert.KernelIdeal.main_arg2) (argOf m c Cert.KernelIdeal.main_arg7) (argOf m c Cert.KernelIdeal.main_arg8) (argOf m c Cert.KernelIdeal.main_arg9) (argOf m c Cert.KernelIdeal.main_arg10) (argOf m c Cert.KernelIdeal.main_arg11) (argOf m c Cert.KernelIdeal.main_arg12) (ix2 e h) = ker m c 2 e h :=
  (edge_2 (argOf m c Cert.KernelIdeal.main_arg2) (argOf m c Cert.KernelIdeal.main_arg7) (argOf m c Cert.KernelIdeal.main_arg8) (argOf m c Cert.KernelIdeal.main_arg9) (argOf m c Cert.KernelIdeal.main_arg10) (argOf m c Cert.KernelIdeal.main_arg11) (argOf m c Cert.KernelIdeal.main_arg12) e h).trans (tail3_congr (fun k => first_eq m c hx hw 2 e k) (fun _ _ => rfl) (fun _ => rfl) (fun _ _ => rfl) (fun _ => rfl) h)

theorem ker_3 (e : Fin 800000) (h : Fin 64) : val_main_v245 (F := Ideal) (argOf m c Cert.KernelIdeal.main_arg2) (argOf m c Cert.KernelIdeal.main_arg7) (argOf m c Cert.KernelIdeal.main_arg8) (argOf m c Cert.KernelIdeal.main_arg9) (argOf m c Cert.KernelIdeal.main_arg10) (argOf m c Cert.KernelIdeal.main_arg11) (argOf m c Cert.KernelIdeal.main_arg12) (ix2 e h) = ker m c 3 e h :=
  (edge_3 (argOf m c Cert.KernelIdeal.main_arg2) (argOf m c Cert.KernelIdeal.main_arg7) (argOf m c Cert.KernelIdeal.main_arg8) (argOf m c Cert.KernelIdeal.main_arg9) (argOf m c Cert.KernelIdeal.main_arg10) (argOf m c Cert.KernelIdeal.main_arg11) (argOf m c Cert.KernelIdeal.main_arg12) e h).trans (tail3_congr (fun k => first_eq m c hx hw 3 e k) (fun _ _ => rfl) (fun _ => rfl) (fun _ _ => rfl) (fun _ => rfl) h)

theorem ker_4 (e : Fin 800000) (h : Fin 64) : val_main_v307 (F := Ideal) (argOf m c Cert.KernelIdeal.main_arg2) (argOf m c Cert.KernelIdeal.main_arg7) (argOf m c Cert.KernelIdeal.main_arg8) (argOf m c Cert.KernelIdeal.main_arg9) (argOf m c Cert.KernelIdeal.main_arg10) (argOf m c Cert.KernelIdeal.main_arg11) (argOf m c Cert.KernelIdeal.main_arg12) (ix2 e h) = ker m c 4 e h :=
  (edge_4 (argOf m c Cert.KernelIdeal.main_arg2) (argOf m c Cert.KernelIdeal.main_arg7) (argOf m c Cert.KernelIdeal.main_arg8) (argOf m c Cert.KernelIdeal.main_arg9) (argOf m c Cert.KernelIdeal.main_arg10) (argOf m c Cert.KernelIdeal.main_arg11) (argOf m c Cert.KernelIdeal.main_arg12) e h).trans (tail3_congr (fun k => first_eq m c hx hw 4 e k) (fun _ _ => rfl) (fun _ => rfl) (fun _ _ => rfl) (fun _ => rfl) h)

theorem node_0 (n : Fin 50000) (h : Fin 64) : val_main_v93 (F := Ideal) (argOf m c Cert.KernelIdeal.main_arg0) (argOf m c Cert.KernelIdeal.main_arg1) (argOf m c Cert.KernelIdeal.main_arg2) (argOf m c Cert.KernelIdeal.main_arg3) (argOf m c Cert.KernelIdeal.main_arg4) (argOf m c Cert.KernelIdeal.main_arg5) (argOf m c Cert.KernelIdeal.main_arg6) (argOf m c Cert.KernelIdeal.main_arg7) (argOf m c Cert.KernelIdeal.main_arg8) (argOf m c Cert.KernelIdeal.main_arg9) (argOf m c Cert.KernelIdeal.main_arg10) (argOf m c Cert.KernelIdeal.main_arg11) (argOf m c Cert.KernelIdeal.main_arg12) (argOf m c Cert.KernelIdeal.main_arg13) (argOf m c Cert.KernelIdeal.main_arg14) (argOf m c Cert.KernelIdeal.main_arg15) (argOf m c Cert.KernelIdeal.main_arg16) (ix2 n h) = v1 m c n h :=
  (step_0 (argOf m c Cert.KernelIdeal.main_arg0) (argOf m c Cert.KernelIdeal.main_arg1) (argOf m c Cert.KernelIdeal.main_arg2) (argOf m c Cert.KernelIdeal.main_arg3) (argOf m c Cert.KernelIdeal.main_arg4) (argOf m c Cert.KernelIdeal.main_arg5) (argOf m c Cert.KernelIdeal.main_arg6) (argOf m c Cert.KernelIdeal.main_arg7) (argOf m c Cert.KernelIdeal.main_arg8) (argOf m c Cert.KernelIdeal.main_arg9) (argOf m c Cert.KernelIdeal.main_arg10) (argOf m c Cert.KernelIdeal.main_arg11) (argOf m c Cert.KernelIdeal.main_arg12) (argOf m c Cert.KernelIdeal.main_arg13) (argOf m c Cert.KernelIdeal.main_arg14) (argOf m c Cert.KernelIdeal.main_arg15) (argOf m c Cert.KernelIdeal.main_arg16) n h).trans
    (stepAt_congr _ _ _ _ _ _ _ (ker_0 m c hx hw) (lift_eq m c) (lift_eq m c) n h)

theorem node_1 (n : Fin 50000) (h : Fin 64) : val_main_v155 (F := Ideal) (argOf m c Cert.KernelIdeal.main_arg0) (argOf m c Cert.KernelIdeal.main_arg1) (argOf m c Cert.KernelIdeal.main_arg2) (argOf m c Cert.KernelIdeal.main_arg3) (argOf m c Cert.KernelIdeal.main_arg4) (argOf m c Cert.KernelIdeal.main_arg5) (argOf m c Cert.KernelIdeal.main_arg6) (argOf m c Cert.KernelIdeal.main_arg7) (argOf m c Cert.KernelIdeal.main_arg8) (argOf m c Cert.KernelIdeal.main_arg9) (argOf m c Cert.KernelIdeal.main_arg10) (argOf m c Cert.KernelIdeal.main_arg11) (argOf m c Cert.KernelIdeal.main_arg12) (argOf m c Cert.KernelIdeal.main_arg13) (argOf m c Cert.KernelIdeal.main_arg14) (argOf m c Cert.KernelIdeal.main_arg15) (argOf m c Cert.KernelIdeal.main_arg16) (ix2 n h) = v2 m c n h :=
  (step_1 (argOf m c Cert.KernelIdeal.main_arg0) (argOf m c Cert.KernelIdeal.main_arg1) (argOf m c Cert.KernelIdeal.main_arg2) (argOf m c Cert.KernelIdeal.main_arg3) (argOf m c Cert.KernelIdeal.main_arg4) (argOf m c Cert.KernelIdeal.main_arg5) (argOf m c Cert.KernelIdeal.main_arg6) (argOf m c Cert.KernelIdeal.main_arg7) (argOf m c Cert.KernelIdeal.main_arg8) (argOf m c Cert.KernelIdeal.main_arg9) (argOf m c Cert.KernelIdeal.main_arg10) (argOf m c Cert.KernelIdeal.main_arg11) (argOf m c Cert.KernelIdeal.main_arg12) (argOf m c Cert.KernelIdeal.main_arg13) (argOf m c Cert.KernelIdeal.main_arg14) (argOf m c Cert.KernelIdeal.main_arg15) (argOf m c Cert.KernelIdeal.main_arg16) n h).trans
    (stepAt_congr _ _ _ _ _ _ _ (ker_1 m c hx hw) (node_0 m c hx hw) (lift_eq m c) n h)

theorem node_2 (n : Fin 50000) (h : Fin 64) : val_main_v217 (F := Ideal) (argOf m c Cert.KernelIdeal.main_arg0) (argOf m c Cert.KernelIdeal.main_arg1) (argOf m c Cert.KernelIdeal.main_arg2) (argOf m c Cert.KernelIdeal.main_arg3) (argOf m c Cert.KernelIdeal.main_arg4) (argOf m c Cert.KernelIdeal.main_arg5) (argOf m c Cert.KernelIdeal.main_arg6) (argOf m c Cert.KernelIdeal.main_arg7) (argOf m c Cert.KernelIdeal.main_arg8) (argOf m c Cert.KernelIdeal.main_arg9) (argOf m c Cert.KernelIdeal.main_arg10) (argOf m c Cert.KernelIdeal.main_arg11) (argOf m c Cert.KernelIdeal.main_arg12) (argOf m c Cert.KernelIdeal.main_arg13) (argOf m c Cert.KernelIdeal.main_arg14) (argOf m c Cert.KernelIdeal.main_arg15) (argOf m c Cert.KernelIdeal.main_arg16) (ix2 n h) = v3 m c n h :=
  (step_2 (argOf m c Cert.KernelIdeal.main_arg0) (argOf m c Cert.KernelIdeal.main_arg1) (argOf m c Cert.KernelIdeal.main_arg2) (argOf m c Cert.KernelIdeal.main_arg3) (argOf m c Cert.KernelIdeal.main_arg4) (argOf m c Cert.KernelIdeal.main_arg5) (argOf m c Cert.KernelIdeal.main_arg6) (argOf m c Cert.KernelIdeal.main_arg7) (argOf m c Cert.KernelIdeal.main_arg8) (argOf m c Cert.KernelIdeal.main_arg9) (argOf m c Cert.KernelIdeal.main_arg10) (argOf m c Cert.KernelIdeal.main_arg11) (argOf m c Cert.KernelIdeal.main_arg12) (argOf m c Cert.KernelIdeal.main_arg13) (argOf m c Cert.KernelIdeal.main_arg14) (argOf m c Cert.KernelIdeal.main_arg15) (argOf m c Cert.KernelIdeal.main_arg16) n h).trans
    (stepAt_congr _ _ _ _ _ _ _ (ker_2 m c hx hw) (node_1 m c hx hw) (lift_eq m c) n h)

theorem node_3 (n : Fin 50000) (h : Fin 64) : val_main_v279 (F := Ideal) (argOf m c Cert.KernelIdeal.main_arg0) (argOf m c Cert.KernelIdeal.main_arg1) (argOf m c Cert.KernelIdeal.main_arg2) (argOf m c Cert.KernelIdeal.main_arg3) (argOf m c Cert.KernelIdeal.main_arg4) (argOf m c Cert.KernelIdeal.main_arg5) (argOf m c Cert.KernelIdeal.main_arg6) (argOf m c Cert.KernelIdeal.main_arg7) (argOf m c Cert.KernelIdeal.main_arg8) (argOf m c Cert.KernelIdeal.main_arg9) (argOf m c Cert.KernelIdeal.main_arg10) (argOf m c Cert.KernelIdeal.main_arg11) (argOf m c Cert.KernelIdeal.main_arg12) (argOf m c Cert.KernelIdeal.main_arg13) (argOf m c Cert.KernelIdeal.main_arg14) (argOf m c Cert.KernelIdeal.main_arg15) (argOf m c Cert.KernelIdeal.main_arg16) (ix2 n h) = v4 m c n h :=
  (step_3 (argOf m c Cert.KernelIdeal.main_arg0) (argOf m c Cert.KernelIdeal.main_arg1) (argOf m c Cert.KernelIdeal.main_arg2) (argOf m c Cert.KernelIdeal.main_arg3) (argOf m c Cert.KernelIdeal.main_arg4) (argOf m c Cert.KernelIdeal.main_arg5) (argOf m c Cert.KernelIdeal.main_arg6) (argOf m c Cert.KernelIdeal.main_arg7) (argOf m c Cert.KernelIdeal.main_arg8) (argOf m c Cert.KernelIdeal.main_arg9) (argOf m c Cert.KernelIdeal.main_arg10) (argOf m c Cert.KernelIdeal.main_arg11) (argOf m c Cert.KernelIdeal.main_arg12) (argOf m c Cert.KernelIdeal.main_arg13) (argOf m c Cert.KernelIdeal.main_arg14) (argOf m c Cert.KernelIdeal.main_arg15) (argOf m c Cert.KernelIdeal.main_arg16) n h).trans
    (stepAt_congr _ _ _ _ _ _ _ (ker_3 m c hx hw) (node_2 m c hx hw) (lift_eq m c) n h)

theorem node_4 (n : Fin 50000) (h : Fin 64) : val_main_v341 (F := Ideal) (argOf m c Cert.KernelIdeal.main_arg0) (argOf m c Cert.KernelIdeal.main_arg1) (argOf m c Cert.KernelIdeal.main_arg2) (argOf m c Cert.KernelIdeal.main_arg3) (argOf m c Cert.KernelIdeal.main_arg4) (argOf m c Cert.KernelIdeal.main_arg5) (argOf m c Cert.KernelIdeal.main_arg6) (argOf m c Cert.KernelIdeal.main_arg7) (argOf m c Cert.KernelIdeal.main_arg8) (argOf m c Cert.KernelIdeal.main_arg9) (argOf m c Cert.KernelIdeal.main_arg10) (argOf m c Cert.KernelIdeal.main_arg11) (argOf m c Cert.KernelIdeal.main_arg12) (argOf m c Cert.KernelIdeal.main_arg13) (argOf m c Cert.KernelIdeal.main_arg14) (argOf m c Cert.KernelIdeal.main_arg15) (argOf m c Cert.KernelIdeal.main_arg16) (ix2 n h) = v5 m c n h :=
  (step_4 (argOf m c Cert.KernelIdeal.main_arg0) (argOf m c Cert.KernelIdeal.main_arg1) (argOf m c Cert.KernelIdeal.main_arg2) (argOf m c Cert.KernelIdeal.main_arg3) (argOf m c Cert.KernelIdeal.main_arg4) (argOf m c Cert.KernelIdeal.main_arg5) (argOf m c Cert.KernelIdeal.main_arg6) (argOf m c Cert.KernelIdeal.main_arg7) (argOf m c Cert.KernelIdeal.main_arg8) (argOf m c Cert.KernelIdeal.main_arg9) (argOf m c Cert.KernelIdeal.main_arg10) (argOf m c Cert.KernelIdeal.main_arg11) (argOf m c Cert.KernelIdeal.main_arg12) (argOf m c Cert.KernelIdeal.main_arg13) (argOf m c Cert.KernelIdeal.main_arg14) (argOf m c Cert.KernelIdeal.main_arg15) (argOf m c Cert.KernelIdeal.main_arg16) n h).trans
    (stepAt_congr _ _ _ _ _ _ _ (ker_4 m c hx hw) (node_3 m c hx hw) (lift_eq m c) n h)

/-- The two programs' results agree. -/
theorem value_eq : val_main_v351 (F := Ideal) (argOf m c Cert.KernelIdeal.main_arg0) (argOf m c Cert.KernelIdeal.main_arg1) (argOf m c Cert.KernelIdeal.main_arg2) (argOf m c Cert.KernelIdeal.main_arg3) (argOf m c Cert.KernelIdeal.main_arg4) (argOf m c Cert.KernelIdeal.main_arg5) (argOf m c Cert.KernelIdeal.main_arg6) (argOf m c Cert.KernelIdeal.main_arg7) (argOf m c Cert.KernelIdeal.main_arg8) (argOf m c Cert.KernelIdeal.main_arg9) (argOf m c Cert.KernelIdeal.main_arg10) (argOf m c Cert.KernelIdeal.main_arg11) (argOf m c Cert.KernelIdeal.main_arg12) (argOf m c Cert.KernelIdeal.main_arg13) (argOf m c Cert.KernelIdeal.main_arg14) (argOf m c Cert.KernelIdeal.main_arg15) (argOf m c Cert.KernelIdeal.main_arg16) (argOf m c Cert.KernelIdeal.main_arg17) (argOf m c Cert.KernelIdeal.main_arg18) (argOf m c Cert.KernelIdeal.main_arg19) (argOf m c Cert.KernelIdeal.main_arg20)
    = Cert.KernelIdeal.Gen.V28 m (Cert.KernelIdeal.Hand.outs m) c (Proc.devRef .tc Cert.KernelIdeal.main_v163) := by
  funext i
  obtain ⟨n, h, rfl⟩ : ∃ (n : Fin 50000) (h : Fin 3), i = ix2 n h := ⟨i 0, i 1, eq_ix2 i⟩
  refine (last_apply (argOf m c Cert.KernelIdeal.main_arg0) (argOf m c Cert.KernelIdeal.main_arg1) (argOf m c Cert.KernelIdeal.main_arg2) (argOf m c Cert.KernelIdeal.main_arg3) (argOf m c Cert.KernelIdeal.main_arg4) (argOf m c Cert.KernelIdeal.main_arg5) (argOf m c Cert.KernelIdeal.main_arg6) (argOf m c Cert.KernelIdeal.main_arg7) (argOf m c Cert.KernelIdeal.main_arg8) (argOf m c Cert.KernelIdeal.main_arg9) (argOf m c Cert.KernelIdeal.main_arg10) (argOf m c Cert.KernelIdeal.main_arg11) (argOf m c Cert.KernelIdeal.main_arg12) (argOf m c Cert.KernelIdeal.main_arg13) (argOf m c Cert.KernelIdeal.main_arg14) (argOf m c Cert.KernelIdeal.main_arg15) (argOf m c Cert.KernelIdeal.main_arg16) (argOf m c Cert.KernelIdeal.main_arg17) (argOf m c Cert.KernelIdeal.main_arg18) (argOf m c Cert.KernelIdeal.main_arg19) (argOf m c Cert.KernelIdeal.main_arg20) n h).trans ?_
  refine Eq.trans ?_ (Cert.KernelIdeal.Hand.result_eq m c n h).symm
  exact mlp2_congr (fun g => node_4 m c hx hw n g) (fun _ _ => rfl) (fun _ => rfl) (fun _ _ => rfl) (fun _ => rfl) h

end Cert.Value
-- ==== Proof.Value.Final.lean ====
/-
  The two programs' agreement, from their runs and the equality of their values.
-/
module

public import proofs.«01_k».proof.Defs
public import proofs.«01_k».proof.Proof.Value.Match
public import proofs.«01_k».proof.Proof.Gen.ReferenceIdeal.Run

@[expose] public section

set_option maxRecDepth 100000

noncomputable section

namespace Cert.Value

open Idealize.ShloMosaic Idealize.ShloMosaic.ValueIdx Idealize.ShloMosaic.TcCoe Idealize.SL.Sem

/-- The shape relations of the precondition. -/
theorem preFacts : Cert.Pre_finite_edges.Facts where
  bcast_S_S800000x9 := ⟨by decide, fun a => a.elim0⟩
  bcast_S_S5x9x64 := ⟨by decide, fun a => a.elim0⟩

/-- An entry whose absolute value is below infinity is a real number. -/
theorem real_of_lt (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x using EReal.rec with
  | bot => simp [Ideal.cmp] at h
  | coe r => exact ⟨r, rfl⟩
  | top => simp [Ideal.cmp] at h

variable (m : (ℓ : Loc Cert.KernelIdeal.nD Cert.KernelIdeal.τ Cert.KernelIdeal.sig) → Buf (Elt Ideal) ℓ)

theorem fin2 (hp : Cert.Pre_KernelIdeal_finite_edges (hPre_finite_edges := preFacts) m) (c : Dev Cert.KernelIdeal.nD) (e : Fin 800000) (d : Fin 9) :
    ∃ r : ℝ, Cert.KernelIdeal.Hand.e2 m c e d = (r : EReal) := by
  refine real_of_lt _ ?_
  have h := congrFun (hp c).1 (ix2 e d)
  refine Eq.trans ?_ h
  show _ = Ideal.cmp .olt (max (Cert.KernelIdeal.Hand.e2 m c e d) (-(Cert.KernelIdeal.Hand.e2 m c e d)))
    (broadcastInDim Cert.Pre_finite_edges.S800000x9 ![] preFacts.bcast_S_S800000x9 (constant (F := Ideal) Cert.Pre_finite_edges.S_ .f32 0x7F800000#32) (ix2 e d))
  rw [bid_scalar]
  rfl

theorem fin7 (hp : Cert.Pre_KernelIdeal_finite_edges (hPre_finite_edges := preFacts) m) (c : Dev Cert.KernelIdeal.nD) (t : Fin 5) (d : Fin 9) (j : Fin 64) :
    ∃ r : ℝ, Cert.KernelIdeal.Hand.e7 m c t d j = (r : EReal) := by
  refine real_of_lt _ ?_
  have h := congrFun (hp c).2 (ix3 t d j)
  refine Eq.trans ?_ h
  show _ = Ideal.cmp .olt (max (Cert.KernelIdeal.Hand.e7 m c t d j) (-(Cert.KernelIdeal.Hand.e7 m c t d j)))
    (broadcastInDim Cert.Pre_finite_edges.S5x9x64 ![] preFacts.bcast_S_S5x9x64 (constant (F := Ideal) Cert.Pre_finite_edges.S_ .f32 0x7F800000#32) (ix3 t d j))
  rw [bid_scalar]
  rfl

/-- Equal arguments give equal values. -/
theorem congrArgs21 {α0 α1 α2 α3 α4 α5 α6 α7 α8 α9 α10 α11 α12 α13 α14 α15 α16 α17 α18 α19 α20 β : Type} (f : α0 → α1 → α2 → α3 → α4 → α5 → α6 → α7 → α8 → α9 → α10 → α11 → α12 → α13 → α14 → α15 → α16 → α17 → α18 → α19 → α20 → β)
    {x0 y0 : α0} {x1 y1 : α1} {x2 y2 : α2} {x3 y3 : α3} {x4 y4 : α4} {x5 y5 : α5} {x6 y6 : α6} {x7 y7 : α7} {x8 y8 : α8} {x9 y9 : α9} {x10 y10 : α10} {x11 y11 : α11} {x12 y12 : α12} {x13 y13 : α13} {x14 y14 : α14} {x15 y15 : α15} {x16 y16 : α16} {x17 y17 : α17} {x18 y18 : α18} {x19 y19 : α19} {x20 y20 : α20}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) (h19 : x19 = y19) (h20 : x20 = y20) :
    f x0 x1 x2 x3 x4 x5 x6 x7 x8 x9 x10 x11 x12 x13 x14 x15 x16 x17 x18 x19 x20 = f y0 y1 y2 y3 y4 y5 y6 y7 y8 y9 y10 y11 y12 y13 y14 y15 y16 y17 y18 y19 y20 := by
  subst h0 h1 h2 h3 h4 h5 h6 h7 h8 h9 h10 h11 h12 h13 h14 h15 h16 h17 h18 h19 h20
  rfl

theorem agree : Cert.algebraic_KernelIdeal_ReferenceIdeal_pre_finite_edges (hKernelIdeal := Cert.KernelIdeal.Gen.facts)
    (hReferenceIdeal := Cert.ReferenceIdeal.Gen.facts) (hPre_finite_edges := preFacts) := by
  intro m g m' g' hp hargs
  refine ⟨fun c => Cert.KernelIdeal.Gen.V28 m (Cert.KernelIdeal.Hand.outs m) c (Proc.devRef .tc Cert.KernelIdeal.main_v163), ?_, ?_⟩
  · refine (θ_run _ _ _).mono (fun r h c => ?_) (Cert.KernelIdeal.Hand.run_all m g)
    exact ⟨h.1 c _ (Cert.KernelIdeal.Hand.mem_uc Cert.KernelIdeal.main_v163 (by decide)),
    (h.1 c _ (Cert.KernelIdeal.Hand.mem_uc Cert.KernelIdeal.main_arg0 (by decide))).trans (Cert.KernelIdeal.Gen.V28_main_arg0 m (Cert.KernelIdeal.Hand.outs m) c),
    (h.1 c _ (Cert.KernelIdeal.Hand.mem_uc Cert.KernelIdeal.main_arg1 (by decide))).trans (Cert.KernelIdeal.Gen.V28_main_arg1 m (Cert.KernelIdeal.Hand.outs m) c),
    (h.1 c _ (Cert.KernelIdeal.Hand.mem_uc Cert.KernelIdeal.main_arg2 (by decide))).trans (Cert.KernelIdeal.Gen.V28_main_arg2 m (Cert.KernelIdeal.Hand.outs m) c),
    (h.1 c _ (Cert.KernelIdeal.Hand.mem_uc Cert.KernelIdeal.main_arg3 (by decide))).trans (Cert.KernelIdeal.Gen.V28_main_arg3 m (Cert.KernelIdeal.Hand.outs m) c),
    (h.1 c _ (Cert.KernelIdeal.Hand.mem_uc Cert.KernelIdeal.main_arg4 (by decide))).trans (Cert.KernelIdeal.Gen.V28_main_arg4 m (Cert.KernelIdeal.Hand.outs m) c),
    (h.1 c _ (Cert.KernelIdeal.Hand.mem_uc Cert.KernelIdeal.main_arg5 (by decide))).trans (Cert.KernelIdeal.Gen.V28_main_arg5 m (Cert.KernelIdeal.Hand.outs m) c),
    (h.1 c _ (Cert.KernelIdeal.Hand.mem_uc Cert.KernelIdeal.main_arg6 (by decide))).trans (Cert.KernelIdeal.Gen.V28_main_arg6 m (Cert.KernelIdeal.Hand.outs m) c),
    (h.1 c _ (Cert.KernelIdeal.Hand.mem_uc Cert.KernelIdeal.main_arg7 (by decide))).trans (Cert.KernelIdeal.Gen.V28_main_arg7 m (Cert.KernelIdeal.Hand.outs m) c),
    (h.1 c _ (Cert.KernelIdeal.Hand.mem_uc Cert.KernelIdeal.main_arg8 (by decide))).trans (Cert.KernelIdeal.Gen.V28_main_arg8 m (Cert.KernelIdeal.Hand.outs m) c),
    (h.1 c _ (Cert.KernelIdeal.Hand.mem_uc Cert.KernelIdeal.main_arg9 (by decide))).trans (Cert.KernelIdeal.Gen.V28_main_arg9 m (Cert.KernelIdeal.Hand.outs m) c),
    (h.1 c _ (Cert.KernelIdeal.Hand.mem_uc Cert.KernelIdeal.main_arg10 (by decide))).trans (Cert.KernelIdeal.Gen.V28_main_arg10 m (Cert.KernelIdeal.Hand.outs m) c),
    (h.1 c _ (Cert.KernelIdeal.Hand.mem_uc Cert.KernelIdeal.main_arg11 (by decide))).trans (Cert.KernelIdeal.Gen.V28_main_arg11 m (Cert.KernelIdeal.Hand.outs m) c),
    (h.1 c _ (Cert.KernelIdeal.Hand.mem_uc Cert.KernelIdeal.main_arg12 (by decide))).trans (Cert.KernelIdeal.Gen.V28_main_arg12 m (Cert.KernelIdeal.Hand.outs m) c),
    (h.1 c _ (Cert.KernelIdeal.Hand.mem_uc Cert.KernelIdeal.main_arg13 (by decide))).trans (Cert.KernelIdeal.Gen.V28_main_arg13 m (Cert.KernelIdeal.Hand.outs m) c),
    (h.1 c _ (Cert.KernelIdeal.Hand.mem_uc Cert.KernelIdeal.main_arg14 (by decide))).trans (Cert.KernelIdeal.Gen.V28_main_arg14 m (Cert.KernelIdeal.Hand.outs m) c),
    (h.1 c _ (Cert.KernelIdeal.Hand.mem_uc Cert.KernelIdeal.main_arg15 (by decide))).trans (Cert.KernelIdeal.Gen.V28_main_arg15 m (Cert.KernelIdeal.Hand.outs m) c),
    (h.1 c _ (Cert.KernelIdeal.Hand.mem_uc Cert.KernelIdeal.main_arg16 (by decide))).trans (Cert.KernelIdeal.Gen.V28_main_arg16 m (Cert.KernelIdeal.Hand.outs m) c),
    (h.1 c _ (Cert.KernelIdeal.Hand.mem_uc Cert.KernelIdeal.main_arg17 (by decide))).trans (Cert.KernelIdeal.Gen.V28_main_arg17 m (Cert.KernelIdeal.Hand.outs m) c),
    (h.1 c _ (Cert.KernelIdeal.Hand.mem_uc Cert.KernelIdeal.main_arg18 (by decide))).trans (Cert.KernelIdeal.Gen.V28_main_arg18 m (Cert.KernelIdeal.Hand.outs m) c),
    (h.1 c _ (Cert.KernelIdeal.Hand.mem_uc Cert.KernelIdeal.main_arg19 (by decide))).trans (Cert.KernelIdeal.Gen.V28_main_arg19 m (Cert.KernelIdeal.Hand.outs m) c),
    (h.1 c _ (Cert.KernelIdeal.Hand.mem_uc Cert.KernelIdeal.main_arg20 (by decide))).trans (Cert.KernelIdeal.Gen.V28_main_arg20 m (Cert.KernelIdeal.Hand.outs m) c)⟩
  · refine (θ_run _ _ _).mono (fun r h c => ⟨?_, (h c).2⟩) (Cert.ReferenceIdeal.Value.run m' g')
    obtain ⟨a0, a1, a2, a3, a4, a5, a6, a7, a8, a9, a10, a11, a12, a13, a14, a15, a16, a17, a18, a19, a20⟩ := hargs c
    refine (h c).1.trans ?_
    refine (Cert.ReferenceIdeal.Read.val_main_v351_eq (F := Ideal) (StableHlo.launchContents m' c)).trans ?_
    refine Eq.trans ?_ (value_eq m c (fin2 m hp c) (fin7 m hp c))
    exact congrArgs21 (Cert.ReferenceIdeal.Read.val_main_v351 (F := Ideal)) a0 a1 a2 a3 a4 a5 a6 a7 a8 a9 a10 a11 a12 a13 a14 a15 a16 a17 a18 a19 a20

end Cert.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Kernel.Run
public import proofs.«01_k».proof.Proof.KernelIdeal.Run
public import proofs.«01_k».proof.Proof.Reference.Use
public import proofs.«01_k».proof.Proof.Value.Final
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Value.preFacts,
  fun m g _ => Cert.Kernel.Hand.run_args m g, fun m g _ => Cert.KernelIdeal.Hand.run_args m g,
  fun m g _ => Cert.KernelIdeal.Hand.run_args m g,
  Cert.ReferenceIdeal.Hand.frame, fun m g _ => Cert.ReferenceIdeal.Hand.frame m g trivial, trivial, Cert.Value.agree⟩

end Cert.Proof

end
